-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S100000x128 : Shape := ⟨2, ![100000, 128]⟩
abbrev S100000 : Shape := ⟨1, ![100000]⟩
abbrev S4x128x16 : Shape := ⟨3, ![4, 128, 16]⟩
abbrev S4x16 : Shape := ⟨2, ![4, 16]⟩
abbrev S4x16x1 : Shape := ⟨3, ![4, 16, 1]⟩
abbrev S4x1 : Shape := ⟨2, ![4, 1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S4x128x16 .f32) (main_arg3 : FVec F S4x16 .f32) (main_arg4 : FVec F S4x16x1 .f32) (main_arg5 : FVec F S4x1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 64#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Pre_in_range_finite.lean ====
abbrev S100000x128 : Shape := ⟨2, ![100000, 128]⟩
abbrev S100000 : Shape := ⟨1, ![100000]⟩
abbrev S4x128x16 : Shape := ⟨3, ![4, 128, 16]⟩
abbrev S4x16 : Shape := ⟨2, ![4, 16]⟩
abbrev S4x16x1 : Shape := ⟨3, ![4, 16, 1]⟩
abbrev S4x1 : Shape := ⟨2, ![4, 1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S4x128x16 : S_.BroadcastsInDim S4x128x16 (![] : Fin 0 → Fin S4x128x16.rank)
  reducesTo_S4x128x16_S_d0_1_2 : S4x128x16.ReducesTo [0, 1, 2] S_
  bcast_S_S4x16 : S_.BroadcastsInDim S4x16 (![] : Fin 0 → Fin S4x16.rank)
  reducesTo_S4x16_S_d0_1 : S4x16.ReducesTo [0, 1] S_
  bcast_S_S4x16x1 : S_.BroadcastsInDim S4x16x1 (![] : Fin 0 → Fin S4x16x1.rank)
  reducesTo_S4x16x1_S_d0_1_2 : S4x16x1.ReducesTo [0, 1, 2] S_
  bcast_S_S4x1 : S_.BroadcastsInDim S4x1 (![] : Fin 0 → Fin S4x1.rank)
  reducesTo_S4x1_S_d0_1 : S4x1.ReducesTo [0, 1] S_

variable [Facts]

def fn_part1 {F : FTy → Type} [FloatOps F] (main_arg4 : FVec F S4x16x1 .f32) (main_arg5 : FVec F S4x1 .f32) (main_v15 : IVec S_ 1) (main_v16 : FVec F S4x16 .f32) : IVec S_ 1 :=
  let main_cst_5 : FVec F S_ .f32 := constant S_ .f32 0x7F800000#32
  let main_v17 : FVec F S4x16 .f32 := broadcastInDim S4x16 ![] bcast_S_S4x16 main_cst_5
  let main_v18 : IVec S4x16 1 := cmpf .olt main_v16 main_v17
  let main_c_6 : IVec S_ 1 := constantI S_ 1 1#1
  let main_v19 : IVec S_ 1 := (fun x v => Host.reduce IntOp.andi x v reducesTo_S4x16_S_d0_1 h_S_) main_v18 main_c_6
  let main_v20 : IVec S_ 1 := andi main_v15 main_v19
  let main_v21 : FVec F S4x16x1 .f32 := Host.absf main_arg4
  let main_cst_7 : FVec F S_ .f32 := constant S_ .f32 0x7F800000#32
  let main_v22 : FVec F S4x16x1 .f32 := broadcastInDim S4x16x1 ![] bcast_S_S4x16x1 main_cst_7
  let main_v23 : IVec S4x16x1 1 := cmpf .olt main_v21 main_v22
  let main_c_8 : IVec S_ 1 := constantI S_ 1 1#1
  let main_v24 : IVec S_ 1 := (fun x v => Host.reduce IntOp.andi x v reducesTo_S4x16x1_S_d0_1_2 h_S_) main_v23 main_c_8
  let main_v25 : IVec S_ 1 := andi main_v20 main_v24
  let main_v26 : FVec F S4x1 .f32 := Host.absf main_arg5
  let main_cst_9 : FVec F S_ .f32 := constant S_ .f32 0x7F800000#32
  let main_v27 : FVec F S4x1 .f32 := broadcastInDim S4x1 ![] bcast_S_S4x1 main_cst_9
  let main_v28 : IVec S4x1 1 := cmpf .olt main_v26 main_v27
  let main_c_10 : IVec S_ 1 := constantI S_ 1 1#1
  let main_v29 : IVec S_ 1 := (fun x v => Host.reduce IntOp.andi x v reducesTo_S4x1_S_d0_1 h_S_) main_v28 main_c_10
  let main_v30 : IVec S_ 1 := andi main_v25 main_v29
  main_v30

def fn {F : FTy → Type} [FloatOps F] (main_arg0 : FVec F S100000x128 .f32) (main_arg1 : IVec S100000 32) (main_arg2 : FVec F S4x128x16 .f32) (main_arg3 : FVec F S4x16 .f32) (main_arg4 : FVec F S4x16x1 .f32) (main_arg5 : FVec F S4x1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 64#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : FVec F S100000x128 .f32 := Host.absf main_arg0
  let main_cst : FVec F S_ .f32 := constant S_ .f32 0x7F800000#32
  let main_v7 : FVec F S100000x128 .f32 := broadcastInDim S100000x128 ![] bcast_S_S100000x128 main_cst
  let main_v8 : IVec S100000x128 1 := cmpf .olt main_v6 main_v7
  let main_c_2 : IVec S_ 1 := constantI S_ 1 1#1
  let main_v9 : IVec S_ 1 := (fun x v => Host.reduce IntOp.andi x v reducesTo_S100000x128_S_d0_1 h_S_) main_v8 main_c_2
  let main_v10 : IVec S_ 1 := andi main_v5 main_v9
  let main_v11 : FVec F S4x128x16 .f32 := Host.absf main_arg2
  let main_cst_3 : FVec F S_ .f32 := constant S_ .f32 0x7F800000#32
  let main_v12 : FVec F S4x128x16 .f32 := broadcastInDim S4x128x16 ![] bcast_S_S4x128x16 main_cst_3
  let main_v13 : IVec S4x128x16 1 := cmpf .olt main_v11 main_v12
  let main_c_4 : IVec S_ 1 := constantI S_ 1 1#1
  let main_v14 : IVec S_ 1 := (fun x v => Host.reduce IntOp.andi x v reducesTo_S4x128x16_S_d0_1_2 h_S_) main_v13 main_c_4
  let main_v15 : IVec S_ 1 := andi main_v10 main_v14
  let main_v16 : FVec F S4x16 .f32 := Host.absf main_arg3
  fn_part1 (F := F) main_arg4 main_arg5 main_v15 main_v16
-- ==== Kernel.lean ====
abbrev S100000x128 : Shape := ⟨2, ![100000, 128]⟩
abbrev S100000 : Shape := ⟨1, ![100000]⟩
abbrev S4x128x16 : Shape := ⟨3, ![4, 128, 16]⟩
abbrev S4x16 : Shape := ⟨2, ![4, 16]⟩
abbrev S4x16x1 : Shape := ⟨3, ![4, 16, 1]⟩
abbrev S4x1 : Shape := ⟨2, ![4, 1]⟩
abbrev S50x1x2000 : Shape := ⟨3, ![50, 1, 2000]⟩
abbrev S128x4x16 : Shape := ⟨3, ![128, 4, 16]⟩
abbrev S128x64 : Shape := ⟨2, ![128, 64]⟩
abbrev S1x64 : Shape := ⟨2, ![1, 64]⟩
abbrev S_ : Shape := ⟨0, ![]⟩
abbrev S8x64 : Shape := ⟨2, ![8, 64]⟩
abbrev S1x16 : Shape := ⟨2, ![1, 16]⟩
abbrev S16 : Shape := ⟨1, ![16]⟩
abbrev S1 : Shape := ⟨1, ![1]⟩
abbrev S2 : Shape := ⟨1, ![2]⟩
abbrev S50x8x2000 : Shape := ⟨3, ![50, 8, 2000]⟩
abbrev S50x5x4x400 : Shape := ⟨4, ![50, 5, 4, 400]⟩
abbrev S64x8 : Shape := ⟨2, ![64, 8]⟩
abbrev S2000x128 : Shape := ⟨2, ![2000, 128]⟩
abbrev S1x1x2000 : Shape := ⟨3, ![1, 1, 2000]⟩
abbrev S1x8x2000 : Shape := ⟨3, ![1, 8, 2000]⟩
abbrev S1x5x4x400 : Shape := ⟨4, ![1, 5, 4, 400]⟩
abbrev S2000x64 : Shape := ⟨2, ![2000, 64]⟩
abbrev S8x2000 : Shape := ⟨2, ![8, 2000]⟩
abbrev S4x400 : Shape := ⟨2, ![4, 400]⟩
abbrev S1x1x4x400 : Shape := ⟨4, ![1, 1, 4, 400]⟩
abbrev S1x2000 : Shape := ⟨2, ![1, 2000]⟩
abbrev S64x2000 : Shape := ⟨2, ![64, 2000]⟩
abbrev S64 : Shape := ⟨1, ![64]⟩
abbrev S64x1 : Shape := ⟨2, ![64, 1]⟩
abbrev S512 : Shape := ⟨1, ![512]⟩
abbrev S32x512 : Shape := ⟨2, ![32, 512]⟩
abbrev S400 : Shape := ⟨1, ![400]⟩
abbrev S1x512 : Shape := ⟨2, ![1, 512]⟩
abbrev S4x64x128 : Shape := ⟨3, ![4, 64, 128]⟩
abbrev S64x128 : Shape := ⟨2, ![64, 128]⟩
abbrev S1x64x128 : Shape := ⟨3, ![1, 64, 128]⟩
abbrev S32x64x8 : Shape := ⟨3, ![32, 64, 8]⟩

abbrev nBuf : Table → Nat
  | .hbm => 53
  | .local .tc .vmem => 23
  | .local .scVector .vmem => 18
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S4x128x16, .f32⟩
  | .hbm, ⟨3, _⟩ => ⟨S4x16, .f32⟩
  | .hbm, ⟨4, _⟩ => ⟨S4x16x1, .f32⟩
  | .hbm, ⟨5, _⟩ => ⟨S4x1, .f32⟩
  | .hbm, ⟨6, _⟩ => ⟨S50x1x2000, .i32⟩
  | .hbm, ⟨7, _⟩ => ⟨S128x4x16, .f32⟩
  | .hbm, ⟨8, _⟩ => ⟨S128x64, .f32⟩
  | .hbm, ⟨9, _⟩ => ⟨S1x64, .f32⟩
  | .hbm, ⟨10, _⟩ => ⟨S4x16, .f32⟩
  | .hbm, ⟨11, _⟩ => ⟨S_, .f32⟩
  | .hbm, ⟨12, _⟩ => ⟨S8x64, .f32⟩
  | .hbm, ⟨13, _⟩ => ⟨S1x16, .f32⟩
  | .hbm, ⟨14, _⟩ => ⟨S16, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S8x64, .f32⟩
  | .hbm, ⟨21, _⟩ => ⟨S1x16, .f32⟩
  | .hbm, ⟨22, _⟩ => ⟨S16, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S8x64, .f32⟩
  | .hbm, ⟨29, _⟩ => ⟨S1x16, .f32⟩
  | .hbm, ⟨30, _⟩ => ⟨S16, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S8x64, .f32⟩
  | .hbm, ⟨37, _⟩ => ⟨S1x16, .f32⟩
  | .hbm, ⟨38, _⟩ => ⟨S16, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S8x64, .f32⟩
  | .hbm, ⟨45, _⟩ => ⟨S50x8x2000, .f32⟩
  | .hbm, ⟨46, _⟩ => ⟨S50x5x4x400, .f32⟩
  | .hbm, ⟨47, _⟩ => ⟨S64x8, .f32⟩
  | .hbm, ⟨48, _⟩ => ⟨S512, .f32⟩
  | .hbm, ⟨49, _⟩ => ⟨S32x512, .f32⟩
  | .hbm, ⟨50, _⟩ => ⟨S4x64x128, .f32⟩
  | .hbm, ⟨51, _⟩ => ⟨S32x64x8, .f32⟩
  | .hbm, ⟨52, _⟩ => ⟨S64x128, .f32⟩
  | .local .tc .vmem, ⟨0, _⟩ => ⟨S2000x128, .f32⟩
  | .local .tc .vmem, ⟨1, _⟩ => ⟨S2000x128, .f32⟩
  | .local .tc .vmem, ⟨2, _⟩ => ⟨S1x1x2000, .i32⟩
  | .local .tc .vmem, ⟨3, _⟩ => ⟨S1x1x2000, .i32⟩
  | .local .tc .vmem, ⟨4, _⟩ => ⟨S128x64, .f32⟩
  | .local .tc .vmem, ⟨5, _⟩ => ⟨S1x64, .f32⟩
  | .local .tc .vmem, ⟨6, _⟩ => ⟨S8x64, .f32⟩
  | .local .tc .vmem, ⟨7, _⟩ => ⟨S1x8x2000, .f32⟩
  | .local .tc .vmem, ⟨8, _⟩ => ⟨S1x8x2000, .f32⟩
  | .local .tc .vmem, ⟨9, _⟩ => ⟨S1x5x4x400, .f32⟩
  | .local .tc .vmem, ⟨10, _⟩ => ⟨S1x5x4x400, .f32⟩
  | .local .tc .vmem, ⟨11, _⟩ => ⟨S64x8, .f32⟩
  | .local .tc .vmem, ⟨12, _⟩ => ⟨S2000x128, .f32⟩
  | .local .tc .vmem, ⟨13, _⟩ => ⟨S2000x128, .f32⟩
  | .local .tc .vmem, ⟨14, _⟩ => ⟨S1x1x2000, .i32⟩
  | .local .tc .vmem, ⟨15, _⟩ => ⟨S1x1x2000, .i32⟩
  | .local .tc .vmem, ⟨16, _⟩ => ⟨S1x8x2000, .f32⟩
  | .local .tc .vmem, ⟨17, _⟩ => ⟨S1x8x2000, .f32⟩
  | .local .tc .vmem, ⟨18, _⟩ => ⟨S64x8, .f32⟩
  | .local .tc .vmem, ⟨19, _⟩ => ⟨S4x64x128, .f32⟩
  | .local .tc .vmem, ⟨20, _⟩ => ⟨S4x64x128, .f32⟩
  | .local .tc .vmem, ⟨21, _⟩ => ⟨S32x64x8, .f32⟩
  | .local .tc .vmem, ⟨22, _⟩ => ⟨S64x128, .f32⟩
  | .local .scVector .vmem, ⟨0, _⟩ => ⟨S400, .i32⟩
  | .local .scVector .vmem, ⟨1, _⟩ => ⟨S400, .i32⟩
  | .local .scVector .vmem, ⟨2, _⟩ => ⟨S400, .i32⟩
  | .local .scVector .vmem, ⟨3, _⟩ => ⟨S400, .i32⟩
  | .local .scVector .vmem, ⟨4, _⟩ => ⟨S400, .i32⟩
  | .local .scVector .vmem, ⟨5, _⟩ => ⟨S400, .i32⟩
  | .local .scVector .vmem, ⟨6, _⟩ => ⟨S400, .i32⟩
  | .local .scVector .vmem, ⟨7, _⟩ => ⟨S400, .i32⟩
  | .local .scVector .vmem, ⟨8, _⟩ => ⟨S4x400, .f32⟩
  | .local .scVector .vmem, ⟨9, _⟩ => ⟨S4x400, .f32⟩
  | .local .scVector .vmem, ⟨10, _⟩ => ⟨S4x400, .f32⟩
  | .local .scVector .vmem, ⟨11, _⟩ => ⟨S4x400, .f32⟩
  | .local .scVector .vmem, ⟨12, _⟩ => ⟨S4x400, .f32⟩
  | .local .scVector .vmem, ⟨13, _⟩ => ⟨S4x400, .f32⟩
  | .local .scVector .vmem, ⟨14, _⟩ => ⟨S4x400, .f32⟩
  | .local .scVector .vmem, ⟨15, _⟩ => ⟨S4x400, .f32⟩
  | .local .scVector .vmem, ⟨16, _⟩ => ⟨S512, .f32⟩
  | .local .scVector .vmem, ⟨17, _⟩ => ⟨S512, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTables nBuf rfl bufTy 4 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30_0 : Ref sig .tc := ⟨.hbm, 45, rfl⟩
abbrev main_v30_1 : Ref sig .tc := ⟨.hbm, 46, rfl⟩
abbrev main_v30_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v30_1_scv : Ref sig .scVector := ⟨.hbm, 46, rfl⟩
abbrev main_arg1_scv : Ref sig .scVector := ⟨.hbm, 1, rfl⟩
abbrev main_v31_scv : Ref sig .scVector := ⟨.hbm, 48, rfl⟩
abbrev main_v32_scv : Ref sig .scVector := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg2_0 : Ref sig .tc := ⟨.vmem, 22, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc1_scratch11 : Ref sig .scVector := ⟨.vmem, 11, rfl⟩
abbrev cc1_scratch12 : Ref sig .scVector := ⟨.vmem, 12, rfl⟩
abbrev cc1_scratch13 : Ref sig .scVector := ⟨.vmem, 13, rfl⟩
abbrev cc1_scratch14 : Ref sig .scVector := ⟨.vmem, 14, rfl⟩
abbrev cc1_scratch15 : Ref sig .scVector := ⟨.vmem, 15, rfl⟩
abbrev cc1_scratch16 : Ref sig .scVector := ⟨.vmem, 16, rfl⟩
abbrev cc1_scratch17 : Ref sig .scVector := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc3_sem0_0 : DmaSem sig := 38
abbrev cc3_sem1_0 : DmaSem sig := 39
abbrev cc3_sem2_0 : DmaSem sig := 40
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32_40 : BitVec 32 := 0#32
  let v91 : BitVec 1 := Scalar.cmpi .eq arg0 c0_i32_40
  let v92 : BitVec 32 := Scalar.extui v91
  let c0_i32_41 : BitVec 32 := 0#32
  let v93 : BitVec 1 := Scalar.cmpi .ne v92 c0_i32_41
  v93

def k0_cond2 (i : grid0.Coords) : BitVec 1 :=
  let arg0 : BitVec 32 := BitVec.ofNat 32 (i 0).val
  let c0_i32_42 : BitVec 32 := 0#32
  let v94 : BitVec 1 := Scalar.cmpi .sgt arg0 c0_i32_42
  let v95 : BitVec 32 := Scalar.extui v94
  let c0_i32_43 : BitVec 32 := 0#32
  let v96 : BitVec 1 := Scalar.cmpi .ne v95 c0_i32_43
  v96

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x2000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x5x4x400 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let v51 : BitVec 32 := Scalar.addi v1 c0_i32_7
  let c250_i32 : BitVec 32 := 250#32
  let v52 : BitVec 1 := Scalar.cmpi .slt v51 c250_i32
  let v53 : BitVec 32 := Scalar.extui v52
  let c0_i32_8 : BitVec 32 := 0#32
  let v54 : BitVec 1 := Scalar.cmpi .ne v53 c0_i32_8
  v54

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v35 : BitVec 32 := Scalar.addi v1 c0_i32
  let c400_i32 : BitVec 32 := 400#32
  let v36 : BitVec 32 := Scalar.muli v35 c400_i32
  ![v36.toNat]
def k1_off2 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let v51 : BitVec 32 := Scalar.addi v1 c0_i32_7
  let c0_i32_54 : BitVec 32 := 0#32
  let v118 : BitVec 1 := Scalar.cmpi .sgt v51 c0_i32_54
  let v119 : BitVec 32 := Scalar.extui v118
  let c0_i32_55 : BitVec 32 := 0#32
  let v120 : BitVec 1 := Scalar.cmpi .slt v51 c0_i32_55
  let v121 : BitVec 32 := Scalar.extui v120
  let v122 : BitVec 32 := Scalar.subi v119 v121
  let c5_i32 : BitVec 32 := 5#32
  let c0_i32_56 : BitVec 32 := 0#32
  let v123 : BitVec 1 := Scalar.cmpi .sgt c5_i32 c0_i32_56
  let v124 : BitVec 32 := Scalar.extui v123
  let c0_i32_57 : BitVec 32 := 0#32
  let v125 : BitVec 1 := Scalar.cmpi .slt c5_i32 c0_i32_57
  let v126 : BitVec 32 := Scalar.extui v125
  let v127 : BitVec 32 := Scalar.subi v124 v126
  let v128 : BitVec 1 := Scalar.cmpi .ne v122 v127
  let v129 : BitVec 32 := Scalar.remsi v51 c5_i32
  let c0_i32_58 : BitVec 32 := 0#32
  let v130 : BitVec 1 := Scalar.cmpi .ne v129 c0_i32_58
  let v131 : BitVec 1 := Scalar.andi v128 v130
  let v117 : BitVec 32 := Scalar.divsi v51 c5_i32
  let c1_i32 : BitVec 32 := 1#32
  let v132 : BitVec 32 := Scalar.subi v117 c1_i32
  let v133 : BitVec 32 := Scalar.select v131 v132 v117
  let c5_i32_59 : BitVec 32 := 5#32
  let c0_i32_60 : BitVec 32 := 0#32
  let v134 : BitVec 1 := Scalar.cmpi .eq c5_i32_59 c0_i32_60
  let c1_i32_61 : BitVec 32 := 1#32
  let v135 : BitVec 32 := Scalar.select v134 c1_i32_61 c5_i32_59
  let v136 : BitVec 32 := Scalar.remsi v51 v135
  let c0_i32_63 : BitVec 32 := 0#32
  let v138 : BitVec 1 := Scalar.cmpi .slt v136 c0_i32_63
  let c0_i32_64 : BitVec 32 := 0#32
  let v139 : BitVec 1 := Scalar.cmpi .slt v135 c0_i32_64
  let v140 : BitVec 1 := Scalar.xori v138 v139
  let c0_i32_62 : BitVec 32 := 0#32
  let v137 : BitVec 1 := Scalar.cmpi .ne v136 c0_i32_62
  let v141 : BitVec 1 := Scalar.andi v140 v137
  let v142 : BitVec 32 := Scalar.addi v136 v135
  let v143 : BitVec 32 := Scalar.select v141 v142 v136
  let c0_i32_65 : BitVec 32 := 0#32
  let c0_i32_66 : BitVec 32 := 0#32
  ![v133.toNat, v143.toNat, 0, 0]
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_9 : BitVec 32 := 32#32
  let v55 : BitVec 32 := Scalar.addi v1 c32_i32_9
  let c250_i32_10 : BitVec 32 := 250#32
  let v56 : BitVec 1 := Scalar.cmpi .slt v55 c250_i32_10
  let v57 : BitVec 32 := Scalar.extui v56
  let c0_i32_11 : BitVec 32 := 0#32
  let v58 : BitVec 1 := Scalar.cmpi .ne v57 c0_i32_11
  v58

def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v37 : BitVec 32 := Scalar.addi v1 c32_i32
  let c400_i32_0 : BitVec 32 := 400#32
  let v38 : BitVec 32 := Scalar.muli v37 c400_i32_0
  ![v38.toNat]
def k1_off4 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_9 : BitVec 32 := 32#32
  let v55 : BitVec 32 := Scalar.addi v1 c32_i32_9
  let c0_i32_54 : BitVec 32 := 0#32
  let v118 : BitVec 1 := Scalar.cmpi .sgt v55 c0_i32_54
  let v119 : BitVec 32 := Scalar.extui v118
  let c0_i32_55 : BitVec 32 := 0#32
  let v120 : BitVec 1 := Scalar.cmpi .slt v55 c0_i32_55
  let v121 : BitVec 32 := Scalar.extui v120
  let v122 : BitVec 32 := Scalar.subi v119 v121
  let c5_i32 : BitVec 32 := 5#32
  let c0_i32_56 : BitVec 32 := 0#32
  let v123 : BitVec 1 := Scalar.cmpi .sgt c5_i32 c0_i32_56
  let v124 : BitVec 32 := Scalar.extui v123
  let c0_i32_57 : BitVec 32 := 0#32
  let v125 : BitVec 1 := Scalar.cmpi .slt c5_i32 c0_i32_57
  let v126 : BitVec 32 := Scalar.extui v125
  let v127 : BitVec 32 := Scalar.subi v124 v126
  let v128 : BitVec 1 := Scalar.cmpi .ne v122 v127
  let v129 : BitVec 32 := Scalar.remsi v55 c5_i32
  let c0_i32_58 : BitVec 32 := 0#32
  let v130 : BitVec 1 := Scalar.cmpi .ne v129 c0_i32_58
  let v131 : BitVec 1 := Scalar.andi v128 v130
  let v117 : BitVec 32 := Scalar.divsi v55 c5_i32
  let c1_i32 : BitVec 32 := 1#32
  let v132 : BitVec 32 := Scalar.subi v117 c1_i32
  let v133 : BitVec 32 := Scalar.select v131 v132 v117
  let c5_i32_59 : BitVec 32 := 5#32
  let c0_i32_60 : BitVec 32 := 0#32
  let v134 : BitVec 1 := Scalar.cmpi .eq c5_i32_59 c0_i32_60
  let c1_i32_61 : BitVec 32 := 1#32
  let v135 : BitVec 32 := Scalar.select v134 c1_i32_61 c5_i32_59
  let v136 : BitVec 32 := Scalar.remsi v55 v135
  let c0_i32_63 : BitVec 32 := 0#32
  let v138 : BitVec 1 := Scalar.cmpi .slt v136 c0_i32_63
  let c0_i32_64 : BitVec 32 := 0#32
  let v139 : BitVec 1 := Scalar.cmpi .slt v135 c0_i32_64
  let v140 : BitVec 1 := Scalar.xori v138 v139
  let c0_i32_62 : BitVec 32 := 0#32
  let v137 : BitVec 1 := Scalar.cmpi .ne v136 c0_i32_62
  let v141 : BitVec 1 := Scalar.andi v140 v137
  let v142 : BitVec 32 := Scalar.addi v136 v135
  let v143 : BitVec 32 := Scalar.select v141 v142 v136
  let c0_i32_65 : BitVec 32 := 0#32
  let c0_i32_66 : BitVec 32 := 0#32
  ![v133.toNat, v143.toNat, 0, 0]
def k1_cond3 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_12 : BitVec 32 := 64#32
  let v59 : BitVec 32 := Scalar.addi v1 c64_i32_12
  let c250_i32_13 : BitVec 32 := 250#32
  let v60 : BitVec 1 := Scalar.cmpi .slt v59 c250_i32_13
  let v61 : BitVec 32 := Scalar.extui v60
  let c0_i32_14 : BitVec 32 := 0#32
  let v62 : BitVec 1 := Scalar.cmpi .ne v61 c0_i32_14
  v62

def k1_off5 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v39 : BitVec 32 := Scalar.addi v1 c64_i32
  let c400_i32_1 : BitVec 32 := 400#32
  let v40 : BitVec 32 := Scalar.muli v39 c400_i32_1
  ![v40.toNat]
def k1_off6 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_12 : BitVec 32 := 64#32
  let v59 : BitVec 32 := Scalar.addi v1 c64_i32_12
  let c0_i32_54 : BitVec 32 := 0#32
  let v118 : BitVec 1 := Scalar.cmpi .sgt v59 c0_i32_54
  let v119 : BitVec 32 := Scalar.extui v118
  let c0_i32_55 : BitVec 32 := 0#32
  let v120 : BitVec 1 := Scalar.cmpi .slt v59 c0_i32_55
  let v121 : BitVec 32 := Scalar.extui v120
  let v122 : BitVec 32 := Scalar.subi v119 v121
  let c5_i32 : BitVec 32 := 5#32
  let c0_i32_56 : BitVec 32 := 0#32
  let v123 : BitVec 1 := Scalar.cmpi .sgt c5_i32 c0_i32_56
  let v124 : BitVec 32 := Scalar.extui v123
  let c0_i32_57 : BitVec 32 := 0#32
  let v125 : BitVec 1 := Scalar.cmpi .slt c5_i32 c0_i32_57
  let v126 : BitVec 32 := Scalar.extui v125
  let v127 : BitVec 32 := Scalar.subi v124 v126
  let v128 : BitVec 1 := Scalar.cmpi .ne v122 v127
  let v129 : BitVec 32 := Scalar.remsi v59 c5_i32
  let c0_i32_58 : BitVec 32 := 0#32
  let v130 : BitVec 1 := Scalar.cmpi .ne v129 c0_i32_58
  let v131 : BitVec 1 := Scalar.andi v128 v130
  let v117 : BitVec 32 := Scalar.divsi v59 c5_i32
  let c1_i32 : BitVec 32 := 1#32
  let v132 : BitVec 32 := Scalar.subi v117 c1_i32
  let v133 : BitVec 32 := Scalar.select v131 v132 v117
  let c5_i32_59 : BitVec 32 := 5#32
  let c0_i32_60 : BitVec 32 := 0#32
  let v134 : BitVec 1 := Scalar.cmpi .eq c5_i32_59 c0_i32_60
  let c1_i32_61 : BitVec 32 := 1#32
  let v135 : BitVec 32 := Scalar.select v134 c1_i32_61 c5_i32_59
  let v136 : BitVec 32 := Scalar.remsi v59 v135
  let c0_i32_63 : BitVec 32 := 0#32
  let v138 : BitVec 1 := Scalar.cmpi .slt v136 c0_i32_63
  let c0_i32_64 : BitVec 32 := 0#32
  let v139 : BitVec 1 := Scalar.cmpi .slt v135 c0_i32_64
  let v140 : BitVec 1 := Scalar.xori v138 v139
  let c0_i32_62 : BitVec 32 := 0#32
  let v137 : BitVec 1 := Scalar.cmpi .ne v136 c0_i32_62
  let v141 : BitVec 1 := Scalar.andi v140 v137
  let v142 : BitVec 32 := Scalar.addi v136 v135
  let v143 : BitVec 32 := Scalar.select v141 v142 v136
  let c0_i32_65 : BitVec 32 := 0#32
  let c0_i32_66 : BitVec 32 := 0#32
  ![v133.toNat, v143.toNat, 0, 0]
def k1_cond4 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_15 : BitVec 32 := 96#32
  let v63 : BitVec 32 := Scalar.addi v1 c96_i32_15
  let c250_i32_16 : BitVec 32 := 250#32
  let v64 : BitVec 1 := Scalar.cmpi .slt v63 c250_i32_16
  let v65 : BitVec 32 := Scalar.extui v64
  let c0_i32_17 : BitVec 32 := 0#32
  let v66 : BitVec 1 := Scalar.cmpi .ne v65 c0_i32_17
  v66

def k1_off7 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v41 : BitVec 32 := Scalar.addi v1 c96_i32
  let c400_i32_2 : BitVec 32 := 400#32
  let v42 : BitVec 32 := Scalar.muli v41 c400_i32_2
  ![v42.toNat]
def k1_off8 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_15 : BitVec 32 := 96#32
  let v63 : BitVec 32 := Scalar.addi v1 c96_i32_15
  let c0_i32_54 : BitVec 32 := 0#32
  let v118 : BitVec 1 := Scalar.cmpi .sgt v63 c0_i32_54
  let v119 : BitVec 32 := Scalar.extui v118
  let c0_i32_55 : BitVec 32 := 0#32
  let v120 : BitVec 1 := Scalar.cmpi .slt v63 c0_i32_55
  let v121 : BitVec 32 := Scalar.extui v120
  let v122 : BitVec 32 := Scalar.subi v119 v121
  let c5_i32 : BitVec 32 := 5#32
  let c0_i32_56 : BitVec 32 := 0#32
  let v123 : BitVec 1 := Scalar.cmpi .sgt c5_i32 c0_i32_56
  let v124 : BitVec 32 := Scalar.extui v123
  let c0_i32_57 : BitVec 32 := 0#32
  let v125 : BitVec 1 := Scalar.cmpi .slt c5_i32 c0_i32_57
  let v126 : BitVec 32 := Scalar.extui v125
  let v127 : BitVec 32 := Scalar.subi v124 v126
  let v128 : BitVec 1 := Scalar.cmpi .ne v122 v127
  let v129 : BitVec 32 := Scalar.remsi v63 c5_i32
  let c0_i32_58 : BitVec 32 := 0#32
  let v130 : BitVec 1 := Scalar.cmpi .ne v129 c0_i32_58
  let v131 : BitVec 1 := Scalar.andi v128 v130
  let v117 : BitVec 32 := Scalar.divsi v63 c5_i32
  let c1_i32 : BitVec 32 := 1#32
  let v132 : BitVec 32 := Scalar.subi v117 c1_i32
  let v133 : BitVec 32 := Scalar.select v131 v132 v117
  let c5_i32_59 : BitVec 32 := 5#32
  let c0_i32_60 : BitVec 32 := 0#32
  let v134 : BitVec 1 := Scalar.cmpi .eq c5_i32_59 c0_i32_60
  let c1_i32_61 : BitVec 32 := 1#32
  let v135 : BitVec 32 := Scalar.select v134 c1_i32_61 c5_i32_59
  let v136 : BitVec 32 := Scalar.remsi v63 v135
  let c0_i32_63 : BitVec 32 := 0#32
  let v138 : BitVec 1 := Scalar.cmpi .slt v136 c0_i32_63
  let c0_i32_64 : BitVec 32 := 0#32
  let v139 : BitVec 1 := Scalar.cmpi .slt v135 c0_i32_64
  let v140 : BitVec 1 := Scalar.xori v138 v139
  let c0_i32_62 : BitVec 32 := 0#32
  let v137 : BitVec 1 := Scalar.cmpi .ne v136 c0_i32_62
  let v141 : BitVec 1 := Scalar.andi v140 v137
  let v142 : BitVec 32 := Scalar.addi v136 v135
  let v143 : BitVec 32 := Scalar.select v141 v142 v136
  let c0_i32_65 : BitVec 32 := 0#32
  let c0_i32_66 : BitVec 32 := 0#32
  ![v133.toNat, v143.toNat, 0, 0]
def k1_cond5 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_18 : BitVec 32 := 128#32
  let v67 : BitVec 32 := Scalar.addi v1 c128_i32_18
  let c250_i32_19 : BitVec 32 := 250#32
  let v68 : BitVec 1 := Scalar.cmpi .slt v67 c250_i32_19
  let v69 : BitVec 32 := Scalar.extui v68
  let c0_i32_20 : BitVec 32 := 0#32
  let v70 : BitVec 1 := Scalar.cmpi .ne v69 c0_i32_20
  v70

def k1_off9 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v43 : BitVec 32 := Scalar.addi v1 c128_i32
  let c400_i32_3 : BitVec 32 := 400#32
  let v44 : BitVec 32 := Scalar.muli v43 c400_i32_3
  ![v44.toNat]
def k1_off10 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_18 : BitVec 32 := 128#32
  let v67 : BitVec 32 := Scalar.addi v1 c128_i32_18
  let c0_i32_54 : BitVec 32 := 0#32
  let v118 : BitVec 1 := Scalar.cmpi .sgt v67 c0_i32_54
  let v119 : BitVec 32 := Scalar.extui v118
  let c0_i32_55 : BitVec 32 := 0#32
  let v120 : BitVec 1 := Scalar.cmpi .slt v67 c0_i32_55
  let v121 : BitVec 32 := Scalar.extui v120
  let v122 : BitVec 32 := Scalar.subi v119 v121
  let c5_i32 : BitVec 32 := 5#32
  let c0_i32_56 : BitVec 32 := 0#32
  let v123 : BitVec 1 := Scalar.cmpi .sgt c5_i32 c0_i32_56
  let v124 : BitVec 32 := Scalar.extui v123
  let c0_i32_57 : BitVec 32 := 0#32
  let v125 : BitVec 1 := Scalar.cmpi .slt c5_i32 c0_i32_57
  let v126 : BitVec 32 := Scalar.extui v125
  let v127 : BitVec 32 := Scalar.subi v124 v126
  let v128 : BitVec 1 := Scalar.cmpi .ne v122 v127
  let v129 : BitVec 32 := Scalar.remsi v67 c5_i32
  let c0_i32_58 : BitVec 32 := 0#32
  let v130 : BitVec 1 := Scalar.cmpi .ne v129 c0_i32_58
  let v131 : BitVec 1 := Scalar.andi v128 v130
  let v117 : BitVec 32 := Scalar.divsi v67 c5_i32
  let c1_i32 : BitVec 32 := 1#32
  let v132 : BitVec 32 := Scalar.subi v117 c1_i32
  let v133 : BitVec 32 := Scalar.select v131 v132 v117
  let c5_i32_59 : BitVec 32 := 5#32
  let c0_i32_60 : BitVec 32 := 0#32
  let v134 : BitVec 1 := Scalar.cmpi .eq c5_i32_59 c0_i32_60
  let c1_i32_61 : BitVec 32 := 1#32
  let v135 : BitVec 32 := Scalar.select v134 c1_i32_61 c5_i32_59
  let v136 : BitVec 32 := Scalar.remsi v67 v135
  let c0_i32_63 : BitVec 32 := 0#32
  let v138 : BitVec 1 := Scalar.cmpi .slt v136 c0_i32_63
  let c0_i32_64 : BitVec 32 := 0#32
  let v139 : BitVec 1 := Scalar.cmpi .slt v135 c0_i32_64
  let v140 : BitVec 1 := Scalar.xori v138 v139
  let c0_i32_62 : BitVec 32 := 0#32
  let v137 : BitVec 1 := Scalar.cmpi .ne v136 c0_i32_62
  let v141 : BitVec 1 := Scalar.andi v140 v137
  let v142 : BitVec 32 := Scalar.addi v136 v135
  let v143 : BitVec 32 := Scalar.select v141 v142 v136
  let c0_i32_65 : BitVec 32 := 0#32
  let c0_i32_66 : BitVec 32 := 0#32
  ![v133.toNat, v143.toNat, 0, 0]
def k1_cond6 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32_21 : BitVec 32 := 160#32
  let v71 : BitVec 32 := Scalar.addi v1 c160_i32_21
  let c250_i32_22 : BitVec 32 := 250#32
  let v72 : BitVec 1 := Scalar.cmpi .slt v71 c250_i32_22
  let v73 : BitVec 32 := Scalar.extui v72
  let c0_i32_23 : BitVec 32 := 0#32
  let v74 : BitVec 1 := Scalar.cmpi .ne v73 c0_i32_23
  v74

def k1_off11 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v45 : BitVec 32 := Scalar.addi v1 c160_i32
  let c400_i32_4 : BitVec 32 := 400#32
  let v46 : BitVec 32 := Scalar.muli v45 c400_i32_4
  ![v46.toNat]
def k1_off12 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32_21 : BitVec 32 := 160#32
  let v71 : BitVec 32 := Scalar.addi v1 c160_i32_21
  let c0_i32_54 : BitVec 32 := 0#32
  let v118 : BitVec 1 := Scalar.cmpi .sgt v71 c0_i32_54
  let v119 : BitVec 32 := Scalar.extui v118
  let c0_i32_55 : BitVec 32 := 0#32
  let v120 : BitVec 1 := Scalar.cmpi .slt v71 c0_i32_55
  let v121 : BitVec 32 := Scalar.extui v120
  let v122 : BitVec 32 := Scalar.subi v119 v121
  let c5_i32 : BitVec 32 := 5#32
  let c0_i32_56 : BitVec 32 := 0#32
  let v123 : BitVec 1 := Scalar.cmpi .sgt c5_i32 c0_i32_56
  let v124 : BitVec 32 := Scalar.extui v123
  let c0_i32_57 : BitVec 32 := 0#32
  let v125 : BitVec 1 := Scalar.cmpi .slt c5_i32 c0_i32_57
  let v126 : BitVec 32 := Scalar.extui v125
  let v127 : BitVec 32 := Scalar.subi v124 v126
  let v128 : BitVec 1 := Scalar.cmpi .ne v122 v127
  let v129 : BitVec 32 := Scalar.remsi v71 c5_i32
  let c0_i32_58 : BitVec 32 := 0#32
  let v130 : BitVec 1 := Scalar.cmpi .ne v129 c0_i32_58
  let v131 : BitVec 1 := Scalar.andi v128 v130
  let v117 : BitVec 32 := Scalar.divsi v71 c5_i32
  let c1_i32 : BitVec 32 := 1#32
  let v132 : BitVec 32 := Scalar.subi v117 c1_i32
  let v133 : BitVec 32 := Scalar.select v131 v132 v117
  let c5_i32_59 : BitVec 32 := 5#32
  let c0_i32_60 : BitVec 32 := 0#32
  let v134 : BitVec 1 := Scalar.cmpi .eq c5_i32_59 c0_i32_60
  let c1_i32_61 : BitVec 32 := 1#32
  let v135 : BitVec 32 := Scalar.select v134 c1_i32_61 c5_i32_59
  let v136 : BitVec 32 := Scalar.remsi v71 v135
  let c0_i32_63 : BitVec 32 := 0#32
  let v138 : BitVec 1 := Scalar.cmpi .slt v136 c0_i32_63
  let c0_i32_64 : BitVec 32 := 0#32
  let v139 : BitVec 1 := Scalar.cmpi .slt v135 c0_i32_64
  let v140 : BitVec 1 := Scalar.xori v138 v139
  let c0_i32_62 : BitVec 32 := 0#32
  let v137 : BitVec 1 := Scalar.cmpi .ne v136 c0_i32_62
  let v141 : BitVec 1 := Scalar.andi v140 v137
  let v142 : BitVec 32 := Scalar.addi v136 v135
  let v143 : BitVec 32 := Scalar.select v141 v142 v136
  let c0_i32_65 : BitVec 32 := 0#32
  let c0_i32_66 : BitVec 32 := 0#32
  ![v133.toNat, v143.toNat, 0, 0]
def k1_cond7 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32_24 : BitVec 32 := 192#32
  let v75 : BitVec 32 := Scalar.addi v1 c192_i32_24
  let c250_i32_25 : BitVec 32 := 250#32
  let v76 : BitVec 1 := Scalar.cmpi .slt v75 c250_i32_25
  let v77 : BitVec 32 := Scalar.extui v76
  let c0_i32_26 : BitVec 32 := 0#32
  let v78 : BitVec 1 := Scalar.cmpi .ne v77 c0_i32_26
  v78

def k1_off13 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v47 : BitVec 32 := Scalar.addi v1 c192_i32
  let c400_i32_5 : BitVec 32 := 400#32
  let v48 : BitVec 32 := Scalar.muli v47 c400_i32_5
  ![v48.toNat]
def k1_off14 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32_24 : BitVec 32 := 192#32
  let v75 : BitVec 32 := Scalar.addi v1 c192_i32_24
  let c0_i32_54 : BitVec 32 := 0#32
  let v118 : BitVec 1 := Scalar.cmpi .sgt v75 c0_i32_54
  let v119 : BitVec 32 := Scalar.extui v118
  let c0_i32_55 : BitVec 32 := 0#32
  let v120 : BitVec 1 := Scalar.cmpi .slt v75 c0_i32_55
  let v121 : BitVec 32 := Scalar.extui v120
  let v122 : BitVec 32 := Scalar.subi v119 v121
  let c5_i32 : BitVec 32 := 5#32
  let c0_i32_56 : BitVec 32 := 0#32
  let v123 : BitVec 1 := Scalar.cmpi .sgt c5_i32 c0_i32_56
  let v124 : BitVec 32 := Scalar.extui v123
  let c0_i32_57 : BitVec 32 := 0#32
  let v125 : BitVec 1 := Scalar.cmpi .slt c5_i32 c0_i32_57
  let v126 : BitVec 32 := Scalar.extui v125
  let v127 : BitVec 32 := Scalar.subi v124 v126
  let v128 : BitVec 1 := Scalar.cmpi .ne v122 v127
  let v129 : BitVec 32 := Scalar.remsi v75 c5_i32
  let c0_i32_58 : BitVec 32 := 0#32
  let v130 : BitVec 1 := Scalar.cmpi .ne v129 c0_i32_58
  let v131 : BitVec 1 := Scalar.andi v128 v130
  let v117 : BitVec 32 := Scalar.divsi v75 c5_i32
  let c1_i32 : BitVec 32 := 1#32
  let v132 : BitVec 32 := Scalar.subi v117 c1_i32
  let v133 : BitVec 32 := Scalar.select v131 v132 v117
  let c5_i32_59 : BitVec 32 := 5#32
  let c0_i32_60 : BitVec 32 := 0#32
  let v134 : BitVec 1 := Scalar.cmpi .eq c5_i32_59 c0_i32_60
  let c1_i32_61 : BitVec 32 := 1#32
  let v135 : BitVec 32 := Scalar.select v134 c1_i32_61 c5_i32_59
  let v136 : BitVec 32 := Scalar.remsi v75 v135
  let c0_i32_63 : BitVec 32 := 0#32
  let v138 : BitVec 1 := Scalar.cmpi .slt v136 c0_i32_63
  let c0_i32_64 : BitVec 32 := 0#32
  let v139 : BitVec 1 := Scalar.cmpi .slt v135 c0_i32_64
  let v140 : BitVec 1 := Scalar.xori v138 v139
  let c0_i32_62 : BitVec 32 := 0#32
  let v137 : BitVec 1 := Scalar.cmpi .ne v136 c0_i32_62
  let v141 : BitVec 1 := Scalar.andi v140 v137
  let v142 : BitVec 32 := Scalar.addi v136 v135
  let v143 : BitVec 32 := Scalar.select v141 v142 v136
  let c0_i32_65 : BitVec 32 := 0#32
  let c0_i32_66 : BitVec 32 := 0#32
  ![v133.toNat, v143.toNat, 0, 0]
def k1_cond8 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32_27 : BitVec 32 := 224#32
  let v79 : BitVec 32 := Scalar.addi v1 c224_i32_27
  let c250_i32_28 : BitVec 32 := 250#32
  let v80 : BitVec 1 := Scalar.cmpi .slt v79 c250_i32_28
  let v81 : BitVec 32 := Scalar.extui v80
  let c0_i32_29 : BitVec 32 := 0#32
  let v82 : BitVec 1 := Scalar.cmpi .ne v81 c0_i32_29
  v82

def k1_off15 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v49 : BitVec 32 := Scalar.addi v1 c224_i32
  let c400_i32_6 : BitVec 32 := 400#32
  let v50 : BitVec 32 := Scalar.muli v49 c400_i32_6
  ![v50.toNat]
def k1_off16 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32_27 : BitVec 32 := 224#32
  let v79 : BitVec 32 := Scalar.addi v1 c224_i32_27
  let c0_i32_54 : BitVec 32 := 0#32
  let v118 : BitVec 1 := Scalar.cmpi .sgt v79 c0_i32_54
  let v119 : BitVec 32 := Scalar.extui v118
  let c0_i32_55 : BitVec 32 := 0#32
  let v120 : BitVec 1 := Scalar.cmpi .slt v79 c0_i32_55
  let v121 : BitVec 32 := Scalar.extui v120
  let v122 : BitVec 32 := Scalar.subi v119 v121
  let c5_i32 : BitVec 32 := 5#32
  let c0_i32_56 : BitVec 32 := 0#32
  let v123 : BitVec 1 := Scalar.cmpi .sgt c5_i32 c0_i32_56
  let v124 : BitVec 32 := Scalar.extui v123
  let c0_i32_57 : BitVec 32 := 0#32
  let v125 : BitVec 1 := Scalar.cmpi .slt c5_i32 c0_i32_57
  let v126 : BitVec 32 := Scalar.extui v125
  let v127 : BitVec 32 := Scalar.subi v124 v126
  let v128 : BitVec 1 := Scalar.cmpi .ne v122 v127
  let v129 : BitVec 32 := Scalar.remsi v79 c5_i32
  let c0_i32_58 : BitVec 32 := 0#32
  let v130 : BitVec 1 := Scalar.cmpi .ne v129 c0_i32_58
  let v131 : BitVec 1 := Scalar.andi v128 v130
  let v117 : BitVec 32 := Scalar.divsi v79 c5_i32
  let c1_i32 : BitVec 32 := 1#32
  let v132 : BitVec 32 := Scalar.subi v117 c1_i32
  let v133 : BitVec 32 := Scalar.select v131 v132 v117
  let c5_i32_59 : BitVec 32 := 5#32
  let c0_i32_60 : BitVec 32 := 0#32
  let v134 : BitVec 1 := Scalar.cmpi .eq c5_i32_59 c0_i32_60
  let c1_i32_61 : BitVec 32 := 1#32
  let v135 : BitVec 32 := Scalar.select v134 c1_i32_61 c5_i32_59
  let v136 : BitVec 32 := Scalar.remsi v79 v135
  let c0_i32_63 : BitVec 32 := 0#32
  let v138 : BitVec 1 := Scalar.cmpi .slt v136 c0_i32_63
  let c0_i32_64 : BitVec 32 := 0#32
  let v139 : BitVec 1 := Scalar.cmpi .slt v135 c0_i32_64
  let v140 : BitVec 1 := Scalar.xori v138 v139
  let c0_i32_62 : BitVec 32 := 0#32
  let v137 : BitVec 1 := Scalar.cmpi .ne v136 c0_i32_62
  let v141 : BitVec 1 := Scalar.andi v140 v137
  let v142 : BitVec 32 := Scalar.addi v136 v135
  let v143 : BitVec 32 := Scalar.select v141 v142 v136
  let c0_i32_65 : BitVec 32 := 0#32
  let c0_i32_66 : BitVec 32 := 0#32
  ![v133.toNat, v143.toNat, 0, 0]
def k1_cond9 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let v83 : BitVec 32 := Scalar.addi v1 c0_i32_30
  let c250_i32_31 : BitVec 32 := 250#32
  let v84 : BitVec 1 := Scalar.cmpi .slt v83 c250_i32_31
  let v85 : BitVec 32 := Scalar.extui v84
  let c0_i32_32 : BitVec 32 := 0#32
  let v86 : BitVec 1 := Scalar.cmpi .ne v85 c0_i32_32
  v86

def k1_off17 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v35 : BitVec 32 := Scalar.addi v1 c0_i32
  let c400_i32 : BitVec 32 := 400#32
  let v36 : BitVec 32 := Scalar.muli v35 c400_i32
  ![v36.toNat]
@[reducible] def k1_t1_loop : Scf.Loop 32 :=
  let c0_i32_61 : BitVec 32 := 0#32
  let c5_i32 : BitVec 32 := 5#32
  let v121 : BitVec 32 := Scalar.addi c0_i32_61 c5_i32
  let c1_i32 : BitVec 32 := 1#32
  ⟨c0_i32_61, v121, c1_i32⟩
def k1_off18 (k1_t1 : Fin k1_t1_loop.trips) : Fin 1 → Nat :=
  let c0_i32_61 : BitVec 32 := 0#32
  let c1_i32 : BitVec 32 := 1#32
  let arg40 : BitVec 32 := Scf.iv c0_i32_61 c1_i32 k1_t1
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v125 : Index := Scalar.indexCast v124
  ![v125.toNat]
def k1_off19 (k1_t1 : Fin k1_t1_loop.trips) : Fin 2 → Nat :=
  let c0_i32_65 : BitVec 32 := 0#32
  let v129 : Index := Scalar.indexCast c0_i32_65
  let c0_i32_61 : BitVec 32 := 0#32
  let c1_i32 : BitVec 32 := 1#32
  let arg40 : BitVec 32 := Scf.iv c0_i32_61 c1_i32 k1_t1
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v130 : Index := Scalar.indexCast v124
  ![0, v130.toNat]

def k1_chk1 (i : grid1.Coords) (v133 : IVec S16 32) : Prop :=
  (∀ (k1_h9 : k1_cond9 i = 1#1), ∀ a x, ((![v133] : Fin 1 → IVec S16 32) a x).toNat < S512.size a) ∧
  (∀ (k1_h9 : k1_cond9 i = 1#1), ∀ a x, ((![v133] : Fin 1 → IVec S16 32) a x).toNat < S512.size a)
theorem k1_idx1_inb : ∀ (i : grid1.Coords) (v133 : IVec S16 32) (k1_hw1 : k1_chk1 i v133), ∀ (k1_h9 : k1_cond9 i = 1#1), ∀ a x, ((![v133] : Fin 1 → IVec S16 32) a x).toNat < S512.size a := fun i v133 k1_hw1 k1_h9 => k1_hw1.1 k1_h9
theorem k1_idx2_inb : ∀ (i : grid1.Coords) (v133 : IVec S16 32) (k1_hw1 : k1_chk1 i v133), ∀ (k1_h9 : k1_cond9 i = 1#1), ∀ a x, ((![v133] : Fin 1 → IVec S16 32) a x).toNat < S512.size a := fun i v133 k1_hw1 k1_h9 => k1_hw1.2 k1_h9
def k1_off20 (k1_t1 : Fin k1_t1_loop.trips) : Fin 2 → Nat :=
  let c1_i32_67 : BitVec 32 := 1#32
  let v137 : Index := Scalar.indexCast c1_i32_67
  let c0_i32_61 : BitVec 32 := 0#32
  let c1_i32 : BitVec 32 := 1#32
  let arg40 : BitVec 32 := Scf.iv c0_i32_61 c1_i32 k1_t1
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v138 : Index := Scalar.indexCast v124
  ![1, v138.toNat]

def k1_chk2 (i : grid1.Coords) (v141 : IVec S16 32) : Prop :=
  (∀ (k1_h9 : k1_cond9 i = 1#1), ∀ a x, ((![v141] : Fin 1 → IVec S16 32) a x).toNat < S512.size a) ∧
  (∀ (k1_h9 : k1_cond9 i = 1#1), ∀ a x, ((![v141] : Fin 1 → IVec S16 32) a x).toNat < S512.size a)
theorem k1_idx3_inb : ∀ (i : grid1.Coords) (v141 : IVec S16 32) (k1_hw2 : k1_chk2 i v141), ∀ (k1_h9 : k1_cond9 i = 1#1), ∀ a x, ((![v141] : Fin 1 → IVec S16 32) a x).toNat < S512.size a := fun i v141 k1_hw2 k1_h9 => k1_hw2.1 k1_h9
theorem k1_idx4_inb : ∀ (i : grid1.Coords) (v141 : IVec S16 32) (k1_hw2 : k1_chk2 i v141), ∀ (k1_h9 : k1_cond9 i = 1#1), ∀ a x, ((![v141] : Fin 1 → IVec S16 32) a x).toNat < S512.size a := fun i v141 k1_hw2 k1_h9 => k1_hw2.2 k1_h9
def k1_off21 (k1_t1 : Fin k1_t1_loop.trips) : Fin 2 → Nat :=
  let c2_i32_69 : BitVec 32 := 2#32
  let v145 : Index := Scalar.indexCast c2_i32_69
  let c0_i32_61 : BitVec 32 := 0#32
  let c1_i32 : BitVec 32 := 1#32
  let arg40 : BitVec 32 := Scf.iv c0_i32_61 c1_i32 k1_t1
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v146 : Index := Scalar.indexCast v124
  ![2, v146.toNat]

def k1_chk3 (i : grid1.Coords) (v149 : IVec S16 32) : Prop :=
  (∀ (k1_h9 : k1_cond9 i = 1#1), ∀ a x, ((![v149] : Fin 1 → IVec S16 32) a x).toNat < S512.size a) ∧
  (∀ (k1_h9 : k1_cond9 i = 1#1), ∀ a x, ((![v149] : Fin 1 → IVec S16 32) a x).toNat < S512.size a)
theorem k1_idx5_inb : ∀ (i : grid1.Coords) (v149 : IVec S16 32) (k1_hw3 : k1_chk3 i v149), ∀ (k1_h9 : k1_cond9 i = 1#1), ∀ a x, ((![v149] : Fin 1 → IVec S16 32) a x).toNat < S512.size a := fun i v149 k1_hw3 k1_h9 => k1_hw3.1 k1_h9
theorem k1_idx6_inb : ∀ (i : grid1.Coords) (v149 : IVec S16 32) (k1_hw3 : k1_chk3 i v149), ∀ (k1_h9 : k1_cond9 i = 1#1), ∀ a x, ((![v149] : Fin 1 → IVec S16 32) a x).toNat < S512.size a := fun i v149 k1_hw3 k1_h9 => k1_hw3.2 k1_h9
def k1_off22 (k1_t1 : Fin k1_t1_loop.trips) : Fin 2 → Nat :=
  let c3_i32 : BitVec 32 := 3#32
  let v153 : Index := Scalar.indexCast c3_i32
  let c0_i32_61 : BitVec 32 := 0#32
  let c1_i32 : BitVec 32 := 1#32
  let arg40 : BitVec 32 := Scf.iv c0_i32_61 c1_i32 k1_t1
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v154 : Index := Scalar.indexCast v124
  ![3, v154.toNat]

def k1_chk4 (i : grid1.Coords) (v157 : IVec S16 32) : Prop :=
  (∀ (k1_h9 : k1_cond9 i = 1#1), ∀ a x, ((![v157] : Fin 1 → IVec S16 32) a x).toNat < S512.size a) ∧
  (∀ (k1_h9 : k1_cond9 i = 1#1), ∀ a x, ((![v157] : Fin 1 → IVec S16 32) a x).toNat < S512.size a)
theorem k1_idx7_inb : ∀ (i : grid1.Coords) (v157 : IVec S16 32) (k1_hw4 : k1_chk4 i v157), ∀ (k1_h9 : k1_cond9 i = 1#1), ∀ a x, ((![v157] : Fin 1 → IVec S16 32) a x).toNat < S512.size a := fun i v157 k1_hw4 k1_h9 => k1_hw4.1 k1_h9
theorem k1_idx8_inb : ∀ (i : grid1.Coords) (v157 : IVec S16 32) (k1_hw4 : k1_chk4 i v157), ∀ (k1_h9 : k1_cond9 i = 1#1), ∀ a x, ((![v157] : Fin 1 → IVec S16 32) a x).toNat < S512.size a := fun i v157 k1_hw4 k1_h9 => k1_hw4.2 k1_h9
def k1_off23 (k1_t1 : Fin k1_t1_loop.trips) : Fin 1 → Nat :=
  let c0_i32_61 : BitVec 32 := 0#32
  let c1_i32 : BitVec 32 := 1#32
  let arg40 : BitVec 32 := Scf.iv c0_i32_61 c1_i32 k1_t1
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v164 : Index := Scalar.indexCast v163
  ![v164.toNat]
def k1_off24 (k1_t1 : Fin k1_t1_loop.trips) : Fin 2 → Nat :=
  let c0_i32_76 : BitVec 32 := 0#32
  let v168 : Index := Scalar.indexCast c0_i32_76
  let c0_i32_61 : BitVec 32 := 0#32
  let c1_i32 : BitVec 32 := 1#32
  let arg40 : BitVec 32 := Scf.iv c0_i32_61 c1_i32 k1_t1
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v169 : Index := Scalar.indexCast v163
  ![0, v169.toNat]

def k1_chk5 (i : grid1.Coords) (v172 : IVec S16 32) : Prop :=
  (∀ (k1_h9 : k1_cond9 i = 1#1), ∀ a x, ((![v172] : Fin 1 → IVec S16 32) a x).toNat < S512.size a) ∧
  (∀ (k1_h9 : k1_cond9 i = 1#1), ∀ a x, ((![v172] : Fin 1 → IVec S16 32) a x).toNat < S512.size a)
theorem k1_idx9_inb : ∀ (i : grid1.Coords) (v172 : IVec S16 32) (k1_hw5 : k1_chk5 i v172), ∀ (k1_h9 : k1_cond9 i = 1#1), ∀ a x, ((![v172] : Fin 1 → IVec S16 32) a x).toNat < S512.size a := fun i v172 k1_hw5 k1_h9 => k1_hw5.1 k1_h9
theorem k1_idx10_inb : ∀ (i : grid1.Coords) (v172 : IVec S16 32) (k1_hw5 : k1_chk5 i v172), ∀ (k1_h9 : k1_cond9 i = 1#1), ∀ a x, ((![v172] : Fin 1 → IVec S16 32) a x).toNat < S512.size a := fun i v172 k1_hw5 k1_h9 => k1_hw5.2 k1_h9
def k1_off25 (k1_t1 : Fin k1_t1_loop.trips) : Fin 2 → Nat :=
  let c1_i32_78 : BitVec 32 := 1#32
  let v176 : Index := Scalar.indexCast c1_i32_78
  let c0_i32_61 : BitVec 32 := 0#32
  let c1_i32 : BitVec 32 := 1#32
  let arg40 : BitVec 32 := Scf.iv c0_i32_61 c1_i32 k1_t1
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v177 : Index := Scalar.indexCast v163
  ![1, v177.toNat]

def k1_chk6 (i : grid1.Coords) (v180 : IVec S16 32) : Prop :=
  (∀ (k1_h9 : k1_cond9 i = 1#1), ∀ a x, ((![v180] : Fin 1 → IVec S16 32) a x).toNat < S512.size a) ∧
  (∀ (k1_h9 : k1_cond9 i = 1#1), ∀ a x, ((![v180] : Fin 1 → IVec S16 32) a x).toNat < S512.size a)
theorem k1_idx11_inb : ∀ (i : grid1.Coords) (v180 : IVec S16 32) (k1_hw6 : k1_chk6 i v180), ∀ (k1_h9 : k1_cond9 i = 1#1), ∀ a x, ((![v180] : Fin 1 → IVec S16 32) a x).toNat < S512.size a := fun i v180 k1_hw6 k1_h9 => k1_hw6.1 k1_h9
theorem k1_idx12_inb : ∀ (i : grid1.Coords) (v180 : IVec S16 32) (k1_hw6 : k1_chk6 i v180), ∀ (k1_h9 : k1_cond9 i = 1#1), ∀ a x, ((![v180] : Fin 1 → IVec S16 32) a x).toNat < S512.size a := fun i v180 k1_hw6 k1_h9 => k1_hw6.2 k1_h9
def k1_off26 (k1_t1 : Fin k1_t1_loop.trips) : Fin 2 → Nat :=
  let c2_i32_80 : BitVec 32 := 2#32
  let v184 : Index := Scalar.indexCast c2_i32_80
  let c0_i32_61 : BitVec 32 := 0#32
  let c1_i32 : BitVec 32 := 1#32
  let arg40 : BitVec 32 := Scf.iv c0_i32_61 c1_i32 k1_t1
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v185 : Index := Scalar.indexCast v163
  ![2, v185.toNat]

def k1_chk7 (i : grid1.Coords) (v188 : IVec S16 32) : Prop :=
  (∀ (k1_h9 : k1_cond9 i = 1#1), ∀ a x, ((![v188] : Fin 1 → IVec S16 32) a x).toNat < S512.size a) ∧
  (∀ (k1_h9 : k1_cond9 i = 1#1), ∀ a x, ((![v188] : Fin 1 → IVec S16 32) a x).toNat < S512.size a)
theorem k1_idx13_inb : ∀ (i : grid1.Coords) (v188 : IVec S16 32) (k1_hw7 : k1_chk7 i v188), ∀ (k1_h9 : k1_cond9 i = 1#1), ∀ a x, ((![v188] : Fin 1 → IVec S16 32) a x).toNat < S512.size a := fun i v188 k1_hw7 k1_h9 => k1_hw7.1 k1_h9
theorem k1_idx14_inb : ∀ (i : grid1.Coords) (v188 : IVec S16 32) (k1_hw7 : k1_chk7 i v188), ∀ (k1_h9 : k1_cond9 i = 1#1), ∀ a x, ((![v188] : Fin 1 → IVec S16 32) a x).toNat < S512.size a := fun i v188 k1_hw7 k1_h9 => k1_hw7.2 k1_h9
def k1_off27 (k1_t1 : Fin k1_t1_loop.trips) : Fin 2 → Nat :=
  let c3_i32_82 : BitVec 32 := 3#32
  let v192 : Index := Scalar.indexCast c3_i32_82
  let c0_i32_61 : BitVec 32 := 0#32
  let c1_i32 : BitVec 32 := 1#32
  let arg40 : BitVec 32 := Scf.iv c0_i32_61 c1_i32 k1_t1
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v193 : Index := Scalar.indexCast v163
  ![3, v193.toNat]

def k1_chk8 (i : grid1.Coords) (v196 : IVec S16 32) : Prop :=
  (∀ (k1_h9 : k1_cond9 i = 1#1), ∀ a x, ((![v196] : Fin 1 → IVec S16 32) a x).toNat < S512.size a) ∧
  (∀ (k1_h9 : k1_cond9 i = 1#1), ∀ a x, ((![v196] : Fin 1 → IVec S16 32) a x).toNat < S512.size a)
theorem k1_idx15_inb : ∀ (i : grid1.Coords) (v196 : IVec S16 32) (k1_hw8 : k1_chk8 i v196), ∀ (k1_h9 : k1_cond9 i = 1#1), ∀ a x, ((![v196] : Fin 1 → IVec S16 32) a x).toNat < S512.size a := fun i v196 k1_hw8 k1_h9 => k1_hw8.1 k1_h9
theorem k1_idx16_inb : ∀ (i : grid1.Coords) (v196 : IVec S16 32) (k1_hw8 : k1_chk8 i v196), ∀ (k1_h9 : k1_cond9 i = 1#1), ∀ a x, ((![v196] : Fin 1 → IVec S16 32) a x).toNat < S512.size a := fun i v196 k1_hw8 k1_h9 => k1_hw8.2 k1_h9
def k1_off28 (k1_t1 : Fin k1_t1_loop.trips) : Fin 1 → Nat :=
  let c0_i32_61 : BitVec 32 := 0#32
  let c1_i32 : BitVec 32 := 1#32
  let arg40 : BitVec 32 := Scf.iv c0_i32_61 c1_i32 k1_t1
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v203 : Index := Scalar.indexCast v202
  ![v203.toNat]
def k1_off29 (k1_t1 : Fin k1_t1_loop.trips) : Fin 2 → Nat :=
  let c0_i32_88 : BitVec 32 := 0#32
  let v207 : Index := Scalar.indexCast c0_i32_88
  let c0_i32_61 : BitVec 32 := 0#32
  let c1_i32 : BitVec 32 := 1#32
  let arg40 : BitVec 32 := Scf.iv c0_i32_61 c1_i32 k1_t1
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v208 : Index := Scalar.indexCast v202
  ![0, v208.toNat]

def k1_chk9 (i : grid1.Coords) (v211 : IVec S16 32) : Prop :=
  (∀ (k1_h9 : k1_cond9 i = 1#1), ∀ a x, ((![v211] : Fin 1 → IVec S16 32) a x).toNat < S512.size a) ∧
  (∀ (k1_h9 : k1_cond9 i = 1#1), ∀ a x, ((![v211] : Fin 1 → IVec S16 32) a x).toNat < S512.size a)
theorem k1_idx17_inb : ∀ (i : grid1.Coords) (v211 : IVec S16 32) (k1_hw9 : k1_chk9 i v211), ∀ (k1_h9 : k1_cond9 i = 1#1), ∀ a x, ((![v211] : Fin 1 → IVec S16 32) a x).toNat < S512.size a := fun i v211 k1_hw9 k1_h9 => k1_hw9.1 k1_h9
theorem k1_idx18_inb : ∀ (i : grid1.Coords) (v211 : IVec S16 32) (k1_hw9 : k1_chk9 i v211), ∀ (k1_h9 : k1_cond9 i = 1#1), ∀ a x, ((![v211] : Fin 1 → IVec S16 32) a x).toNat < S512.size a := fun i v211 k1_hw9 k1_h9 => k1_hw9.2 k1_h9
def k1_off30 (k1_t1 : Fin k1_t1_loop.trips) : Fin 2 → Nat :=
  let c1_i32_90 : BitVec 32 := 1#32
  let v215 : Index := Scalar.indexCast c1_i32_90
  let c0_i32_61 : BitVec 32 := 0#32
  let c1_i32 : BitVec 32 := 1#32
  let arg40 : BitVec 32 := Scf.iv c0_i32_61 c1_i32 k1_t1
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v216 : Index := Scalar.indexCast v202
  ![1, v216.toNat]

def k1_chk10 (i : grid1.Coords) (v219 : IVec S16 32) : Prop :=
  (∀ (k1_h9 : k1_cond9 i = 1#1), ∀ a x, ((![v219] : Fin 1 → IVec S16 32) a x).toNat < S512.size a) ∧
  (∀ (k1_h9 : k1_cond9 i = 1#1), ∀ a x, ((![v219] : Fin 1 → IVec S16 32) a x).toNat < S512.size a)
theorem k1_idx19_inb : ∀ (i : grid1.Coords) (v219 : IVec S16 32) (k1_hw10 : k1_chk10 i v219), ∀ (k1_h9 : k1_cond9 i = 1#1), ∀ a x, ((![v219] : Fin 1 → IVec S16 32) a x).toNat < S512.size a := fun i v219 k1_hw10 k1_h9 => k1_hw10.1 k1_h9
theorem k1_idx20_inb : ∀ (i : grid1.Coords) (v219 : IVec S16 32) (k1_hw10 : k1_chk10 i v219), ∀ (k1_h9 : k1_cond9 i = 1#1), ∀ a x, ((![v219] : Fin 1 → IVec S16 32) a x).toNat < S512.size a := fun i v219 k1_hw10 k1_h9 => k1_hw10.2 k1_h9
def k1_off31 (k1_t1 : Fin k1_t1_loop.trips) : Fin 2 → Nat :=
  let c2_i32_92 : BitVec 32 := 2#32
  let v223 : Index := Scalar.indexCast c2_i32_92
  let c0_i32_61 : BitVec 32 := 0#32
  let c1_i32 : BitVec 32 := 1#32
  let arg40 : BitVec 32 := Scf.iv c0_i32_61 c1_i32 k1_t1
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v224 : Index := Scalar.indexCast v202
  ![2, v224.toNat]

def k1_chk11 (i : grid1.Coords) (v227 : IVec S16 32) : Prop :=
  (∀ (k1_h9 : k1_cond9 i = 1#1), ∀ a x, ((![v227] : Fin 1 → IVec S16 32) a x).toNat < S512.size a) ∧
  (∀ (k1_h9 : k1_cond9 i = 1#1), ∀ a x, ((![v227] : Fin 1 → IVec S16 32) a x).toNat < S512.size a)
theorem k1_idx21_inb : ∀ (i : grid1.Coords) (v227 : IVec S16 32) (k1_hw11 : k1_chk11 i v227), ∀ (k1_h9 : k1_cond9 i = 1#1), ∀ a x, ((![v227] : Fin 1 → IVec S16 32) a x).toNat < S512.size a := fun i v227 k1_hw11 k1_h9 => k1_hw11.1 k1_h9
theorem k1_idx22_inb : ∀ (i : grid1.Coords) (v227 : IVec S16 32) (k1_hw11 : k1_chk11 i v227), ∀ (k1_h9 : k1_cond9 i = 1#1), ∀ a x, ((![v227] : Fin 1 → IVec S16 32) a x).toNat < S512.size a := fun i v227 k1_hw11 k1_h9 => k1_hw11.2 k1_h9
def k1_off32 (k1_t1 : Fin k1_t1_loop.trips) : Fin 2 → Nat :=
  let c3_i32_94 : BitVec 32 := 3#32
  let v231 : Index := Scalar.indexCast c3_i32_94
  let c0_i32_61 : BitVec 32 := 0#32
  let c1_i32 : BitVec 32 := 1#32
  let arg40 : BitVec 32 := Scf.iv c0_i32_61 c1_i32 k1_t1
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v232 : Index := Scalar.indexCast v202
  ![3, v232.toNat]

def k1_chk12 (i : grid1.Coords) (v235 : IVec S16 32) : Prop :=
  (∀ (k1_h9 : k1_cond9 i = 1#1), ∀ a x, ((![v235] : Fin 1 → IVec S16 32) a x).toNat < S512.size a) ∧
  (∀ (k1_h9 : k1_cond9 i = 1#1), ∀ a x, ((![v235] : Fin 1 → IVec S16 32) a x).toNat < S512.size a)
theorem k1_idx23_inb : ∀ (i : grid1.Coords) (v235 : IVec S16 32) (k1_hw12 : k1_chk12 i v235), ∀ (k1_h9 : k1_cond9 i = 1#1), ∀ a x, ((![v235] : Fin 1 → IVec S16 32) a x).toNat < S512.size a := fun i v235 k1_hw12 k1_h9 => k1_hw12.1 k1_h9
theorem k1_idx24_inb : ∀ (i : grid1.Coords) (v235 : IVec S16 32) (k1_hw12 : k1_chk12 i v235), ∀ (k1_h9 : k1_cond9 i = 1#1), ∀ a x, ((![v235] : Fin 1 → IVec S16 32) a x).toNat < S512.size a := fun i v235 k1_hw12 k1_h9 => k1_hw12.2 k1_h9
def k1_off33 (k1_t1 : Fin k1_t1_loop.trips) : Fin 1 → Nat :=
  let c0_i32_61 : BitVec 32 := 0#32
  let c1_i32 : BitVec 32 := 1#32
  let arg40 : BitVec 32 := Scf.iv c0_i32_61 c1_i32 k1_t1
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v242 : Index := Scalar.indexCast v241
  ![v242.toNat]
def k1_off34 (k1_t1 : Fin k1_t1_loop.trips) : Fin 2 → Nat :=
  let c0_i32_100 : BitVec 32 := 0#32
  let v246 : Index := Scalar.indexCast c0_i32_100
  let c0_i32_61 : BitVec 32 := 0#32
  let c1_i32 : BitVec 32 := 1#32
  let arg40 : BitVec 32 := Scf.iv c0_i32_61 c1_i32 k1_t1
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v247 : Index := Scalar.indexCast v241
  ![0, v247.toNat]

def k1_chk13 (i : grid1.Coords) (v250 : IVec S16 32) : Prop :=
  (∀ (k1_h9 : k1_cond9 i = 1#1), ∀ a x, ((![v250] : Fin 1 → IVec S16 32) a x).toNat < S512.size a) ∧
  (∀ (k1_h9 : k1_cond9 i = 1#1), ∀ a x, ((![v250] : Fin 1 → IVec S16 32) a x).toNat < S512.size a)
theorem k1_idx25_inb : ∀ (i : grid1.Coords) (v250 : IVec S16 32) (k1_hw13 : k1_chk13 i v250), ∀ (k1_h9 : k1_cond9 i = 1#1), ∀ a x, ((![v250] : Fin 1 → IVec S16 32) a x).toNat < S512.size a := fun i v250 k1_hw13 k1_h9 => k1_hw13.1 k1_h9
theorem k1_idx26_inb : ∀ (i : grid1.Coords) (v250 : IVec S16 32) (k1_hw13 : k1_chk13 i v250), ∀ (k1_h9 : k1_cond9 i = 1#1), ∀ a x, ((![v250] : Fin 1 → IVec S16 32) a x).toNat < S512.size a := fun i v250 k1_hw13 k1_h9 => k1_hw13.2 k1_h9
def k1_off35 (k1_t1 : Fin k1_t1_loop.trips) : Fin 2 → Nat :=
  let c1_i32_102 : BitVec 32 := 1#32
  let v254 : Index := Scalar.indexCast c1_i32_102
  let c0_i32_61 : BitVec 32 := 0#32
  let c1_i32 : BitVec 32 := 1#32
  let arg40 : BitVec 32 := Scf.iv c0_i32_61 c1_i32 k1_t1
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v255 : Index := Scalar.indexCast v241
  ![1, v255.toNat]

def k1_chk14 (i : grid1.Coords) (v258 : IVec S16 32) : Prop :=
  (∀ (k1_h9 : k1_cond9 i = 1#1), ∀ a x, ((![v258] : Fin 1 → IVec S16 32) a x).toNat < S512.size a) ∧
  (∀ (k1_h9 : k1_cond9 i = 1#1), ∀ a x, ((![v258] : Fin 1 → IVec S16 32) a x).toNat < S512.size a)
theorem k1_idx27_inb : ∀ (i : grid1.Coords) (v258 : IVec S16 32) (k1_hw14 : k1_chk14 i v258), ∀ (k1_h9 : k1_cond9 i = 1#1), ∀ a x, ((![v258] : Fin 1 → IVec S16 32) a x).toNat < S512.size a := fun i v258 k1_hw14 k1_h9 => k1_hw14.1 k1_h9
theorem k1_idx28_inb : ∀ (i : grid1.Coords) (v258 : IVec S16 32) (k1_hw14 : k1_chk14 i v258), ∀ (k1_h9 : k1_cond9 i = 1#1), ∀ a x, ((![v258] : Fin 1 → IVec S16 32) a x).toNat < S512.size a := fun i v258 k1_hw14 k1_h9 => k1_hw14.2 k1_h9
def k1_off36 (k1_t1 : Fin k1_t1_loop.trips) : Fin 2 → Nat :=
  let c2_i32_104 : BitVec 32 := 2#32
  let v262 : Index := Scalar.indexCast c2_i32_104
  let c0_i32_61 : BitVec 32 := 0#32
  let c1_i32 : BitVec 32 := 1#32
  let arg40 : BitVec 32 := Scf.iv c0_i32_61 c1_i32 k1_t1
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v263 : Index := Scalar.indexCast v241
  ![2, v263.toNat]

def k1_chk15 (i : grid1.Coords) (v266 : IVec S16 32) : Prop :=
  (∀ (k1_h9 : k1_cond9 i = 1#1), ∀ a x, ((![v266] : Fin 1 → IVec S16 32) a x).toNat < S512.size a) ∧
  (∀ (k1_h9 : k1_cond9 i = 1#1), ∀ a x, ((![v266] : Fin 1 → IVec S16 32) a x).toNat < S512.size a)
theorem k1_idx29_inb : ∀ (i : grid1.Coords) (v266 : IVec S16 32) (k1_hw15 : k1_chk15 i v266), ∀ (k1_h9 : k1_cond9 i = 1#1), ∀ a x, ((![v266] : Fin 1 → IVec S16 32) a x).toNat < S512.size a := fun i v266 k1_hw15 k1_h9 => k1_hw15.1 k1_h9
theorem k1_idx30_inb : ∀ (i : grid1.Coords) (v266 : IVec S16 32) (k1_hw15 : k1_chk15 i v266), ∀ (k1_h9 : k1_cond9 i = 1#1), ∀ a x, ((![v266] : Fin 1 → IVec S16 32) a x).toNat < S512.size a := fun i v266 k1_hw15 k1_h9 => k1_hw15.2 k1_h9
def k1_off37 (k1_t1 : Fin k1_t1_loop.trips) : Fin 2 → Nat :=
  let c3_i32_106 : BitVec 32 := 3#32
  let v270 : Index := Scalar.indexCast c3_i32_106
  let c0_i32_61 : BitVec 32 := 0#32
  let c1_i32 : BitVec 32 := 1#32
  let arg40 : BitVec 32 := Scf.iv c0_i32_61 c1_i32 k1_t1
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v271 : Index := Scalar.indexCast v241
  ![3, v271.toNat]

def k1_chk16 (i : grid1.Coords) (v274 : IVec S16 32) : Prop :=
  (∀ (k1_h9 : k1_cond9 i = 1#1), ∀ a x, ((![v274] : Fin 1 → IVec S16 32) a x).toNat < S512.size a) ∧
  (∀ (k1_h9 : k1_cond9 i = 1#1), ∀ a x, ((![v274] : Fin 1 → IVec S16 32) a x).toNat < S512.size a)
theorem k1_idx31_inb : ∀ (i : grid1.Coords) (v274 : IVec S16 32) (k1_hw16 : k1_chk16 i v274), ∀ (k1_h9 : k1_cond9 i = 1#1), ∀ a x, ((![v274] : Fin 1 → IVec S16 32) a x).toNat < S512.size a := fun i v274 k1_hw16 k1_h9 => k1_hw16.1 k1_h9
theorem k1_idx32_inb : ∀ (i : grid1.Coords) (v274 : IVec S16 32) (k1_hw16 : k1_chk16 i v274), ∀ (k1_h9 : k1_cond9 i = 1#1), ∀ a x, ((![v274] : Fin 1 → IVec S16 32) a x).toNat < S512.size a := fun i v274 k1_hw16 k1_h9 => k1_hw16.2 k1_h9
def k1_off38 (k1_t1 : Fin k1_t1_loop.trips) : Fin 1 → Nat :=
  let c0_i32_61 : BitVec 32 := 0#32
  let c1_i32 : BitVec 32 := 1#32
  let arg40 : BitVec 32 := Scf.iv c0_i32_61 c1_i32 k1_t1
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v281 : Index := Scalar.indexCast v280
  ![v281.toNat]
def k1_off39 (k1_t1 : Fin k1_t1_loop.trips) : Fin 2 → Nat :=
  let c0_i32_111 : BitVec 32 := 0#32
  let v285 : Index := Scalar.indexCast c0_i32_111
  let c0_i32_61 : BitVec 32 := 0#32
  let c1_i32 : BitVec 32 := 1#32
  let arg40 : BitVec 32 := Scf.iv c0_i32_61 c1_i32 k1_t1
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v286 : Index := Scalar.indexCast v280
  ![0, v286.toNat]

def k1_chk17 (i : grid1.Coords) (v289 : IVec S16 32) : Prop :=
  (∀ (k1_h9 : k1_cond9 i = 1#1), ∀ a x, ((![v289] : Fin 1 → IVec S16 32) a x).toNat < S512.size a) ∧
  (∀ (k1_h9 : k1_cond9 i = 1#1), ∀ a x, ((![v289] : Fin 1 → IVec S16 32) a x).toNat < S512.size a)
theorem k1_idx33_inb : ∀ (i : grid1.Coords) (v289 : IVec S16 32) (k1_hw17 : k1_chk17 i v289), ∀ (k1_h9 : k1_cond9 i = 1#1), ∀ a x, ((![v289] : Fin 1 → IVec S16 32) a x).toNat < S512.size a := fun i v289 k1_hw17 k1_h9 => k1_hw17.1 k1_h9
theorem k1_idx34_inb : ∀ (i : grid1.Coords) (v289 : IVec S16 32) (k1_hw17 : k1_chk17 i v289), ∀ (k1_h9 : k1_cond9 i = 1#1), ∀ a x, ((![v289] : Fin 1 → IVec S16 32) a x).toNat < S512.size a := fun i v289 k1_hw17 k1_h9 => k1_hw17.2 k1_h9
def k1_off40 (k1_t1 : Fin k1_t1_loop.trips) : Fin 2 → Nat :=
  let c1_i32_113 : BitVec 32 := 1#32
  let v293 : Index := Scalar.indexCast c1_i32_113
  let c0_i32_61 : BitVec 32 := 0#32
  let c1_i32 : BitVec 32 := 1#32
  let arg40 : BitVec 32 := Scf.iv c0_i32_61 c1_i32 k1_t1
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v294 : Index := Scalar.indexCast v280
  ![1, v294.toNat]

def k1_chk18 (i : grid1.Coords) (v297 : IVec S16 32) : Prop :=
  (∀ (k1_h9 : k1_cond9 i = 1#1), ∀ a x, ((![v297] : Fin 1 → IVec S16 32) a x).toNat < S512.size a) ∧
  (∀ (k1_h9 : k1_cond9 i = 1#1), ∀ a x, ((![v297] : Fin 1 → IVec S16 32) a x).toNat < S512.size a)
theorem k1_idx35_inb : ∀ (i : grid1.Coords) (v297 : IVec S16 32) (k1_hw18 : k1_chk18 i v297), ∀ (k1_h9 : k1_cond9 i = 1#1), ∀ a x, ((![v297] : Fin 1 → IVec S16 32) a x).toNat < S512.size a := fun i v297 k1_hw18 k1_h9 => k1_hw18.1 k1_h9
theorem k1_idx36_inb : ∀ (i : grid1.Coords) (v297 : IVec S16 32) (k1_hw18 : k1_chk18 i v297), ∀ (k1_h9 : k1_cond9 i = 1#1), ∀ a x, ((![v297] : Fin 1 → IVec S16 32) a x).toNat < S512.size a := fun i v297 k1_hw18 k1_h9 => k1_hw18.2 k1_h9
def k1_off41 (k1_t1 : Fin k1_t1_loop.trips) : Fin 2 → Nat :=
  let c2_i32_115 : BitVec 32 := 2#32
  let v301 : Index := Scalar.indexCast c2_i32_115
  let c0_i32_61 : BitVec 32 := 0#32
  let c1_i32 : BitVec 32 := 1#32
  let arg40 : BitVec 32 := Scf.iv c0_i32_61 c1_i32 k1_t1
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v302 : Index := Scalar.indexCast v280
  ![2, v302.toNat]

def k1_chk19 (i : grid1.Coords) (v305 : IVec S16 32) : Prop :=
  (∀ (k1_h9 : k1_cond9 i = 1#1), ∀ a x, ((![v305] : Fin 1 → IVec S16 32) a x).toNat < S512.size a) ∧
  (∀ (k1_h9 : k1_cond9 i = 1#1), ∀ a x, ((![v305] : Fin 1 → IVec S16 32) a x).toNat < S512.size a)
theorem k1_idx37_inb : ∀ (i : grid1.Coords) (v305 : IVec S16 32) (k1_hw19 : k1_chk19 i v305), ∀ (k1_h9 : k1_cond9 i = 1#1), ∀ a x, ((![v305] : Fin 1 → IVec S16 32) a x).toNat < S512.size a := fun i v305 k1_hw19 k1_h9 => k1_hw19.1 k1_h9
theorem k1_idx38_inb : ∀ (i : grid1.Coords) (v305 : IVec S16 32) (k1_hw19 : k1_chk19 i v305), ∀ (k1_h9 : k1_cond9 i = 1#1), ∀ a x, ((![v305] : Fin 1 → IVec S16 32) a x).toNat < S512.size a := fun i v305 k1_hw19 k1_h9 => k1_hw19.2 k1_h9
def k1_off42 (k1_t1 : Fin k1_t1_loop.trips) : Fin 2 → Nat :=
  let c3_i32_117 : BitVec 32 := 3#32
  let v309 : Index := Scalar.indexCast c3_i32_117
  let c0_i32_61 : BitVec 32 := 0#32
  let c1_i32 : BitVec 32 := 1#32
  let arg40 : BitVec 32 := Scf.iv c0_i32_61 c1_i32 k1_t1
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v310 : Index := Scalar.indexCast v280
  ![3, v310.toNat]

def k1_chk20 (i : grid1.Coords) (v313 : IVec S16 32) : Prop :=
  (∀ (k1_h9 : k1_cond9 i = 1#1), ∀ a x, ((![v313] : Fin 1 → IVec S16 32) a x).toNat < S512.size a) ∧
  (∀ (k1_h9 : k1_cond9 i = 1#1), ∀ a x, ((![v313] : Fin 1 → IVec S16 32) a x).toNat < S512.size a)
theorem k1_idx39_inb : ∀ (i : grid1.Coords) (v313 : IVec S16 32) (k1_hw20 : k1_chk20 i v313), ∀ (k1_h9 : k1_cond9 i = 1#1), ∀ a x, ((![v313] : Fin 1 → IVec S16 32) a x).toNat < S512.size a := fun i v313 k1_hw20 k1_h9 => k1_hw20.1 k1_h9
theorem k1_idx40_inb : ∀ (i : grid1.Coords) (v313 : IVec S16 32) (k1_hw20 : k1_chk20 i v313), ∀ (k1_h9 : k1_cond9 i = 1#1), ∀ a x, ((![v313] : Fin 1 → IVec S16 32) a x).toNat < S512.size a := fun i v313 k1_hw20 k1_h9 => k1_hw20.2 k1_h9
def k1_cond10 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_33 : BitVec 32 := 32#32
  let v87 : BitVec 32 := Scalar.addi v1 c32_i32_33
  let c250_i32_34 : BitVec 32 := 250#32
  let v88 : BitVec 1 := Scalar.cmpi .slt v87 c250_i32_34
  let v89 : BitVec 32 := Scalar.extui v88
  let c0_i32_35 : BitVec 32 := 0#32
  let v90 : BitVec 1 := Scalar.cmpi .ne v89 c0_i32_35
  v90

def k1_off43 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v37 : BitVec 32 := Scalar.addi v1 c32_i32
  let c400_i32_0 : BitVec 32 := 400#32
  let v38 : BitVec 32 := Scalar.muli v37 c400_i32_0
  ![v38.toNat]
@[reducible] def k1_t2_loop : Scf.Loop 32 :=
  let c0_i32_61 : BitVec 32 := 0#32
  let c5_i32 : BitVec 32 := 5#32
  let v121 : BitVec 32 := Scalar.addi c0_i32_61 c5_i32
  let c1_i32 : BitVec 32 := 1#32
  ⟨c0_i32_61, v121, c1_i32⟩
def k1_off44 (k1_t2 : Fin k1_t2_loop.trips) : Fin 1 → Nat :=
  let c0_i32_61 : BitVec 32 := 0#32
  let c1_i32 : BitVec 32 := 1#32
  let arg40 : BitVec 32 := Scf.iv c0_i32_61 c1_i32 k1_t2
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v125 : Index := Scalar.indexCast v124
  ![v125.toNat]
def k1_off45 (k1_t2 : Fin k1_t2_loop.trips) : Fin 2 → Nat :=
  let c0_i32_65 : BitVec 32 := 0#32
  let v129 : Index := Scalar.indexCast c0_i32_65
  let c0_i32_61 : BitVec 32 := 0#32
  let c1_i32 : BitVec 32 := 1#32
  let arg40 : BitVec 32 := Scf.iv c0_i32_61 c1_i32 k1_t2
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v130 : Index := Scalar.indexCast v124
  ![0, v130.toNat]

def k1_chk21 (i : grid1.Coords) (v133 : IVec S16 32) : Prop :=
  (∀ (k1_h10 : k1_cond10 i = 1#1), ∀ a x, ((![v133] : Fin 1 → IVec S16 32) a x).toNat < S512.size a) ∧
  (∀ (k1_h10 : k1_cond10 i = 1#1), ∀ a x, ((![v133] : Fin 1 → IVec S16 32) a x).toNat < S512.size a)
theorem k1_idx41_inb : ∀ (i : grid1.Coords) (v133 : IVec S16 32) (k1_hw21 : k1_chk21 i v133), ∀ (k1_h10 : k1_cond10 i = 1#1), ∀ a x, ((![v133] : Fin 1 → IVec S16 32) a x).toNat < S512.size a := fun i v133 k1_hw21 k1_h10 => k1_hw21.1 k1_h10
theorem k1_idx42_inb : ∀ (i : grid1.Coords) (v133 : IVec S16 32) (k1_hw21 : k1_chk21 i v133), ∀ (k1_h10 : k1_cond10 i = 1#1), ∀ a x, ((![v133] : Fin 1 → IVec S16 32) a x).toNat < S512.size a := fun i v133 k1_hw21 k1_h10 => k1_hw21.2 k1_h10
def k1_off46 (k1_t2 : Fin k1_t2_loop.trips) : Fin 2 → Nat :=
  let c1_i32_67 : BitVec 32 := 1#32
  let v137 : Index := Scalar.indexCast c1_i32_67
  let c0_i32_61 : BitVec 32 := 0#32
  let c1_i32 : BitVec 32 := 1#32
  let arg40 : BitVec 32 := Scf.iv c0_i32_61 c1_i32 k1_t2
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v138 : Index := Scalar.indexCast v124
  ![1, v138.toNat]

def k1_chk22 (i : grid1.Coords) (v141 : IVec S16 32) : Prop :=
  (∀ (k1_h10 : k1_cond10 i = 1#1), ∀ a x, ((![v141] : Fin 1 → IVec S16 32) a x).toNat < S512.size a) ∧
  (∀ (k1_h10 : k1_cond10 i = 1#1), ∀ a x, ((![v141] : Fin 1 → IVec S16 32) a x).toNat < S512.size a)
theorem k1_idx43_inb : ∀ (i : grid1.Coords) (v141 : IVec S16 32) (k1_hw22 : k1_chk22 i v141), ∀ (k1_h10 : k1_cond10 i = 1#1), ∀ a x, ((![v141] : Fin 1 → IVec S16 32) a x).toNat < S512.size a := fun i v141 k1_hw22 k1_h10 => k1_hw22.1 k1_h10
theorem k1_idx44_inb : ∀ (i : grid1.Coords) (v141 : IVec S16 32) (k1_hw22 : k1_chk22 i v141), ∀ (k1_h10 : k1_cond10 i = 1#1), ∀ a x, ((![v141] : Fin 1 → IVec S16 32) a x).toNat < S512.size a := fun i v141 k1_hw22 k1_h10 => k1_hw22.2 k1_h10
def k1_off47 (k1_t2 : Fin k1_t2_loop.trips) : Fin 2 → Nat :=
  let c2_i32_69 : BitVec 32 := 2#32
  let v145 : Index := Scalar.indexCast c2_i32_69
  let c0_i32_61 : BitVec 32 := 0#32
  let c1_i32 : BitVec 32 := 1#32
  let arg40 : BitVec 32 := Scf.iv c0_i32_61 c1_i32 k1_t2
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v146 : Index := Scalar.indexCast v124
  ![2, v146.toNat]

def k1_chk23 (i : grid1.Coords) (v149 : IVec S16 32) : Prop :=
  (∀ (k1_h10 : k1_cond10 i = 1#1), ∀ a x, ((![v149] : Fin 1 → IVec S16 32) a x).toNat < S512.size a) ∧
  (∀ (k1_h10 : k1_cond10 i = 1#1), ∀ a x, ((![v149] : Fin 1 → IVec S16 32) a x).toNat < S512.size a)
theorem k1_idx45_inb : ∀ (i : grid1.Coords) (v149 : IVec S16 32) (k1_hw23 : k1_chk23 i v149), ∀ (k1_h10 : k1_cond10 i = 1#1), ∀ a x, ((![v149] : Fin 1 → IVec S16 32) a x).toNat < S512.size a := fun i v149 k1_hw23 k1_h10 => k1_hw23.1 k1_h10
theorem k1_idx46_inb : ∀ (i : grid1.Coords) (v149 : IVec S16 32) (k1_hw23 : k1_chk23 i v149), ∀ (k1_h10 : k1_cond10 i = 1#1), ∀ a x, ((![v149] : Fin 1 → IVec S16 32) a x).toNat < S512.size a := fun i v149 k1_hw23 k1_h10 => k1_hw23.2 k1_h10
def k1_off48 (k1_t2 : Fin k1_t2_loop.trips) : Fin 2 → Nat :=
  let c3_i32 : BitVec 32 := 3#32
  let v153 : Index := Scalar.indexCast c3_i32
  let c0_i32_61 : BitVec 32 := 0#32
  let c1_i32 : BitVec 32 := 1#32
  let arg40 : BitVec 32 := Scf.iv c0_i32_61 c1_i32 k1_t2
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v154 : Index := Scalar.indexCast v124
  ![3, v154.toNat]

def k1_chk24 (i : grid1.Coords) (v157 : IVec S16 32) : Prop :=
  (∀ (k1_h10 : k1_cond10 i = 1#1), ∀ a x, ((![v157] : Fin 1 → IVec S16 32) a x).toNat < S512.size a) ∧
  (∀ (k1_h10 : k1_cond10 i = 1#1), ∀ a x, ((![v157] : Fin 1 → IVec S16 32) a x).toNat < S512.size a)
theorem k1_idx47_inb : ∀ (i : grid1.Coords) (v157 : IVec S16 32) (k1_hw24 : k1_chk24 i v157), ∀ (k1_h10 : k1_cond10 i = 1#1), ∀ a x, ((![v157] : Fin 1 → IVec S16 32) a x).toNat < S512.size a := fun i v157 k1_hw24 k1_h10 => k1_hw24.1 k1_h10
theorem k1_idx48_inb : ∀ (i : grid1.Coords) (v157 : IVec S16 32) (k1_hw24 : k1_chk24 i v157), ∀ (k1_h10 : k1_cond10 i = 1#1), ∀ a x, ((![v157] : Fin 1 → IVec S16 32) a x).toNat < S512.size a := fun i v157 k1_hw24 k1_h10 => k1_hw24.2 k1_h10
def k1_off49 (k1_t2 : Fin k1_t2_loop.trips) : Fin 1 → Nat :=
  let c0_i32_61 : BitVec 32 := 0#32
  let c1_i32 : BitVec 32 := 1#32
  let arg40 : BitVec 32 := Scf.iv c0_i32_61 c1_i32 k1_t2
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v164 : Index := Scalar.indexCast v163
  ![v164.toNat]
def k1_off50 (k1_t2 : Fin k1_t2_loop.trips) : Fin 2 → Nat :=
  let c0_i32_76 : BitVec 32 := 0#32
  let v168 : Index := Scalar.indexCast c0_i32_76
  let c0_i32_61 : BitVec 32 := 0#32
  let c1_i32 : BitVec 32 := 1#32
  let arg40 : BitVec 32 := Scf.iv c0_i32_61 c1_i32 k1_t2
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v169 : Index := Scalar.indexCast v163
  ![0, v169.toNat]

def k1_chk25 (i : grid1.Coords) (v172 : IVec S16 32) : Prop :=
  (∀ (k1_h10 : k1_cond10 i = 1#1), ∀ a x, ((![v172] : Fin 1 → IVec S16 32) a x).toNat < S512.size a) ∧
  (∀ (k1_h10 : k1_cond10 i = 1#1), ∀ a x, ((![v172] : Fin 1 → IVec S16 32) a x).toNat < S512.size a)
theorem k1_idx49_inb : ∀ (i : grid1.Coords) (v172 : IVec S16 32) (k1_hw25 : k1_chk25 i v172), ∀ (k1_h10 : k1_cond10 i = 1#1), ∀ a x, ((![v172] : Fin 1 → IVec S16 32) a x).toNat < S512.size a := fun i v172 k1_hw25 k1_h10 => k1_hw25.1 k1_h10
theorem k1_idx50_inb : ∀ (i : grid1.Coords) (v172 : IVec S16 32) (k1_hw25 : k1_chk25 i v172), ∀ (k1_h10 : k1_cond10 i = 1#1), ∀ a x, ((![v172] : Fin 1 → IVec S16 32) a x).toNat < S512.size a := fun i v172 k1_hw25 k1_h10 => k1_hw25.2 k1_h10
def k1_off51 (k1_t2 : Fin k1_t2_loop.trips) : Fin 2 → Nat :=
  let c1_i32_78 : BitVec 32 := 1#32
  let v176 : Index := Scalar.indexCast c1_i32_78
  let c0_i32_61 : BitVec 32 := 0#32
  let c1_i32 : BitVec 32 := 1#32
  let arg40 : BitVec 32 := Scf.iv c0_i32_61 c1_i32 k1_t2
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v177 : Index := Scalar.indexCast v163
  ![1, v177.toNat]

def k1_chk26 (i : grid1.Coords) (v180 : IVec S16 32) : Prop :=
  (∀ (k1_h10 : k1_cond10 i = 1#1), ∀ a x, ((![v180] : Fin 1 → IVec S16 32) a x).toNat < S512.size a) ∧
  (∀ (k1_h10 : k1_cond10 i = 1#1), ∀ a x, ((![v180] : Fin 1 → IVec S16 32) a x).toNat < S512.size a)
theorem k1_idx51_inb : ∀ (i : grid1.Coords) (v180 : IVec S16 32) (k1_hw26 : k1_chk26 i v180), ∀ (k1_h10 : k1_cond10 i = 1#1), ∀ a x, ((![v180] : Fin 1 → IVec S16 32) a x).toNat < S512.size a := fun i v180 k1_hw26 k1_h10 => k1_hw26.1 k1_h10
theorem k1_idx52_inb : ∀ (i : grid1.Coords) (v180 : IVec S16 32) (k1_hw26 : k1_chk26 i v180), ∀ (k1_h10 : k1_cond10 i = 1#1), ∀ a x, ((![v180] : Fin 1 → IVec S16 32) a x).toNat < S512.size a := fun i v180 k1_hw26 k1_h10 => k1_hw26.2 k1_h10
def k1_off52 (k1_t2 : Fin k1_t2_loop.trips) : Fin 2 → Nat :=
  let c2_i32_80 : BitVec 32 := 2#32
  let v184 : Index := Scalar.indexCast c2_i32_80
  let c0_i32_61 : BitVec 32 := 0#32
  let c1_i32 : BitVec 32 := 1#32
  let arg40 : BitVec 32 := Scf.iv c0_i32_61 c1_i32 k1_t2
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v185 : Index := Scalar.indexCast v163
  ![2, v185.toNat]

def k1_chk27 (i : grid1.Coords) (v188 : IVec S16 32) : Prop :=
  (∀ (k1_h10 : k1_cond10 i = 1#1), ∀ a x, ((![v188] : Fin 1 → IVec S16 32) a x).toNat < S512.size a) ∧
  (∀ (k1_h10 : k1_cond10 i = 1#1), ∀ a x, ((![v188] : Fin 1 → IVec S16 32) a x).toNat < S512.size a)
theorem k1_idx53_inb : ∀ (i : grid1.Coords) (v188 : IVec S16 32) (k1_hw27 : k1_chk27 i v188), ∀ (k1_h10 : k1_cond10 i = 1#1), ∀ a x, ((![v188] : Fin 1 → IVec S16 32) a x).toNat < S512.size a := fun i v188 k1_hw27 k1_h10 => k1_hw27.1 k1_h10
theorem k1_idx54_inb : ∀ (i : grid1.Coords) (v188 : IVec S16 32) (k1_hw27 : k1_chk27 i v188), ∀ (k1_h10 : k1_cond10 i = 1#1), ∀ a x, ((![v188] : Fin 1 → IVec S16 32) a x).toNat < S512.size a := fun i v188 k1_hw27 k1_h10 => k1_hw27.2 k1_h10
def k1_off53 (k1_t2 : Fin k1_t2_loop.trips) : Fin 2 → Nat :=
  let c3_i32_82 : BitVec 32 := 3#32
  let v192 : Index := Scalar.indexCast c3_i32_82
  let c0_i32_61 : BitVec 32 := 0#32
  let c1_i32 : BitVec 32 := 1#32
  let arg40 : BitVec 32 := Scf.iv c0_i32_61 c1_i32 k1_t2
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v193 : Index := Scalar.indexCast v163
  ![3, v193.toNat]

def k1_chk28 (i : grid1.Coords) (v196 : IVec S16 32) : Prop :=
  (∀ (k1_h10 : k1_cond10 i = 1#1), ∀ a x, ((![v196] : Fin 1 → IVec S16 32) a x).toNat < S512.size a) ∧
  (∀ (k1_h10 : k1_cond10 i = 1#1), ∀ a x, ((![v196] : Fin 1 → IVec S16 32) a x).toNat < S512.size a)
theorem k1_idx55_inb : ∀ (i : grid1.Coords) (v196 : IVec S16 32) (k1_hw28 : k1_chk28 i v196), ∀ (k1_h10 : k1_cond10 i = 1#1), ∀ a x, ((![v196] : Fin 1 → IVec S16 32) a x).toNat < S512.size a := fun i v196 k1_hw28 k1_h10 => k1_hw28.1 k1_h10
theorem k1_idx56_inb : ∀ (i : grid1.Coords) (v196 : IVec S16 32) (k1_hw28 : k1_chk28 i v196), ∀ (k1_h10 : k1_cond10 i = 1#1), ∀ a x, ((![v196] : Fin 1 → IVec S16 32) a x).toNat < S512.size a := fun i v196 k1_hw28 k1_h10 => k1_hw28.2 k1_h10
def k1_off54 (k1_t2 : Fin k1_t2_loop.trips) : Fin 1 → Nat :=
  let c0_i32_61 : BitVec 32 := 0#32
  let c1_i32 : BitVec 32 := 1#32
  let arg40 : BitVec 32 := Scf.iv c0_i32_61 c1_i32 k1_t2
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v203 : Index := Scalar.indexCast v202
  ![v203.toNat]
def k1_off55 (k1_t2 : Fin k1_t2_loop.trips) : Fin 2 → Nat :=
  let c0_i32_88 : BitVec 32 := 0#32
  let v207 : Index := Scalar.indexCast c0_i32_88
  let c0_i32_61 : BitVec 32 := 0#32
  let c1_i32 : BitVec 32 := 1#32
  let arg40 : BitVec 32 := Scf.iv c0_i32_61 c1_i32 k1_t2
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v208 : Index := Scalar.indexCast v202
  ![0, v208.toNat]

def k1_chk29 (i : grid1.Coords) (v211 : IVec S16 32) : Prop :=
  (∀ (k1_h10 : k1_cond10 i = 1#1), ∀ a x, ((![v211] : Fin 1 → IVec S16 32) a x).toNat < S512.size a) ∧
  (∀ (k1_h10 : k1_cond10 i = 1#1), ∀ a x, ((![v211] : Fin 1 → IVec S16 32) a x).toNat < S512.size a)
theorem k1_idx57_inb : ∀ (i : grid1.Coords) (v211 : IVec S16 32) (k1_hw29 : k1_chk29 i v211), ∀ (k1_h10 : k1_cond10 i = 1#1), ∀ a x, ((![v211] : Fin 1 → IVec S16 32) a x).toNat < S512.size a := fun i v211 k1_hw29 k1_h10 => k1_hw29.1 k1_h10
theorem k1_idx58_inb : ∀ (i : grid1.Coords) (v211 : IVec S16 32) (k1_hw29 : k1_chk29 i v211), ∀ (k1_h10 : k1_cond10 i = 1#1), ∀ a x, ((![v211] : Fin 1 → IVec S16 32) a x).toNat < S512.size a := fun i v211 k1_hw29 k1_h10 => k1_hw29.2 k1_h10
def k1_off56 (k1_t2 : Fin k1_t2_loop.trips) : Fin 2 → Nat :=
  let c1_i32_90 : BitVec 32 := 1#32
  let v215 : Index := Scalar.indexCast c1_i32_90
  let c0_i32_61 : BitVec 32 := 0#32
  let c1_i32 : BitVec 32 := 1#32
  let arg40 : BitVec 32 := Scf.iv c0_i32_61 c1_i32 k1_t2
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v216 : Index := Scalar.indexCast v202
  ![1, v216.toNat]

def k1_chk30 (i : grid1.Coords) (v219 : IVec S16 32) : Prop :=
  (∀ (k1_h10 : k1_cond10 i = 1#1), ∀ a x, ((![v219] : Fin 1 → IVec S16 32) a x).toNat < S512.size a) ∧
  (∀ (k1_h10 : k1_cond10 i = 1#1), ∀ a x, ((![v219] : Fin 1 → IVec S16 32) a x).toNat < S512.size a)
theorem k1_idx59_inb : ∀ (i : grid1.Coords) (v219 : IVec S16 32) (k1_hw30 : k1_chk30 i v219), ∀ (k1_h10 : k1_cond10 i = 1#1), ∀ a x, ((![v219] : Fin 1 → IVec S16 32) a x).toNat < S512.size a := fun i v219 k1_hw30 k1_h10 => k1_hw30.1 k1_h10
theorem k1_idx60_inb : ∀ (i : grid1.Coords) (v219 : IVec S16 32) (k1_hw30 : k1_chk30 i v219), ∀ (k1_h10 : k1_cond10 i = 1#1), ∀ a x, ((![v219] : Fin 1 → IVec S16 32) a x).toNat < S512.size a := fun i v219 k1_hw30 k1_h10 => k1_hw30.2 k1_h10
def k1_off57 (k1_t2 : Fin k1_t2_loop.trips) : Fin 2 → Nat :=
  let c2_i32_92 : BitVec 32 := 2#32
  let v223 : Index := Scalar.indexCast c2_i32_92
  let c0_i32_61 : BitVec 32 := 0#32
  let c1_i32 : BitVec 32 := 1#32
  let arg40 : BitVec 32 := Scf.iv c0_i32_61 c1_i32 k1_t2
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v224 : Index := Scalar.indexCast v202
  ![2, v224.toNat]

def k1_chk31 (i : grid1.Coords) (v227 : IVec S16 32) : Prop :=
  (∀ (k1_h10 : k1_cond10 i = 1#1), ∀ a x, ((![v227] : Fin 1 → IVec S16 32) a x).toNat < S512.size a) ∧
  (∀ (k1_h10 : k1_cond10 i = 1#1), ∀ a x, ((![v227] : Fin 1 → IVec S16 32) a x).toNat < S512.size a)
theorem k1_idx61_inb : ∀ (i : grid1.Coords) (v227 : IVec S16 32) (k1_hw31 : k1_chk31 i v227), ∀ (k1_h10 : k1_cond10 i = 1#1), ∀ a x, ((![v227] : Fin 1 → IVec S16 32) a x).toNat < S512.size a := fun i v227 k1_hw31 k1_h10 => k1_hw31.1 k1_h10
theorem k1_idx62_inb : ∀ (i : grid1.Coords) (v227 : IVec S16 32) (k1_hw31 : k1_chk31 i v227), ∀ (k1_h10 : k1_cond10 i = 1#1), ∀ a x, ((![v227] : Fin 1 → IVec S16 32) a x).toNat < S512.size a := fun i v227 k1_hw31 k1_h10 => k1_hw31.2 k1_h10
def k1_off58 (k1_t2 : Fin k1_t2_loop.trips) : Fin 2 → Nat :=
  let c3_i32_94 : BitVec 32 := 3#32
  let v231 : Index := Scalar.indexCast c3_i32_94
  let c0_i32_61 : BitVec 32 := 0#32
  let c1_i32 : BitVec 32 := 1#32
  let arg40 : BitVec 32 := Scf.iv c0_i32_61 c1_i32 k1_t2
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v232 : Index := Scalar.indexCast v202
  ![3, v232.toNat]

def k1_chk32 (i : grid1.Coords) (v235 : IVec S16 32) : Prop :=
  (∀ (k1_h10 : k1_cond10 i = 1#1), ∀ a x, ((![v235] : Fin 1 → IVec S16 32) a x).toNat < S512.size a) ∧
  (∀ (k1_h10 : k1_cond10 i = 1#1), ∀ a x, ((![v235] : Fin 1 → IVec S16 32) a x).toNat < S512.size a)
theorem k1_idx63_inb : ∀ (i : grid1.Coords) (v235 : IVec S16 32) (k1_hw32 : k1_chk32 i v235), ∀ (k1_h10 : k1_cond10 i = 1#1), ∀ a x, ((![v235] : Fin 1 → IVec S16 32) a x).toNat < S512.size a := fun i v235 k1_hw32 k1_h10 => k1_hw32.1 k1_h10
theorem k1_idx64_inb : ∀ (i : grid1.Coords) (v235 : IVec S16 32) (k1_hw32 : k1_chk32 i v235), ∀ (k1_h10 : k1_cond10 i = 1#1), ∀ a x, ((![v235] : Fin 1 → IVec S16 32) a x).toNat < S512.size a := fun i v235 k1_hw32 k1_h10 => k1_hw32.2 k1_h10
def k1_off59 (k1_t2 : Fin k1_t2_loop.trips) : Fin 1 → Nat :=
  let c0_i32_61 : BitVec 32 := 0#32
  let c1_i32 : BitVec 32 := 1#32
  let arg40 : BitVec 32 := Scf.iv c0_i32_61 c1_i32 k1_t2
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v242 : Index := Scalar.indexCast v241
  ![v242.toNat]
def k1_off60 (k1_t2 : Fin k1_t2_loop.trips) : Fin 2 → Nat :=
  let c0_i32_100 : BitVec 32 := 0#32
  let v246 : Index := Scalar.indexCast c0_i32_100
  let c0_i32_61 : BitVec 32 := 0#32
  let c1_i32 : BitVec 32 := 1#32
  let arg40 : BitVec 32 := Scf.iv c0_i32_61 c1_i32 k1_t2
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v247 : Index := Scalar.indexCast v241
  ![0, v247.toNat]

def k1_chk33 (i : grid1.Coords) (v250 : IVec S16 32) : Prop :=
  (∀ (k1_h10 : k1_cond10 i = 1#1), ∀ a x, ((![v250] : Fin 1 → IVec S16 32) a x).toNat < S512.size a) ∧
  (∀ (k1_h10 : k1_cond10 i = 1#1), ∀ a x, ((![v250] : Fin 1 → IVec S16 32) a x).toNat < S512.size a)
theorem k1_idx65_inb : ∀ (i : grid1.Coords) (v250 : IVec S16 32) (k1_hw33 : k1_chk33 i v250), ∀ (k1_h10 : k1_cond10 i = 1#1), ∀ a x, ((![v250] : Fin 1 → IVec S16 32) a x).toNat < S512.size a := fun i v250 k1_hw33 k1_h10 => k1_hw33.1 k1_h10
theorem k1_idx66_inb : ∀ (i : grid1.Coords) (v250 : IVec S16 32) (k1_hw33 : k1_chk33 i v250), ∀ (k1_h10 : k1_cond10 i = 1#1), ∀ a x, ((![v250] : Fin 1 → IVec S16 32) a x).toNat < S512.size a := fun i v250 k1_hw33 k1_h10 => k1_hw33.2 k1_h10
def k1_off61 (k1_t2 : Fin k1_t2_loop.trips) : Fin 2 → Nat :=
  let c1_i32_102 : BitVec 32 := 1#32
  let v254 : Index := Scalar.indexCast c1_i32_102
  let c0_i32_61 : BitVec 32 := 0#32
  let c1_i32 : BitVec 32 := 1#32
  let arg40 : BitVec 32 := Scf.iv c0_i32_61 c1_i32 k1_t2
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v255 : Index := Scalar.indexCast v241
  ![1, v255.toNat]

def k1_chk34 (i : grid1.Coords) (v258 : IVec S16 32) : Prop :=
  (∀ (k1_h10 : k1_cond10 i = 1#1), ∀ a x, ((![v258] : Fin 1 → IVec S16 32) a x).toNat < S512.size a) ∧
  (∀ (k1_h10 : k1_cond10 i = 1#1), ∀ a x, ((![v258] : Fin 1 → IVec S16 32) a x).toNat < S512.size a)
theorem k1_idx67_inb : ∀ (i : grid1.Coords) (v258 : IVec S16 32) (k1_hw34 : k1_chk34 i v258), ∀ (k1_h10 : k1_cond10 i = 1#1), ∀ a x, ((![v258] : Fin 1 → IVec S16 32) a x).toNat < S512.size a := fun i v258 k1_hw34 k1_h10 => k1_hw34.1 k1_h10
theorem k1_idx68_inb : ∀ (i : grid1.Coords) (v258 : IVec S16 32) (k1_hw34 : k1_chk34 i v258), ∀ (k1_h10 : k1_cond10 i = 1#1), ∀ a x, ((![v258] : Fin 1 → IVec S16 32) a x).toNat < S512.size a := fun i v258 k1_hw34 k1_h10 => k1_hw34.2 k1_h10
def k1_off62 (k1_t2 : Fin k1_t2_loop.trips) : Fin 2 → Nat :=
  let c2_i32_104 : BitVec 32 := 2#32
  let v262 : Index := Scalar.indexCast c2_i32_104
  let c0_i32_61 : BitVec 32 := 0#32
  let c1_i32 : BitVec 32 := 1#32
  let arg40 : BitVec 32 := Scf.iv c0_i32_61 c1_i32 k1_t2
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v263 : Index := Scalar.indexCast v241
  ![2, v263.toNat]

def k1_chk35 (i : grid1.Coords) (v266 : IVec S16 32) : Prop :=
  (∀ (k1_h10 : k1_cond10 i = 1#1), ∀ a x, ((![v266] : Fin 1 → IVec S16 32) a x).toNat < S512.size a) ∧
  (∀ (k1_h10 : k1_cond10 i = 1#1), ∀ a x, ((![v266] : Fin 1 → IVec S16 32) a x).toNat < S512.size a)
theorem k1_idx69_inb : ∀ (i : grid1.Coords) (v266 : IVec S16 32) (k1_hw35 : k1_chk35 i v266), ∀ (k1_h10 : k1_cond10 i = 1#1), ∀ a x, ((![v266] : Fin 1 → IVec S16 32) a x).toNat < S512.size a := fun i v266 k1_hw35 k1_h10 => k1_hw35.1 k1_h10
theorem k1_idx70_inb : ∀ (i : grid1.Coords) (v266 : IVec S16 32) (k1_hw35 : k1_chk35 i v266), ∀ (k1_h10 : k1_cond10 i = 1#1), ∀ a x, ((![v266] : Fin 1 → IVec S16 32) a x).toNat < S512.size a := fun i v266 k1_hw35 k1_h10 => k1_hw35.2 k1_h10
def k1_off63 (k1_t2 : Fin k1_t2_loop.trips) : Fin 2 → Nat :=
  let c3_i32_106 : BitVec 32 := 3#32
  let v270 : Index := Scalar.indexCast c3_i32_106
  let c0_i32_61 : BitVec 32 := 0#32
  let c1_i32 : BitVec 32 := 1#32
  let arg40 : BitVec 32 := Scf.iv c0_i32_61 c1_i32 k1_t2
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v271 : Index := Scalar.indexCast v241
  ![3, v271.toNat]

def k1_chk36 (i : grid1.Coords) (v274 : IVec S16 32) : Prop :=
  (∀ (k1_h10 : k1_cond10 i = 1#1), ∀ a x, ((![v274] : Fin 1 → IVec S16 32) a x).toNat < S512.size a) ∧
  (∀ (k1_h10 : k1_cond10 i = 1#1), ∀ a x, ((![v274] : Fin 1 → IVec S16 32) a x).toNat < S512.size a)
theorem k1_idx71_inb : ∀ (i : grid1.Coords) (v274 : IVec S16 32) (k1_hw36 : k1_chk36 i v274), ∀ (k1_h10 : k1_cond10 i = 1#1), ∀ a x, ((![v274] : Fin 1 → IVec S16 32) a x).toNat < S512.size a := fun i v274 k1_hw36 k1_h10 => k1_hw36.1 k1_h10
theorem k1_idx72_inb : ∀ (i : grid1.Coords) (v274 : IVec S16 32) (k1_hw36 : k1_chk36 i v274), ∀ (k1_h10 : k1_cond10 i = 1#1), ∀ a x, ((![v274] : Fin 1 → IVec S16 32) a x).toNat < S512.size a := fun i v274 k1_hw36 k1_h10 => k1_hw36.2 k1_h10
def k1_off64 (k1_t2 : Fin k1_t2_loop.trips) : Fin 1 → Nat :=
  let c0_i32_61 : BitVec 32 := 0#32
  let c1_i32 : BitVec 32 := 1#32
  let arg40 : BitVec 32 := Scf.iv c0_i32_61 c1_i32 k1_t2
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v281 : Index := Scalar.indexCast v280
  ![v281.toNat]
def k1_off65 (k1_t2 : Fin k1_t2_loop.trips) : Fin 2 → Nat :=
  let c0_i32_111 : BitVec 32 := 0#32
  let v285 : Index := Scalar.indexCast c0_i32_111
  let c0_i32_61 : BitVec 32 := 0#32
  let c1_i32 : BitVec 32 := 1#32
  let arg40 : BitVec 32 := Scf.iv c0_i32_61 c1_i32 k1_t2
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v286 : Index := Scalar.indexCast v280
  ![0, v286.toNat]

def k1_chk37 (i : grid1.Coords) (v289 : IVec S16 32) : Prop :=
  (∀ (k1_h10 : k1_cond10 i = 1#1), ∀ a x, ((![v289] : Fin 1 → IVec S16 32) a x).toNat < S512.size a) ∧
  (∀ (k1_h10 : k1_cond10 i = 1#1), ∀ a x, ((![v289] : Fin 1 → IVec S16 32) a x).toNat < S512.size a)
theorem k1_idx73_inb : ∀ (i : grid1.Coords) (v289 : IVec S16 32) (k1_hw37 : k1_chk37 i v289), ∀ (k1_h10 : k1_cond10 i = 1#1), ∀ a x, ((![v289] : Fin 1 → IVec S16 32) a x).toNat < S512.size a := fun i v289 k1_hw37 k1_h10 => k1_hw37.1 k1_h10
theorem k1_idx74_inb : ∀ (i : grid1.Coords) (v289 : IVec S16 32) (k1_hw37 : k1_chk37 i v289), ∀ (k1_h10 : k1_cond10 i = 1#1), ∀ a x, ((![v289] : Fin 1 → IVec S16 32) a x).toNat < S512.size a := fun i v289 k1_hw37 k1_h10 => k1_hw37.2 k1_h10
def k1_off66 (k1_t2 : Fin k1_t2_loop.trips) : Fin 2 → Nat :=
  let c1_i32_113 : BitVec 32 := 1#32
  let v293 : Index := Scalar.indexCast c1_i32_113
  let c0_i32_61 : BitVec 32 := 0#32
  let c1_i32 : BitVec 32 := 1#32
  let arg40 : BitVec 32 := Scf.iv c0_i32_61 c1_i32 k1_t2
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v294 : Index := Scalar.indexCast v280
  ![1, v294.toNat]

def k1_chk38 (i : grid1.Coords) (v297 : IVec S16 32) : Prop :=
  (∀ (k1_h10 : k1_cond10 i = 1#1), ∀ a x, ((![v297] : Fin 1 → IVec S16 32) a x).toNat < S512.size a) ∧
  (∀ (k1_h10 : k1_cond10 i = 1#1), ∀ a x, ((![v297] : Fin 1 → IVec S16 32) a x).toNat < S512.size a)
theorem k1_idx75_inb : ∀ (i : grid1.Coords) (v297 : IVec S16 32) (k1_hw38 : k1_chk38 i v297), ∀ (k1_h10 : k1_cond10 i = 1#1), ∀ a x, ((![v297] : Fin 1 → IVec S16 32) a x).toNat < S512.size a := fun i v297 k1_hw38 k1_h10 => k1_hw38.1 k1_h10
theorem k1_idx76_inb : ∀ (i : grid1.Coords) (v297 : IVec S16 32) (k1_hw38 : k1_chk38 i v297), ∀ (k1_h10 : k1_cond10 i = 1#1), ∀ a x, ((![v297] : Fin 1 → IVec S16 32) a x).toNat < S512.size a := fun i v297 k1_hw38 k1_h10 => k1_hw38.2 k1_h10
def k1_off67 (k1_t2 : Fin k1_t2_loop.trips) : Fin 2 → Nat :=
  let c2_i32_115 : BitVec 32 := 2#32
  let v301 : Index := Scalar.indexCast c2_i32_115
  let c0_i32_61 : BitVec 32 := 0#32
  let c1_i32 : BitVec 32 := 1#32
  let arg40 : BitVec 32 := Scf.iv c0_i32_61 c1_i32 k1_t2
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v302 : Index := Scalar.indexCast v280
  ![2, v302.toNat]

def k1_chk39 (i : grid1.Coords) (v305 : IVec S16 32) : Prop :=
  (∀ (k1_h10 : k1_cond10 i = 1#1), ∀ a x, ((![v305] : Fin 1 → IVec S16 32) a x).toNat < S512.size a) ∧
  (∀ (k1_h10 : k1_cond10 i = 1#1), ∀ a x, ((![v305] : Fin 1 → IVec S16 32) a x).toNat < S512.size a)
theorem k1_idx77_inb : ∀ (i : grid1.Coords) (v305 : IVec S16 32) (k1_hw39 : k1_chk39 i v305), ∀ (k1_h10 : k1_cond10 i = 1#1), ∀ a x, ((![v305] : Fin 1 → IVec S16 32) a x).toNat < S512.size a := fun i v305 k1_hw39 k1_h10 => k1_hw39.1 k1_h10
theorem k1_idx78_inb : ∀ (i : grid1.Coords) (v305 : IVec S16 32) (k1_hw39 : k1_chk39 i v305), ∀ (k1_h10 : k1_cond10 i = 1#1), ∀ a x, ((![v305] : Fin 1 → IVec S16 32) a x).toNat < S512.size a := fun i v305 k1_hw39 k1_h10 => k1_hw39.2 k1_h10
def k1_off68 (k1_t2 : Fin k1_t2_loop.trips) : Fin 2 → Nat :=
  let c3_i32_117 : BitVec 32 := 3#32
  let v309 : Index := Scalar.indexCast c3_i32_117
  let c0_i32_61 : BitVec 32 := 0#32
  let c1_i32 : BitVec 32 := 1#32
  let arg40 : BitVec 32 := Scf.iv c0_i32_61 c1_i32 k1_t2
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v310 : Index := Scalar.indexCast v280
  ![3, v310.toNat]

def k1_chk40 (i : grid1.Coords) (v313 : IVec S16 32) : Prop :=
  (∀ (k1_h10 : k1_cond10 i = 1#1), ∀ a x, ((![v313] : Fin 1 → IVec S16 32) a x).toNat < S512.size a) ∧
  (∀ (k1_h10 : k1_cond10 i = 1#1), ∀ a x, ((![v313] : Fin 1 → IVec S16 32) a x).toNat < S512.size a)
theorem k1_idx79_inb : ∀ (i : grid1.Coords) (v313 : IVec S16 32) (k1_hw40 : k1_chk40 i v313), ∀ (k1_h10 : k1_cond10 i = 1#1), ∀ a x, ((![v313] : Fin 1 → IVec S16 32) a x).toNat < S512.size a := fun i v313 k1_hw40 k1_h10 => k1_hw40.1 k1_h10
theorem k1_idx80_inb : ∀ (i : grid1.Coords) (v313 : IVec S16 32) (k1_hw40 : k1_chk40 i v313), ∀ (k1_h10 : k1_cond10 i = 1#1), ∀ a x, ((![v313] : Fin 1 → IVec S16 32) a x).toNat < S512.size a := fun i v313 k1_hw40 k1_h10 => k1_hw40.2 k1_h10
def k1_cond11 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_36 : BitVec 32 := 64#32
  let v91 : BitVec 32 := Scalar.addi v1 c64_i32_36
  let c250_i32_37 : BitVec 32 := 250#32
  let v92 : BitVec 1 := Scalar.cmpi .slt v91 c250_i32_37
  let v93 : BitVec 32 := Scalar.extui v92
  let c0_i32_38 : BitVec 32 := 0#32
  let v94 : BitVec 1 := Scalar.cmpi .ne v93 c0_i32_38
  v94

def k1_off69 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v39 : BitVec 32 := Scalar.addi v1 c64_i32
  let c400_i32_1 : BitVec 32 := 400#32
  let v40 : BitVec 32 := Scalar.muli v39 c400_i32_1
  ![v40.toNat]
@[reducible] def k1_t3_loop : Scf.Loop 32 :=
  let c0_i32_61 : BitVec 32 := 0#32
  let c5_i32 : BitVec 32 := 5#32
  let v121 : BitVec 32 := Scalar.addi c0_i32_61 c5_i32
  let c1_i32 : BitVec 32 := 1#32
  ⟨c0_i32_61, v121, c1_i32⟩
def k1_off70 (k1_t3 : Fin k1_t3_loop.trips) : Fin 1 → Nat :=
  let c0_i32_61 : BitVec 32 := 0#32
  let c1_i32 : BitVec 32 := 1#32
  let arg40 : BitVec 32 := Scf.iv c0_i32_61 c1_i32 k1_t3
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v125 : Index := Scalar.indexCast v124
  ![v125.toNat]
def k1_off71 (k1_t3 : Fin k1_t3_loop.trips) : Fin 2 → Nat :=
  let c0_i32_65 : BitVec 32 := 0#32
  let v129 : Index := Scalar.indexCast c0_i32_65
  let c0_i32_61 : BitVec 32 := 0#32
  let c1_i32 : BitVec 32 := 1#32
  let arg40 : BitVec 32 := Scf.iv c0_i32_61 c1_i32 k1_t3
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v130 : Index := Scalar.indexCast v124
  ![0, v130.toNat]

def k1_chk41 (i : grid1.Coords) (v133 : IVec S16 32) : Prop :=
  (∀ (k1_h11 : k1_cond11 i = 1#1), ∀ a x, ((![v133] : Fin 1 → IVec S16 32) a x).toNat < S512.size a) ∧
  (∀ (k1_h11 : k1_cond11 i = 1#1), ∀ a x, ((![v133] : Fin 1 → IVec S16 32) a x).toNat < S512.size a)
theorem k1_idx81_inb : ∀ (i : grid1.Coords) (v133 : IVec S16 32) (k1_hw41 : k1_chk41 i v133), ∀ (k1_h11 : k1_cond11 i = 1#1), ∀ a x, ((![v133] : Fin 1 → IVec S16 32) a x).toNat < S512.size a := fun i v133 k1_hw41 k1_h11 => k1_hw41.1 k1_h11
theorem k1_idx82_inb : ∀ (i : grid1.Coords) (v133 : IVec S16 32) (k1_hw41 : k1_chk41 i v133), ∀ (k1_h11 : k1_cond11 i = 1#1), ∀ a x, ((![v133] : Fin 1 → IVec S16 32) a x).toNat < S512.size a := fun i v133 k1_hw41 k1_h11 => k1_hw41.2 k1_h11
def k1_off72 (k1_t3 : Fin k1_t3_loop.trips) : Fin 2 → Nat :=
  let c1_i32_67 : BitVec 32 := 1#32
  let v137 : Index := Scalar.indexCast c1_i32_67
  let c0_i32_61 : BitVec 32 := 0#32
  let c1_i32 : BitVec 32 := 1#32
  let arg40 : BitVec 32 := Scf.iv c0_i32_61 c1_i32 k1_t3
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v138 : Index := Scalar.indexCast v124
  ![1, v138.toNat]

def k1_chk42 (i : grid1.Coords) (v141 : IVec S16 32) : Prop :=
  (∀ (k1_h11 : k1_cond11 i = 1#1), ∀ a x, ((![v141] : Fin 1 → IVec S16 32) a x).toNat < S512.size a) ∧
  (∀ (k1_h11 : k1_cond11 i = 1#1), ∀ a x, ((![v141] : Fin 1 → IVec S16 32) a x).toNat < S512.size a)
theorem k1_idx83_inb : ∀ (i : grid1.Coords) (v141 : IVec S16 32) (k1_hw42 : k1_chk42 i v141), ∀ (k1_h11 : k1_cond11 i = 1#1), ∀ a x, ((![v141] : Fin 1 → IVec S16 32) a x).toNat < S512.size a := fun i v141 k1_hw42 k1_h11 => k1_hw42.1 k1_h11
theorem k1_idx84_inb : ∀ (i : grid1.Coords) (v141 : IVec S16 32) (k1_hw42 : k1_chk42 i v141), ∀ (k1_h11 : k1_cond11 i = 1#1), ∀ a x, ((![v141] : Fin 1 → IVec S16 32) a x).toNat < S512.size a := fun i v141 k1_hw42 k1_h11 => k1_hw42.2 k1_h11
def k1_off73 (k1_t3 : Fin k1_t3_loop.trips) : Fin 2 → Nat :=
  let c2_i32_69 : BitVec 32 := 2#32
  let v145 : Index := Scalar.indexCast c2_i32_69
  let c0_i32_61 : BitVec 32 := 0#32
  let c1_i32 : BitVec 32 := 1#32
  let arg40 : BitVec 32 := Scf.iv c0_i32_61 c1_i32 k1_t3
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v146 : Index := Scalar.indexCast v124
  ![2, v146.toNat]

def k1_chk43 (i : grid1.Coords) (v149 : IVec S16 32) : Prop :=
  (∀ (k1_h11 : k1_cond11 i = 1#1), ∀ a x, ((![v149] : Fin 1 → IVec S16 32) a x).toNat < S512.size a) ∧
  (∀ (k1_h11 : k1_cond11 i = 1#1), ∀ a x, ((![v149] : Fin 1 → IVec S16 32) a x).toNat < S512.size a)
theorem k1_idx85_inb : ∀ (i : grid1.Coords) (v149 : IVec S16 32) (k1_hw43 : k1_chk43 i v149), ∀ (k1_h11 : k1_cond11 i = 1#1), ∀ a x, ((![v149] : Fin 1 → IVec S16 32) a x).toNat < S512.size a := fun i v149 k1_hw43 k1_h11 => k1_hw43.1 k1_h11
theorem k1_idx86_inb : ∀ (i : grid1.Coords) (v149 : IVec S16 32) (k1_hw43 : k1_chk43 i v149), ∀ (k1_h11 : k1_cond11 i = 1#1), ∀ a x, ((![v149] : Fin 1 → IVec S16 32) a x).toNat < S512.size a := fun i v149 k1_hw43 k1_h11 => k1_hw43.2 k1_h11
def k1_off74 (k1_t3 : Fin k1_t3_loop.trips) : Fin 2 → Nat :=
  let c3_i32 : BitVec 32 := 3#32
  let v153 : Index := Scalar.indexCast c3_i32
  let c0_i32_61 : BitVec 32 := 0#32
  let c1_i32 : BitVec 32 := 1#32
  let arg40 : BitVec 32 := Scf.iv c0_i32_61 c1_i32 k1_t3
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v154 : Index := Scalar.indexCast v124
  ![3, v154.toNat]

def k1_chk44 (i : grid1.Coords) (v157 : IVec S16 32) : Prop :=
  (∀ (k1_h11 : k1_cond11 i = 1#1), ∀ a x, ((![v157] : Fin 1 → IVec S16 32) a x).toNat < S512.size a) ∧
  (∀ (k1_h11 : k1_cond11 i = 1#1), ∀ a x, ((![v157] : Fin 1 → IVec S16 32) a x).toNat < S512.size a)
theorem k1_idx87_inb : ∀ (i : grid1.Coords) (v157 : IVec S16 32) (k1_hw44 : k1_chk44 i v157), ∀ (k1_h11 : k1_cond11 i = 1#1), ∀ a x, ((![v157] : Fin 1 → IVec S16 32) a x).toNat < S512.size a := fun i v157 k1_hw44 k1_h11 => k1_hw44.1 k1_h11
theorem k1_idx88_inb : ∀ (i : grid1.Coords) (v157 : IVec S16 32) (k1_hw44 : k1_chk44 i v157), ∀ (k1_h11 : k1_cond11 i = 1#1), ∀ a x, ((![v157] : Fin 1 → IVec S16 32) a x).toNat < S512.size a := fun i v157 k1_hw44 k1_h11 => k1_hw44.2 k1_h11
def k1_off75 (k1_t3 : Fin k1_t3_loop.trips) : Fin 1 → Nat :=
  let c0_i32_61 : BitVec 32 := 0#32
  let c1_i32 : BitVec 32 := 1#32
  let arg40 : BitVec 32 := Scf.iv c0_i32_61 c1_i32 k1_t3
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v164 : Index := Scalar.indexCast v163
  ![v164.toNat]
def k1_off76 (k1_t3 : Fin k1_t3_loop.trips) : Fin 2 → Nat :=
  let c0_i32_76 : BitVec 32 := 0#32
  let v168 : Index := Scalar.indexCast c0_i32_76
  let c0_i32_61 : BitVec 32 := 0#32
  let c1_i32 : BitVec 32 := 1#32
  let arg40 : BitVec 32 := Scf.iv c0_i32_61 c1_i32 k1_t3
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v169 : Index := Scalar.indexCast v163
  ![0, v169.toNat]

def k1_chk45 (i : grid1.Coords) (v172 : IVec S16 32) : Prop :=
  (∀ (k1_h11 : k1_cond11 i = 1#1), ∀ a x, ((![v172] : Fin 1 → IVec S16 32) a x).toNat < S512.size a) ∧
  (∀ (k1_h11 : k1_cond11 i = 1#1), ∀ a x, ((![v172] : Fin 1 → IVec S16 32) a x).toNat < S512.size a)
theorem k1_idx89_inb : ∀ (i : grid1.Coords) (v172 : IVec S16 32) (k1_hw45 : k1_chk45 i v172), ∀ (k1_h11 : k1_cond11 i = 1#1), ∀ a x, ((![v172] : Fin 1 → IVec S16 32) a x).toNat < S512.size a := fun i v172 k1_hw45 k1_h11 => k1_hw45.1 k1_h11
theorem k1_idx90_inb : ∀ (i : grid1.Coords) (v172 : IVec S16 32) (k1_hw45 : k1_chk45 i v172), ∀ (k1_h11 : k1_cond11 i = 1#1), ∀ a x, ((![v172] : Fin 1 → IVec S16 32) a x).toNat < S512.size a := fun i v172 k1_hw45 k1_h11 => k1_hw45.2 k1_h11
def k1_off77 (k1_t3 : Fin k1_t3_loop.trips) : Fin 2 → Nat :=
  let c1_i32_78 : BitVec 32 := 1#32
  let v176 : Index := Scalar.indexCast c1_i32_78
  let c0_i32_61 : BitVec 32 := 0#32
  let c1_i32 : BitVec 32 := 1#32
  let arg40 : BitVec 32 := Scf.iv c0_i32_61 c1_i32 k1_t3
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v177 : Index := Scalar.indexCast v163
  ![1, v177.toNat]

def k1_chk46 (i : grid1.Coords) (v180 : IVec S16 32) : Prop :=
  (∀ (k1_h11 : k1_cond11 i = 1#1), ∀ a x, ((![v180] : Fin 1 → IVec S16 32) a x).toNat < S512.size a) ∧
  (∀ (k1_h11 : k1_cond11 i = 1#1), ∀ a x, ((![v180] : Fin 1 → IVec S16 32) a x).toNat < S512.size a)
theorem k1_idx91_inb : ∀ (i : grid1.Coords) (v180 : IVec S16 32) (k1_hw46 : k1_chk46 i v180), ∀ (k1_h11 : k1_cond11 i = 1#1), ∀ a x, ((![v180] : Fin 1 → IVec S16 32) a x).toNat < S512.size a := fun i v180 k1_hw46 k1_h11 => k1_hw46.1 k1_h11
theorem k1_idx92_inb : ∀ (i : grid1.Coords) (v180 : IVec S16 32) (k1_hw46 : k1_chk46 i v180), ∀ (k1_h11 : k1_cond11 i = 1#1), ∀ a x, ((![v180] : Fin 1 → IVec S16 32) a x).toNat < S512.size a := fun i v180 k1_hw46 k1_h11 => k1_hw46.2 k1_h11
def k1_off78 (k1_t3 : Fin k1_t3_loop.trips) : Fin 2 → Nat :=
  let c2_i32_80 : BitVec 32 := 2#32
  let v184 : Index := Scalar.indexCast c2_i32_80
  let c0_i32_61 : BitVec 32 := 0#32
  let c1_i32 : BitVec 32 := 1#32
  let arg40 : BitVec 32 := Scf.iv c0_i32_61 c1_i32 k1_t3
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v185 : Index := Scalar.indexCast v163
  ![2, v185.toNat]

def k1_chk47 (i : grid1.Coords) (v188 : IVec S16 32) : Prop :=
  (∀ (k1_h11 : k1_cond11 i = 1#1), ∀ a x, ((![v188] : Fin 1 → IVec S16 32) a x).toNat < S512.size a) ∧
  (∀ (k1_h11 : k1_cond11 i = 1#1), ∀ a x, ((![v188] : Fin 1 → IVec S16 32) a x).toNat < S512.size a)
theorem k1_idx93_inb : ∀ (i : grid1.Coords) (v188 : IVec S16 32) (k1_hw47 : k1_chk47 i v188), ∀ (k1_h11 : k1_cond11 i = 1#1), ∀ a x, ((![v188] : Fin 1 → IVec S16 32) a x).toNat < S512.size a := fun i v188 k1_hw47 k1_h11 => k1_hw47.1 k1_h11
theorem k1_idx94_inb : ∀ (i : grid1.Coords) (v188 : IVec S16 32) (k1_hw47 : k1_chk47 i v188), ∀ (k1_h11 : k1_cond11 i = 1#1), ∀ a x, ((![v188] : Fin 1 → IVec S16 32) a x).toNat < S512.size a := fun i v188 k1_hw47 k1_h11 => k1_hw47.2 k1_h11
def k1_off79 (k1_t3 : Fin k1_t3_loop.trips) : Fin 2 → Nat :=
  let c3_i32_82 : BitVec 32 := 3#32
  let v192 : Index := Scalar.indexCast c3_i32_82
  let c0_i32_61 : BitVec 32 := 0#32
  let c1_i32 : BitVec 32 := 1#32
  let arg40 : BitVec 32 := Scf.iv c0_i32_61 c1_i32 k1_t3
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v193 : Index := Scalar.indexCast v163
  ![3, v193.toNat]

def k1_chk48 (i : grid1.Coords) (v196 : IVec S16 32) : Prop :=
  (∀ (k1_h11 : k1_cond11 i = 1#1), ∀ a x, ((![v196] : Fin 1 → IVec S16 32) a x).toNat < S512.size a) ∧
  (∀ (k1_h11 : k1_cond11 i = 1#1), ∀ a x, ((![v196] : Fin 1 → IVec S16 32) a x).toNat < S512.size a)
theorem k1_idx95_inb : ∀ (i : grid1.Coords) (v196 : IVec S16 32) (k1_hw48 : k1_chk48 i v196), ∀ (k1_h11 : k1_cond11 i = 1#1), ∀ a x, ((![v196] : Fin 1 → IVec S16 32) a x).toNat < S512.size a := fun i v196 k1_hw48 k1_h11 => k1_hw48.1 k1_h11
theorem k1_idx96_inb : ∀ (i : grid1.Coords) (v196 : IVec S16 32) (k1_hw48 : k1_chk48 i v196), ∀ (k1_h11 : k1_cond11 i = 1#1), ∀ a x, ((![v196] : Fin 1 → IVec S16 32) a x).toNat < S512.size a := fun i v196 k1_hw48 k1_h11 => k1_hw48.2 k1_h11
def k1_off80 (k1_t3 : Fin k1_t3_loop.trips) : Fin 1 → Nat :=
  let c0_i32_61 : BitVec 32 := 0#32
  let c1_i32 : BitVec 32 := 1#32
  let arg40 : BitVec 32 := Scf.iv c0_i32_61 c1_i32 k1_t3
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v203 : Index := Scalar.indexCast v202
  ![v203.toNat]
def k1_off81 (k1_t3 : Fin k1_t3_loop.trips) : Fin 2 → Nat :=
  let c0_i32_88 : BitVec 32 := 0#32
  let v207 : Index := Scalar.indexCast c0_i32_88
  let c0_i32_61 : BitVec 32 := 0#32
  let c1_i32 : BitVec 32 := 1#32
  let arg40 : BitVec 32 := Scf.iv c0_i32_61 c1_i32 k1_t3
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v208 : Index := Scalar.indexCast v202
  ![0, v208.toNat]

def k1_chk49 (i : grid1.Coords) (v211 : IVec S16 32) : Prop :=
  (∀ (k1_h11 : k1_cond11 i = 1#1), ∀ a x, ((![v211] : Fin 1 → IVec S16 32) a x).toNat < S512.size a) ∧
  (∀ (k1_h11 : k1_cond11 i = 1#1), ∀ a x, ((![v211] : Fin 1 → IVec S16 32) a x).toNat < S512.size a)
theorem k1_idx97_inb : ∀ (i : grid1.Coords) (v211 : IVec S16 32) (k1_hw49 : k1_chk49 i v211), ∀ (k1_h11 : k1_cond11 i = 1#1), ∀ a x, ((![v211] : Fin 1 → IVec S16 32) a x).toNat < S512.size a := fun i v211 k1_hw49 k1_h11 => k1_hw49.1 k1_h11
theorem k1_idx98_inb : ∀ (i : grid1.Coords) (v211 : IVec S16 32) (k1_hw49 : k1_chk49 i v211), ∀ (k1_h11 : k1_cond11 i = 1#1), ∀ a x, ((![v211] : Fin 1 → IVec S16 32) a x).toNat < S512.size a := fun i v211 k1_hw49 k1_h11 => k1_hw49.2 k1_h11
def k1_off82 (k1_t3 : Fin k1_t3_loop.trips) : Fin 2 → Nat :=
  let c1_i32_90 : BitVec 32 := 1#32
  let v215 : Index := Scalar.indexCast c1_i32_90
  let c0_i32_61 : BitVec 32 := 0#32
  let c1_i32 : BitVec 32 := 1#32
  let arg40 : BitVec 32 := Scf.iv c0_i32_61 c1_i32 k1_t3
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v216 : Index := Scalar.indexCast v202
  ![1, v216.toNat]

def k1_chk50 (i : grid1.Coords) (v219 : IVec S16 32) : Prop :=
  (∀ (k1_h11 : k1_cond11 i = 1#1), ∀ a x, ((![v219] : Fin 1 → IVec S16 32) a x).toNat < S512.size a) ∧
  (∀ (k1_h11 : k1_cond11 i = 1#1), ∀ a x, ((![v219] : Fin 1 → IVec S16 32) a x).toNat < S512.size a)
theorem k1_idx99_inb : ∀ (i : grid1.Coords) (v219 : IVec S16 32) (k1_hw50 : k1_chk50 i v219), ∀ (k1_h11 : k1_cond11 i = 1#1), ∀ a x, ((![v219] : Fin 1 → IVec S16 32) a x).toNat < S512.size a := fun i v219 k1_hw50 k1_h11 => k1_hw50.1 k1_h11
theorem k1_idx100_inb : ∀ (i : grid1.Coords) (v219 : IVec S16 32) (k1_hw50 : k1_chk50 i v219), ∀ (k1_h11 : k1_cond11 i = 1#1), ∀ a x, ((![v219] : Fin 1 → IVec S16 32) a x).toNat < S512.size a := fun i v219 k1_hw50 k1_h11 => k1_hw50.2 k1_h11
def k1_off83 (k1_t3 : Fin k1_t3_loop.trips) : Fin 2 → Nat :=
  let c2_i32_92 : BitVec 32 := 2#32
  let v223 : Index := Scalar.indexCast c2_i32_92
  let c0_i32_61 : BitVec 32 := 0#32
  let c1_i32 : BitVec 32 := 1#32
  let arg40 : BitVec 32 := Scf.iv c0_i32_61 c1_i32 k1_t3
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v224 : Index := Scalar.indexCast v202
  ![2, v224.toNat]

def k1_chk51 (i : grid1.Coords) (v227 : IVec S16 32) : Prop :=
  (∀ (k1_h11 : k1_cond11 i = 1#1), ∀ a x, ((![v227] : Fin 1 → IVec S16 32) a x).toNat < S512.size a) ∧
  (∀ (k1_h11 : k1_cond11 i = 1#1), ∀ a x, ((![v227] : Fin 1 → IVec S16 32) a x).toNat < S512.size a)
theorem k1_idx101_inb : ∀ (i : grid1.Coords) (v227 : IVec S16 32) (k1_hw51 : k1_chk51 i v227), ∀ (k1_h11 : k1_cond11 i = 1#1), ∀ a x, ((![v227] : Fin 1 → IVec S16 32) a x).toNat < S512.size a := fun i v227 k1_hw51 k1_h11 => k1_hw51.1 k1_h11
theorem k1_idx102_inb : ∀ (i : grid1.Coords) (v227 : IVec S16 32) (k1_hw51 : k1_chk51 i v227), ∀ (k1_h11 : k1_cond11 i = 1#1), ∀ a x, ((![v227] : Fin 1 → IVec S16 32) a x).toNat < S512.size a := fun i v227 k1_hw51 k1_h11 => k1_hw51.2 k1_h11
def k1_off84 (k1_t3 : Fin k1_t3_loop.trips) : Fin 2 → Nat :=
  let c3_i32_94 : BitVec 32 := 3#32
  let v231 : Index := Scalar.indexCast c3_i32_94
  let c0_i32_61 : BitVec 32 := 0#32
  let c1_i32 : BitVec 32 := 1#32
  let arg40 : BitVec 32 := Scf.iv c0_i32_61 c1_i32 k1_t3
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v232 : Index := Scalar.indexCast v202
  ![3, v232.toNat]

def k1_chk52 (i : grid1.Coords) (v235 : IVec S16 32) : Prop :=
  (∀ (k1_h11 : k1_cond11 i = 1#1), ∀ a x, ((![v235] : Fin 1 → IVec S16 32) a x).toNat < S512.size a) ∧
  (∀ (k1_h11 : k1_cond11 i = 1#1), ∀ a x, ((![v235] : Fin 1 → IVec S16 32) a x).toNat < S512.size a)
theorem k1_idx103_inb : ∀ (i : grid1.Coords) (v235 : IVec S16 32) (k1_hw52 : k1_chk52 i v235), ∀ (k1_h11 : k1_cond11 i = 1#1), ∀ a x, ((![v235] : Fin 1 → IVec S16 32) a x).toNat < S512.size a := fun i v235 k1_hw52 k1_h11 => k1_hw52.1 k1_h11
theorem k1_idx104_inb : ∀ (i : grid1.Coords) (v235 : IVec S16 32) (k1_hw52 : k1_chk52 i v235), ∀ (k1_h11 : k1_cond11 i = 1#1), ∀ a x, ((![v235] : Fin 1 → IVec S16 32) a x).toNat < S512.size a := fun i v235 k1_hw52 k1_h11 => k1_hw52.2 k1_h11
def k1_off85 (k1_t3 : Fin k1_t3_loop.trips) : Fin 1 → Nat :=
  let c0_i32_61 : BitVec 32 := 0#32
  let c1_i32 : BitVec 32 := 1#32
  let arg40 : BitVec 32 := Scf.iv c0_i32_61 c1_i32 k1_t3
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v242 : Index := Scalar.indexCast v241
  ![v242.toNat]
def k1_off86 (k1_t3 : Fin k1_t3_loop.trips) : Fin 2 → Nat :=
  let c0_i32_100 : BitVec 32 := 0#32
  let v246 : Index := Scalar.indexCast c0_i32_100
  let c0_i32_61 : BitVec 32 := 0#32
  let c1_i32 : BitVec 32 := 1#32
  let arg40 : BitVec 32 := Scf.iv c0_i32_61 c1_i32 k1_t3
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v247 : Index := Scalar.indexCast v241
  ![0, v247.toNat]

def k1_chk53 (i : grid1.Coords) (v250 : IVec S16 32) : Prop :=
  (∀ (k1_h11 : k1_cond11 i = 1#1), ∀ a x, ((![v250] : Fin 1 → IVec S16 32) a x).toNat < S512.size a) ∧
  (∀ (k1_h11 : k1_cond11 i = 1#1), ∀ a x, ((![v250] : Fin 1 → IVec S16 32) a x).toNat < S512.size a)
theorem k1_idx105_inb : ∀ (i : grid1.Coords) (v250 : IVec S16 32) (k1_hw53 : k1_chk53 i v250), ∀ (k1_h11 : k1_cond11 i = 1#1), ∀ a x, ((![v250] : Fin 1 → IVec S16 32) a x).toNat < S512.size a := fun i v250 k1_hw53 k1_h11 => k1_hw53.1 k1_h11
theorem k1_idx106_inb : ∀ (i : grid1.Coords) (v250 : IVec S16 32) (k1_hw53 : k1_chk53 i v250), ∀ (k1_h11 : k1_cond11 i = 1#1), ∀ a x, ((![v250] : Fin 1 → IVec S16 32) a x).toNat < S512.size a := fun i v250 k1_hw53 k1_h11 => k1_hw53.2 k1_h11
def k1_off87 (k1_t3 : Fin k1_t3_loop.trips) : Fin 2 → Nat :=
  let c1_i32_102 : BitVec 32 := 1#32
  let v254 : Index := Scalar.indexCast c1_i32_102
  let c0_i32_61 : BitVec 32 := 0#32
  let c1_i32 : BitVec 32 := 1#32
  let arg40 : BitVec 32 := Scf.iv c0_i32_61 c1_i32 k1_t3
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v255 : Index := Scalar.indexCast v241
  ![1, v255.toNat]

def k1_chk54 (i : grid1.Coords) (v258 : IVec S16 32) : Prop :=
  (∀ (k1_h11 : k1_cond11 i = 1#1), ∀ a x, ((![v258] : Fin 1 → IVec S16 32) a x).toNat < S512.size a) ∧
  (∀ (k1_h11 : k1_cond11 i = 1#1), ∀ a x, ((![v258] : Fin 1 → IVec S16 32) a x).toNat < S512.size a)
theorem k1_idx107_inb : ∀ (i : grid1.Coords) (v258 : IVec S16 32) (k1_hw54 : k1_chk54 i v258), ∀ (k1_h11 : k1_cond11 i = 1#1), ∀ a x, ((![v258] : Fin 1 → IVec S16 32) a x).toNat < S512.size a := fun i v258 k1_hw54 k1_h11 => k1_hw54.1 k1_h11
theorem k1_idx108_inb : ∀ (i : grid1.Coords) (v258 : IVec S16 32) (k1_hw54 : k1_chk54 i v258), ∀ (k1_h11 : k1_cond11 i = 1#1), ∀ a x, ((![v258] : Fin 1 → IVec S16 32) a x).toNat < S512.size a := fun i v258 k1_hw54 k1_h11 => k1_hw54.2 k1_h11
def k1_off88 (k1_t3 : Fin k1_t3_loop.trips) : Fin 2 → Nat :=
  let c2_i32_104 : BitVec 32 := 2#32
  let v262 : Index := Scalar.indexCast c2_i32_104
  let c0_i32_61 : BitVec 32 := 0#32
  let c1_i32 : BitVec 32 := 1#32
  let arg40 : BitVec 32 := Scf.iv c0_i32_61 c1_i32 k1_t3
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v263 : Index := Scalar.indexCast v241
  ![2, v263.toNat]

def k1_chk55 (i : grid1.Coords) (v266 : IVec S16 32) : Prop :=
  (∀ (k1_h11 : k1_cond11 i = 1#1), ∀ a x, ((![v266] : Fin 1 → IVec S16 32) a x).toNat < S512.size a) ∧
  (∀ (k1_h11 : k1_cond11 i = 1#1), ∀ a x, ((![v266] : Fin 1 → IVec S16 32) a x).toNat < S512.size a)
theorem k1_idx109_inb : ∀ (i : grid1.Coords) (v266 : IVec S16 32) (k1_hw55 : k1_chk55 i v266), ∀ (k1_h11 : k1_cond11 i = 1#1), ∀ a x, ((![v266] : Fin 1 → IVec S16 32) a x).toNat < S512.size a := fun i v266 k1_hw55 k1_h11 => k1_hw55.1 k1_h11
theorem k1_idx110_inb : ∀ (i : grid1.Coords) (v266 : IVec S16 32) (k1_hw55 : k1_chk55 i v266), ∀ (k1_h11 : k1_cond11 i = 1#1), ∀ a x, ((![v266] : Fin 1 → IVec S16 32) a x).toNat < S512.size a := fun i v266 k1_hw55 k1_h11 => k1_hw55.2 k1_h11
def k1_off89 (k1_t3 : Fin k1_t3_loop.trips) : Fin 2 → Nat :=
  let c3_i32_106 : BitVec 32 := 3#32
  let v270 : Index := Scalar.indexCast c3_i32_106
  let c0_i32_61 : BitVec 32 := 0#32
  let c1_i32 : BitVec 32 := 1#32
  let arg40 : BitVec 32 := Scf.iv c0_i32_61 c1_i32 k1_t3
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v271 : Index := Scalar.indexCast v241
  ![3, v271.toNat]

def k1_chk56 (i : grid1.Coords) (v274 : IVec S16 32) : Prop :=
  (∀ (k1_h11 : k1_cond11 i = 1#1), ∀ a x, ((![v274] : Fin 1 → IVec S16 32) a x).toNat < S512.size a) ∧
  (∀ (k1_h11 : k1_cond11 i = 1#1), ∀ a x, ((![v274] : Fin 1 → IVec S16 32) a x).toNat < S512.size a)
theorem k1_idx111_inb : ∀ (i : grid1.Coords) (v274 : IVec S16 32) (k1_hw56 : k1_chk56 i v274), ∀ (k1_h11 : k1_cond11 i = 1#1), ∀ a x, ((![v274] : Fin 1 → IVec S16 32) a x).toNat < S512.size a := fun i v274 k1_hw56 k1_h11 => k1_hw56.1 k1_h11
theorem k1_idx112_inb : ∀ (i : grid1.Coords) (v274 : IVec S16 32) (k1_hw56 : k1_chk56 i v274), ∀ (k1_h11 : k1_cond11 i = 1#1), ∀ a x, ((![v274] : Fin 1 → IVec S16 32) a x).toNat < S512.size a := fun i v274 k1_hw56 k1_h11 => k1_hw56.2 k1_h11
def k1_off90 (k1_t3 : Fin k1_t3_loop.trips) : Fin 1 → Nat :=
  let c0_i32_61 : BitVec 32 := 0#32
  let c1_i32 : BitVec 32 := 1#32
  let arg40 : BitVec 32 := Scf.iv c0_i32_61 c1_i32 k1_t3
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v281 : Index := Scalar.indexCast v280
  ![v281.toNat]
def k1_off91 (k1_t3 : Fin k1_t3_loop.trips) : Fin 2 → Nat :=
  let c0_i32_111 : BitVec 32 := 0#32
  let v285 : Index := Scalar.indexCast c0_i32_111
  let c0_i32_61 : BitVec 32 := 0#32
  let c1_i32 : BitVec 32 := 1#32
  let arg40 : BitVec 32 := Scf.iv c0_i32_61 c1_i32 k1_t3
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v286 : Index := Scalar.indexCast v280
  ![0, v286.toNat]

def k1_chk57 (i : grid1.Coords) (v289 : IVec S16 32) : Prop :=
  (∀ (k1_h11 : k1_cond11 i = 1#1), ∀ a x, ((![v289] : Fin 1 → IVec S16 32) a x).toNat < S512.size a) ∧
  (∀ (k1_h11 : k1_cond11 i = 1#1), ∀ a x, ((![v289] : Fin 1 → IVec S16 32) a x).toNat < S512.size a)
theorem k1_idx113_inb : ∀ (i : grid1.Coords) (v289 : IVec S16 32) (k1_hw57 : k1_chk57 i v289), ∀ (k1_h11 : k1_cond11 i = 1#1), ∀ a x, ((![v289] : Fin 1 → IVec S16 32) a x).toNat < S512.size a := fun i v289 k1_hw57 k1_h11 => k1_hw57.1 k1_h11
theorem k1_idx114_inb : ∀ (i : grid1.Coords) (v289 : IVec S16 32) (k1_hw57 : k1_chk57 i v289), ∀ (k1_h11 : k1_cond11 i = 1#1), ∀ a x, ((![v289] : Fin 1 → IVec S16 32) a x).toNat < S512.size a := fun i v289 k1_hw57 k1_h11 => k1_hw57.2 k1_h11
def k1_off92 (k1_t3 : Fin k1_t3_loop.trips) : Fin 2 → Nat :=
  let c1_i32_113 : BitVec 32 := 1#32
  let v293 : Index := Scalar.indexCast c1_i32_113
  let c0_i32_61 : BitVec 32 := 0#32
  let c1_i32 : BitVec 32 := 1#32
  let arg40 : BitVec 32 := Scf.iv c0_i32_61 c1_i32 k1_t3
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v294 : Index := Scalar.indexCast v280
  ![1, v294.toNat]

def k1_chk58 (i : grid1.Coords) (v297 : IVec S16 32) : Prop :=
  (∀ (k1_h11 : k1_cond11 i = 1#1), ∀ a x, ((![v297] : Fin 1 → IVec S16 32) a x).toNat < S512.size a) ∧
  (∀ (k1_h11 : k1_cond11 i = 1#1), ∀ a x, ((![v297] : Fin 1 → IVec S16 32) a x).toNat < S512.size a)
theorem k1_idx115_inb : ∀ (i : grid1.Coords) (v297 : IVec S16 32) (k1_hw58 : k1_chk58 i v297), ∀ (k1_h11 : k1_cond11 i = 1#1), ∀ a x, ((![v297] : Fin 1 → IVec S16 32) a x).toNat < S512.size a := fun i v297 k1_hw58 k1_h11 => k1_hw58.1 k1_h11
theorem k1_idx116_inb : ∀ (i : grid1.Coords) (v297 : IVec S16 32) (k1_hw58 : k1_chk58 i v297), ∀ (k1_h11 : k1_cond11 i = 1#1), ∀ a x, ((![v297] : Fin 1 → IVec S16 32) a x).toNat < S512.size a := fun i v297 k1_hw58 k1_h11 => k1_hw58.2 k1_h11
def k1_off93 (k1_t3 : Fin k1_t3_loop.trips) : Fin 2 → Nat :=
  let c2_i32_115 : BitVec 32 := 2#32
  let v301 : Index := Scalar.indexCast c2_i32_115
  let c0_i32_61 : BitVec 32 := 0#32
  let c1_i32 : BitVec 32 := 1#32
  let arg40 : BitVec 32 := Scf.iv c0_i32_61 c1_i32 k1_t3
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v302 : Index := Scalar.indexCast v280
  ![2, v302.toNat]

def k1_chk59 (i : grid1.Coords) (v305 : IVec S16 32) : Prop :=
  (∀ (k1_h11 : k1_cond11 i = 1#1), ∀ a x, ((![v305] : Fin 1 → IVec S16 32) a x).toNat < S512.size a) ∧
  (∀ (k1_h11 : k1_cond11 i = 1#1), ∀ a x, ((![v305] : Fin 1 → IVec S16 32) a x).toNat < S512.size a)
theorem k1_idx117_inb : ∀ (i : grid1.Coords) (v305 : IVec S16 32) (k1_hw59 : k1_chk59 i v305), ∀ (k1_h11 : k1_cond11 i = 1#1), ∀ a x, ((![v305] : Fin 1 → IVec S16 32) a x).toNat < S512.size a := fun i v305 k1_hw59 k1_h11 => k1_hw59.1 k1_h11
theorem k1_idx118_inb : ∀ (i : grid1.Coords) (v305 : IVec S16 32) (k1_hw59 : k1_chk59 i v305), ∀ (k1_h11 : k1_cond11 i = 1#1), ∀ a x, ((![v305] : Fin 1 → IVec S16 32) a x).toNat < S512.size a := fun i v305 k1_hw59 k1_h11 => k1_hw59.2 k1_h11
def k1_off94 (k1_t3 : Fin k1_t3_loop.trips) : Fin 2 → Nat :=
  let c3_i32_117 : BitVec 32 := 3#32
  let v309 : Index := Scalar.indexCast c3_i32_117
  let c0_i32_61 : BitVec 32 := 0#32
  let c1_i32 : BitVec 32 := 1#32
  let arg40 : BitVec 32 := Scf.iv c0_i32_61 c1_i32 k1_t3
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v310 : Index := Scalar.indexCast v280
  ![3, v310.toNat]

def k1_chk60 (i : grid1.Coords) (v313 : IVec S16 32) : Prop :=
  (∀ (k1_h11 : k1_cond11 i = 1#1), ∀ a x, ((![v313] : Fin 1 → IVec S16 32) a x).toNat < S512.size a) ∧
  (∀ (k1_h11 : k1_cond11 i = 1#1), ∀ a x, ((![v313] : Fin 1 → IVec S16 32) a x).toNat < S512.size a)
theorem k1_idx119_inb : ∀ (i : grid1.Coords) (v313 : IVec S16 32) (k1_hw60 : k1_chk60 i v313), ∀ (k1_h11 : k1_cond11 i = 1#1), ∀ a x, ((![v313] : Fin 1 → IVec S16 32) a x).toNat < S512.size a := fun i v313 k1_hw60 k1_h11 => k1_hw60.1 k1_h11
theorem k1_idx120_inb : ∀ (i : grid1.Coords) (v313 : IVec S16 32) (k1_hw60 : k1_chk60 i v313), ∀ (k1_h11 : k1_cond11 i = 1#1), ∀ a x, ((![v313] : Fin 1 → IVec S16 32) a x).toNat < S512.size a := fun i v313 k1_hw60 k1_h11 => k1_hw60.2 k1_h11
def k1_cond12 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_39 : BitVec 32 := 96#32
  let v95 : BitVec 32 := Scalar.addi v1 c96_i32_39
  let c250_i32_40 : BitVec 32 := 250#32
  let v96 : BitVec 1 := Scalar.cmpi .slt v95 c250_i32_40
  let v97 : BitVec 32 := Scalar.extui v96
  let c0_i32_41 : BitVec 32 := 0#32
  let v98 : BitVec 1 := Scalar.cmpi .ne v97 c0_i32_41
  v98

def k1_off95 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v41 : BitVec 32 := Scalar.addi v1 c96_i32
  let c400_i32_2 : BitVec 32 := 400#32
  let v42 : BitVec 32 := Scalar.muli v41 c400_i32_2
  ![v42.toNat]
@[reducible] def k1_t4_loop : Scf.Loop 32 :=
  let c0_i32_61 : BitVec 32 := 0#32
  let c5_i32 : BitVec 32 := 5#32
  let v121 : BitVec 32 := Scalar.addi c0_i32_61 c5_i32
  let c1_i32 : BitVec 32 := 1#32
  ⟨c0_i32_61, v121, c1_i32⟩
def k1_off96 (k1_t4 : Fin k1_t4_loop.trips) : Fin 1 → Nat :=
  let c0_i32_61 : BitVec 32 := 0#32
  let c1_i32 : BitVec 32 := 1#32
  let arg40 : BitVec 32 := Scf.iv c0_i32_61 c1_i32 k1_t4
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v125 : Index := Scalar.indexCast v124
  ![v125.toNat]
def k1_off97 (k1_t4 : Fin k1_t4_loop.trips) : Fin 2 → Nat :=
  let c0_i32_65 : BitVec 32 := 0#32
  let v129 : Index := Scalar.indexCast c0_i32_65
  let c0_i32_61 : BitVec 32 := 0#32
  let c1_i32 : BitVec 32 := 1#32
  let arg40 : BitVec 32 := Scf.iv c0_i32_61 c1_i32 k1_t4
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v130 : Index := Scalar.indexCast v124
  ![0, v130.toNat]

def k1_chk61 (i : grid1.Coords) (v133 : IVec S16 32) : Prop :=
  (∀ (k1_h12 : k1_cond12 i = 1#1), ∀ a x, ((![v133] : Fin 1 → IVec S16 32) a x).toNat < S512.size a) ∧
  (∀ (k1_h12 : k1_cond12 i = 1#1), ∀ a x, ((![v133] : Fin 1 → IVec S16 32) a x).toNat < S512.size a)
theorem k1_idx121_inb : ∀ (i : grid1.Coords) (v133 : IVec S16 32) (k1_hw61 : k1_chk61 i v133), ∀ (k1_h12 : k1_cond12 i = 1#1), ∀ a x, ((![v133] : Fin 1 → IVec S16 32) a x).toNat < S512.size a := fun i v133 k1_hw61 k1_h12 => k1_hw61.1 k1_h12
theorem k1_idx122_inb : ∀ (i : grid1.Coords) (v133 : IVec S16 32) (k1_hw61 : k1_chk61 i v133), ∀ (k1_h12 : k1_cond12 i = 1#1), ∀ a x, ((![v133] : Fin 1 → IVec S16 32) a x).toNat < S512.size a := fun i v133 k1_hw61 k1_h12 => k1_hw61.2 k1_h12
def k1_off98 (k1_t4 : Fin k1_t4_loop.trips) : Fin 2 → Nat :=
  let c1_i32_67 : BitVec 32 := 1#32
  let v137 : Index := Scalar.indexCast c1_i32_67
  let c0_i32_61 : BitVec 32 := 0#32
  let c1_i32 : BitVec 32 := 1#32
  let arg40 : BitVec 32 := Scf.iv c0_i32_61 c1_i32 k1_t4
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v138 : Index := Scalar.indexCast v124
  ![1, v138.toNat]

def k1_chk62 (i : grid1.Coords) (v141 : IVec S16 32) : Prop :=
  (∀ (k1_h12 : k1_cond12 i = 1#1), ∀ a x, ((![v141] : Fin 1 → IVec S16 32) a x).toNat < S512.size a) ∧
  (∀ (k1_h12 : k1_cond12 i = 1#1), ∀ a x, ((![v141] : Fin 1 → IVec S16 32) a x).toNat < S512.size a)
theorem k1_idx123_inb : ∀ (i : grid1.Coords) (v141 : IVec S16 32) (k1_hw62 : k1_chk62 i v141), ∀ (k1_h12 : k1_cond12 i = 1#1), ∀ a x, ((![v141] : Fin 1 → IVec S16 32) a x).toNat < S512.size a := fun i v141 k1_hw62 k1_h12 => k1_hw62.1 k1_h12
theorem k1_idx124_inb : ∀ (i : grid1.Coords) (v141 : IVec S16 32) (k1_hw62 : k1_chk62 i v141), ∀ (k1_h12 : k1_cond12 i = 1#1), ∀ a x, ((![v141] : Fin 1 → IVec S16 32) a x).toNat < S512.size a := fun i v141 k1_hw62 k1_h12 => k1_hw62.2 k1_h12
def k1_off99 (k1_t4 : Fin k1_t4_loop.trips) : Fin 2 → Nat :=
  let c2_i32_69 : BitVec 32 := 2#32
  let v145 : Index := Scalar.indexCast c2_i32_69
  let c0_i32_61 : BitVec 32 := 0#32
  let c1_i32 : BitVec 32 := 1#32
  let arg40 : BitVec 32 := Scf.iv c0_i32_61 c1_i32 k1_t4
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v146 : Index := Scalar.indexCast v124
  ![2, v146.toNat]

def k1_chk63 (i : grid1.Coords) (v149 : IVec S16 32) : Prop :=
  (∀ (k1_h12 : k1_cond12 i = 1#1), ∀ a x, ((![v149] : Fin 1 → IVec S16 32) a x).toNat < S512.size a) ∧
  (∀ (k1_h12 : k1_cond12 i = 1#1), ∀ a x, ((![v149] : Fin 1 → IVec S16 32) a x).toNat < S512.size a)
theorem k1_idx125_inb : ∀ (i : grid1.Coords) (v149 : IVec S16 32) (k1_hw63 : k1_chk63 i v149), ∀ (k1_h12 : k1_cond12 i = 1#1), ∀ a x, ((![v149] : Fin 1 → IVec S16 32) a x).toNat < S512.size a := fun i v149 k1_hw63 k1_h12 => k1_hw63.1 k1_h12
theorem k1_idx126_inb : ∀ (i : grid1.Coords) (v149 : IVec S16 32) (k1_hw63 : k1_chk63 i v149), ∀ (k1_h12 : k1_cond12 i = 1#1), ∀ a x, ((![v149] : Fin 1 → IVec S16 32) a x).toNat < S512.size a := fun i v149 k1_hw63 k1_h12 => k1_hw63.2 k1_h12
def k1_off100 (k1_t4 : Fin k1_t4_loop.trips) : Fin 2 → Nat :=
  let c3_i32 : BitVec 32 := 3#32
  let v153 : Index := Scalar.indexCast c3_i32
  let c0_i32_61 : BitVec 32 := 0#32
  let c1_i32 : BitVec 32 := 1#32
  let arg40 : BitVec 32 := Scf.iv c0_i32_61 c1_i32 k1_t4
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v154 : Index := Scalar.indexCast v124
  ![3, v154.toNat]

def k1_chk64 (i : grid1.Coords) (v157 : IVec S16 32) : Prop :=
  (∀ (k1_h12 : k1_cond12 i = 1#1), ∀ a x, ((![v157] : Fin 1 → IVec S16 32) a x).toNat < S512.size a) ∧
  (∀ (k1_h12 : k1_cond12 i = 1#1), ∀ a x, ((![v157] : Fin 1 → IVec S16 32) a x).toNat < S512.size a)
theorem k1_idx127_inb : ∀ (i : grid1.Coords) (v157 : IVec S16 32) (k1_hw64 : k1_chk64 i v157), ∀ (k1_h12 : k1_cond12 i = 1#1), ∀ a x, ((![v157] : Fin 1 → IVec S16 32) a x).toNat < S512.size a := fun i v157 k1_hw64 k1_h12 => k1_hw64.1 k1_h12
theorem k1_idx128_inb : ∀ (i : grid1.Coords) (v157 : IVec S16 32) (k1_hw64 : k1_chk64 i v157), ∀ (k1_h12 : k1_cond12 i = 1#1), ∀ a x, ((![v157] : Fin 1 → IVec S16 32) a x).toNat < S512.size a := fun i v157 k1_hw64 k1_h12 => k1_hw64.2 k1_h12
def k1_off101 (k1_t4 : Fin k1_t4_loop.trips) : Fin 1 → Nat :=
  let c0_i32_61 : BitVec 32 := 0#32
  let c1_i32 : BitVec 32 := 1#32
  let arg40 : BitVec 32 := Scf.iv c0_i32_61 c1_i32 k1_t4
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v164 : Index := Scalar.indexCast v163
  ![v164.toNat]
def k1_off102 (k1_t4 : Fin k1_t4_loop.trips) : Fin 2 → Nat :=
  let c0_i32_76 : BitVec 32 := 0#32
  let v168 : Index := Scalar.indexCast c0_i32_76
  let c0_i32_61 : BitVec 32 := 0#32
  let c1_i32 : BitVec 32 := 1#32
  let arg40 : BitVec 32 := Scf.iv c0_i32_61 c1_i32 k1_t4
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v169 : Index := Scalar.indexCast v163
  ![0, v169.toNat]

def k1_chk65 (i : grid1.Coords) (v172 : IVec S16 32) : Prop :=
  (∀ (k1_h12 : k1_cond12 i = 1#1), ∀ a x, ((![v172] : Fin 1 → IVec S16 32) a x).toNat < S512.size a) ∧
  (∀ (k1_h12 : k1_cond12 i = 1#1), ∀ a x, ((![v172] : Fin 1 → IVec S16 32) a x).toNat < S512.size a)
theorem k1_idx129_inb : ∀ (i : grid1.Coords) (v172 : IVec S16 32) (k1_hw65 : k1_chk65 i v172), ∀ (k1_h12 : k1_cond12 i = 1#1), ∀ a x, ((![v172] : Fin 1 → IVec S16 32) a x).toNat < S512.size a := fun i v172 k1_hw65 k1_h12 => k1_hw65.1 k1_h12
theorem k1_idx130_inb : ∀ (i : grid1.Coords) (v172 : IVec S16 32) (k1_hw65 : k1_chk65 i v172), ∀ (k1_h12 : k1_cond12 i = 1#1), ∀ a x, ((![v172] : Fin 1 → IVec S16 32) a x).toNat < S512.size a := fun i v172 k1_hw65 k1_h12 => k1_hw65.2 k1_h12
def k1_off103 (k1_t4 : Fin k1_t4_loop.trips) : Fin 2 → Nat :=
  let c1_i32_78 : BitVec 32 := 1#32
  let v176 : Index := Scalar.indexCast c1_i32_78
  let c0_i32_61 : BitVec 32 := 0#32
  let c1_i32 : BitVec 32 := 1#32
  let arg40 : BitVec 32 := Scf.iv c0_i32_61 c1_i32 k1_t4
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v177 : Index := Scalar.indexCast v163
  ![1, v177.toNat]

def k1_chk66 (i : grid1.Coords) (v180 : IVec S16 32) : Prop :=
  (∀ (k1_h12 : k1_cond12 i = 1#1), ∀ a x, ((![v180] : Fin 1 → IVec S16 32) a x).toNat < S512.size a) ∧
  (∀ (k1_h12 : k1_cond12 i = 1#1), ∀ a x, ((![v180] : Fin 1 → IVec S16 32) a x).toNat < S512.size a)
theorem k1_idx131_inb : ∀ (i : grid1.Coords) (v180 : IVec S16 32) (k1_hw66 : k1_chk66 i v180), ∀ (k1_h12 : k1_cond12 i = 1#1), ∀ a x, ((![v180] : Fin 1 → IVec S16 32) a x).toNat < S512.size a := fun i v180 k1_hw66 k1_h12 => k1_hw66.1 k1_h12
theorem k1_idx132_inb : ∀ (i : grid1.Coords) (v180 : IVec S16 32) (k1_hw66 : k1_chk66 i v180), ∀ (k1_h12 : k1_cond12 i = 1#1), ∀ a x, ((![v180] : Fin 1 → IVec S16 32) a x).toNat < S512.size a := fun i v180 k1_hw66 k1_h12 => k1_hw66.2 k1_h12
def k1_off104 (k1_t4 : Fin k1_t4_loop.trips) : Fin 2 → Nat :=
  let c2_i32_80 : BitVec 32 := 2#32
  let v184 : Index := Scalar.indexCast c2_i32_80
  let c0_i32_61 : BitVec 32 := 0#32
  let c1_i32 : BitVec 32 := 1#32
  let arg40 : BitVec 32 := Scf.iv c0_i32_61 c1_i32 k1_t4
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v185 : Index := Scalar.indexCast v163
  ![2, v185.toNat]

def k1_chk67 (i : grid1.Coords) (v188 : IVec S16 32) : Prop :=
  (∀ (k1_h12 : k1_cond12 i = 1#1), ∀ a x, ((![v188] : Fin 1 → IVec S16 32) a x).toNat < S512.size a) ∧
  (∀ (k1_h12 : k1_cond12 i = 1#1), ∀ a x, ((![v188] : Fin 1 → IVec S16 32) a x).toNat < S512.size a)
theorem k1_idx133_inb : ∀ (i : grid1.Coords) (v188 : IVec S16 32) (k1_hw67 : k1_chk67 i v188), ∀ (k1_h12 : k1_cond12 i = 1#1), ∀ a x, ((![v188] : Fin 1 → IVec S16 32) a x).toNat < S512.size a := fun i v188 k1_hw67 k1_h12 => k1_hw67.1 k1_h12
theorem k1_idx134_inb : ∀ (i : grid1.Coords) (v188 : IVec S16 32) (k1_hw67 : k1_chk67 i v188), ∀ (k1_h12 : k1_cond12 i = 1#1), ∀ a x, ((![v188] : Fin 1 → IVec S16 32) a x).toNat < S512.size a := fun i v188 k1_hw67 k1_h12 => k1_hw67.2 k1_h12
def k1_off105 (k1_t4 : Fin k1_t4_loop.trips) : Fin 2 → Nat :=
  let c3_i32_82 : BitVec 32 := 3#32
  let v192 : Index := Scalar.indexCast c3_i32_82
  let c0_i32_61 : BitVec 32 := 0#32
  let c1_i32 : BitVec 32 := 1#32
  let arg40 : BitVec 32 := Scf.iv c0_i32_61 c1_i32 k1_t4
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v193 : Index := Scalar.indexCast v163
  ![3, v193.toNat]

def k1_chk68 (i : grid1.Coords) (v196 : IVec S16 32) : Prop :=
  (∀ (k1_h12 : k1_cond12 i = 1#1), ∀ a x, ((![v196] : Fin 1 → IVec S16 32) a x).toNat < S512.size a) ∧
  (∀ (k1_h12 : k1_cond12 i = 1#1), ∀ a x, ((![v196] : Fin 1 → IVec S16 32) a x).toNat < S512.size a)
theorem k1_idx135_inb : ∀ (i : grid1.Coords) (v196 : IVec S16 32) (k1_hw68 : k1_chk68 i v196), ∀ (k1_h12 : k1_cond12 i = 1#1), ∀ a x, ((![v196] : Fin 1 → IVec S16 32) a x).toNat < S512.size a := fun i v196 k1_hw68 k1_h12 => k1_hw68.1 k1_h12
theorem k1_idx136_inb : ∀ (i : grid1.Coords) (v196 : IVec S16 32) (k1_hw68 : k1_chk68 i v196), ∀ (k1_h12 : k1_cond12 i = 1#1), ∀ a x, ((![v196] : Fin 1 → IVec S16 32) a x).toNat < S512.size a := fun i v196 k1_hw68 k1_h12 => k1_hw68.2 k1_h12
def k1_off106 (k1_t4 : Fin k1_t4_loop.trips) : Fin 1 → Nat :=
  let c0_i32_61 : BitVec 32 := 0#32
  let c1_i32 : BitVec 32 := 1#32
  let arg40 : BitVec 32 := Scf.iv c0_i32_61 c1_i32 k1_t4
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v203 : Index := Scalar.indexCast v202
  ![v203.toNat]
def k1_off107 (k1_t4 : Fin k1_t4_loop.trips) : Fin 2 → Nat :=
  let c0_i32_88 : BitVec 32 := 0#32
  let v207 : Index := Scalar.indexCast c0_i32_88
  let c0_i32_61 : BitVec 32 := 0#32
  let c1_i32 : BitVec 32 := 1#32
  let arg40 : BitVec 32 := Scf.iv c0_i32_61 c1_i32 k1_t4
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v208 : Index := Scalar.indexCast v202
  ![0, v208.toNat]

def k1_chk69 (i : grid1.Coords) (v211 : IVec S16 32) : Prop :=
  (∀ (k1_h12 : k1_cond12 i = 1#1), ∀ a x, ((![v211] : Fin 1 → IVec S16 32) a x).toNat < S512.size a) ∧
  (∀ (k1_h12 : k1_cond12 i = 1#1), ∀ a x, ((![v211] : Fin 1 → IVec S16 32) a x).toNat < S512.size a)
theorem k1_idx137_inb : ∀ (i : grid1.Coords) (v211 : IVec S16 32) (k1_hw69 : k1_chk69 i v211), ∀ (k1_h12 : k1_cond12 i = 1#1), ∀ a x, ((![v211] : Fin 1 → IVec S16 32) a x).toNat < S512.size a := fun i v211 k1_hw69 k1_h12 => k1_hw69.1 k1_h12
theorem k1_idx138_inb : ∀ (i : grid1.Coords) (v211 : IVec S16 32) (k1_hw69 : k1_chk69 i v211), ∀ (k1_h12 : k1_cond12 i = 1#1), ∀ a x, ((![v211] : Fin 1 → IVec S16 32) a x).toNat < S512.size a := fun i v211 k1_hw69 k1_h12 => k1_hw69.2 k1_h12
def k1_off108 (k1_t4 : Fin k1_t4_loop.trips) : Fin 2 → Nat :=
  let c1_i32_90 : BitVec 32 := 1#32
  let v215 : Index := Scalar.indexCast c1_i32_90
  let c0_i32_61 : BitVec 32 := 0#32
  let c1_i32 : BitVec 32 := 1#32
  let arg40 : BitVec 32 := Scf.iv c0_i32_61 c1_i32 k1_t4
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v216 : Index := Scalar.indexCast v202
  ![1, v216.toNat]

def k1_chk70 (i : grid1.Coords) (v219 : IVec S16 32) : Prop :=
  (∀ (k1_h12 : k1_cond12 i = 1#1), ∀ a x, ((![v219] : Fin 1 → IVec S16 32) a x).toNat < S512.size a) ∧
  (∀ (k1_h12 : k1_cond12 i = 1#1), ∀ a x, ((![v219] : Fin 1 → IVec S16 32) a x).toNat < S512.size a)
theorem k1_idx139_inb : ∀ (i : grid1.Coords) (v219 : IVec S16 32) (k1_hw70 : k1_chk70 i v219), ∀ (k1_h12 : k1_cond12 i = 1#1), ∀ a x, ((![v219] : Fin 1 → IVec S16 32) a x).toNat < S512.size a := fun i v219 k1_hw70 k1_h12 => k1_hw70.1 k1_h12
theorem k1_idx140_inb : ∀ (i : grid1.Coords) (v219 : IVec S16 32) (k1_hw70 : k1_chk70 i v219), ∀ (k1_h12 : k1_cond12 i = 1#1), ∀ a x, ((![v219] : Fin 1 → IVec S16 32) a x).toNat < S512.size a := fun i v219 k1_hw70 k1_h12 => k1_hw70.2 k1_h12
def k1_off109 (k1_t4 : Fin k1_t4_loop.trips) : Fin 2 → Nat :=
  let c2_i32_92 : BitVec 32 := 2#32
  let v223 : Index := Scalar.indexCast c2_i32_92
  let c0_i32_61 : BitVec 32 := 0#32
  let c1_i32 : BitVec 32 := 1#32
  let arg40 : BitVec 32 := Scf.iv c0_i32_61 c1_i32 k1_t4
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v224 : Index := Scalar.indexCast v202
  ![2, v224.toNat]

def k1_chk71 (i : grid1.Coords) (v227 : IVec S16 32) : Prop :=
  (∀ (k1_h12 : k1_cond12 i = 1#1), ∀ a x, ((![v227] : Fin 1 → IVec S16 32) a x).toNat < S512.size a) ∧
  (∀ (k1_h12 : k1_cond12 i = 1#1), ∀ a x, ((![v227] : Fin 1 → IVec S16 32) a x).toNat < S512.size a)
theorem k1_idx141_inb : ∀ (i : grid1.Coords) (v227 : IVec S16 32) (k1_hw71 : k1_chk71 i v227), ∀ (k1_h12 : k1_cond12 i = 1#1), ∀ a x, ((![v227] : Fin 1 → IVec S16 32) a x).toNat < S512.size a := fun i v227 k1_hw71 k1_h12 => k1_hw71.1 k1_h12
theorem k1_idx142_inb : ∀ (i : grid1.Coords) (v227 : IVec S16 32) (k1_hw71 : k1_chk71 i v227), ∀ (k1_h12 : k1_cond12 i = 1#1), ∀ a x, ((![v227] : Fin 1 → IVec S16 32) a x).toNat < S512.size a := fun i v227 k1_hw71 k1_h12 => k1_hw71.2 k1_h12
def k1_off110 (k1_t4 : Fin k1_t4_loop.trips) : Fin 2 → Nat :=
  let c3_i32_94 : BitVec 32 := 3#32
  let v231 : Index := Scalar.indexCast c3_i32_94
  let c0_i32_61 : BitVec 32 := 0#32
  let c1_i32 : BitVec 32 := 1#32
  let arg40 : BitVec 32 := Scf.iv c0_i32_61 c1_i32 k1_t4
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v232 : Index := Scalar.indexCast v202
  ![3, v232.toNat]

def k1_chk72 (i : grid1.Coords) (v235 : IVec S16 32) : Prop :=
  (∀ (k1_h12 : k1_cond12 i = 1#1), ∀ a x, ((![v235] : Fin 1 → IVec S16 32) a x).toNat < S512.size a) ∧
  (∀ (k1_h12 : k1_cond12 i = 1#1), ∀ a x, ((![v235] : Fin 1 → IVec S16 32) a x).toNat < S512.size a)
theorem k1_idx143_inb : ∀ (i : grid1.Coords) (v235 : IVec S16 32) (k1_hw72 : k1_chk72 i v235), ∀ (k1_h12 : k1_cond12 i = 1#1), ∀ a x, ((![v235] : Fin 1 → IVec S16 32) a x).toNat < S512.size a := fun i v235 k1_hw72 k1_h12 => k1_hw72.1 k1_h12
theorem k1_idx144_inb : ∀ (i : grid1.Coords) (v235 : IVec S16 32) (k1_hw72 : k1_chk72 i v235), ∀ (k1_h12 : k1_cond12 i = 1#1), ∀ a x, ((![v235] : Fin 1 → IVec S16 32) a x).toNat < S512.size a := fun i v235 k1_hw72 k1_h12 => k1_hw72.2 k1_h12
def k1_off111 (k1_t4 : Fin k1_t4_loop.trips) : Fin 1 → Nat :=
  let c0_i32_61 : BitVec 32 := 0#32
  let c1_i32 : BitVec 32 := 1#32
  let arg40 : BitVec 32 := Scf.iv c0_i32_61 c1_i32 k1_t4
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v242 : Index := Scalar.indexCast v241
  ![v242.toNat]
def k1_off112 (k1_t4 : Fin k1_t4_loop.trips) : Fin 2 → Nat :=
  let c0_i32_100 : BitVec 32 := 0#32
  let v246 : Index := Scalar.indexCast c0_i32_100
  let c0_i32_61 : BitVec 32 := 0#32
  let c1_i32 : BitVec 32 := 1#32
  let arg40 : BitVec 32 := Scf.iv c0_i32_61 c1_i32 k1_t4
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v247 : Index := Scalar.indexCast v241
  ![0, v247.toNat]

def k1_chk73 (i : grid1.Coords) (v250 : IVec S16 32) : Prop :=
  (∀ (k1_h12 : k1_cond12 i = 1#1), ∀ a x, ((![v250] : Fin 1 → IVec S16 32) a x).toNat < S512.size a) ∧
  (∀ (k1_h12 : k1_cond12 i = 1#1), ∀ a x, ((![v250] : Fin 1 → IVec S16 32) a x).toNat < S512.size a)
theorem k1_idx145_inb : ∀ (i : grid1.Coords) (v250 : IVec S16 32) (k1_hw73 : k1_chk73 i v250), ∀ (k1_h12 : k1_cond12 i = 1#1), ∀ a x, ((![v250] : Fin 1 → IVec S16 32) a x).toNat < S512.size a := fun i v250 k1_hw73 k1_h12 => k1_hw73.1 k1_h12
theorem k1_idx146_inb : ∀ (i : grid1.Coords) (v250 : IVec S16 32) (k1_hw73 : k1_chk73 i v250), ∀ (k1_h12 : k1_cond12 i = 1#1), ∀ a x, ((![v250] : Fin 1 → IVec S16 32) a x).toNat < S512.size a := fun i v250 k1_hw73 k1_h12 => k1_hw73.2 k1_h12
def k1_off113 (k1_t4 : Fin k1_t4_loop.trips) : Fin 2 → Nat :=
  let c1_i32_102 : BitVec 32 := 1#32
  let v254 : Index := Scalar.indexCast c1_i32_102
  let c0_i32_61 : BitVec 32 := 0#32
  let c1_i32 : BitVec 32 := 1#32
  let arg40 : BitVec 32 := Scf.iv c0_i32_61 c1_i32 k1_t4
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v255 : Index := Scalar.indexCast v241
  ![1, v255.toNat]

def k1_chk74 (i : grid1.Coords) (v258 : IVec S16 32) : Prop :=
  (∀ (k1_h12 : k1_cond12 i = 1#1), ∀ a x, ((![v258] : Fin 1 → IVec S16 32) a x).toNat < S512.size a) ∧
  (∀ (k1_h12 : k1_cond12 i = 1#1), ∀ a x, ((![v258] : Fin 1 → IVec S16 32) a x).toNat < S512.size a)
theorem k1_idx147_inb : ∀ (i : grid1.Coords) (v258 : IVec S16 32) (k1_hw74 : k1_chk74 i v258), ∀ (k1_h12 : k1_cond12 i = 1#1), ∀ a x, ((![v258] : Fin 1 → IVec S16 32) a x).toNat < S512.size a := fun i v258 k1_hw74 k1_h12 => k1_hw74.1 k1_h12
theorem k1_idx148_inb : ∀ (i : grid1.Coords) (v258 : IVec S16 32) (k1_hw74 : k1_chk74 i v258), ∀ (k1_h12 : k1_cond12 i = 1#1), ∀ a x, ((![v258] : Fin 1 → IVec S16 32) a x).toNat < S512.size a := fun i v258 k1_hw74 k1_h12 => k1_hw74.2 k1_h12
def k1_off114 (k1_t4 : Fin k1_t4_loop.trips) : Fin 2 → Nat :=
  let c2_i32_104 : BitVec 32 := 2#32
  let v262 : Index := Scalar.indexCast c2_i32_104
  let c0_i32_61 : BitVec 32 := 0#32
  let c1_i32 : BitVec 32 := 1#32
  let arg40 : BitVec 32 := Scf.iv c0_i32_61 c1_i32 k1_t4
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v263 : Index := Scalar.indexCast v241
  ![2, v263.toNat]

def k1_chk75 (i : grid1.Coords) (v266 : IVec S16 32) : Prop :=
  (∀ (k1_h12 : k1_cond12 i = 1#1), ∀ a x, ((![v266] : Fin 1 → IVec S16 32) a x).toNat < S512.size a) ∧
  (∀ (k1_h12 : k1_cond12 i = 1#1), ∀ a x, ((![v266] : Fin 1 → IVec S16 32) a x).toNat < S512.size a)
theorem k1_idx149_inb : ∀ (i : grid1.Coords) (v266 : IVec S16 32) (k1_hw75 : k1_chk75 i v266), ∀ (k1_h12 : k1_cond12 i = 1#1), ∀ a x, ((![v266] : Fin 1 → IVec S16 32) a x).toNat < S512.size a := fun i v266 k1_hw75 k1_h12 => k1_hw75.1 k1_h12
theorem k1_idx150_inb : ∀ (i : grid1.Coords) (v266 : IVec S16 32) (k1_hw75 : k1_chk75 i v266), ∀ (k1_h12 : k1_cond12 i = 1#1), ∀ a x, ((![v266] : Fin 1 → IVec S16 32) a x).toNat < S512.size a := fun i v266 k1_hw75 k1_h12 => k1_hw75.2 k1_h12
def k1_off115 (k1_t4 : Fin k1_t4_loop.trips) : Fin 2 → Nat :=
  let c3_i32_106 : BitVec 32 := 3#32
  let v270 : Index := Scalar.indexCast c3_i32_106
  let c0_i32_61 : BitVec 32 := 0#32
  let c1_i32 : BitVec 32 := 1#32
  let arg40 : BitVec 32 := Scf.iv c0_i32_61 c1_i32 k1_t4
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v271 : Index := Scalar.indexCast v241
  ![3, v271.toNat]

def k1_chk76 (i : grid1.Coords) (v274 : IVec S16 32) : Prop :=
  (∀ (k1_h12 : k1_cond12 i = 1#1), ∀ a x, ((![v274] : Fin 1 → IVec S16 32) a x).toNat < S512.size a) ∧
  (∀ (k1_h12 : k1_cond12 i = 1#1), ∀ a x, ((![v274] : Fin 1 → IVec S16 32) a x).toNat < S512.size a)
theorem k1_idx151_inb : ∀ (i : grid1.Coords) (v274 : IVec S16 32) (k1_hw76 : k1_chk76 i v274), ∀ (k1_h12 : k1_cond12 i = 1#1), ∀ a x, ((![v274] : Fin 1 → IVec S16 32) a x).toNat < S512.size a := fun i v274 k1_hw76 k1_h12 => k1_hw76.1 k1_h12
theorem k1_idx152_inb : ∀ (i : grid1.Coords) (v274 : IVec S16 32) (k1_hw76 : k1_chk76 i v274), ∀ (k1_h12 : k1_cond12 i = 1#1), ∀ a x, ((![v274] : Fin 1 → IVec S16 32) a x).toNat < S512.size a := fun i v274 k1_hw76 k1_h12 => k1_hw76.2 k1_h12
def k1_off116 (k1_t4 : Fin k1_t4_loop.trips) : Fin 1 → Nat :=
  let c0_i32_61 : BitVec 32 := 0#32
  let c1_i32 : BitVec 32 := 1#32
  let arg40 : BitVec 32 := Scf.iv c0_i32_61 c1_i32 k1_t4
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v281 : Index := Scalar.indexCast v280
  ![v281.toNat]
def k1_off117 (k1_t4 : Fin k1_t4_loop.trips) : Fin 2 → Nat :=
  let c0_i32_111 : BitVec 32 := 0#32
  let v285 : Index := Scalar.indexCast c0_i32_111
  let c0_i32_61 : BitVec 32 := 0#32
  let c1_i32 : BitVec 32 := 1#32
  let arg40 : BitVec 32 := Scf.iv c0_i32_61 c1_i32 k1_t4
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v286 : Index := Scalar.indexCast v280
  ![0, v286.toNat]

def k1_chk77 (i : grid1.Coords) (v289 : IVec S16 32) : Prop :=
  (∀ (k1_h12 : k1_cond12 i = 1#1), ∀ a x, ((![v289] : Fin 1 → IVec S16 32) a x).toNat < S512.size a) ∧
  (∀ (k1_h12 : k1_cond12 i = 1#1), ∀ a x, ((![v289] : Fin 1 → IVec S16 32) a x).toNat < S512.size a)
theorem k1_idx153_inb : ∀ (i : grid1.Coords) (v289 : IVec S16 32) (k1_hw77 : k1_chk77 i v289), ∀ (k1_h12 : k1_cond12 i = 1#1), ∀ a x, ((![v289] : Fin 1 → IVec S16 32) a x).toNat < S512.size a := fun i v289 k1_hw77 k1_h12 => k1_hw77.1 k1_h12
theorem k1_idx154_inb : ∀ (i : grid1.Coords) (v289 : IVec S16 32) (k1_hw77 : k1_chk77 i v289), ∀ (k1_h12 : k1_cond12 i = 1#1), ∀ a x, ((![v289] : Fin 1 → IVec S16 32) a x).toNat < S512.size a := fun i v289 k1_hw77 k1_h12 => k1_hw77.2 k1_h12
def k1_off118 (k1_t4 : Fin k1_t4_loop.trips) : Fin 2 → Nat :=
  let c1_i32_113 : BitVec 32 := 1#32
  let v293 : Index := Scalar.indexCast c1_i32_113
  let c0_i32_61 : BitVec 32 := 0#32
  let c1_i32 : BitVec 32 := 1#32
  let arg40 : BitVec 32 := Scf.iv c0_i32_61 c1_i32 k1_t4
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v294 : Index := Scalar.indexCast v280
  ![1, v294.toNat]

def k1_chk78 (i : grid1.Coords) (v297 : IVec S16 32) : Prop :=
  (∀ (k1_h12 : k1_cond12 i = 1#1), ∀ a x, ((![v297] : Fin 1 → IVec S16 32) a x).toNat < S512.size a) ∧
  (∀ (k1_h12 : k1_cond12 i = 1#1), ∀ a x, ((![v297] : Fin 1 → IVec S16 32) a x).toNat < S512.size a)
theorem k1_idx155_inb : ∀ (i : grid1.Coords) (v297 : IVec S16 32) (k1_hw78 : k1_chk78 i v297), ∀ (k1_h12 : k1_cond12 i = 1#1), ∀ a x, ((![v297] : Fin 1 → IVec S16 32) a x).toNat < S512.size a := fun i v297 k1_hw78 k1_h12 => k1_hw78.1 k1_h12
theorem k1_idx156_inb : ∀ (i : grid1.Coords) (v297 : IVec S16 32) (k1_hw78 : k1_chk78 i v297), ∀ (k1_h12 : k1_cond12 i = 1#1), ∀ a x, ((![v297] : Fin 1 → IVec S16 32) a x).toNat < S512.size a := fun i v297 k1_hw78 k1_h12 => k1_hw78.2 k1_h12
def k1_off119 (k1_t4 : Fin k1_t4_loop.trips) : Fin 2 → Nat :=
  let c2_i32_115 : BitVec 32 := 2#32
  let v301 : Index := Scalar.indexCast c2_i32_115
  let c0_i32_61 : BitVec 32 := 0#32
  let c1_i32 : BitVec 32 := 1#32
  let arg40 : BitVec 32 := Scf.iv c0_i32_61 c1_i32 k1_t4
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v302 : Index := Scalar.indexCast v280
  ![2, v302.toNat]

def k1_chk79 (i : grid1.Coords) (v305 : IVec S16 32) : Prop :=
  (∀ (k1_h12 : k1_cond12 i = 1#1), ∀ a x, ((![v305] : Fin 1 → IVec S16 32) a x).toNat < S512.size a) ∧
  (∀ (k1_h12 : k1_cond12 i = 1#1), ∀ a x, ((![v305] : Fin 1 → IVec S16 32) a x).toNat < S512.size a)
theorem k1_idx157_inb : ∀ (i : grid1.Coords) (v305 : IVec S16 32) (k1_hw79 : k1_chk79 i v305), ∀ (k1_h12 : k1_cond12 i = 1#1), ∀ a x, ((![v305] : Fin 1 → IVec S16 32) a x).toNat < S512.size a := fun i v305 k1_hw79 k1_h12 => k1_hw79.1 k1_h12
theorem k1_idx158_inb : ∀ (i : grid1.Coords) (v305 : IVec S16 32) (k1_hw79 : k1_chk79 i v305), ∀ (k1_h12 : k1_cond12 i = 1#1), ∀ a x, ((![v305] : Fin 1 → IVec S16 32) a x).toNat < S512.size a := fun i v305 k1_hw79 k1_h12 => k1_hw79.2 k1_h12
def k1_off120 (k1_t4 : Fin k1_t4_loop.trips) : Fin 2 → Nat :=
  let c3_i32_117 : BitVec 32 := 3#32
  let v309 : Index := Scalar.indexCast c3_i32_117
  let c0_i32_61 : BitVec 32 := 0#32
  let c1_i32 : BitVec 32 := 1#32
  let arg40 : BitVec 32 := Scf.iv c0_i32_61 c1_i32 k1_t4
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v310 : Index := Scalar.indexCast v280
  ![3, v310.toNat]

def k1_chk80 (i : grid1.Coords) (v313 : IVec S16 32) : Prop :=
  (∀ (k1_h12 : k1_cond12 i = 1#1), ∀ a x, ((![v313] : Fin 1 → IVec S16 32) a x).toNat < S512.size a) ∧
  (∀ (k1_h12 : k1_cond12 i = 1#1), ∀ a x, ((![v313] : Fin 1 → IVec S16 32) a x).toNat < S512.size a)
theorem k1_idx159_inb : ∀ (i : grid1.Coords) (v313 : IVec S16 32) (k1_hw80 : k1_chk80 i v313), ∀ (k1_h12 : k1_cond12 i = 1#1), ∀ a x, ((![v313] : Fin 1 → IVec S16 32) a x).toNat < S512.size a := fun i v313 k1_hw80 k1_h12 => k1_hw80.1 k1_h12
theorem k1_idx160_inb : ∀ (i : grid1.Coords) (v313 : IVec S16 32) (k1_hw80 : k1_chk80 i v313), ∀ (k1_h12 : k1_cond12 i = 1#1), ∀ a x, ((![v313] : Fin 1 → IVec S16 32) a x).toNat < S512.size a := fun i v313 k1_hw80 k1_h12 => k1_hw80.2 k1_h12
def k1_cond13 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_42 : BitVec 32 := 128#32
  let v99 : BitVec 32 := Scalar.addi v1 c128_i32_42
  let c250_i32_43 : BitVec 32 := 250#32
  let v100 : BitVec 1 := Scalar.cmpi .slt v99 c250_i32_43
  let v101 : BitVec 32 := Scalar.extui v100
  let c0_i32_44 : BitVec 32 := 0#32
  let v102 : BitVec 1 := Scalar.cmpi .ne v101 c0_i32_44
  v102

def k1_off121 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v43 : BitVec 32 := Scalar.addi v1 c128_i32
  let c400_i32_3 : BitVec 32 := 400#32
  let v44 : BitVec 32 := Scalar.muli v43 c400_i32_3
  ![v44.toNat]
@[reducible] def k1_t5_loop : Scf.Loop 32 :=
  let c0_i32_61 : BitVec 32 := 0#32
  let c5_i32 : BitVec 32 := 5#32
  let v121 : BitVec 32 := Scalar.addi c0_i32_61 c5_i32
  let c1_i32 : BitVec 32 := 1#32
  ⟨c0_i32_61, v121, c1_i32⟩
def k1_off122 (k1_t5 : Fin k1_t5_loop.trips) : Fin 1 → Nat :=
  let c0_i32_61 : BitVec 32 := 0#32
  let c1_i32 : BitVec 32 := 1#32
  let arg40 : BitVec 32 := Scf.iv c0_i32_61 c1_i32 k1_t5
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v125 : Index := Scalar.indexCast v124
  ![v125.toNat]
def k1_off123 (k1_t5 : Fin k1_t5_loop.trips) : Fin 2 → Nat :=
  let c0_i32_65 : BitVec 32 := 0#32
  let v129 : Index := Scalar.indexCast c0_i32_65
  let c0_i32_61 : BitVec 32 := 0#32
  let c1_i32 : BitVec 32 := 1#32
  let arg40 : BitVec 32 := Scf.iv c0_i32_61 c1_i32 k1_t5
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v130 : Index := Scalar.indexCast v124
  ![0, v130.toNat]

def k1_chk81 (i : grid1.Coords) (v133 : IVec S16 32) : Prop :=
  (∀ (k1_h13 : k1_cond13 i = 1#1), ∀ a x, ((![v133] : Fin 1 → IVec S16 32) a x).toNat < S512.size a) ∧
  (∀ (k1_h13 : k1_cond13 i = 1#1), ∀ a x, ((![v133] : Fin 1 → IVec S16 32) a x).toNat < S512.size a)
theorem k1_idx161_inb : ∀ (i : grid1.Coords) (v133 : IVec S16 32) (k1_hw81 : k1_chk81 i v133), ∀ (k1_h13 : k1_cond13 i = 1#1), ∀ a x, ((![v133] : Fin 1 → IVec S16 32) a x).toNat < S512.size a := fun i v133 k1_hw81 k1_h13 => k1_hw81.1 k1_h13
theorem k1_idx162_inb : ∀ (i : grid1.Coords) (v133 : IVec S16 32) (k1_hw81 : k1_chk81 i v133), ∀ (k1_h13 : k1_cond13 i = 1#1), ∀ a x, ((![v133] : Fin 1 → IVec S16 32) a x).toNat < S512.size a := fun i v133 k1_hw81 k1_h13 => k1_hw81.2 k1_h13
def k1_off124 (k1_t5 : Fin k1_t5_loop.trips) : Fin 2 → Nat :=
  let c1_i32_67 : BitVec 32 := 1#32
  let v137 : Index := Scalar.indexCast c1_i32_67
  let c0_i32_61 : BitVec 32 := 0#32
  let c1_i32 : BitVec 32 := 1#32
  let arg40 : BitVec 32 := Scf.iv c0_i32_61 c1_i32 k1_t5
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v138 : Index := Scalar.indexCast v124
  ![1, v138.toNat]

def k1_chk82 (i : grid1.Coords) (v141 : IVec S16 32) : Prop :=
  (∀ (k1_h13 : k1_cond13 i = 1#1), ∀ a x, ((![v141] : Fin 1 → IVec S16 32) a x).toNat < S512.size a) ∧
  (∀ (k1_h13 : k1_cond13 i = 1#1), ∀ a x, ((![v141] : Fin 1 → IVec S16 32) a x).toNat < S512.size a)
theorem k1_idx163_inb : ∀ (i : grid1.Coords) (v141 : IVec S16 32) (k1_hw82 : k1_chk82 i v141), ∀ (k1_h13 : k1_cond13 i = 1#1), ∀ a x, ((![v141] : Fin 1 → IVec S16 32) a x).toNat < S512.size a := fun i v141 k1_hw82 k1_h13 => k1_hw82.1 k1_h13
theorem k1_idx164_inb : ∀ (i : grid1.Coords) (v141 : IVec S16 32) (k1_hw82 : k1_chk82 i v141), ∀ (k1_h13 : k1_cond13 i = 1#1), ∀ a x, ((![v141] : Fin 1 → IVec S16 32) a x).toNat < S512.size a := fun i v141 k1_hw82 k1_h13 => k1_hw82.2 k1_h13
def k1_off125 (k1_t5 : Fin k1_t5_loop.trips) : Fin 2 → Nat :=
  let c2_i32_69 : BitVec 32 := 2#32
  let v145 : Index := Scalar.indexCast c2_i32_69
  let c0_i32_61 : BitVec 32 := 0#32
  let c1_i32 : BitVec 32 := 1#32
  let arg40 : BitVec 32 := Scf.iv c0_i32_61 c1_i32 k1_t5
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v146 : Index := Scalar.indexCast v124
  ![2, v146.toNat]

def k1_chk83 (i : grid1.Coords) (v149 : IVec S16 32) : Prop :=
  (∀ (k1_h13 : k1_cond13 i = 1#1), ∀ a x, ((![v149] : Fin 1 → IVec S16 32) a x).toNat < S512.size a) ∧
  (∀ (k1_h13 : k1_cond13 i = 1#1), ∀ a x, ((![v149] : Fin 1 → IVec S16 32) a x).toNat < S512.size a)
theorem k1_idx165_inb : ∀ (i : grid1.Coords) (v149 : IVec S16 32) (k1_hw83 : k1_chk83 i v149), ∀ (k1_h13 : k1_cond13 i = 1#1), ∀ a x, ((![v149] : Fin 1 → IVec S16 32) a x).toNat < S512.size a := fun i v149 k1_hw83 k1_h13 => k1_hw83.1 k1_h13
theorem k1_idx166_inb : ∀ (i : grid1.Coords) (v149 : IVec S16 32) (k1_hw83 : k1_chk83 i v149), ∀ (k1_h13 : k1_cond13 i = 1#1), ∀ a x, ((![v149] : Fin 1 → IVec S16 32) a x).toNat < S512.size a := fun i v149 k1_hw83 k1_h13 => k1_hw83.2 k1_h13
def k1_off126 (k1_t5 : Fin k1_t5_loop.trips) : Fin 2 → Nat :=
  let c3_i32 : BitVec 32 := 3#32
  let v153 : Index := Scalar.indexCast c3_i32
  let c0_i32_61 : BitVec 32 := 0#32
  let c1_i32 : BitVec 32 := 1#32
  let arg40 : BitVec 32 := Scf.iv c0_i32_61 c1_i32 k1_t5
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v154 : Index := Scalar.indexCast v124
  ![3, v154.toNat]

def k1_chk84 (i : grid1.Coords) (v157 : IVec S16 32) : Prop :=
  (∀ (k1_h13 : k1_cond13 i = 1#1), ∀ a x, ((![v157] : Fin 1 → IVec S16 32) a x).toNat < S512.size a) ∧
  (∀ (k1_h13 : k1_cond13 i = 1#1), ∀ a x, ((![v157] : Fin 1 → IVec S16 32) a x).toNat < S512.size a)
theorem k1_idx167_inb : ∀ (i : grid1.Coords) (v157 : IVec S16 32) (k1_hw84 : k1_chk84 i v157), ∀ (k1_h13 : k1_cond13 i = 1#1), ∀ a x, ((![v157] : Fin 1 → IVec S16 32) a x).toNat < S512.size a := fun i v157 k1_hw84 k1_h13 => k1_hw84.1 k1_h13
theorem k1_idx168_inb : ∀ (i : grid1.Coords) (v157 : IVec S16 32) (k1_hw84 : k1_chk84 i v157), ∀ (k1_h13 : k1_cond13 i = 1#1), ∀ a x, ((![v157] : Fin 1 → IVec S16 32) a x).toNat < S512.size a := fun i v157 k1_hw84 k1_h13 => k1_hw84.2 k1_h13
def k1_off127 (k1_t5 : Fin k1_t5_loop.trips) : Fin 1 → Nat :=
  let c0_i32_61 : BitVec 32 := 0#32
  let c1_i32 : BitVec 32 := 1#32
  let arg40 : BitVec 32 := Scf.iv c0_i32_61 c1_i32 k1_t5
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v164 : Index := Scalar.indexCast v163
  ![v164.toNat]
def k1_off128 (k1_t5 : Fin k1_t5_loop.trips) : Fin 2 → Nat :=
  let c0_i32_76 : BitVec 32 := 0#32
  let v168 : Index := Scalar.indexCast c0_i32_76
  let c0_i32_61 : BitVec 32 := 0#32
  let c1_i32 : BitVec 32 := 1#32
  let arg40 : BitVec 32 := Scf.iv c0_i32_61 c1_i32 k1_t5
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v169 : Index := Scalar.indexCast v163
  ![0, v169.toNat]

def k1_chk85 (i : grid1.Coords) (v172 : IVec S16 32) : Prop :=
  (∀ (k1_h13 : k1_cond13 i = 1#1), ∀ a x, ((![v172] : Fin 1 → IVec S16 32) a x).toNat < S512.size a) ∧
  (∀ (k1_h13 : k1_cond13 i = 1#1), ∀ a x, ((![v172] : Fin 1 → IVec S16 32) a x).toNat < S512.size a)
theorem k1_idx169_inb : ∀ (i : grid1.Coords) (v172 : IVec S16 32) (k1_hw85 : k1_chk85 i v172), ∀ (k1_h13 : k1_cond13 i = 1#1), ∀ a x, ((![v172] : Fin 1 → IVec S16 32) a x).toNat < S512.size a := fun i v172 k1_hw85 k1_h13 => k1_hw85.1 k1_h13
theorem k1_idx170_inb : ∀ (i : grid1.Coords) (v172 : IVec S16 32) (k1_hw85 : k1_chk85 i v172), ∀ (k1_h13 : k1_cond13 i = 1#1), ∀ a x, ((![v172] : Fin 1 → IVec S16 32) a x).toNat < S512.size a := fun i v172 k1_hw85 k1_h13 => k1_hw85.2 k1_h13
def k1_off129 (k1_t5 : Fin k1_t5_loop.trips) : Fin 2 → Nat :=
  let c1_i32_78 : BitVec 32 := 1#32
  let v176 : Index := Scalar.indexCast c1_i32_78
  let c0_i32_61 : BitVec 32 := 0#32
  let c1_i32 : BitVec 32 := 1#32
  let arg40 : BitVec 32 := Scf.iv c0_i32_61 c1_i32 k1_t5
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v177 : Index := Scalar.indexCast v163
  ![1, v177.toNat]

def k1_chk86 (i : grid1.Coords) (v180 : IVec S16 32) : Prop :=
  (∀ (k1_h13 : k1_cond13 i = 1#1), ∀ a x, ((![v180] : Fin 1 → IVec S16 32) a x).toNat < S512.size a) ∧
  (∀ (k1_h13 : k1_cond13 i = 1#1), ∀ a x, ((![v180] : Fin 1 → IVec S16 32) a x).toNat < S512.size a)
theorem k1_idx171_inb : ∀ (i : grid1.Coords) (v180 : IVec S16 32) (k1_hw86 : k1_chk86 i v180), ∀ (k1_h13 : k1_cond13 i = 1#1), ∀ a x, ((![v180] : Fin 1 → IVec S16 32) a x).toNat < S512.size a := fun i v180 k1_hw86 k1_h13 => k1_hw86.1 k1_h13
theorem k1_idx172_inb : ∀ (i : grid1.Coords) (v180 : IVec S16 32) (k1_hw86 : k1_chk86 i v180), ∀ (k1_h13 : k1_cond13 i = 1#1), ∀ a x, ((![v180] : Fin 1 → IVec S16 32) a x).toNat < S512.size a := fun i v180 k1_hw86 k1_h13 => k1_hw86.2 k1_h13
def k1_off130 (k1_t5 : Fin k1_t5_loop.trips) : Fin 2 → Nat :=
  let c2_i32_80 : BitVec 32 := 2#32
  let v184 : Index := Scalar.indexCast c2_i32_80
  let c0_i32_61 : BitVec 32 := 0#32
  let c1_i32 : BitVec 32 := 1#32
  let arg40 : BitVec 32 := Scf.iv c0_i32_61 c1_i32 k1_t5
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v185 : Index := Scalar.indexCast v163
  ![2, v185.toNat]

def k1_chk87 (i : grid1.Coords) (v188 : IVec S16 32) : Prop :=
  (∀ (k1_h13 : k1_cond13 i = 1#1), ∀ a x, ((![v188] : Fin 1 → IVec S16 32) a x).toNat < S512.size a) ∧
  (∀ (k1_h13 : k1_cond13 i = 1#1), ∀ a x, ((![v188] : Fin 1 → IVec S16 32) a x).toNat < S512.size a)
theorem k1_idx173_inb : ∀ (i : grid1.Coords) (v188 : IVec S16 32) (k1_hw87 : k1_chk87 i v188), ∀ (k1_h13 : k1_cond13 i = 1#1), ∀ a x, ((![v188] : Fin 1 → IVec S16 32) a x).toNat < S512.size a := fun i v188 k1_hw87 k1_h13 => k1_hw87.1 k1_h13
theorem k1_idx174_inb : ∀ (i : grid1.Coords) (v188 : IVec S16 32) (k1_hw87 : k1_chk87 i v188), ∀ (k1_h13 : k1_cond13 i = 1#1), ∀ a x, ((![v188] : Fin 1 → IVec S16 32) a x).toNat < S512.size a := fun i v188 k1_hw87 k1_h13 => k1_hw87.2 k1_h13
def k1_off131 (k1_t5 : Fin k1_t5_loop.trips) : Fin 2 → Nat :=
  let c3_i32_82 : BitVec 32 := 3#32
  let v192 : Index := Scalar.indexCast c3_i32_82
  let c0_i32_61 : BitVec 32 := 0#32
  let c1_i32 : BitVec 32 := 1#32
  let arg40 : BitVec 32 := Scf.iv c0_i32_61 c1_i32 k1_t5
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v193 : Index := Scalar.indexCast v163
  ![3, v193.toNat]

def k1_chk88 (i : grid1.Coords) (v196 : IVec S16 32) : Prop :=
  (∀ (k1_h13 : k1_cond13 i = 1#1), ∀ a x, ((![v196] : Fin 1 → IVec S16 32) a x).toNat < S512.size a) ∧
  (∀ (k1_h13 : k1_cond13 i = 1#1), ∀ a x, ((![v196] : Fin 1 → IVec S16 32) a x).toNat < S512.size a)
theorem k1_idx175_inb : ∀ (i : grid1.Coords) (v196 : IVec S16 32) (k1_hw88 : k1_chk88 i v196), ∀ (k1_h13 : k1_cond13 i = 1#1), ∀ a x, ((![v196] : Fin 1 → IVec S16 32) a x).toNat < S512.size a := fun i v196 k1_hw88 k1_h13 => k1_hw88.1 k1_h13
theorem k1_idx176_inb : ∀ (i : grid1.Coords) (v196 : IVec S16 32) (k1_hw88 : k1_chk88 i v196), ∀ (k1_h13 : k1_cond13 i = 1#1), ∀ a x, ((![v196] : Fin 1 → IVec S16 32) a x).toNat < S512.size a := fun i v196 k1_hw88 k1_h13 => k1_hw88.2 k1_h13
def k1_off132 (k1_t5 : Fin k1_t5_loop.trips) : Fin 1 → Nat :=
  let c0_i32_61 : BitVec 32 := 0#32
  let c1_i32 : BitVec 32 := 1#32
  let arg40 : BitVec 32 := Scf.iv c0_i32_61 c1_i32 k1_t5
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v203 : Index := Scalar.indexCast v202
  ![v203.toNat]
def k1_off133 (k1_t5 : Fin k1_t5_loop.trips) : Fin 2 → Nat :=
  let c0_i32_88 : BitVec 32 := 0#32
  let v207 : Index := Scalar.indexCast c0_i32_88
  let c0_i32_61 : BitVec 32 := 0#32
  let c1_i32 : BitVec 32 := 1#32
  let arg40 : BitVec 32 := Scf.iv c0_i32_61 c1_i32 k1_t5
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v208 : Index := Scalar.indexCast v202
  ![0, v208.toNat]

def k1_chk89 (i : grid1.Coords) (v211 : IVec S16 32) : Prop :=
  (∀ (k1_h13 : k1_cond13 i = 1#1), ∀ a x, ((![v211] : Fin 1 → IVec S16 32) a x).toNat < S512.size a) ∧
  (∀ (k1_h13 : k1_cond13 i = 1#1), ∀ a x, ((![v211] : Fin 1 → IVec S16 32) a x).toNat < S512.size a)
theorem k1_idx177_inb : ∀ (i : grid1.Coords) (v211 : IVec S16 32) (k1_hw89 : k1_chk89 i v211), ∀ (k1_h13 : k1_cond13 i = 1#1), ∀ a x, ((![v211] : Fin 1 → IVec S16 32) a x).toNat < S512.size a := fun i v211 k1_hw89 k1_h13 => k1_hw89.1 k1_h13
theorem k1_idx178_inb : ∀ (i : grid1.Coords) (v211 : IVec S16 32) (k1_hw89 : k1_chk89 i v211), ∀ (k1_h13 : k1_cond13 i = 1#1), ∀ a x, ((![v211] : Fin 1 → IVec S16 32) a x).toNat < S512.size a := fun i v211 k1_hw89 k1_h13 => k1_hw89.2 k1_h13
def k1_off134 (k1_t5 : Fin k1_t5_loop.trips) : Fin 2 → Nat :=
  let c1_i32_90 : BitVec 32 := 1#32
  let v215 : Index := Scalar.indexCast c1_i32_90
  let c0_i32_61 : BitVec 32 := 0#32
  let c1_i32 : BitVec 32 := 1#32
  let arg40 : BitVec 32 := Scf.iv c0_i32_61 c1_i32 k1_t5
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v216 : Index := Scalar.indexCast v202
  ![1, v216.toNat]

def k1_chk90 (i : grid1.Coords) (v219 : IVec S16 32) : Prop :=
  (∀ (k1_h13 : k1_cond13 i = 1#1), ∀ a x, ((![v219] : Fin 1 → IVec S16 32) a x).toNat < S512.size a) ∧
  (∀ (k1_h13 : k1_cond13 i = 1#1), ∀ a x, ((![v219] : Fin 1 → IVec S16 32) a x).toNat < S512.size a)
theorem k1_idx179_inb : ∀ (i : grid1.Coords) (v219 : IVec S16 32) (k1_hw90 : k1_chk90 i v219), ∀ (k1_h13 : k1_cond13 i = 1#1), ∀ a x, ((![v219] : Fin 1 → IVec S16 32) a x).toNat < S512.size a := fun i v219 k1_hw90 k1_h13 => k1_hw90.1 k1_h13
theorem k1_idx180_inb : ∀ (i : grid1.Coords) (v219 : IVec S16 32) (k1_hw90 : k1_chk90 i v219), ∀ (k1_h13 : k1_cond13 i = 1#1), ∀ a x, ((![v219] : Fin 1 → IVec S16 32) a x).toNat < S512.size a := fun i v219 k1_hw90 k1_h13 => k1_hw90.2 k1_h13
def k1_off135 (k1_t5 : Fin k1_t5_loop.trips) : Fin 2 → Nat :=
  let c2_i32_92 : BitVec 32 := 2#32
  let v223 : Index := Scalar.indexCast c2_i32_92
  let c0_i32_61 : BitVec 32 := 0#32
  let c1_i32 : BitVec 32 := 1#32
  let arg40 : BitVec 32 := Scf.iv c0_i32_61 c1_i32 k1_t5
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v224 : Index := Scalar.indexCast v202
  ![2, v224.toNat]

def k1_chk91 (i : grid1.Coords) (v227 : IVec S16 32) : Prop :=
  (∀ (k1_h13 : k1_cond13 i = 1#1), ∀ a x, ((![v227] : Fin 1 → IVec S16 32) a x).toNat < S512.size a) ∧
  (∀ (k1_h13 : k1_cond13 i = 1#1), ∀ a x, ((![v227] : Fin 1 → IVec S16 32) a x).toNat < S512.size a)
theorem k1_idx181_inb : ∀ (i : grid1.Coords) (v227 : IVec S16 32) (k1_hw91 : k1_chk91 i v227), ∀ (k1_h13 : k1_cond13 i = 1#1), ∀ a x, ((![v227] : Fin 1 → IVec S16 32) a x).toNat < S512.size a := fun i v227 k1_hw91 k1_h13 => k1_hw91.1 k1_h13
theorem k1_idx182_inb : ∀ (i : grid1.Coords) (v227 : IVec S16 32) (k1_hw91 : k1_chk91 i v227), ∀ (k1_h13 : k1_cond13 i = 1#1), ∀ a x, ((![v227] : Fin 1 → IVec S16 32) a x).toNat < S512.size a := fun i v227 k1_hw91 k1_h13 => k1_hw91.2 k1_h13
def k1_off136 (k1_t5 : Fin k1_t5_loop.trips) : Fin 2 → Nat :=
  let c3_i32_94 : BitVec 32 := 3#32
  let v231 : Index := Scalar.indexCast c3_i32_94
  let c0_i32_61 : BitVec 32 := 0#32
  let c1_i32 : BitVec 32 := 1#32
  let arg40 : BitVec 32 := Scf.iv c0_i32_61 c1_i32 k1_t5
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v232 : Index := Scalar.indexCast v202
  ![3, v232.toNat]

def k1_chk92 (i : grid1.Coords) (v235 : IVec S16 32) : Prop :=
  (∀ (k1_h13 : k1_cond13 i = 1#1), ∀ a x, ((![v235] : Fin 1 → IVec S16 32) a x).toNat < S512.size a) ∧
  (∀ (k1_h13 : k1_cond13 i = 1#1), ∀ a x, ((![v235] : Fin 1 → IVec S16 32) a x).toNat < S512.size a)
theorem k1_idx183_inb : ∀ (i : grid1.Coords) (v235 : IVec S16 32) (k1_hw92 : k1_chk92 i v235), ∀ (k1_h13 : k1_cond13 i = 1#1), ∀ a x, ((![v235] : Fin 1 → IVec S16 32) a x).toNat < S512.size a := fun i v235 k1_hw92 k1_h13 => k1_hw92.1 k1_h13
theorem k1_idx184_inb : ∀ (i : grid1.Coords) (v235 : IVec S16 32) (k1_hw92 : k1_chk92 i v235), ∀ (k1_h13 : k1_cond13 i = 1#1), ∀ a x, ((![v235] : Fin 1 → IVec S16 32) a x).toNat < S512.size a := fun i v235 k1_hw92 k1_h13 => k1_hw92.2 k1_h13
def k1_off137 (k1_t5 : Fin k1_t5_loop.trips) : Fin 1 → Nat :=
  let c0_i32_61 : BitVec 32 := 0#32
  let c1_i32 : BitVec 32 := 1#32
  let arg40 : BitVec 32 := Scf.iv c0_i32_61 c1_i32 k1_t5
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v242 : Index := Scalar.indexCast v241
  ![v242.toNat]
def k1_off138 (k1_t5 : Fin k1_t5_loop.trips) : Fin 2 → Nat :=
  let c0_i32_100 : BitVec 32 := 0#32
  let v246 : Index := Scalar.indexCast c0_i32_100
  let c0_i32_61 : BitVec 32 := 0#32
  let c1_i32 : BitVec 32 := 1#32
  let arg40 : BitVec 32 := Scf.iv c0_i32_61 c1_i32 k1_t5
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v247 : Index := Scalar.indexCast v241
  ![0, v247.toNat]

def k1_chk93 (i : grid1.Coords) (v250 : IVec S16 32) : Prop :=
  (∀ (k1_h13 : k1_cond13 i = 1#1), ∀ a x, ((![v250] : Fin 1 → IVec S16 32) a x).toNat < S512.size a) ∧
  (∀ (k1_h13 : k1_cond13 i = 1#1), ∀ a x, ((![v250] : Fin 1 → IVec S16 32) a x).toNat < S512.size a)
theorem k1_idx185_inb : ∀ (i : grid1.Coords) (v250 : IVec S16 32) (k1_hw93 : k1_chk93 i v250), ∀ (k1_h13 : k1_cond13 i = 1#1), ∀ a x, ((![v250] : Fin 1 → IVec S16 32) a x).toNat < S512.size a := fun i v250 k1_hw93 k1_h13 => k1_hw93.1 k1_h13
theorem k1_idx186_inb : ∀ (i : grid1.Coords) (v250 : IVec S16 32) (k1_hw93 : k1_chk93 i v250), ∀ (k1_h13 : k1_cond13 i = 1#1), ∀ a x, ((![v250] : Fin 1 → IVec S16 32) a x).toNat < S512.size a := fun i v250 k1_hw93 k1_h13 => k1_hw93.2 k1_h13
def k1_off139 (k1_t5 : Fin k1_t5_loop.trips) : Fin 2 → Nat :=
  let c1_i32_102 : BitVec 32 := 1#32
  let v254 : Index := Scalar.indexCast c1_i32_102
  let c0_i32_61 : BitVec 32 := 0#32
  let c1_i32 : BitVec 32 := 1#32
  let arg40 : BitVec 32 := Scf.iv c0_i32_61 c1_i32 k1_t5
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v255 : Index := Scalar.indexCast v241
  ![1, v255.toNat]

def k1_chk94 (i : grid1.Coords) (v258 : IVec S16 32) : Prop :=
  (∀ (k1_h13 : k1_cond13 i = 1#1), ∀ a x, ((![v258] : Fin 1 → IVec S16 32) a x).toNat < S512.size a) ∧
  (∀ (k1_h13 : k1_cond13 i = 1#1), ∀ a x, ((![v258] : Fin 1 → IVec S16 32) a x).toNat < S512.size a)
theorem k1_idx187_inb : ∀ (i : grid1.Coords) (v258 : IVec S16 32) (k1_hw94 : k1_chk94 i v258), ∀ (k1_h13 : k1_cond13 i = 1#1), ∀ a x, ((![v258] : Fin 1 → IVec S16 32) a x).toNat < S512.size a := fun i v258 k1_hw94 k1_h13 => k1_hw94.1 k1_h13
theorem k1_idx188_inb : ∀ (i : grid1.Coords) (v258 : IVec S16 32) (k1_hw94 : k1_chk94 i v258), ∀ (k1_h13 : k1_cond13 i = 1#1), ∀ a x, ((![v258] : Fin 1 → IVec S16 32) a x).toNat < S512.size a := fun i v258 k1_hw94 k1_h13 => k1_hw94.2 k1_h13
def k1_off140 (k1_t5 : Fin k1_t5_loop.trips) : Fin 2 → Nat :=
  let c2_i32_104 : BitVec 32 := 2#32
  let v262 : Index := Scalar.indexCast c2_i32_104
  let c0_i32_61 : BitVec 32 := 0#32
  let c1_i32 : BitVec 32 := 1#32
  let arg40 : BitVec 32 := Scf.iv c0_i32_61 c1_i32 k1_t5
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v263 : Index := Scalar.indexCast v241
  ![2, v263.toNat]

def k1_chk95 (i : grid1.Coords) (v266 : IVec S16 32) : Prop :=
  (∀ (k1_h13 : k1_cond13 i = 1#1), ∀ a x, ((![v266] : Fin 1 → IVec S16 32) a x).toNat < S512.size a) ∧
  (∀ (k1_h13 : k1_cond13 i = 1#1), ∀ a x, ((![v266] : Fin 1 → IVec S16 32) a x).toNat < S512.size a)
theorem k1_idx189_inb : ∀ (i : grid1.Coords) (v266 : IVec S16 32) (k1_hw95 : k1_chk95 i v266), ∀ (k1_h13 : k1_cond13 i = 1#1), ∀ a x, ((![v266] : Fin 1 → IVec S16 32) a x).toNat < S512.size a := fun i v266 k1_hw95 k1_h13 => k1_hw95.1 k1_h13
theorem k1_idx190_inb : ∀ (i : grid1.Coords) (v266 : IVec S16 32) (k1_hw95 : k1_chk95 i v266), ∀ (k1_h13 : k1_cond13 i = 1#1), ∀ a x, ((![v266] : Fin 1 → IVec S16 32) a x).toNat < S512.size a := fun i v266 k1_hw95 k1_h13 => k1_hw95.2 k1_h13
def k1_off141 (k1_t5 : Fin k1_t5_loop.trips) : Fin 2 → Nat :=
  let c3_i32_106 : BitVec 32 := 3#32
  let v270 : Index := Scalar.indexCast c3_i32_106
  let c0_i32_61 : BitVec 32 := 0#32
  let c1_i32 : BitVec 32 := 1#32
  let arg40 : BitVec 32 := Scf.iv c0_i32_61 c1_i32 k1_t5
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v271 : Index := Scalar.indexCast v241
  ![3, v271.toNat]

def k1_chk96 (i : grid1.Coords) (v274 : IVec S16 32) : Prop :=
  (∀ (k1_h13 : k1_cond13 i = 1#1), ∀ a x, ((![v274] : Fin 1 → IVec S16 32) a x).toNat < S512.size a) ∧
  (∀ (k1_h13 : k1_cond13 i = 1#1), ∀ a x, ((![v274] : Fin 1 → IVec S16 32) a x).toNat < S512.size a)
theorem k1_idx191_inb : ∀ (i : grid1.Coords) (v274 : IVec S16 32) (k1_hw96 : k1_chk96 i v274), ∀ (k1_h13 : k1_cond13 i = 1#1), ∀ a x, ((![v274] : Fin 1 → IVec S16 32) a x).toNat < S512.size a := fun i v274 k1_hw96 k1_h13 => k1_hw96.1 k1_h13
theorem k1_idx192_inb : ∀ (i : grid1.Coords) (v274 : IVec S16 32) (k1_hw96 : k1_chk96 i v274), ∀ (k1_h13 : k1_cond13 i = 1#1), ∀ a x, ((![v274] : Fin 1 → IVec S16 32) a x).toNat < S512.size a := fun i v274 k1_hw96 k1_h13 => k1_hw96.2 k1_h13
def k1_off142 (k1_t5 : Fin k1_t5_loop.trips) : Fin 1 → Nat :=
  let c0_i32_61 : BitVec 32 := 0#32
  let c1_i32 : BitVec 32 := 1#32
  let arg40 : BitVec 32 := Scf.iv c0_i32_61 c1_i32 k1_t5
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v281 : Index := Scalar.indexCast v280
  ![v281.toNat]
def k1_off143 (k1_t5 : Fin k1_t5_loop.trips) : Fin 2 → Nat :=
  let c0_i32_111 : BitVec 32 := 0#32
  let v285 : Index := Scalar.indexCast c0_i32_111
  let c0_i32_61 : BitVec 32 := 0#32
  let c1_i32 : BitVec 32 := 1#32
  let arg40 : BitVec 32 := Scf.iv c0_i32_61 c1_i32 k1_t5
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v286 : Index := Scalar.indexCast v280
  ![0, v286.toNat]

def k1_chk97 (i : grid1.Coords) (v289 : IVec S16 32) : Prop :=
  (∀ (k1_h13 : k1_cond13 i = 1#1), ∀ a x, ((![v289] : Fin 1 → IVec S16 32) a x).toNat < S512.size a) ∧
  (∀ (k1_h13 : k1_cond13 i = 1#1), ∀ a x, ((![v289] : Fin 1 → IVec S16 32) a x).toNat < S512.size a)
theorem k1_idx193_inb : ∀ (i : grid1.Coords) (v289 : IVec S16 32) (k1_hw97 : k1_chk97 i v289), ∀ (k1_h13 : k1_cond13 i = 1#1), ∀ a x, ((![v289] : Fin 1 → IVec S16 32) a x).toNat < S512.size a := fun i v289 k1_hw97 k1_h13 => k1_hw97.1 k1_h13
theorem k1_idx194_inb : ∀ (i : grid1.Coords) (v289 : IVec S16 32) (k1_hw97 : k1_chk97 i v289), ∀ (k1_h13 : k1_cond13 i = 1#1), ∀ a x, ((![v289] : Fin 1 → IVec S16 32) a x).toNat < S512.size a := fun i v289 k1_hw97 k1_h13 => k1_hw97.2 k1_h13
def k1_off144 (k1_t5 : Fin k1_t5_loop.trips) : Fin 2 → Nat :=
  let c1_i32_113 : BitVec 32 := 1#32
  let v293 : Index := Scalar.indexCast c1_i32_113
  let c0_i32_61 : BitVec 32 := 0#32
  let c1_i32 : BitVec 32 := 1#32
  let arg40 : BitVec 32 := Scf.iv c0_i32_61 c1_i32 k1_t5
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v294 : Index := Scalar.indexCast v280
  ![1, v294.toNat]

def k1_chk98 (i : grid1.Coords) (v297 : IVec S16 32) : Prop :=
  (∀ (k1_h13 : k1_cond13 i = 1#1), ∀ a x, ((![v297] : Fin 1 → IVec S16 32) a x).toNat < S512.size a) ∧
  (∀ (k1_h13 : k1_cond13 i = 1#1), ∀ a x, ((![v297] : Fin 1 → IVec S16 32) a x).toNat < S512.size a)
theorem k1_idx195_inb : ∀ (i : grid1.Coords) (v297 : IVec S16 32) (k1_hw98 : k1_chk98 i v297), ∀ (k1_h13 : k1_cond13 i = 1#1), ∀ a x, ((![v297] : Fin 1 → IVec S16 32) a x).toNat < S512.size a := fun i v297 k1_hw98 k1_h13 => k1_hw98.1 k1_h13
theorem k1_idx196_inb : ∀ (i : grid1.Coords) (v297 : IVec S16 32) (k1_hw98 : k1_chk98 i v297), ∀ (k1_h13 : k1_cond13 i = 1#1), ∀ a x, ((![v297] : Fin 1 → IVec S16 32) a x).toNat < S512.size a := fun i v297 k1_hw98 k1_h13 => k1_hw98.2 k1_h13
def k1_off145 (k1_t5 : Fin k1_t5_loop.trips) : Fin 2 → Nat :=
  let c2_i32_115 : BitVec 32 := 2#32
  let v301 : Index := Scalar.indexCast c2_i32_115
  let c0_i32_61 : BitVec 32 := 0#32
  let c1_i32 : BitVec 32 := 1#32
  let arg40 : BitVec 32 := Scf.iv c0_i32_61 c1_i32 k1_t5
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v302 : Index := Scalar.indexCast v280
  ![2, v302.toNat]

def k1_chk99 (i : grid1.Coords) (v305 : IVec S16 32) : Prop :=
  (∀ (k1_h13 : k1_cond13 i = 1#1), ∀ a x, ((![v305] : Fin 1 → IVec S16 32) a x).toNat < S512.size a) ∧
  (∀ (k1_h13 : k1_cond13 i = 1#1), ∀ a x, ((![v305] : Fin 1 → IVec S16 32) a x).toNat < S512.size a)
theorem k1_idx197_inb : ∀ (i : grid1.Coords) (v305 : IVec S16 32) (k1_hw99 : k1_chk99 i v305), ∀ (k1_h13 : k1_cond13 i = 1#1), ∀ a x, ((![v305] : Fin 1 → IVec S16 32) a x).toNat < S512.size a := fun i v305 k1_hw99 k1_h13 => k1_hw99.1 k1_h13
theorem k1_idx198_inb : ∀ (i : grid1.Coords) (v305 : IVec S16 32) (k1_hw99 : k1_chk99 i v305), ∀ (k1_h13 : k1_cond13 i = 1#1), ∀ a x, ((![v305] : Fin 1 → IVec S16 32) a x).toNat < S512.size a := fun i v305 k1_hw99 k1_h13 => k1_hw99.2 k1_h13
def k1_off146 (k1_t5 : Fin k1_t5_loop.trips) : Fin 2 → Nat :=
  let c3_i32_117 : BitVec 32 := 3#32
  let v309 : Index := Scalar.indexCast c3_i32_117
  let c0_i32_61 : BitVec 32 := 0#32
  let c1_i32 : BitVec 32 := 1#32
  let arg40 : BitVec 32 := Scf.iv c0_i32_61 c1_i32 k1_t5
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v310 : Index := Scalar.indexCast v280
  ![3, v310.toNat]

def k1_chk100 (i : grid1.Coords) (v313 : IVec S16 32) : Prop :=
  (∀ (k1_h13 : k1_cond13 i = 1#1), ∀ a x, ((![v313] : Fin 1 → IVec S16 32) a x).toNat < S512.size a) ∧
  (∀ (k1_h13 : k1_cond13 i = 1#1), ∀ a x, ((![v313] : Fin 1 → IVec S16 32) a x).toNat < S512.size a)
theorem k1_idx199_inb : ∀ (i : grid1.Coords) (v313 : IVec S16 32) (k1_hw100 : k1_chk100 i v313), ∀ (k1_h13 : k1_cond13 i = 1#1), ∀ a x, ((![v313] : Fin 1 → IVec S16 32) a x).toNat < S512.size a := fun i v313 k1_hw100 k1_h13 => k1_hw100.1 k1_h13
theorem k1_idx200_inb : ∀ (i : grid1.Coords) (v313 : IVec S16 32) (k1_hw100 : k1_chk100 i v313), ∀ (k1_h13 : k1_cond13 i = 1#1), ∀ a x, ((![v313] : Fin 1 → IVec S16 32) a x).toNat < S512.size a := fun i v313 k1_hw100 k1_h13 => k1_hw100.2 k1_h13
def k1_cond14 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32_45 : BitVec 32 := 160#32
  let v103 : BitVec 32 := Scalar.addi v1 c160_i32_45
  let c250_i32_46 : BitVec 32 := 250#32
  let v104 : BitVec 1 := Scalar.cmpi .slt v103 c250_i32_46
  let v105 : BitVec 32 := Scalar.extui v104
  let c0_i32_47 : BitVec 32 := 0#32
  let v106 : BitVec 1 := Scalar.cmpi .ne v105 c0_i32_47
  v106

def k1_off147 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v45 : BitVec 32 := Scalar.addi v1 c160_i32
  let c400_i32_4 : BitVec 32 := 400#32
  let v46 : BitVec 32 := Scalar.muli v45 c400_i32_4
  ![v46.toNat]
@[reducible] def k1_t6_loop : Scf.Loop 32 :=
  let c0_i32_61 : BitVec 32 := 0#32
  let c5_i32 : BitVec 32 := 5#32
  let v121 : BitVec 32 := Scalar.addi c0_i32_61 c5_i32
  let c1_i32 : BitVec 32 := 1#32
  ⟨c0_i32_61, v121, c1_i32⟩
def k1_off148 (k1_t6 : Fin k1_t6_loop.trips) : Fin 1 → Nat :=
  let c0_i32_61 : BitVec 32 := 0#32
  let c1_i32 : BitVec 32 := 1#32
  let arg40 : BitVec 32 := Scf.iv c0_i32_61 c1_i32 k1_t6
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v125 : Index := Scalar.indexCast v124
  ![v125.toNat]
def k1_off149 (k1_t6 : Fin k1_t6_loop.trips) : Fin 2 → Nat :=
  let c0_i32_65 : BitVec 32 := 0#32
  let v129 : Index := Scalar.indexCast c0_i32_65
  let c0_i32_61 : BitVec 32 := 0#32
  let c1_i32 : BitVec 32 := 1#32
  let arg40 : BitVec 32 := Scf.iv c0_i32_61 c1_i32 k1_t6
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v130 : Index := Scalar.indexCast v124
  ![0, v130.toNat]

def k1_chk101 (i : grid1.Coords) (v133 : IVec S16 32) : Prop :=
  (∀ (k1_h14 : k1_cond14 i = 1#1), ∀ a x, ((![v133] : Fin 1 → IVec S16 32) a x).toNat < S512.size a) ∧
  (∀ (k1_h14 : k1_cond14 i = 1#1), ∀ a x, ((![v133] : Fin 1 → IVec S16 32) a x).toNat < S512.size a)
theorem k1_idx201_inb : ∀ (i : grid1.Coords) (v133 : IVec S16 32) (k1_hw101 : k1_chk101 i v133), ∀ (k1_h14 : k1_cond14 i = 1#1), ∀ a x, ((![v133] : Fin 1 → IVec S16 32) a x).toNat < S512.size a := fun i v133 k1_hw101 k1_h14 => k1_hw101.1 k1_h14
theorem k1_idx202_inb : ∀ (i : grid1.Coords) (v133 : IVec S16 32) (k1_hw101 : k1_chk101 i v133), ∀ (k1_h14 : k1_cond14 i = 1#1), ∀ a x, ((![v133] : Fin 1 → IVec S16 32) a x).toNat < S512.size a := fun i v133 k1_hw101 k1_h14 => k1_hw101.2 k1_h14
def k1_off150 (k1_t6 : Fin k1_t6_loop.trips) : Fin 2 → Nat :=
  let c1_i32_67 : BitVec 32 := 1#32
  let v137 : Index := Scalar.indexCast c1_i32_67
  let c0_i32_61 : BitVec 32 := 0#32
  let c1_i32 : BitVec 32 := 1#32
  let arg40 : BitVec 32 := Scf.iv c0_i32_61 c1_i32 k1_t6
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v138 : Index := Scalar.indexCast v124
  ![1, v138.toNat]

def k1_chk102 (i : grid1.Coords) (v141 : IVec S16 32) : Prop :=
  (∀ (k1_h14 : k1_cond14 i = 1#1), ∀ a x, ((![v141] : Fin 1 → IVec S16 32) a x).toNat < S512.size a) ∧
  (∀ (k1_h14 : k1_cond14 i = 1#1), ∀ a x, ((![v141] : Fin 1 → IVec S16 32) a x).toNat < S512.size a)
theorem k1_idx203_inb : ∀ (i : grid1.Coords) (v141 : IVec S16 32) (k1_hw102 : k1_chk102 i v141), ∀ (k1_h14 : k1_cond14 i = 1#1), ∀ a x, ((![v141] : Fin 1 → IVec S16 32) a x).toNat < S512.size a := fun i v141 k1_hw102 k1_h14 => k1_hw102.1 k1_h14
theorem k1_idx204_inb : ∀ (i : grid1.Coords) (v141 : IVec S16 32) (k1_hw102 : k1_chk102 i v141), ∀ (k1_h14 : k1_cond14 i = 1#1), ∀ a x, ((![v141] : Fin 1 → IVec S16 32) a x).toNat < S512.size a := fun i v141 k1_hw102 k1_h14 => k1_hw102.2 k1_h14
def k1_off151 (k1_t6 : Fin k1_t6_loop.trips) : Fin 2 → Nat :=
  let c2_i32_69 : BitVec 32 := 2#32
  let v145 : Index := Scalar.indexCast c2_i32_69
  let c0_i32_61 : BitVec 32 := 0#32
  let c1_i32 : BitVec 32 := 1#32
  let arg40 : BitVec 32 := Scf.iv c0_i32_61 c1_i32 k1_t6
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v146 : Index := Scalar.indexCast v124
  ![2, v146.toNat]

def k1_chk103 (i : grid1.Coords) (v149 : IVec S16 32) : Prop :=
  (∀ (k1_h14 : k1_cond14 i = 1#1), ∀ a x, ((![v149] : Fin 1 → IVec S16 32) a x).toNat < S512.size a) ∧
  (∀ (k1_h14 : k1_cond14 i = 1#1), ∀ a x, ((![v149] : Fin 1 → IVec S16 32) a x).toNat < S512.size a)
theorem k1_idx205_inb : ∀ (i : grid1.Coords) (v149 : IVec S16 32) (k1_hw103 : k1_chk103 i v149), ∀ (k1_h14 : k1_cond14 i = 1#1), ∀ a x, ((![v149] : Fin 1 → IVec S16 32) a x).toNat < S512.size a := fun i v149 k1_hw103 k1_h14 => k1_hw103.1 k1_h14
theorem k1_idx206_inb : ∀ (i : grid1.Coords) (v149 : IVec S16 32) (k1_hw103 : k1_chk103 i v149), ∀ (k1_h14 : k1_cond14 i = 1#1), ∀ a x, ((![v149] : Fin 1 → IVec S16 32) a x).toNat < S512.size a := fun i v149 k1_hw103 k1_h14 => k1_hw103.2 k1_h14
def k1_off152 (k1_t6 : Fin k1_t6_loop.trips) : Fin 2 → Nat :=
  let c3_i32 : BitVec 32 := 3#32
  let v153 : Index := Scalar.indexCast c3_i32
  let c0_i32_61 : BitVec 32 := 0#32
  let c1_i32 : BitVec 32 := 1#32
  let arg40 : BitVec 32 := Scf.iv c0_i32_61 c1_i32 k1_t6
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v154 : Index := Scalar.indexCast v124
  ![3, v154.toNat]

def k1_chk104 (i : grid1.Coords) (v157 : IVec S16 32) : Prop :=
  (∀ (k1_h14 : k1_cond14 i = 1#1), ∀ a x, ((![v157] : Fin 1 → IVec S16 32) a x).toNat < S512.size a) ∧
  (∀ (k1_h14 : k1_cond14 i = 1#1), ∀ a x, ((![v157] : Fin 1 → IVec S16 32) a x).toNat < S512.size a)
theorem k1_idx207_inb : ∀ (i : grid1.Coords) (v157 : IVec S16 32) (k1_hw104 : k1_chk104 i v157), ∀ (k1_h14 : k1_cond14 i = 1#1), ∀ a x, ((![v157] : Fin 1 → IVec S16 32) a x).toNat < S512.size a := fun i v157 k1_hw104 k1_h14 => k1_hw104.1 k1_h14
theorem k1_idx208_inb : ∀ (i : grid1.Coords) (v157 : IVec S16 32) (k1_hw104 : k1_chk104 i v157), ∀ (k1_h14 : k1_cond14 i = 1#1), ∀ a x, ((![v157] : Fin 1 → IVec S16 32) a x).toNat < S512.size a := fun i v157 k1_hw104 k1_h14 => k1_hw104.2 k1_h14
def k1_off153 (k1_t6 : Fin k1_t6_loop.trips) : Fin 1 → Nat :=
  let c0_i32_61 : BitVec 32 := 0#32
  let c1_i32 : BitVec 32 := 1#32
  let arg40 : BitVec 32 := Scf.iv c0_i32_61 c1_i32 k1_t6
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v164 : Index := Scalar.indexCast v163
  ![v164.toNat]
def k1_off154 (k1_t6 : Fin k1_t6_loop.trips) : Fin 2 → Nat :=
  let c0_i32_76 : BitVec 32 := 0#32
  let v168 : Index := Scalar.indexCast c0_i32_76
  let c0_i32_61 : BitVec 32 := 0#32
  let c1_i32 : BitVec 32 := 1#32
  let arg40 : BitVec 32 := Scf.iv c0_i32_61 c1_i32 k1_t6
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v169 : Index := Scalar.indexCast v163
  ![0, v169.toNat]

def k1_chk105 (i : grid1.Coords) (v172 : IVec S16 32) : Prop :=
  (∀ (k1_h14 : k1_cond14 i = 1#1), ∀ a x, ((![v172] : Fin 1 → IVec S16 32) a x).toNat < S512.size a) ∧
  (∀ (k1_h14 : k1_cond14 i = 1#1), ∀ a x, ((![v172] : Fin 1 → IVec S16 32) a x).toNat < S512.size a)
theorem k1_idx209_inb : ∀ (i : grid1.Coords) (v172 : IVec S16 32) (k1_hw105 : k1_chk105 i v172), ∀ (k1_h14 : k1_cond14 i = 1#1), ∀ a x, ((![v172] : Fin 1 → IVec S16 32) a x).toNat < S512.size a := fun i v172 k1_hw105 k1_h14 => k1_hw105.1 k1_h14
theorem k1_idx210_inb : ∀ (i : grid1.Coords) (v172 : IVec S16 32) (k1_hw105 : k1_chk105 i v172), ∀ (k1_h14 : k1_cond14 i = 1#1), ∀ a x, ((![v172] : Fin 1 → IVec S16 32) a x).toNat < S512.size a := fun i v172 k1_hw105 k1_h14 => k1_hw105.2 k1_h14
def k1_off155 (k1_t6 : Fin k1_t6_loop.trips) : Fin 2 → Nat :=
  let c1_i32_78 : BitVec 32 := 1#32
  let v176 : Index := Scalar.indexCast c1_i32_78
  let c0_i32_61 : BitVec 32 := 0#32
  let c1_i32 : BitVec 32 := 1#32
  let arg40 : BitVec 32 := Scf.iv c0_i32_61 c1_i32 k1_t6
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v177 : Index := Scalar.indexCast v163
  ![1, v177.toNat]

def k1_chk106 (i : grid1.Coords) (v180 : IVec S16 32) : Prop :=
  (∀ (k1_h14 : k1_cond14 i = 1#1), ∀ a x, ((![v180] : Fin 1 → IVec S16 32) a x).toNat < S512.size a) ∧
  (∀ (k1_h14 : k1_cond14 i = 1#1), ∀ a x, ((![v180] : Fin 1 → IVec S16 32) a x).toNat < S512.size a)
theorem k1_idx211_inb : ∀ (i : grid1.Coords) (v180 : IVec S16 32) (k1_hw106 : k1_chk106 i v180), ∀ (k1_h14 : k1_cond14 i = 1#1), ∀ a x, ((![v180] : Fin 1 → IVec S16 32) a x).toNat < S512.size a := fun i v180 k1_hw106 k1_h14 => k1_hw106.1 k1_h14
theorem k1_idx212_inb : ∀ (i : grid1.Coords) (v180 : IVec S16 32) (k1_hw106 : k1_chk106 i v180), ∀ (k1_h14 : k1_cond14 i = 1#1), ∀ a x, ((![v180] : Fin 1 → IVec S16 32) a x).toNat < S512.size a := fun i v180 k1_hw106 k1_h14 => k1_hw106.2 k1_h14
def k1_off156 (k1_t6 : Fin k1_t6_loop.trips) : Fin 2 → Nat :=
  let c2_i32_80 : BitVec 32 := 2#32
  let v184 : Index := Scalar.indexCast c2_i32_80
  let c0_i32_61 : BitVec 32 := 0#32
  let c1_i32 : BitVec 32 := 1#32
  let arg40 : BitVec 32 := Scf.iv c0_i32_61 c1_i32 k1_t6
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v185 : Index := Scalar.indexCast v163
  ![2, v185.toNat]

def k1_chk107 (i : grid1.Coords) (v188 : IVec S16 32) : Prop :=
  (∀ (k1_h14 : k1_cond14 i = 1#1), ∀ a x, ((![v188] : Fin 1 → IVec S16 32) a x).toNat < S512.size a) ∧
  (∀ (k1_h14 : k1_cond14 i = 1#1), ∀ a x, ((![v188] : Fin 1 → IVec S16 32) a x).toNat < S512.size a)
theorem k1_idx213_inb : ∀ (i : grid1.Coords) (v188 : IVec S16 32) (k1_hw107 : k1_chk107 i v188), ∀ (k1_h14 : k1_cond14 i = 1#1), ∀ a x, ((![v188] : Fin 1 → IVec S16 32) a x).toNat < S512.size a := fun i v188 k1_hw107 k1_h14 => k1_hw107.1 k1_h14
theorem k1_idx214_inb : ∀ (i : grid1.Coords) (v188 : IVec S16 32) (k1_hw107 : k1_chk107 i v188), ∀ (k1_h14 : k1_cond14 i = 1#1), ∀ a x, ((![v188] : Fin 1 → IVec S16 32) a x).toNat < S512.size a := fun i v188 k1_hw107 k1_h14 => k1_hw107.2 k1_h14
def k1_off157 (k1_t6 : Fin k1_t6_loop.trips) : Fin 2 → Nat :=
  let c3_i32_82 : BitVec 32 := 3#32
  let v192 : Index := Scalar.indexCast c3_i32_82
  let c0_i32_61 : BitVec 32 := 0#32
  let c1_i32 : BitVec 32 := 1#32
  let arg40 : BitVec 32 := Scf.iv c0_i32_61 c1_i32 k1_t6
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v193 : Index := Scalar.indexCast v163
  ![3, v193.toNat]

def k1_chk108 (i : grid1.Coords) (v196 : IVec S16 32) : Prop :=
  (∀ (k1_h14 : k1_cond14 i = 1#1), ∀ a x, ((![v196] : Fin 1 → IVec S16 32) a x).toNat < S512.size a) ∧
  (∀ (k1_h14 : k1_cond14 i = 1#1), ∀ a x, ((![v196] : Fin 1 → IVec S16 32) a x).toNat < S512.size a)
theorem k1_idx215_inb : ∀ (i : grid1.Coords) (v196 : IVec S16 32) (k1_hw108 : k1_chk108 i v196), ∀ (k1_h14 : k1_cond14 i = 1#1), ∀ a x, ((![v196] : Fin 1 → IVec S16 32) a x).toNat < S512.size a := fun i v196 k1_hw108 k1_h14 => k1_hw108.1 k1_h14
theorem k1_idx216_inb : ∀ (i : grid1.Coords) (v196 : IVec S16 32) (k1_hw108 : k1_chk108 i v196), ∀ (k1_h14 : k1_cond14 i = 1#1), ∀ a x, ((![v196] : Fin 1 → IVec S16 32) a x).toNat < S512.size a := fun i v196 k1_hw108 k1_h14 => k1_hw108.2 k1_h14
def k1_off158 (k1_t6 : Fin k1_t6_loop.trips) : Fin 1 → Nat :=
  let c0_i32_61 : BitVec 32 := 0#32
  let c1_i32 : BitVec 32 := 1#32
  let arg40 : BitVec 32 := Scf.iv c0_i32_61 c1_i32 k1_t6
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v203 : Index := Scalar.indexCast v202
  ![v203.toNat]
def k1_off159 (k1_t6 : Fin k1_t6_loop.trips) : Fin 2 → Nat :=
  let c0_i32_88 : BitVec 32 := 0#32
  let v207 : Index := Scalar.indexCast c0_i32_88
  let c0_i32_61 : BitVec 32 := 0#32
  let c1_i32 : BitVec 32 := 1#32
  let arg40 : BitVec 32 := Scf.iv c0_i32_61 c1_i32 k1_t6
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v208 : Index := Scalar.indexCast v202
  ![0, v208.toNat]

def k1_chk109 (i : grid1.Coords) (v211 : IVec S16 32) : Prop :=
  (∀ (k1_h14 : k1_cond14 i = 1#1), ∀ a x, ((![v211] : Fin 1 → IVec S16 32) a x).toNat < S512.size a) ∧
  (∀ (k1_h14 : k1_cond14 i = 1#1), ∀ a x, ((![v211] : Fin 1 → IVec S16 32) a x).toNat < S512.size a)
theorem k1_idx217_inb : ∀ (i : grid1.Coords) (v211 : IVec S16 32) (k1_hw109 : k1_chk109 i v211), ∀ (k1_h14 : k1_cond14 i = 1#1), ∀ a x, ((![v211] : Fin 1 → IVec S16 32) a x).toNat < S512.size a := fun i v211 k1_hw109 k1_h14 => k1_hw109.1 k1_h14
theorem k1_idx218_inb : ∀ (i : grid1.Coords) (v211 : IVec S16 32) (k1_hw109 : k1_chk109 i v211), ∀ (k1_h14 : k1_cond14 i = 1#1), ∀ a x, ((![v211] : Fin 1 → IVec S16 32) a x).toNat < S512.size a := fun i v211 k1_hw109 k1_h14 => k1_hw109.2 k1_h14
def k1_off160 (k1_t6 : Fin k1_t6_loop.trips) : Fin 2 → Nat :=
  let c1_i32_90 : BitVec 32 := 1#32
  let v215 : Index := Scalar.indexCast c1_i32_90
  let c0_i32_61 : BitVec 32 := 0#32
  let c1_i32 : BitVec 32 := 1#32
  let arg40 : BitVec 32 := Scf.iv c0_i32_61 c1_i32 k1_t6
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v216 : Index := Scalar.indexCast v202
  ![1, v216.toNat]

def k1_chk110 (i : grid1.Coords) (v219 : IVec S16 32) : Prop :=
  (∀ (k1_h14 : k1_cond14 i = 1#1), ∀ a x, ((![v219] : Fin 1 → IVec S16 32) a x).toNat < S512.size a) ∧
  (∀ (k1_h14 : k1_cond14 i = 1#1), ∀ a x, ((![v219] : Fin 1 → IVec S16 32) a x).toNat < S512.size a)
theorem k1_idx219_inb : ∀ (i : grid1.Coords) (v219 : IVec S16 32) (k1_hw110 : k1_chk110 i v219), ∀ (k1_h14 : k1_cond14 i = 1#1), ∀ a x, ((![v219] : Fin 1 → IVec S16 32) a x).toNat < S512.size a := fun i v219 k1_hw110 k1_h14 => k1_hw110.1 k1_h14
theorem k1_idx220_inb : ∀ (i : grid1.Coords) (v219 : IVec S16 32) (k1_hw110 : k1_chk110 i v219), ∀ (k1_h14 : k1_cond14 i = 1#1), ∀ a x, ((![v219] : Fin 1 → IVec S16 32) a x).toNat < S512.size a := fun i v219 k1_hw110 k1_h14 => k1_hw110.2 k1_h14
def k1_off161 (k1_t6 : Fin k1_t6_loop.trips) : Fin 2 → Nat :=
  let c2_i32_92 : BitVec 32 := 2#32
  let v223 : Index := Scalar.indexCast c2_i32_92
  let c0_i32_61 : BitVec 32 := 0#32
  let c1_i32 : BitVec 32 := 1#32
  let arg40 : BitVec 32 := Scf.iv c0_i32_61 c1_i32 k1_t6
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v224 : Index := Scalar.indexCast v202
  ![2, v224.toNat]

def k1_chk111 (i : grid1.Coords) (v227 : IVec S16 32) : Prop :=
  (∀ (k1_h14 : k1_cond14 i = 1#1), ∀ a x, ((![v227] : Fin 1 → IVec S16 32) a x).toNat < S512.size a) ∧
  (∀ (k1_h14 : k1_cond14 i = 1#1), ∀ a x, ((![v227] : Fin 1 → IVec S16 32) a x).toNat < S512.size a)
theorem k1_idx221_inb : ∀ (i : grid1.Coords) (v227 : IVec S16 32) (k1_hw111 : k1_chk111 i v227), ∀ (k1_h14 : k1_cond14 i = 1#1), ∀ a x, ((![v227] : Fin 1 → IVec S16 32) a x).toNat < S512.size a := fun i v227 k1_hw111 k1_h14 => k1_hw111.1 k1_h14
theorem k1_idx222_inb : ∀ (i : grid1.Coords) (v227 : IVec S16 32) (k1_hw111 : k1_chk111 i v227), ∀ (k1_h14 : k1_cond14 i = 1#1), ∀ a x, ((![v227] : Fin 1 → IVec S16 32) a x).toNat < S512.size a := fun i v227 k1_hw111 k1_h14 => k1_hw111.2 k1_h14
def k1_off162 (k1_t6 : Fin k1_t6_loop.trips) : Fin 2 → Nat :=
  let c3_i32_94 : BitVec 32 := 3#32
  let v231 : Index := Scalar.indexCast c3_i32_94
  let c0_i32_61 : BitVec 32 := 0#32
  let c1_i32 : BitVec 32 := 1#32
  let arg40 : BitVec 32 := Scf.iv c0_i32_61 c1_i32 k1_t6
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v232 : Index := Scalar.indexCast v202
  ![3, v232.toNat]

def k1_chk112 (i : grid1.Coords) (v235 : IVec S16 32) : Prop :=
  (∀ (k1_h14 : k1_cond14 i = 1#1), ∀ a x, ((![v235] : Fin 1 → IVec S16 32) a x).toNat < S512.size a) ∧
  (∀ (k1_h14 : k1_cond14 i = 1#1), ∀ a x, ((![v235] : Fin 1 → IVec S16 32) a x).toNat < S512.size a)
theorem k1_idx223_inb : ∀ (i : grid1.Coords) (v235 : IVec S16 32) (k1_hw112 : k1_chk112 i v235), ∀ (k1_h14 : k1_cond14 i = 1#1), ∀ a x, ((![v235] : Fin 1 → IVec S16 32) a x).toNat < S512.size a := fun i v235 k1_hw112 k1_h14 => k1_hw112.1 k1_h14
theorem k1_idx224_inb : ∀ (i : grid1.Coords) (v235 : IVec S16 32) (k1_hw112 : k1_chk112 i v235), ∀ (k1_h14 : k1_cond14 i = 1#1), ∀ a x, ((![v235] : Fin 1 → IVec S16 32) a x).toNat < S512.size a := fun i v235 k1_hw112 k1_h14 => k1_hw112.2 k1_h14
def k1_off163 (k1_t6 : Fin k1_t6_loop.trips) : Fin 1 → Nat :=
  let c0_i32_61 : BitVec 32 := 0#32
  let c1_i32 : BitVec 32 := 1#32
  let arg40 : BitVec 32 := Scf.iv c0_i32_61 c1_i32 k1_t6
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v242 : Index := Scalar.indexCast v241
  ![v242.toNat]
def k1_off164 (k1_t6 : Fin k1_t6_loop.trips) : Fin 2 → Nat :=
  let c0_i32_100 : BitVec 32 := 0#32
  let v246 : Index := Scalar.indexCast c0_i32_100
  let c0_i32_61 : BitVec 32 := 0#32
  let c1_i32 : BitVec 32 := 1#32
  let arg40 : BitVec 32 := Scf.iv c0_i32_61 c1_i32 k1_t6
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v247 : Index := Scalar.indexCast v241
  ![0, v247.toNat]

def k1_chk113 (i : grid1.Coords) (v250 : IVec S16 32) : Prop :=
  (∀ (k1_h14 : k1_cond14 i = 1#1), ∀ a x, ((![v250] : Fin 1 → IVec S16 32) a x).toNat < S512.size a) ∧
  (∀ (k1_h14 : k1_cond14 i = 1#1), ∀ a x, ((![v250] : Fin 1 → IVec S16 32) a x).toNat < S512.size a)
theorem k1_idx225_inb : ∀ (i : grid1.Coords) (v250 : IVec S16 32) (k1_hw113 : k1_chk113 i v250), ∀ (k1_h14 : k1_cond14 i = 1#1), ∀ a x, ((![v250] : Fin 1 → IVec S16 32) a x).toNat < S512.size a := fun i v250 k1_hw113 k1_h14 => k1_hw113.1 k1_h14
theorem k1_idx226_inb : ∀ (i : grid1.Coords) (v250 : IVec S16 32) (k1_hw113 : k1_chk113 i v250), ∀ (k1_h14 : k1_cond14 i = 1#1), ∀ a x, ((![v250] : Fin 1 → IVec S16 32) a x).toNat < S512.size a := fun i v250 k1_hw113 k1_h14 => k1_hw113.2 k1_h14
def k1_off165 (k1_t6 : Fin k1_t6_loop.trips) : Fin 2 → Nat :=
  let c1_i32_102 : BitVec 32 := 1#32
  let v254 : Index := Scalar.indexCast c1_i32_102
  let c0_i32_61 : BitVec 32 := 0#32
  let c1_i32 : BitVec 32 := 1#32
  let arg40 : BitVec 32 := Scf.iv c0_i32_61 c1_i32 k1_t6
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v255 : Index := Scalar.indexCast v241
  ![1, v255.toNat]

def k1_chk114 (i : grid1.Coords) (v258 : IVec S16 32) : Prop :=
  (∀ (k1_h14 : k1_cond14 i = 1#1), ∀ a x, ((![v258] : Fin 1 → IVec S16 32) a x).toNat < S512.size a) ∧
  (∀ (k1_h14 : k1_cond14 i = 1#1), ∀ a x, ((![v258] : Fin 1 → IVec S16 32) a x).toNat < S512.size a)
theorem k1_idx227_inb : ∀ (i : grid1.Coords) (v258 : IVec S16 32) (k1_hw114 : k1_chk114 i v258), ∀ (k1_h14 : k1_cond14 i = 1#1), ∀ a x, ((![v258] : Fin 1 → IVec S16 32) a x).toNat < S512.size a := fun i v258 k1_hw114 k1_h14 => k1_hw114.1 k1_h14
theorem k1_idx228_inb : ∀ (i : grid1.Coords) (v258 : IVec S16 32) (k1_hw114 : k1_chk114 i v258), ∀ (k1_h14 : k1_cond14 i = 1#1), ∀ a x, ((![v258] : Fin 1 → IVec S16 32) a x).toNat < S512.size a := fun i v258 k1_hw114 k1_h14 => k1_hw114.2 k1_h14
def k1_off166 (k1_t6 : Fin k1_t6_loop.trips) : Fin 2 → Nat :=
  let c2_i32_104 : BitVec 32 := 2#32
  let v262 : Index := Scalar.indexCast c2_i32_104
  let c0_i32_61 : BitVec 32 := 0#32
  let c1_i32 : BitVec 32 := 1#32
  let arg40 : BitVec 32 := Scf.iv c0_i32_61 c1_i32 k1_t6
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v263 : Index := Scalar.indexCast v241
  ![2, v263.toNat]

def k1_chk115 (i : grid1.Coords) (v266 : IVec S16 32) : Prop :=
  (∀ (k1_h14 : k1_cond14 i = 1#1), ∀ a x, ((![v266] : Fin 1 → IVec S16 32) a x).toNat < S512.size a) ∧
  (∀ (k1_h14 : k1_cond14 i = 1#1), ∀ a x, ((![v266] : Fin 1 → IVec S16 32) a x).toNat < S512.size a)
theorem k1_idx229_inb : ∀ (i : grid1.Coords) (v266 : IVec S16 32) (k1_hw115 : k1_chk115 i v266), ∀ (k1_h14 : k1_cond14 i = 1#1), ∀ a x, ((![v266] : Fin 1 → IVec S16 32) a x).toNat < S512.size a := fun i v266 k1_hw115 k1_h14 => k1_hw115.1 k1_h14
theorem k1_idx230_inb : ∀ (i : grid1.Coords) (v266 : IVec S16 32) (k1_hw115 : k1_chk115 i v266), ∀ (k1_h14 : k1_cond14 i = 1#1), ∀ a x, ((![v266] : Fin 1 → IVec S16 32) a x).toNat < S512.size a := fun i v266 k1_hw115 k1_h14 => k1_hw115.2 k1_h14
def k1_off167 (k1_t6 : Fin k1_t6_loop.trips) : Fin 2 → Nat :=
  let c3_i32_106 : BitVec 32 := 3#32
  let v270 : Index := Scalar.indexCast c3_i32_106
  let c0_i32_61 : BitVec 32 := 0#32
  let c1_i32 : BitVec 32 := 1#32
  let arg40 : BitVec 32 := Scf.iv c0_i32_61 c1_i32 k1_t6
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v271 : Index := Scalar.indexCast v241
  ![3, v271.toNat]

def k1_chk116 (i : grid1.Coords) (v274 : IVec S16 32) : Prop :=
  (∀ (k1_h14 : k1_cond14 i = 1#1), ∀ a x, ((![v274] : Fin 1 → IVec S16 32) a x).toNat < S512.size a) ∧
  (∀ (k1_h14 : k1_cond14 i = 1#1), ∀ a x, ((![v274] : Fin 1 → IVec S16 32) a x).toNat < S512.size a)
theorem k1_idx231_inb : ∀ (i : grid1.Coords) (v274 : IVec S16 32) (k1_hw116 : k1_chk116 i v274), ∀ (k1_h14 : k1_cond14 i = 1#1), ∀ a x, ((![v274] : Fin 1 → IVec S16 32) a x).toNat < S512.size a := fun i v274 k1_hw116 k1_h14 => k1_hw116.1 k1_h14
theorem k1_idx232_inb : ∀ (i : grid1.Coords) (v274 : IVec S16 32) (k1_hw116 : k1_chk116 i v274), ∀ (k1_h14 : k1_cond14 i = 1#1), ∀ a x, ((![v274] : Fin 1 → IVec S16 32) a x).toNat < S512.size a := fun i v274 k1_hw116 k1_h14 => k1_hw116.2 k1_h14
def k1_off168 (k1_t6 : Fin k1_t6_loop.trips) : Fin 1 → Nat :=
  let c0_i32_61 : BitVec 32 := 0#32
  let c1_i32 : BitVec 32 := 1#32
  let arg40 : BitVec 32 := Scf.iv c0_i32_61 c1_i32 k1_t6
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v281 : Index := Scalar.indexCast v280
  ![v281.toNat]
def k1_off169 (k1_t6 : Fin k1_t6_loop.trips) : Fin 2 → Nat :=
  let c0_i32_111 : BitVec 32 := 0#32
  let v285 : Index := Scalar.indexCast c0_i32_111
  let c0_i32_61 : BitVec 32 := 0#32
  let c1_i32 : BitVec 32 := 1#32
  let arg40 : BitVec 32 := Scf.iv c0_i32_61 c1_i32 k1_t6
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v286 : Index := Scalar.indexCast v280
  ![0, v286.toNat]

def k1_chk117 (i : grid1.Coords) (v289 : IVec S16 32) : Prop :=
  (∀ (k1_h14 : k1_cond14 i = 1#1), ∀ a x, ((![v289] : Fin 1 → IVec S16 32) a x).toNat < S512.size a) ∧
  (∀ (k1_h14 : k1_cond14 i = 1#1), ∀ a x, ((![v289] : Fin 1 → IVec S16 32) a x).toNat < S512.size a)
theorem k1_idx233_inb : ∀ (i : grid1.Coords) (v289 : IVec S16 32) (k1_hw117 : k1_chk117 i v289), ∀ (k1_h14 : k1_cond14 i = 1#1), ∀ a x, ((![v289] : Fin 1 → IVec S16 32) a x).toNat < S512.size a := fun i v289 k1_hw117 k1_h14 => k1_hw117.1 k1_h14
theorem k1_idx234_inb : ∀ (i : grid1.Coords) (v289 : IVec S16 32) (k1_hw117 : k1_chk117 i v289), ∀ (k1_h14 : k1_cond14 i = 1#1), ∀ a x, ((![v289] : Fin 1 → IVec S16 32) a x).toNat < S512.size a := fun i v289 k1_hw117 k1_h14 => k1_hw117.2 k1_h14
def k1_off170 (k1_t6 : Fin k1_t6_loop.trips) : Fin 2 → Nat :=
  let c1_i32_113 : BitVec 32 := 1#32
  let v293 : Index := Scalar.indexCast c1_i32_113
  let c0_i32_61 : BitVec 32 := 0#32
  let c1_i32 : BitVec 32 := 1#32
  let arg40 : BitVec 32 := Scf.iv c0_i32_61 c1_i32 k1_t6
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v294 : Index := Scalar.indexCast v280
  ![1, v294.toNat]

def k1_chk118 (i : grid1.Coords) (v297 : IVec S16 32) : Prop :=
  (∀ (k1_h14 : k1_cond14 i = 1#1), ∀ a x, ((![v297] : Fin 1 → IVec S16 32) a x).toNat < S512.size a) ∧
  (∀ (k1_h14 : k1_cond14 i = 1#1), ∀ a x, ((![v297] : Fin 1 → IVec S16 32) a x).toNat < S512.size a)
theorem k1_idx235_inb : ∀ (i : grid1.Coords) (v297 : IVec S16 32) (k1_hw118 : k1_chk118 i v297), ∀ (k1_h14 : k1_cond14 i = 1#1), ∀ a x, ((![v297] : Fin 1 → IVec S16 32) a x).toNat < S512.size a := fun i v297 k1_hw118 k1_h14 => k1_hw118.1 k1_h14
theorem k1_idx236_inb : ∀ (i : grid1.Coords) (v297 : IVec S16 32) (k1_hw118 : k1_chk118 i v297), ∀ (k1_h14 : k1_cond14 i = 1#1), ∀ a x, ((![v297] : Fin 1 → IVec S16 32) a x).toNat < S512.size a := fun i v297 k1_hw118 k1_h14 => k1_hw118.2 k1_h14
def k1_off171 (k1_t6 : Fin k1_t6_loop.trips) : Fin 2 → Nat :=
  let c2_i32_115 : BitVec 32 := 2#32
  let v301 : Index := Scalar.indexCast c2_i32_115
  let c0_i32_61 : BitVec 32 := 0#32
  let c1_i32 : BitVec 32 := 1#32
  let arg40 : BitVec 32 := Scf.iv c0_i32_61 c1_i32 k1_t6
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v302 : Index := Scalar.indexCast v280
  ![2, v302.toNat]

def k1_chk119 (i : grid1.Coords) (v305 : IVec S16 32) : Prop :=
  (∀ (k1_h14 : k1_cond14 i = 1#1), ∀ a x, ((![v305] : Fin 1 → IVec S16 32) a x).toNat < S512.size a) ∧
  (∀ (k1_h14 : k1_cond14 i = 1#1), ∀ a x, ((![v305] : Fin 1 → IVec S16 32) a x).toNat < S512.size a)
theorem k1_idx237_inb : ∀ (i : grid1.Coords) (v305 : IVec S16 32) (k1_hw119 : k1_chk119 i v305), ∀ (k1_h14 : k1_cond14 i = 1#1), ∀ a x, ((![v305] : Fin 1 → IVec S16 32) a x).toNat < S512.size a := fun i v305 k1_hw119 k1_h14 => k1_hw119.1 k1_h14
theorem k1_idx238_inb : ∀ (i : grid1.Coords) (v305 : IVec S16 32) (k1_hw119 : k1_chk119 i v305), ∀ (k1_h14 : k1_cond14 i = 1#1), ∀ a x, ((![v305] : Fin 1 → IVec S16 32) a x).toNat < S512.size a := fun i v305 k1_hw119 k1_h14 => k1_hw119.2 k1_h14
def k1_off172 (k1_t6 : Fin k1_t6_loop.trips) : Fin 2 → Nat :=
  let c3_i32_117 : BitVec 32 := 3#32
  let v309 : Index := Scalar.indexCast c3_i32_117
  let c0_i32_61 : BitVec 32 := 0#32
  let c1_i32 : BitVec 32 := 1#32
  let arg40 : BitVec 32 := Scf.iv c0_i32_61 c1_i32 k1_t6
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v310 : Index := Scalar.indexCast v280
  ![3, v310.toNat]

def k1_chk120 (i : grid1.Coords) (v313 : IVec S16 32) : Prop :=
  (∀ (k1_h14 : k1_cond14 i = 1#1), ∀ a x, ((![v313] : Fin 1 → IVec S16 32) a x).toNat < S512.size a) ∧
  (∀ (k1_h14 : k1_cond14 i = 1#1), ∀ a x, ((![v313] : Fin 1 → IVec S16 32) a x).toNat < S512.size a)
theorem k1_idx239_inb : ∀ (i : grid1.Coords) (v313 : IVec S16 32) (k1_hw120 : k1_chk120 i v313), ∀ (k1_h14 : k1_cond14 i = 1#1), ∀ a x, ((![v313] : Fin 1 → IVec S16 32) a x).toNat < S512.size a := fun i v313 k1_hw120 k1_h14 => k1_hw120.1 k1_h14
theorem k1_idx240_inb : ∀ (i : grid1.Coords) (v313 : IVec S16 32) (k1_hw120 : k1_chk120 i v313), ∀ (k1_h14 : k1_cond14 i = 1#1), ∀ a x, ((![v313] : Fin 1 → IVec S16 32) a x).toNat < S512.size a := fun i v313 k1_hw120 k1_h14 => k1_hw120.2 k1_h14
def k1_cond15 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32_48 : BitVec 32 := 192#32
  let v107 : BitVec 32 := Scalar.addi v1 c192_i32_48
  let c250_i32_49 : BitVec 32 := 250#32
  let v108 : BitVec 1 := Scalar.cmpi .slt v107 c250_i32_49
  let v109 : BitVec 32 := Scalar.extui v108
  let c0_i32_50 : BitVec 32 := 0#32
  let v110 : BitVec 1 := Scalar.cmpi .ne v109 c0_i32_50
  v110

def k1_off173 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v47 : BitVec 32 := Scalar.addi v1 c192_i32
  let c400_i32_5 : BitVec 32 := 400#32
  let v48 : BitVec 32 := Scalar.muli v47 c400_i32_5
  ![v48.toNat]
@[reducible] def k1_t7_loop : Scf.Loop 32 :=
  let c0_i32_61 : BitVec 32 := 0#32
  let c5_i32 : BitVec 32 := 5#32
  let v121 : BitVec 32 := Scalar.addi c0_i32_61 c5_i32
  let c1_i32 : BitVec 32 := 1#32
  ⟨c0_i32_61, v121, c1_i32⟩
def k1_off174 (k1_t7 : Fin k1_t7_loop.trips) : Fin 1 → Nat :=
  let c0_i32_61 : BitVec 32 := 0#32
  let c1_i32 : BitVec 32 := 1#32
  let arg40 : BitVec 32 := Scf.iv c0_i32_61 c1_i32 k1_t7
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v125 : Index := Scalar.indexCast v124
  ![v125.toNat]
def k1_off175 (k1_t7 : Fin k1_t7_loop.trips) : Fin 2 → Nat :=
  let c0_i32_65 : BitVec 32 := 0#32
  let v129 : Index := Scalar.indexCast c0_i32_65
  let c0_i32_61 : BitVec 32 := 0#32
  let c1_i32 : BitVec 32 := 1#32
  let arg40 : BitVec 32 := Scf.iv c0_i32_61 c1_i32 k1_t7
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v130 : Index := Scalar.indexCast v124
  ![0, v130.toNat]

def k1_chk121 (i : grid1.Coords) (v133 : IVec S16 32) : Prop :=
  (∀ (k1_h15 : k1_cond15 i = 1#1), ∀ a x, ((![v133] : Fin 1 → IVec S16 32) a x).toNat < S512.size a) ∧
  (∀ (k1_h15 : k1_cond15 i = 1#1), ∀ a x, ((![v133] : Fin 1 → IVec S16 32) a x).toNat < S512.size a)
theorem k1_idx241_inb : ∀ (i : grid1.Coords) (v133 : IVec S16 32) (k1_hw121 : k1_chk121 i v133), ∀ (k1_h15 : k1_cond15 i = 1#1), ∀ a x, ((![v133] : Fin 1 → IVec S16 32) a x).toNat < S512.size a := fun i v133 k1_hw121 k1_h15 => k1_hw121.1 k1_h15
theorem k1_idx242_inb : ∀ (i : grid1.Coords) (v133 : IVec S16 32) (k1_hw121 : k1_chk121 i v133), ∀ (k1_h15 : k1_cond15 i = 1#1), ∀ a x, ((![v133] : Fin 1 → IVec S16 32) a x).toNat < S512.size a := fun i v133 k1_hw121 k1_h15 => k1_hw121.2 k1_h15
def k1_off176 (k1_t7 : Fin k1_t7_loop.trips) : Fin 2 → Nat :=
  let c1_i32_67 : BitVec 32 := 1#32
  let v137 : Index := Scalar.indexCast c1_i32_67
  let c0_i32_61 : BitVec 32 := 0#32
  let c1_i32 : BitVec 32 := 1#32
  let arg40 : BitVec 32 := Scf.iv c0_i32_61 c1_i32 k1_t7
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v138 : Index := Scalar.indexCast v124
  ![1, v138.toNat]

def k1_chk122 (i : grid1.Coords) (v141 : IVec S16 32) : Prop :=
  (∀ (k1_h15 : k1_cond15 i = 1#1), ∀ a x, ((![v141] : Fin 1 → IVec S16 32) a x).toNat < S512.size a) ∧
  (∀ (k1_h15 : k1_cond15 i = 1#1), ∀ a x, ((![v141] : Fin 1 → IVec S16 32) a x).toNat < S512.size a)
theorem k1_idx243_inb : ∀ (i : grid1.Coords) (v141 : IVec S16 32) (k1_hw122 : k1_chk122 i v141), ∀ (k1_h15 : k1_cond15 i = 1#1), ∀ a x, ((![v141] : Fin 1 → IVec S16 32) a x).toNat < S512.size a := fun i v141 k1_hw122 k1_h15 => k1_hw122.1 k1_h15
theorem k1_idx244_inb : ∀ (i : grid1.Coords) (v141 : IVec S16 32) (k1_hw122 : k1_chk122 i v141), ∀ (k1_h15 : k1_cond15 i = 1#1), ∀ a x, ((![v141] : Fin 1 → IVec S16 32) a x).toNat < S512.size a := fun i v141 k1_hw122 k1_h15 => k1_hw122.2 k1_h15
def k1_off177 (k1_t7 : Fin k1_t7_loop.trips) : Fin 2 → Nat :=
  let c2_i32_69 : BitVec 32 := 2#32
  let v145 : Index := Scalar.indexCast c2_i32_69
  let c0_i32_61 : BitVec 32 := 0#32
  let c1_i32 : BitVec 32 := 1#32
  let arg40 : BitVec 32 := Scf.iv c0_i32_61 c1_i32 k1_t7
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v146 : Index := Scalar.indexCast v124
  ![2, v146.toNat]

def k1_chk123 (i : grid1.Coords) (v149 : IVec S16 32) : Prop :=
  (∀ (k1_h15 : k1_cond15 i = 1#1), ∀ a x, ((![v149] : Fin 1 → IVec S16 32) a x).toNat < S512.size a) ∧
  (∀ (k1_h15 : k1_cond15 i = 1#1), ∀ a x, ((![v149] : Fin 1 → IVec S16 32) a x).toNat < S512.size a)
theorem k1_idx245_inb : ∀ (i : grid1.Coords) (v149 : IVec S16 32) (k1_hw123 : k1_chk123 i v149), ∀ (k1_h15 : k1_cond15 i = 1#1), ∀ a x, ((![v149] : Fin 1 → IVec S16 32) a x).toNat < S512.size a := fun i v149 k1_hw123 k1_h15 => k1_hw123.1 k1_h15
theorem k1_idx246_inb : ∀ (i : grid1.Coords) (v149 : IVec S16 32) (k1_hw123 : k1_chk123 i v149), ∀ (k1_h15 : k1_cond15 i = 1#1), ∀ a x, ((![v149] : Fin 1 → IVec S16 32) a x).toNat < S512.size a := fun i v149 k1_hw123 k1_h15 => k1_hw123.2 k1_h15
def k1_off178 (k1_t7 : Fin k1_t7_loop.trips) : Fin 2 → Nat :=
  let c3_i32 : BitVec 32 := 3#32
  let v153 : Index := Scalar.indexCast c3_i32
  let c0_i32_61 : BitVec 32 := 0#32
  let c1_i32 : BitVec 32 := 1#32
  let arg40 : BitVec 32 := Scf.iv c0_i32_61 c1_i32 k1_t7
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v154 : Index := Scalar.indexCast v124
  ![3, v154.toNat]

def k1_chk124 (i : grid1.Coords) (v157 : IVec S16 32) : Prop :=
  (∀ (k1_h15 : k1_cond15 i = 1#1), ∀ a x, ((![v157] : Fin 1 → IVec S16 32) a x).toNat < S512.size a) ∧
  (∀ (k1_h15 : k1_cond15 i = 1#1), ∀ a x, ((![v157] : Fin 1 → IVec S16 32) a x).toNat < S512.size a)
theorem k1_idx247_inb : ∀ (i : grid1.Coords) (v157 : IVec S16 32) (k1_hw124 : k1_chk124 i v157), ∀ (k1_h15 : k1_cond15 i = 1#1), ∀ a x, ((![v157] : Fin 1 → IVec S16 32) a x).toNat < S512.size a := fun i v157 k1_hw124 k1_h15 => k1_hw124.1 k1_h15
theorem k1_idx248_inb : ∀ (i : grid1.Coords) (v157 : IVec S16 32) (k1_hw124 : k1_chk124 i v157), ∀ (k1_h15 : k1_cond15 i = 1#1), ∀ a x, ((![v157] : Fin 1 → IVec S16 32) a x).toNat < S512.size a := fun i v157 k1_hw124 k1_h15 => k1_hw124.2 k1_h15
def k1_off179 (k1_t7 : Fin k1_t7_loop.trips) : Fin 1 → Nat :=
  let c0_i32_61 : BitVec 32 := 0#32
  let c1_i32 : BitVec 32 := 1#32
  let arg40 : BitVec 32 := Scf.iv c0_i32_61 c1_i32 k1_t7
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v164 : Index := Scalar.indexCast v163
  ![v164.toNat]
def k1_off180 (k1_t7 : Fin k1_t7_loop.trips) : Fin 2 → Nat :=
  let c0_i32_76 : BitVec 32 := 0#32
  let v168 : Index := Scalar.indexCast c0_i32_76
  let c0_i32_61 : BitVec 32 := 0#32
  let c1_i32 : BitVec 32 := 1#32
  let arg40 : BitVec 32 := Scf.iv c0_i32_61 c1_i32 k1_t7
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v169 : Index := Scalar.indexCast v163
  ![0, v169.toNat]

def k1_chk125 (i : grid1.Coords) (v172 : IVec S16 32) : Prop :=
  (∀ (k1_h15 : k1_cond15 i = 1#1), ∀ a x, ((![v172] : Fin 1 → IVec S16 32) a x).toNat < S512.size a) ∧
  (∀ (k1_h15 : k1_cond15 i = 1#1), ∀ a x, ((![v172] : Fin 1 → IVec S16 32) a x).toNat < S512.size a)
theorem k1_idx249_inb : ∀ (i : grid1.Coords) (v172 : IVec S16 32) (k1_hw125 : k1_chk125 i v172), ∀ (k1_h15 : k1_cond15 i = 1#1), ∀ a x, ((![v172] : Fin 1 → IVec S16 32) a x).toNat < S512.size a := fun i v172 k1_hw125 k1_h15 => k1_hw125.1 k1_h15
theorem k1_idx250_inb : ∀ (i : grid1.Coords) (v172 : IVec S16 32) (k1_hw125 : k1_chk125 i v172), ∀ (k1_h15 : k1_cond15 i = 1#1), ∀ a x, ((![v172] : Fin 1 → IVec S16 32) a x).toNat < S512.size a := fun i v172 k1_hw125 k1_h15 => k1_hw125.2 k1_h15
def k1_off181 (k1_t7 : Fin k1_t7_loop.trips) : Fin 2 → Nat :=
  let c1_i32_78 : BitVec 32 := 1#32
  let v176 : Index := Scalar.indexCast c1_i32_78
  let c0_i32_61 : BitVec 32 := 0#32
  let c1_i32 : BitVec 32 := 1#32
  let arg40 : BitVec 32 := Scf.iv c0_i32_61 c1_i32 k1_t7
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v177 : Index := Scalar.indexCast v163
  ![1, v177.toNat]

def k1_chk126 (i : grid1.Coords) (v180 : IVec S16 32) : Prop :=
  (∀ (k1_h15 : k1_cond15 i = 1#1), ∀ a x, ((![v180] : Fin 1 → IVec S16 32) a x).toNat < S512.size a) ∧
  (∀ (k1_h15 : k1_cond15 i = 1#1), ∀ a x, ((![v180] : Fin 1 → IVec S16 32) a x).toNat < S512.size a)
theorem k1_idx251_inb : ∀ (i : grid1.Coords) (v180 : IVec S16 32) (k1_hw126 : k1_chk126 i v180), ∀ (k1_h15 : k1_cond15 i = 1#1), ∀ a x, ((![v180] : Fin 1 → IVec S16 32) a x).toNat < S512.size a := fun i v180 k1_hw126 k1_h15 => k1_hw126.1 k1_h15
theorem k1_idx252_inb : ∀ (i : grid1.Coords) (v180 : IVec S16 32) (k1_hw126 : k1_chk126 i v180), ∀ (k1_h15 : k1_cond15 i = 1#1), ∀ a x, ((![v180] : Fin 1 → IVec S16 32) a x).toNat < S512.size a := fun i v180 k1_hw126 k1_h15 => k1_hw126.2 k1_h15
def k1_off182 (k1_t7 : Fin k1_t7_loop.trips) : Fin 2 → Nat :=
  let c2_i32_80 : BitVec 32 := 2#32
  let v184 : Index := Scalar.indexCast c2_i32_80
  let c0_i32_61 : BitVec 32 := 0#32
  let c1_i32 : BitVec 32 := 1#32
  let arg40 : BitVec 32 := Scf.iv c0_i32_61 c1_i32 k1_t7
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v185 : Index := Scalar.indexCast v163
  ![2, v185.toNat]

def k1_chk127 (i : grid1.Coords) (v188 : IVec S16 32) : Prop :=
  (∀ (k1_h15 : k1_cond15 i = 1#1), ∀ a x, ((![v188] : Fin 1 → IVec S16 32) a x).toNat < S512.size a) ∧
  (∀ (k1_h15 : k1_cond15 i = 1#1), ∀ a x, ((![v188] : Fin 1 → IVec S16 32) a x).toNat < S512.size a)
theorem k1_idx253_inb : ∀ (i : grid1.Coords) (v188 : IVec S16 32) (k1_hw127 : k1_chk127 i v188), ∀ (k1_h15 : k1_cond15 i = 1#1), ∀ a x, ((![v188] : Fin 1 → IVec S16 32) a x).toNat < S512.size a := fun i v188 k1_hw127 k1_h15 => k1_hw127.1 k1_h15
theorem k1_idx254_inb : ∀ (i : grid1.Coords) (v188 : IVec S16 32) (k1_hw127 : k1_chk127 i v188), ∀ (k1_h15 : k1_cond15 i = 1#1), ∀ a x, ((![v188] : Fin 1 → IVec S16 32) a x).toNat < S512.size a := fun i v188 k1_hw127 k1_h15 => k1_hw127.2 k1_h15
def k1_off183 (k1_t7 : Fin k1_t7_loop.trips) : Fin 2 → Nat :=
  let c3_i32_82 : BitVec 32 := 3#32
  let v192 : Index := Scalar.indexCast c3_i32_82
  let c0_i32_61 : BitVec 32 := 0#32
  let c1_i32 : BitVec 32 := 1#32
  let arg40 : BitVec 32 := Scf.iv c0_i32_61 c1_i32 k1_t7
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v193 : Index := Scalar.indexCast v163
  ![3, v193.toNat]

def k1_chk128 (i : grid1.Coords) (v196 : IVec S16 32) : Prop :=
  (∀ (k1_h15 : k1_cond15 i = 1#1), ∀ a x, ((![v196] : Fin 1 → IVec S16 32) a x).toNat < S512.size a) ∧
  (∀ (k1_h15 : k1_cond15 i = 1#1), ∀ a x, ((![v196] : Fin 1 → IVec S16 32) a x).toNat < S512.size a)
theorem k1_idx255_inb : ∀ (i : grid1.Coords) (v196 : IVec S16 32) (k1_hw128 : k1_chk128 i v196), ∀ (k1_h15 : k1_cond15 i = 1#1), ∀ a x, ((![v196] : Fin 1 → IVec S16 32) a x).toNat < S512.size a := fun i v196 k1_hw128 k1_h15 => k1_hw128.1 k1_h15
theorem k1_idx256_inb : ∀ (i : grid1.Coords) (v196 : IVec S16 32) (k1_hw128 : k1_chk128 i v196), ∀ (k1_h15 : k1_cond15 i = 1#1), ∀ a x, ((![v196] : Fin 1 → IVec S16 32) a x).toNat < S512.size a := fun i v196 k1_hw128 k1_h15 => k1_hw128.2 k1_h15
def k1_off184 (k1_t7 : Fin k1_t7_loop.trips) : Fin 1 → Nat :=
  let c0_i32_61 : BitVec 32 := 0#32
  let c1_i32 : BitVec 32 := 1#32
  let arg40 : BitVec 32 := Scf.iv c0_i32_61 c1_i32 k1_t7
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v203 : Index := Scalar.indexCast v202
  ![v203.toNat]
def k1_off185 (k1_t7 : Fin k1_t7_loop.trips) : Fin 2 → Nat :=
  let c0_i32_88 : BitVec 32 := 0#32
  let v207 : Index := Scalar.indexCast c0_i32_88
  let c0_i32_61 : BitVec 32 := 0#32
  let c1_i32 : BitVec 32 := 1#32
  let arg40 : BitVec 32 := Scf.iv c0_i32_61 c1_i32 k1_t7
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v208 : Index := Scalar.indexCast v202
  ![0, v208.toNat]

def k1_chk129 (i : grid1.Coords) (v211 : IVec S16 32) : Prop :=
  (∀ (k1_h15 : k1_cond15 i = 1#1), ∀ a x, ((![v211] : Fin 1 → IVec S16 32) a x).toNat < S512.size a) ∧
  (∀ (k1_h15 : k1_cond15 i = 1#1), ∀ a x, ((![v211] : Fin 1 → IVec S16 32) a x).toNat < S512.size a)
theorem k1_idx257_inb : ∀ (i : grid1.Coords) (v211 : IVec S16 32) (k1_hw129 : k1_chk129 i v211), ∀ (k1_h15 : k1_cond15 i = 1#1), ∀ a x, ((![v211] : Fin 1 → IVec S16 32) a x).toNat < S512.size a := fun i v211 k1_hw129 k1_h15 => k1_hw129.1 k1_h15
theorem k1_idx258_inb : ∀ (i : grid1.Coords) (v211 : IVec S16 32) (k1_hw129 : k1_chk129 i v211), ∀ (k1_h15 : k1_cond15 i = 1#1), ∀ a x, ((![v211] : Fin 1 → IVec S16 32) a x).toNat < S512.size a := fun i v211 k1_hw129 k1_h15 => k1_hw129.2 k1_h15
def k1_off186 (k1_t7 : Fin k1_t7_loop.trips) : Fin 2 → Nat :=
  let c1_i32_90 : BitVec 32 := 1#32
  let v215 : Index := Scalar.indexCast c1_i32_90
  let c0_i32_61 : BitVec 32 := 0#32
  let c1_i32 : BitVec 32 := 1#32
  let arg40 : BitVec 32 := Scf.iv c0_i32_61 c1_i32 k1_t7
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v216 : Index := Scalar.indexCast v202
  ![1, v216.toNat]

def k1_chk130 (i : grid1.Coords) (v219 : IVec S16 32) : Prop :=
  (∀ (k1_h15 : k1_cond15 i = 1#1), ∀ a x, ((![v219] : Fin 1 → IVec S16 32) a x).toNat < S512.size a) ∧
  (∀ (k1_h15 : k1_cond15 i = 1#1), ∀ a x, ((![v219] : Fin 1 → IVec S16 32) a x).toNat < S512.size a)
theorem k1_idx259_inb : ∀ (i : grid1.Coords) (v219 : IVec S16 32) (k1_hw130 : k1_chk130 i v219), ∀ (k1_h15 : k1_cond15 i = 1#1), ∀ a x, ((![v219] : Fin 1 → IVec S16 32) a x).toNat < S512.size a := fun i v219 k1_hw130 k1_h15 => k1_hw130.1 k1_h15
theorem k1_idx260_inb : ∀ (i : grid1.Coords) (v219 : IVec S16 32) (k1_hw130 : k1_chk130 i v219), ∀ (k1_h15 : k1_cond15 i = 1#1), ∀ a x, ((![v219] : Fin 1 → IVec S16 32) a x).toNat < S512.size a := fun i v219 k1_hw130 k1_h15 => k1_hw130.2 k1_h15
def k1_off187 (k1_t7 : Fin k1_t7_loop.trips) : Fin 2 → Nat :=
  let c2_i32_92 : BitVec 32 := 2#32
  let v223 : Index := Scalar.indexCast c2_i32_92
  let c0_i32_61 : BitVec 32 := 0#32
  let c1_i32 : BitVec 32 := 1#32
  let arg40 : BitVec 32 := Scf.iv c0_i32_61 c1_i32 k1_t7
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v224 : Index := Scalar.indexCast v202
  ![2, v224.toNat]

def k1_chk131 (i : grid1.Coords) (v227 : IVec S16 32) : Prop :=
  (∀ (k1_h15 : k1_cond15 i = 1#1), ∀ a x, ((![v227] : Fin 1 → IVec S16 32) a x).toNat < S512.size a) ∧
  (∀ (k1_h15 : k1_cond15 i = 1#1), ∀ a x, ((![v227] : Fin 1 → IVec S16 32) a x).toNat < S512.size a)
theorem k1_idx261_inb : ∀ (i : grid1.Coords) (v227 : IVec S16 32) (k1_hw131 : k1_chk131 i v227), ∀ (k1_h15 : k1_cond15 i = 1#1), ∀ a x, ((![v227] : Fin 1 → IVec S16 32) a x).toNat < S512.size a := fun i v227 k1_hw131 k1_h15 => k1_hw131.1 k1_h15
theorem k1_idx262_inb : ∀ (i : grid1.Coords) (v227 : IVec S16 32) (k1_hw131 : k1_chk131 i v227), ∀ (k1_h15 : k1_cond15 i = 1#1), ∀ a x, ((![v227] : Fin 1 → IVec S16 32) a x).toNat < S512.size a := fun i v227 k1_hw131 k1_h15 => k1_hw131.2 k1_h15
def k1_off188 (k1_t7 : Fin k1_t7_loop.trips) : Fin 2 → Nat :=
  let c3_i32_94 : BitVec 32 := 3#32
  let v231 : Index := Scalar.indexCast c3_i32_94
  let c0_i32_61 : BitVec 32 := 0#32
  let c1_i32 : BitVec 32 := 1#32
  let arg40 : BitVec 32 := Scf.iv c0_i32_61 c1_i32 k1_t7
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v232 : Index := Scalar.indexCast v202
  ![3, v232.toNat]

def k1_chk132 (i : grid1.Coords) (v235 : IVec S16 32) : Prop :=
  (∀ (k1_h15 : k1_cond15 i = 1#1), ∀ a x, ((![v235] : Fin 1 → IVec S16 32) a x).toNat < S512.size a) ∧
  (∀ (k1_h15 : k1_cond15 i = 1#1), ∀ a x, ((![v235] : Fin 1 → IVec S16 32) a x).toNat < S512.size a)
theorem k1_idx263_inb : ∀ (i : grid1.Coords) (v235 : IVec S16 32) (k1_hw132 : k1_chk132 i v235), ∀ (k1_h15 : k1_cond15 i = 1#1), ∀ a x, ((![v235] : Fin 1 → IVec S16 32) a x).toNat < S512.size a := fun i v235 k1_hw132 k1_h15 => k1_hw132.1 k1_h15
theorem k1_idx264_inb : ∀ (i : grid1.Coords) (v235 : IVec S16 32) (k1_hw132 : k1_chk132 i v235), ∀ (k1_h15 : k1_cond15 i = 1#1), ∀ a x, ((![v235] : Fin 1 → IVec S16 32) a x).toNat < S512.size a := fun i v235 k1_hw132 k1_h15 => k1_hw132.2 k1_h15
def k1_off189 (k1_t7 : Fin k1_t7_loop.trips) : Fin 1 → Nat :=
  let c0_i32_61 : BitVec 32 := 0#32
  let c1_i32 : BitVec 32 := 1#32
  let arg40 : BitVec 32 := Scf.iv c0_i32_61 c1_i32 k1_t7
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v242 : Index := Scalar.indexCast v241
  ![v242.toNat]
def k1_off190 (k1_t7 : Fin k1_t7_loop.trips) : Fin 2 → Nat :=
  let c0_i32_100 : BitVec 32 := 0#32
  let v246 : Index := Scalar.indexCast c0_i32_100
  let c0_i32_61 : BitVec 32 := 0#32
  let c1_i32 : BitVec 32 := 1#32
  let arg40 : BitVec 32 := Scf.iv c0_i32_61 c1_i32 k1_t7
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v247 : Index := Scalar.indexCast v241
  ![0, v247.toNat]

def k1_chk133 (i : grid1.Coords) (v250 : IVec S16 32) : Prop :=
  (∀ (k1_h15 : k1_cond15 i = 1#1), ∀ a x, ((![v250] : Fin 1 → IVec S16 32) a x).toNat < S512.size a) ∧
  (∀ (k1_h15 : k1_cond15 i = 1#1), ∀ a x, ((![v250] : Fin 1 → IVec S16 32) a x).toNat < S512.size a)
theorem k1_idx265_inb : ∀ (i : grid1.Coords) (v250 : IVec S16 32) (k1_hw133 : k1_chk133 i v250), ∀ (k1_h15 : k1_cond15 i = 1#1), ∀ a x, ((![v250] : Fin 1 → IVec S16 32) a x).toNat < S512.size a := fun i v250 k1_hw133 k1_h15 => k1_hw133.1 k1_h15
theorem k1_idx266_inb : ∀ (i : grid1.Coords) (v250 : IVec S16 32) (k1_hw133 : k1_chk133 i v250), ∀ (k1_h15 : k1_cond15 i = 1#1), ∀ a x, ((![v250] : Fin 1 → IVec S16 32) a x).toNat < S512.size a := fun i v250 k1_hw133 k1_h15 => k1_hw133.2 k1_h15
def k1_off191 (k1_t7 : Fin k1_t7_loop.trips) : Fin 2 → Nat :=
  let c1_i32_102 : BitVec 32 := 1#32
  let v254 : Index := Scalar.indexCast c1_i32_102
  let c0_i32_61 : BitVec 32 := 0#32
  let c1_i32 : BitVec 32 := 1#32
  let arg40 : BitVec 32 := Scf.iv c0_i32_61 c1_i32 k1_t7
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v255 : Index := Scalar.indexCast v241
  ![1, v255.toNat]

def k1_chk134 (i : grid1.Coords) (v258 : IVec S16 32) : Prop :=
  (∀ (k1_h15 : k1_cond15 i = 1#1), ∀ a x, ((![v258] : Fin 1 → IVec S16 32) a x).toNat < S512.size a) ∧
  (∀ (k1_h15 : k1_cond15 i = 1#1), ∀ a x, ((![v258] : Fin 1 → IVec S16 32) a x).toNat < S512.size a)
theorem k1_idx267_inb : ∀ (i : grid1.Coords) (v258 : IVec S16 32) (k1_hw134 : k1_chk134 i v258), ∀ (k1_h15 : k1_cond15 i = 1#1), ∀ a x, ((![v258] : Fin 1 → IVec S16 32) a x).toNat < S512.size a := fun i v258 k1_hw134 k1_h15 => k1_hw134.1 k1_h15
theorem k1_idx268_inb : ∀ (i : grid1.Coords) (v258 : IVec S16 32) (k1_hw134 : k1_chk134 i v258), ∀ (k1_h15 : k1_cond15 i = 1#1), ∀ a x, ((![v258] : Fin 1 → IVec S16 32) a x).toNat < S512.size a := fun i v258 k1_hw134 k1_h15 => k1_hw134.2 k1_h15
def k1_off192 (k1_t7 : Fin k1_t7_loop.trips) : Fin 2 → Nat :=
  let c2_i32_104 : BitVec 32 := 2#32
  let v262 : Index := Scalar.indexCast c2_i32_104
  let c0_i32_61 : BitVec 32 := 0#32
  let c1_i32 : BitVec 32 := 1#32
  let arg40 : BitVec 32 := Scf.iv c0_i32_61 c1_i32 k1_t7
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v263 : Index := Scalar.indexCast v241
  ![2, v263.toNat]

def k1_chk135 (i : grid1.Coords) (v266 : IVec S16 32) : Prop :=
  (∀ (k1_h15 : k1_cond15 i = 1#1), ∀ a x, ((![v266] : Fin 1 → IVec S16 32) a x).toNat < S512.size a) ∧
  (∀ (k1_h15 : k1_cond15 i = 1#1), ∀ a x, ((![v266] : Fin 1 → IVec S16 32) a x).toNat < S512.size a)
theorem k1_idx269_inb : ∀ (i : grid1.Coords) (v266 : IVec S16 32) (k1_hw135 : k1_chk135 i v266), ∀ (k1_h15 : k1_cond15 i = 1#1), ∀ a x, ((![v266] : Fin 1 → IVec S16 32) a x).toNat < S512.size a := fun i v266 k1_hw135 k1_h15 => k1_hw135.1 k1_h15
theorem k1_idx270_inb : ∀ (i : grid1.Coords) (v266 : IVec S16 32) (k1_hw135 : k1_chk135 i v266), ∀ (k1_h15 : k1_cond15 i = 1#1), ∀ a x, ((![v266] : Fin 1 → IVec S16 32) a x).toNat < S512.size a := fun i v266 k1_hw135 k1_h15 => k1_hw135.2 k1_h15
def k1_off193 (k1_t7 : Fin k1_t7_loop.trips) : Fin 2 → Nat :=
  let c3_i32_106 : BitVec 32 := 3#32
  let v270 : Index := Scalar.indexCast c3_i32_106
  let c0_i32_61 : BitVec 32 := 0#32
  let c1_i32 : BitVec 32 := 1#32
  let arg40 : BitVec 32 := Scf.iv c0_i32_61 c1_i32 k1_t7
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v271 : Index := Scalar.indexCast v241
  ![3, v271.toNat]

def k1_chk136 (i : grid1.Coords) (v274 : IVec S16 32) : Prop :=
  (∀ (k1_h15 : k1_cond15 i = 1#1), ∀ a x, ((![v274] : Fin 1 → IVec S16 32) a x).toNat < S512.size a) ∧
  (∀ (k1_h15 : k1_cond15 i = 1#1), ∀ a x, ((![v274] : Fin 1 → IVec S16 32) a x).toNat < S512.size a)
theorem k1_idx271_inb : ∀ (i : grid1.Coords) (v274 : IVec S16 32) (k1_hw136 : k1_chk136 i v274), ∀ (k1_h15 : k1_cond15 i = 1#1), ∀ a x, ((![v274] : Fin 1 → IVec S16 32) a x).toNat < S512.size a := fun i v274 k1_hw136 k1_h15 => k1_hw136.1 k1_h15
theorem k1_idx272_inb : ∀ (i : grid1.Coords) (v274 : IVec S16 32) (k1_hw136 : k1_chk136 i v274), ∀ (k1_h15 : k1_cond15 i = 1#1), ∀ a x, ((![v274] : Fin 1 → IVec S16 32) a x).toNat < S512.size a := fun i v274 k1_hw136 k1_h15 => k1_hw136.2 k1_h15
def k1_off194 (k1_t7 : Fin k1_t7_loop.trips) : Fin 1 → Nat :=
  let c0_i32_61 : BitVec 32 := 0#32
  let c1_i32 : BitVec 32 := 1#32
  let arg40 : BitVec 32 := Scf.iv c0_i32_61 c1_i32 k1_t7
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v281 : Index := Scalar.indexCast v280
  ![v281.toNat]
def k1_off195 (k1_t7 : Fin k1_t7_loop.trips) : Fin 2 → Nat :=
  let c0_i32_111 : BitVec 32 := 0#32
  let v285 : Index := Scalar.indexCast c0_i32_111
  let c0_i32_61 : BitVec 32 := 0#32
  let c1_i32 : BitVec 32 := 1#32
  let arg40 : BitVec 32 := Scf.iv c0_i32_61 c1_i32 k1_t7
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v286 : Index := Scalar.indexCast v280
  ![0, v286.toNat]

def k1_chk137 (i : grid1.Coords) (v289 : IVec S16 32) : Prop :=
  (∀ (k1_h15 : k1_cond15 i = 1#1), ∀ a x, ((![v289] : Fin 1 → IVec S16 32) a x).toNat < S512.size a) ∧
  (∀ (k1_h15 : k1_cond15 i = 1#1), ∀ a x, ((![v289] : Fin 1 → IVec S16 32) a x).toNat < S512.size a)
theorem k1_idx273_inb : ∀ (i : grid1.Coords) (v289 : IVec S16 32) (k1_hw137 : k1_chk137 i v289), ∀ (k1_h15 : k1_cond15 i = 1#1), ∀ a x, ((![v289] : Fin 1 → IVec S16 32) a x).toNat < S512.size a := fun i v289 k1_hw137 k1_h15 => k1_hw137.1 k1_h15
theorem k1_idx274_inb : ∀ (i : grid1.Coords) (v289 : IVec S16 32) (k1_hw137 : k1_chk137 i v289), ∀ (k1_h15 : k1_cond15 i = 1#1), ∀ a x, ((![v289] : Fin 1 → IVec S16 32) a x).toNat < S512.size a := fun i v289 k1_hw137 k1_h15 => k1_hw137.2 k1_h15
def k1_off196 (k1_t7 : Fin k1_t7_loop.trips) : Fin 2 → Nat :=
  let c1_i32_113 : BitVec 32 := 1#32
  let v293 : Index := Scalar.indexCast c1_i32_113
  let c0_i32_61 : BitVec 32 := 0#32
  let c1_i32 : BitVec 32 := 1#32
  let arg40 : BitVec 32 := Scf.iv c0_i32_61 c1_i32 k1_t7
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v294 : Index := Scalar.indexCast v280
  ![1, v294.toNat]

def k1_chk138 (i : grid1.Coords) (v297 : IVec S16 32) : Prop :=
  (∀ (k1_h15 : k1_cond15 i = 1#1), ∀ a x, ((![v297] : Fin 1 → IVec S16 32) a x).toNat < S512.size a) ∧
  (∀ (k1_h15 : k1_cond15 i = 1#1), ∀ a x, ((![v297] : Fin 1 → IVec S16 32) a x).toNat < S512.size a)
theorem k1_idx275_inb : ∀ (i : grid1.Coords) (v297 : IVec S16 32) (k1_hw138 : k1_chk138 i v297), ∀ (k1_h15 : k1_cond15 i = 1#1), ∀ a x, ((![v297] : Fin 1 → IVec S16 32) a x).toNat < S512.size a := fun i v297 k1_hw138 k1_h15 => k1_hw138.1 k1_h15
theorem k1_idx276_inb : ∀ (i : grid1.Coords) (v297 : IVec S16 32) (k1_hw138 : k1_chk138 i v297), ∀ (k1_h15 : k1_cond15 i = 1#1), ∀ a x, ((![v297] : Fin 1 → IVec S16 32) a x).toNat < S512.size a := fun i v297 k1_hw138 k1_h15 => k1_hw138.2 k1_h15
def k1_off197 (k1_t7 : Fin k1_t7_loop.trips) : Fin 2 → Nat :=
  let c2_i32_115 : BitVec 32 := 2#32
  let v301 : Index := Scalar.indexCast c2_i32_115
  let c0_i32_61 : BitVec 32 := 0#32
  let c1_i32 : BitVec 32 := 1#32
  let arg40 : BitVec 32 := Scf.iv c0_i32_61 c1_i32 k1_t7
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v302 : Index := Scalar.indexCast v280
  ![2, v302.toNat]

def k1_chk139 (i : grid1.Coords) (v305 : IVec S16 32) : Prop :=
  (∀ (k1_h15 : k1_cond15 i = 1#1), ∀ a x, ((![v305] : Fin 1 → IVec S16 32) a x).toNat < S512.size a) ∧
  (∀ (k1_h15 : k1_cond15 i = 1#1), ∀ a x, ((![v305] : Fin 1 → IVec S16 32) a x).toNat < S512.size a)
theorem k1_idx277_inb : ∀ (i : grid1.Coords) (v305 : IVec S16 32) (k1_hw139 : k1_chk139 i v305), ∀ (k1_h15 : k1_cond15 i = 1#1), ∀ a x, ((![v305] : Fin 1 → IVec S16 32) a x).toNat < S512.size a := fun i v305 k1_hw139 k1_h15 => k1_hw139.1 k1_h15
theorem k1_idx278_inb : ∀ (i : grid1.Coords) (v305 : IVec S16 32) (k1_hw139 : k1_chk139 i v305), ∀ (k1_h15 : k1_cond15 i = 1#1), ∀ a x, ((![v305] : Fin 1 → IVec S16 32) a x).toNat < S512.size a := fun i v305 k1_hw139 k1_h15 => k1_hw139.2 k1_h15
def k1_off198 (k1_t7 : Fin k1_t7_loop.trips) : Fin 2 → Nat :=
  let c3_i32_117 : BitVec 32 := 3#32
  let v309 : Index := Scalar.indexCast c3_i32_117
  let c0_i32_61 : BitVec 32 := 0#32
  let c1_i32 : BitVec 32 := 1#32
  let arg40 : BitVec 32 := Scf.iv c0_i32_61 c1_i32 k1_t7
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v310 : Index := Scalar.indexCast v280
  ![3, v310.toNat]

def k1_chk140 (i : grid1.Coords) (v313 : IVec S16 32) : Prop :=
  (∀ (k1_h15 : k1_cond15 i = 1#1), ∀ a x, ((![v313] : Fin 1 → IVec S16 32) a x).toNat < S512.size a) ∧
  (∀ (k1_h15 : k1_cond15 i = 1#1), ∀ a x, ((![v313] : Fin 1 → IVec S16 32) a x).toNat < S512.size a)
theorem k1_idx279_inb : ∀ (i : grid1.Coords) (v313 : IVec S16 32) (k1_hw140 : k1_chk140 i v313), ∀ (k1_h15 : k1_cond15 i = 1#1), ∀ a x, ((![v313] : Fin 1 → IVec S16 32) a x).toNat < S512.size a := fun i v313 k1_hw140 k1_h15 => k1_hw140.1 k1_h15
theorem k1_idx280_inb : ∀ (i : grid1.Coords) (v313 : IVec S16 32) (k1_hw140 : k1_chk140 i v313), ∀ (k1_h15 : k1_cond15 i = 1#1), ∀ a x, ((![v313] : Fin 1 → IVec S16 32) a x).toNat < S512.size a := fun i v313 k1_hw140 k1_h15 => k1_hw140.2 k1_h15
def k1_cond16 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32_51 : BitVec 32 := 224#32
  let v111 : BitVec 32 := Scalar.addi v1 c224_i32_51
  let c250_i32_52 : BitVec 32 := 250#32
  let v112 : BitVec 1 := Scalar.cmpi .slt v111 c250_i32_52
  let v113 : BitVec 32 := Scalar.extui v112
  let c0_i32_53 : BitVec 32 := 0#32
  let v114 : BitVec 1 := Scalar.cmpi .ne v113 c0_i32_53
  v114

def k1_off199 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v49 : BitVec 32 := Scalar.addi v1 c224_i32
  let c400_i32_6 : BitVec 32 := 400#32
  let v50 : BitVec 32 := Scalar.muli v49 c400_i32_6
  ![v50.toNat]
@[reducible] def k1_t8_loop : Scf.Loop 32 :=
  let c0_i32_61 : BitVec 32 := 0#32
  let c5_i32 : BitVec 32 := 5#32
  let v121 : BitVec 32 := Scalar.addi c0_i32_61 c5_i32
  let c1_i32 : BitVec 32 := 1#32
  ⟨c0_i32_61, v121, c1_i32⟩
def k1_off200 (k1_t8 : Fin k1_t8_loop.trips) : Fin 1 → Nat :=
  let c0_i32_61 : BitVec 32 := 0#32
  let c1_i32 : BitVec 32 := 1#32
  let arg40 : BitVec 32 := Scf.iv c0_i32_61 c1_i32 k1_t8
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v125 : Index := Scalar.indexCast v124
  ![v125.toNat]
def k1_off201 (k1_t8 : Fin k1_t8_loop.trips) : Fin 2 → Nat :=
  let c0_i32_65 : BitVec 32 := 0#32
  let v129 : Index := Scalar.indexCast c0_i32_65
  let c0_i32_61 : BitVec 32 := 0#32
  let c1_i32 : BitVec 32 := 1#32
  let arg40 : BitVec 32 := Scf.iv c0_i32_61 c1_i32 k1_t8
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v130 : Index := Scalar.indexCast v124
  ![0, v130.toNat]

def k1_chk141 (i : grid1.Coords) (v133 : IVec S16 32) : Prop :=
  (∀ (k1_h16 : k1_cond16 i = 1#1), ∀ a x, ((![v133] : Fin 1 → IVec S16 32) a x).toNat < S512.size a) ∧
  (∀ (k1_h16 : k1_cond16 i = 1#1), ∀ a x, ((![v133] : Fin 1 → IVec S16 32) a x).toNat < S512.size a)
theorem k1_idx281_inb : ∀ (i : grid1.Coords) (v133 : IVec S16 32) (k1_hw141 : k1_chk141 i v133), ∀ (k1_h16 : k1_cond16 i = 1#1), ∀ a x, ((![v133] : Fin 1 → IVec S16 32) a x).toNat < S512.size a := fun i v133 k1_hw141 k1_h16 => k1_hw141.1 k1_h16
theorem k1_idx282_inb : ∀ (i : grid1.Coords) (v133 : IVec S16 32) (k1_hw141 : k1_chk141 i v133), ∀ (k1_h16 : k1_cond16 i = 1#1), ∀ a x, ((![v133] : Fin 1 → IVec S16 32) a x).toNat < S512.size a := fun i v133 k1_hw141 k1_h16 => k1_hw141.2 k1_h16
def k1_off202 (k1_t8 : Fin k1_t8_loop.trips) : Fin 2 → Nat :=
  let c1_i32_67 : BitVec 32 := 1#32
  let v137 : Index := Scalar.indexCast c1_i32_67
  let c0_i32_61 : BitVec 32 := 0#32
  let c1_i32 : BitVec 32 := 1#32
  let arg40 : BitVec 32 := Scf.iv c0_i32_61 c1_i32 k1_t8
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v138 : Index := Scalar.indexCast v124
  ![1, v138.toNat]

def k1_chk142 (i : grid1.Coords) (v141 : IVec S16 32) : Prop :=
  (∀ (k1_h16 : k1_cond16 i = 1#1), ∀ a x, ((![v141] : Fin 1 → IVec S16 32) a x).toNat < S512.size a) ∧
  (∀ (k1_h16 : k1_cond16 i = 1#1), ∀ a x, ((![v141] : Fin 1 → IVec S16 32) a x).toNat < S512.size a)
theorem k1_idx283_inb : ∀ (i : grid1.Coords) (v141 : IVec S16 32) (k1_hw142 : k1_chk142 i v141), ∀ (k1_h16 : k1_cond16 i = 1#1), ∀ a x, ((![v141] : Fin 1 → IVec S16 32) a x).toNat < S512.size a := fun i v141 k1_hw142 k1_h16 => k1_hw142.1 k1_h16
theorem k1_idx284_inb : ∀ (i : grid1.Coords) (v141 : IVec S16 32) (k1_hw142 : k1_chk142 i v141), ∀ (k1_h16 : k1_cond16 i = 1#1), ∀ a x, ((![v141] : Fin 1 → IVec S16 32) a x).toNat < S512.size a := fun i v141 k1_hw142 k1_h16 => k1_hw142.2 k1_h16
def k1_off203 (k1_t8 : Fin k1_t8_loop.trips) : Fin 2 → Nat :=
  let c2_i32_69 : BitVec 32 := 2#32
  let v145 : Index := Scalar.indexCast c2_i32_69
  let c0_i32_61 : BitVec 32 := 0#32
  let c1_i32 : BitVec 32 := 1#32
  let arg40 : BitVec 32 := Scf.iv c0_i32_61 c1_i32 k1_t8
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v146 : Index := Scalar.indexCast v124
  ![2, v146.toNat]

def k1_chk143 (i : grid1.Coords) (v149 : IVec S16 32) : Prop :=
  (∀ (k1_h16 : k1_cond16 i = 1#1), ∀ a x, ((![v149] : Fin 1 → IVec S16 32) a x).toNat < S512.size a) ∧
  (∀ (k1_h16 : k1_cond16 i = 1#1), ∀ a x, ((![v149] : Fin 1 → IVec S16 32) a x).toNat < S512.size a)
theorem k1_idx285_inb : ∀ (i : grid1.Coords) (v149 : IVec S16 32) (k1_hw143 : k1_chk143 i v149), ∀ (k1_h16 : k1_cond16 i = 1#1), ∀ a x, ((![v149] : Fin 1 → IVec S16 32) a x).toNat < S512.size a := fun i v149 k1_hw143 k1_h16 => k1_hw143.1 k1_h16
theorem k1_idx286_inb : ∀ (i : grid1.Coords) (v149 : IVec S16 32) (k1_hw143 : k1_chk143 i v149), ∀ (k1_h16 : k1_cond16 i = 1#1), ∀ a x, ((![v149] : Fin 1 → IVec S16 32) a x).toNat < S512.size a := fun i v149 k1_hw143 k1_h16 => k1_hw143.2 k1_h16
def k1_off204 (k1_t8 : Fin k1_t8_loop.trips) : Fin 2 → Nat :=
  let c3_i32 : BitVec 32 := 3#32
  let v153 : Index := Scalar.indexCast c3_i32
  let c0_i32_61 : BitVec 32 := 0#32
  let c1_i32 : BitVec 32 := 1#32
  let arg40 : BitVec 32 := Scf.iv c0_i32_61 c1_i32 k1_t8
  let c5_i32_63 : BitVec 32 := 5#32
  let v122 : BitVec 32 := Scalar.muli arg40 c5_i32_63
  let c0_i32_64 : BitVec 32 := 0#32
  let v123 : BitVec 32 := Scalar.addi v122 c0_i32_64
  let c16_i32 : BitVec 32 := 16#32
  let v124 : BitVec 32 := Scalar.muli v123 c16_i32
  let v154 : Index := Scalar.indexCast v124
  ![3, v154.toNat]

def k1_chk144 (i : grid1.Coords) (v157 : IVec S16 32) : Prop :=
  (∀ (k1_h16 : k1_cond16 i = 1#1), ∀ a x, ((![v157] : Fin 1 → IVec S16 32) a x).toNat < S512.size a) ∧
  (∀ (k1_h16 : k1_cond16 i = 1#1), ∀ a x, ((![v157] : Fin 1 → IVec S16 32) a x).toNat < S512.size a)
theorem k1_idx287_inb : ∀ (i : grid1.Coords) (v157 : IVec S16 32) (k1_hw144 : k1_chk144 i v157), ∀ (k1_h16 : k1_cond16 i = 1#1), ∀ a x, ((![v157] : Fin 1 → IVec S16 32) a x).toNat < S512.size a := fun i v157 k1_hw144 k1_h16 => k1_hw144.1 k1_h16
theorem k1_idx288_inb : ∀ (i : grid1.Coords) (v157 : IVec S16 32) (k1_hw144 : k1_chk144 i v157), ∀ (k1_h16 : k1_cond16 i = 1#1), ∀ a x, ((![v157] : Fin 1 → IVec S16 32) a x).toNat < S512.size a := fun i v157 k1_hw144 k1_h16 => k1_hw144.2 k1_h16
def k1_off205 (k1_t8 : Fin k1_t8_loop.trips) : Fin 1 → Nat :=
  let c0_i32_61 : BitVec 32 := 0#32
  let c1_i32 : BitVec 32 := 1#32
  let arg40 : BitVec 32 := Scf.iv c0_i32_61 c1_i32 k1_t8
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v164 : Index := Scalar.indexCast v163
  ![v164.toNat]
def k1_off206 (k1_t8 : Fin k1_t8_loop.trips) : Fin 2 → Nat :=
  let c0_i32_76 : BitVec 32 := 0#32
  let v168 : Index := Scalar.indexCast c0_i32_76
  let c0_i32_61 : BitVec 32 := 0#32
  let c1_i32 : BitVec 32 := 1#32
  let arg40 : BitVec 32 := Scf.iv c0_i32_61 c1_i32 k1_t8
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v169 : Index := Scalar.indexCast v163
  ![0, v169.toNat]

def k1_chk145 (i : grid1.Coords) (v172 : IVec S16 32) : Prop :=
  (∀ (k1_h16 : k1_cond16 i = 1#1), ∀ a x, ((![v172] : Fin 1 → IVec S16 32) a x).toNat < S512.size a) ∧
  (∀ (k1_h16 : k1_cond16 i = 1#1), ∀ a x, ((![v172] : Fin 1 → IVec S16 32) a x).toNat < S512.size a)
theorem k1_idx289_inb : ∀ (i : grid1.Coords) (v172 : IVec S16 32) (k1_hw145 : k1_chk145 i v172), ∀ (k1_h16 : k1_cond16 i = 1#1), ∀ a x, ((![v172] : Fin 1 → IVec S16 32) a x).toNat < S512.size a := fun i v172 k1_hw145 k1_h16 => k1_hw145.1 k1_h16
theorem k1_idx290_inb : ∀ (i : grid1.Coords) (v172 : IVec S16 32) (k1_hw145 : k1_chk145 i v172), ∀ (k1_h16 : k1_cond16 i = 1#1), ∀ a x, ((![v172] : Fin 1 → IVec S16 32) a x).toNat < S512.size a := fun i v172 k1_hw145 k1_h16 => k1_hw145.2 k1_h16
def k1_off207 (k1_t8 : Fin k1_t8_loop.trips) : Fin 2 → Nat :=
  let c1_i32_78 : BitVec 32 := 1#32
  let v176 : Index := Scalar.indexCast c1_i32_78
  let c0_i32_61 : BitVec 32 := 0#32
  let c1_i32 : BitVec 32 := 1#32
  let arg40 : BitVec 32 := Scf.iv c0_i32_61 c1_i32 k1_t8
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v177 : Index := Scalar.indexCast v163
  ![1, v177.toNat]

def k1_chk146 (i : grid1.Coords) (v180 : IVec S16 32) : Prop :=
  (∀ (k1_h16 : k1_cond16 i = 1#1), ∀ a x, ((![v180] : Fin 1 → IVec S16 32) a x).toNat < S512.size a) ∧
  (∀ (k1_h16 : k1_cond16 i = 1#1), ∀ a x, ((![v180] : Fin 1 → IVec S16 32) a x).toNat < S512.size a)
theorem k1_idx291_inb : ∀ (i : grid1.Coords) (v180 : IVec S16 32) (k1_hw146 : k1_chk146 i v180), ∀ (k1_h16 : k1_cond16 i = 1#1), ∀ a x, ((![v180] : Fin 1 → IVec S16 32) a x).toNat < S512.size a := fun i v180 k1_hw146 k1_h16 => k1_hw146.1 k1_h16
theorem k1_idx292_inb : ∀ (i : grid1.Coords) (v180 : IVec S16 32) (k1_hw146 : k1_chk146 i v180), ∀ (k1_h16 : k1_cond16 i = 1#1), ∀ a x, ((![v180] : Fin 1 → IVec S16 32) a x).toNat < S512.size a := fun i v180 k1_hw146 k1_h16 => k1_hw146.2 k1_h16
def k1_off208 (k1_t8 : Fin k1_t8_loop.trips) : Fin 2 → Nat :=
  let c2_i32_80 : BitVec 32 := 2#32
  let v184 : Index := Scalar.indexCast c2_i32_80
  let c0_i32_61 : BitVec 32 := 0#32
  let c1_i32 : BitVec 32 := 1#32
  let arg40 : BitVec 32 := Scf.iv c0_i32_61 c1_i32 k1_t8
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v185 : Index := Scalar.indexCast v163
  ![2, v185.toNat]

def k1_chk147 (i : grid1.Coords) (v188 : IVec S16 32) : Prop :=
  (∀ (k1_h16 : k1_cond16 i = 1#1), ∀ a x, ((![v188] : Fin 1 → IVec S16 32) a x).toNat < S512.size a) ∧
  (∀ (k1_h16 : k1_cond16 i = 1#1), ∀ a x, ((![v188] : Fin 1 → IVec S16 32) a x).toNat < S512.size a)
theorem k1_idx293_inb : ∀ (i : grid1.Coords) (v188 : IVec S16 32) (k1_hw147 : k1_chk147 i v188), ∀ (k1_h16 : k1_cond16 i = 1#1), ∀ a x, ((![v188] : Fin 1 → IVec S16 32) a x).toNat < S512.size a := fun i v188 k1_hw147 k1_h16 => k1_hw147.1 k1_h16
theorem k1_idx294_inb : ∀ (i : grid1.Coords) (v188 : IVec S16 32) (k1_hw147 : k1_chk147 i v188), ∀ (k1_h16 : k1_cond16 i = 1#1), ∀ a x, ((![v188] : Fin 1 → IVec S16 32) a x).toNat < S512.size a := fun i v188 k1_hw147 k1_h16 => k1_hw147.2 k1_h16
def k1_off209 (k1_t8 : Fin k1_t8_loop.trips) : Fin 2 → Nat :=
  let c3_i32_82 : BitVec 32 := 3#32
  let v192 : Index := Scalar.indexCast c3_i32_82
  let c0_i32_61 : BitVec 32 := 0#32
  let c1_i32 : BitVec 32 := 1#32
  let arg40 : BitVec 32 := Scf.iv c0_i32_61 c1_i32 k1_t8
  let c5_i32_72 : BitVec 32 := 5#32
  let v161 : BitVec 32 := Scalar.muli arg40 c5_i32_72
  let c1_i32_73 : BitVec 32 := 1#32
  let v162 : BitVec 32 := Scalar.addi v161 c1_i32_73
  let c16_i32_74 : BitVec 32 := 16#32
  let v163 : BitVec 32 := Scalar.muli v162 c16_i32_74
  let v193 : Index := Scalar.indexCast v163
  ![3, v193.toNat]

def k1_chk148 (i : grid1.Coords) (v196 : IVec S16 32) : Prop :=
  (∀ (k1_h16 : k1_cond16 i = 1#1), ∀ a x, ((![v196] : Fin 1 → IVec S16 32) a x).toNat < S512.size a) ∧
  (∀ (k1_h16 : k1_cond16 i = 1#1), ∀ a x, ((![v196] : Fin 1 → IVec S16 32) a x).toNat < S512.size a)
theorem k1_idx295_inb : ∀ (i : grid1.Coords) (v196 : IVec S16 32) (k1_hw148 : k1_chk148 i v196), ∀ (k1_h16 : k1_cond16 i = 1#1), ∀ a x, ((![v196] : Fin 1 → IVec S16 32) a x).toNat < S512.size a := fun i v196 k1_hw148 k1_h16 => k1_hw148.1 k1_h16
theorem k1_idx296_inb : ∀ (i : grid1.Coords) (v196 : IVec S16 32) (k1_hw148 : k1_chk148 i v196), ∀ (k1_h16 : k1_cond16 i = 1#1), ∀ a x, ((![v196] : Fin 1 → IVec S16 32) a x).toNat < S512.size a := fun i v196 k1_hw148 k1_h16 => k1_hw148.2 k1_h16
def k1_off210 (k1_t8 : Fin k1_t8_loop.trips) : Fin 1 → Nat :=
  let c0_i32_61 : BitVec 32 := 0#32
  let c1_i32 : BitVec 32 := 1#32
  let arg40 : BitVec 32 := Scf.iv c0_i32_61 c1_i32 k1_t8
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v203 : Index := Scalar.indexCast v202
  ![v203.toNat]
def k1_off211 (k1_t8 : Fin k1_t8_loop.trips) : Fin 2 → Nat :=
  let c0_i32_88 : BitVec 32 := 0#32
  let v207 : Index := Scalar.indexCast c0_i32_88
  let c0_i32_61 : BitVec 32 := 0#32
  let c1_i32 : BitVec 32 := 1#32
  let arg40 : BitVec 32 := Scf.iv c0_i32_61 c1_i32 k1_t8
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v208 : Index := Scalar.indexCast v202
  ![0, v208.toNat]

def k1_chk149 (i : grid1.Coords) (v211 : IVec S16 32) : Prop :=
  (∀ (k1_h16 : k1_cond16 i = 1#1), ∀ a x, ((![v211] : Fin 1 → IVec S16 32) a x).toNat < S512.size a) ∧
  (∀ (k1_h16 : k1_cond16 i = 1#1), ∀ a x, ((![v211] : Fin 1 → IVec S16 32) a x).toNat < S512.size a)
theorem k1_idx297_inb : ∀ (i : grid1.Coords) (v211 : IVec S16 32) (k1_hw149 : k1_chk149 i v211), ∀ (k1_h16 : k1_cond16 i = 1#1), ∀ a x, ((![v211] : Fin 1 → IVec S16 32) a x).toNat < S512.size a := fun i v211 k1_hw149 k1_h16 => k1_hw149.1 k1_h16
theorem k1_idx298_inb : ∀ (i : grid1.Coords) (v211 : IVec S16 32) (k1_hw149 : k1_chk149 i v211), ∀ (k1_h16 : k1_cond16 i = 1#1), ∀ a x, ((![v211] : Fin 1 → IVec S16 32) a x).toNat < S512.size a := fun i v211 k1_hw149 k1_h16 => k1_hw149.2 k1_h16
def k1_off212 (k1_t8 : Fin k1_t8_loop.trips) : Fin 2 → Nat :=
  let c1_i32_90 : BitVec 32 := 1#32
  let v215 : Index := Scalar.indexCast c1_i32_90
  let c0_i32_61 : BitVec 32 := 0#32
  let c1_i32 : BitVec 32 := 1#32
  let arg40 : BitVec 32 := Scf.iv c0_i32_61 c1_i32 k1_t8
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v216 : Index := Scalar.indexCast v202
  ![1, v216.toNat]

def k1_chk150 (i : grid1.Coords) (v219 : IVec S16 32) : Prop :=
  (∀ (k1_h16 : k1_cond16 i = 1#1), ∀ a x, ((![v219] : Fin 1 → IVec S16 32) a x).toNat < S512.size a) ∧
  (∀ (k1_h16 : k1_cond16 i = 1#1), ∀ a x, ((![v219] : Fin 1 → IVec S16 32) a x).toNat < S512.size a)
theorem k1_idx299_inb : ∀ (i : grid1.Coords) (v219 : IVec S16 32) (k1_hw150 : k1_chk150 i v219), ∀ (k1_h16 : k1_cond16 i = 1#1), ∀ a x, ((![v219] : Fin 1 → IVec S16 32) a x).toNat < S512.size a := fun i v219 k1_hw150 k1_h16 => k1_hw150.1 k1_h16
theorem k1_idx300_inb : ∀ (i : grid1.Coords) (v219 : IVec S16 32) (k1_hw150 : k1_chk150 i v219), ∀ (k1_h16 : k1_cond16 i = 1#1), ∀ a x, ((![v219] : Fin 1 → IVec S16 32) a x).toNat < S512.size a := fun i v219 k1_hw150 k1_h16 => k1_hw150.2 k1_h16
def k1_off213 (k1_t8 : Fin k1_t8_loop.trips) : Fin 2 → Nat :=
  let c2_i32_92 : BitVec 32 := 2#32
  let v223 : Index := Scalar.indexCast c2_i32_92
  let c0_i32_61 : BitVec 32 := 0#32
  let c1_i32 : BitVec 32 := 1#32
  let arg40 : BitVec 32 := Scf.iv c0_i32_61 c1_i32 k1_t8
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v224 : Index := Scalar.indexCast v202
  ![2, v224.toNat]

def k1_chk151 (i : grid1.Coords) (v227 : IVec S16 32) : Prop :=
  (∀ (k1_h16 : k1_cond16 i = 1#1), ∀ a x, ((![v227] : Fin 1 → IVec S16 32) a x).toNat < S512.size a) ∧
  (∀ (k1_h16 : k1_cond16 i = 1#1), ∀ a x, ((![v227] : Fin 1 → IVec S16 32) a x).toNat < S512.size a)
theorem k1_idx301_inb : ∀ (i : grid1.Coords) (v227 : IVec S16 32) (k1_hw151 : k1_chk151 i v227), ∀ (k1_h16 : k1_cond16 i = 1#1), ∀ a x, ((![v227] : Fin 1 → IVec S16 32) a x).toNat < S512.size a := fun i v227 k1_hw151 k1_h16 => k1_hw151.1 k1_h16
theorem k1_idx302_inb : ∀ (i : grid1.Coords) (v227 : IVec S16 32) (k1_hw151 : k1_chk151 i v227), ∀ (k1_h16 : k1_cond16 i = 1#1), ∀ a x, ((![v227] : Fin 1 → IVec S16 32) a x).toNat < S512.size a := fun i v227 k1_hw151 k1_h16 => k1_hw151.2 k1_h16
def k1_off214 (k1_t8 : Fin k1_t8_loop.trips) : Fin 2 → Nat :=
  let c3_i32_94 : BitVec 32 := 3#32
  let v231 : Index := Scalar.indexCast c3_i32_94
  let c0_i32_61 : BitVec 32 := 0#32
  let c1_i32 : BitVec 32 := 1#32
  let arg40 : BitVec 32 := Scf.iv c0_i32_61 c1_i32 k1_t8
  let c5_i32_84 : BitVec 32 := 5#32
  let v200 : BitVec 32 := Scalar.muli arg40 c5_i32_84
  let c2_i32_85 : BitVec 32 := 2#32
  let v201 : BitVec 32 := Scalar.addi v200 c2_i32_85
  let c16_i32_86 : BitVec 32 := 16#32
  let v202 : BitVec 32 := Scalar.muli v201 c16_i32_86
  let v232 : Index := Scalar.indexCast v202
  ![3, v232.toNat]

def k1_chk152 (i : grid1.Coords) (v235 : IVec S16 32) : Prop :=
  (∀ (k1_h16 : k1_cond16 i = 1#1), ∀ a x, ((![v235] : Fin 1 → IVec S16 32) a x).toNat < S512.size a) ∧
  (∀ (k1_h16 : k1_cond16 i = 1#1), ∀ a x, ((![v235] : Fin 1 → IVec S16 32) a x).toNat < S512.size a)
theorem k1_idx303_inb : ∀ (i : grid1.Coords) (v235 : IVec S16 32) (k1_hw152 : k1_chk152 i v235), ∀ (k1_h16 : k1_cond16 i = 1#1), ∀ a x, ((![v235] : Fin 1 → IVec S16 32) a x).toNat < S512.size a := fun i v235 k1_hw152 k1_h16 => k1_hw152.1 k1_h16
theorem k1_idx304_inb : ∀ (i : grid1.Coords) (v235 : IVec S16 32) (k1_hw152 : k1_chk152 i v235), ∀ (k1_h16 : k1_cond16 i = 1#1), ∀ a x, ((![v235] : Fin 1 → IVec S16 32) a x).toNat < S512.size a := fun i v235 k1_hw152 k1_h16 => k1_hw152.2 k1_h16
def k1_off215 (k1_t8 : Fin k1_t8_loop.trips) : Fin 1 → Nat :=
  let c0_i32_61 : BitVec 32 := 0#32
  let c1_i32 : BitVec 32 := 1#32
  let arg40 : BitVec 32 := Scf.iv c0_i32_61 c1_i32 k1_t8
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v242 : Index := Scalar.indexCast v241
  ![v242.toNat]
def k1_off216 (k1_t8 : Fin k1_t8_loop.trips) : Fin 2 → Nat :=
  let c0_i32_100 : BitVec 32 := 0#32
  let v246 : Index := Scalar.indexCast c0_i32_100
  let c0_i32_61 : BitVec 32 := 0#32
  let c1_i32 : BitVec 32 := 1#32
  let arg40 : BitVec 32 := Scf.iv c0_i32_61 c1_i32 k1_t8
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v247 : Index := Scalar.indexCast v241
  ![0, v247.toNat]

def k1_chk153 (i : grid1.Coords) (v250 : IVec S16 32) : Prop :=
  (∀ (k1_h16 : k1_cond16 i = 1#1), ∀ a x, ((![v250] : Fin 1 → IVec S16 32) a x).toNat < S512.size a) ∧
  (∀ (k1_h16 : k1_cond16 i = 1#1), ∀ a x, ((![v250] : Fin 1 → IVec S16 32) a x).toNat < S512.size a)
theorem k1_idx305_inb : ∀ (i : grid1.Coords) (v250 : IVec S16 32) (k1_hw153 : k1_chk153 i v250), ∀ (k1_h16 : k1_cond16 i = 1#1), ∀ a x, ((![v250] : Fin 1 → IVec S16 32) a x).toNat < S512.size a := fun i v250 k1_hw153 k1_h16 => k1_hw153.1 k1_h16
theorem k1_idx306_inb : ∀ (i : grid1.Coords) (v250 : IVec S16 32) (k1_hw153 : k1_chk153 i v250), ∀ (k1_h16 : k1_cond16 i = 1#1), ∀ a x, ((![v250] : Fin 1 → IVec S16 32) a x).toNat < S512.size a := fun i v250 k1_hw153 k1_h16 => k1_hw153.2 k1_h16
def k1_off217 (k1_t8 : Fin k1_t8_loop.trips) : Fin 2 → Nat :=
  let c1_i32_102 : BitVec 32 := 1#32
  let v254 : Index := Scalar.indexCast c1_i32_102
  let c0_i32_61 : BitVec 32 := 0#32
  let c1_i32 : BitVec 32 := 1#32
  let arg40 : BitVec 32 := Scf.iv c0_i32_61 c1_i32 k1_t8
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v255 : Index := Scalar.indexCast v241
  ![1, v255.toNat]

def k1_chk154 (i : grid1.Coords) (v258 : IVec S16 32) : Prop :=
  (∀ (k1_h16 : k1_cond16 i = 1#1), ∀ a x, ((![v258] : Fin 1 → IVec S16 32) a x).toNat < S512.size a) ∧
  (∀ (k1_h16 : k1_cond16 i = 1#1), ∀ a x, ((![v258] : Fin 1 → IVec S16 32) a x).toNat < S512.size a)
theorem k1_idx307_inb : ∀ (i : grid1.Coords) (v258 : IVec S16 32) (k1_hw154 : k1_chk154 i v258), ∀ (k1_h16 : k1_cond16 i = 1#1), ∀ a x, ((![v258] : Fin 1 → IVec S16 32) a x).toNat < S512.size a := fun i v258 k1_hw154 k1_h16 => k1_hw154.1 k1_h16
theorem k1_idx308_inb : ∀ (i : grid1.Coords) (v258 : IVec S16 32) (k1_hw154 : k1_chk154 i v258), ∀ (k1_h16 : k1_cond16 i = 1#1), ∀ a x, ((![v258] : Fin 1 → IVec S16 32) a x).toNat < S512.size a := fun i v258 k1_hw154 k1_h16 => k1_hw154.2 k1_h16
def k1_off218 (k1_t8 : Fin k1_t8_loop.trips) : Fin 2 → Nat :=
  let c2_i32_104 : BitVec 32 := 2#32
  let v262 : Index := Scalar.indexCast c2_i32_104
  let c0_i32_61 : BitVec 32 := 0#32
  let c1_i32 : BitVec 32 := 1#32
  let arg40 : BitVec 32 := Scf.iv c0_i32_61 c1_i32 k1_t8
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v263 : Index := Scalar.indexCast v241
  ![2, v263.toNat]

def k1_chk155 (i : grid1.Coords) (v266 : IVec S16 32) : Prop :=
  (∀ (k1_h16 : k1_cond16 i = 1#1), ∀ a x, ((![v266] : Fin 1 → IVec S16 32) a x).toNat < S512.size a) ∧
  (∀ (k1_h16 : k1_cond16 i = 1#1), ∀ a x, ((![v266] : Fin 1 → IVec S16 32) a x).toNat < S512.size a)
theorem k1_idx309_inb : ∀ (i : grid1.Coords) (v266 : IVec S16 32) (k1_hw155 : k1_chk155 i v266), ∀ (k1_h16 : k1_cond16 i = 1#1), ∀ a x, ((![v266] : Fin 1 → IVec S16 32) a x).toNat < S512.size a := fun i v266 k1_hw155 k1_h16 => k1_hw155.1 k1_h16
theorem k1_idx310_inb : ∀ (i : grid1.Coords) (v266 : IVec S16 32) (k1_hw155 : k1_chk155 i v266), ∀ (k1_h16 : k1_cond16 i = 1#1), ∀ a x, ((![v266] : Fin 1 → IVec S16 32) a x).toNat < S512.size a := fun i v266 k1_hw155 k1_h16 => k1_hw155.2 k1_h16
def k1_off219 (k1_t8 : Fin k1_t8_loop.trips) : Fin 2 → Nat :=
  let c3_i32_106 : BitVec 32 := 3#32
  let v270 : Index := Scalar.indexCast c3_i32_106
  let c0_i32_61 : BitVec 32 := 0#32
  let c1_i32 : BitVec 32 := 1#32
  let arg40 : BitVec 32 := Scf.iv c0_i32_61 c1_i32 k1_t8
  let c5_i32_96 : BitVec 32 := 5#32
  let v239 : BitVec 32 := Scalar.muli arg40 c5_i32_96
  let c3_i32_97 : BitVec 32 := 3#32
  let v240 : BitVec 32 := Scalar.addi v239 c3_i32_97
  let c16_i32_98 : BitVec 32 := 16#32
  let v241 : BitVec 32 := Scalar.muli v240 c16_i32_98
  let v271 : Index := Scalar.indexCast v241
  ![3, v271.toNat]

def k1_chk156 (i : grid1.Coords) (v274 : IVec S16 32) : Prop :=
  (∀ (k1_h16 : k1_cond16 i = 1#1), ∀ a x, ((![v274] : Fin 1 → IVec S16 32) a x).toNat < S512.size a) ∧
  (∀ (k1_h16 : k1_cond16 i = 1#1), ∀ a x, ((![v274] : Fin 1 → IVec S16 32) a x).toNat < S512.size a)
theorem k1_idx311_inb : ∀ (i : grid1.Coords) (v274 : IVec S16 32) (k1_hw156 : k1_chk156 i v274), ∀ (k1_h16 : k1_cond16 i = 1#1), ∀ a x, ((![v274] : Fin 1 → IVec S16 32) a x).toNat < S512.size a := fun i v274 k1_hw156 k1_h16 => k1_hw156.1 k1_h16
theorem k1_idx312_inb : ∀ (i : grid1.Coords) (v274 : IVec S16 32) (k1_hw156 : k1_chk156 i v274), ∀ (k1_h16 : k1_cond16 i = 1#1), ∀ a x, ((![v274] : Fin 1 → IVec S16 32) a x).toNat < S512.size a := fun i v274 k1_hw156 k1_h16 => k1_hw156.2 k1_h16
def k1_off220 (k1_t8 : Fin k1_t8_loop.trips) : Fin 1 → Nat :=
  let c0_i32_61 : BitVec 32 := 0#32
  let c1_i32 : BitVec 32 := 1#32
  let arg40 : BitVec 32 := Scf.iv c0_i32_61 c1_i32 k1_t8
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v281 : Index := Scalar.indexCast v280
  ![v281.toNat]
def k1_off221 (k1_t8 : Fin k1_t8_loop.trips) : Fin 2 → Nat :=
  let c0_i32_111 : BitVec 32 := 0#32
  let v285 : Index := Scalar.indexCast c0_i32_111
  let c0_i32_61 : BitVec 32 := 0#32
  let c1_i32 : BitVec 32 := 1#32
  let arg40 : BitVec 32 := Scf.iv c0_i32_61 c1_i32 k1_t8
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v286 : Index := Scalar.indexCast v280
  ![0, v286.toNat]

def k1_chk157 (i : grid1.Coords) (v289 : IVec S16 32) : Prop :=
  (∀ (k1_h16 : k1_cond16 i = 1#1), ∀ a x, ((![v289] : Fin 1 → IVec S16 32) a x).toNat < S512.size a) ∧
  (∀ (k1_h16 : k1_cond16 i = 1#1), ∀ a x, ((![v289] : Fin 1 → IVec S16 32) a x).toNat < S512.size a)
theorem k1_idx313_inb : ∀ (i : grid1.Coords) (v289 : IVec S16 32) (k1_hw157 : k1_chk157 i v289), ∀ (k1_h16 : k1_cond16 i = 1#1), ∀ a x, ((![v289] : Fin 1 → IVec S16 32) a x).toNat < S512.size a := fun i v289 k1_hw157 k1_h16 => k1_hw157.1 k1_h16
theorem k1_idx314_inb : ∀ (i : grid1.Coords) (v289 : IVec S16 32) (k1_hw157 : k1_chk157 i v289), ∀ (k1_h16 : k1_cond16 i = 1#1), ∀ a x, ((![v289] : Fin 1 → IVec S16 32) a x).toNat < S512.size a := fun i v289 k1_hw157 k1_h16 => k1_hw157.2 k1_h16
def k1_off222 (k1_t8 : Fin k1_t8_loop.trips) : Fin 2 → Nat :=
  let c1_i32_113 : BitVec 32 := 1#32
  let v293 : Index := Scalar.indexCast c1_i32_113
  let c0_i32_61 : BitVec 32 := 0#32
  let c1_i32 : BitVec 32 := 1#32
  let arg40 : BitVec 32 := Scf.iv c0_i32_61 c1_i32 k1_t8
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v294 : Index := Scalar.indexCast v280
  ![1, v294.toNat]

def k1_chk158 (i : grid1.Coords) (v297 : IVec S16 32) : Prop :=
  (∀ (k1_h16 : k1_cond16 i = 1#1), ∀ a x, ((![v297] : Fin 1 → IVec S16 32) a x).toNat < S512.size a) ∧
  (∀ (k1_h16 : k1_cond16 i = 1#1), ∀ a x, ((![v297] : Fin 1 → IVec S16 32) a x).toNat < S512.size a)
theorem k1_idx315_inb : ∀ (i : grid1.Coords) (v297 : IVec S16 32) (k1_hw158 : k1_chk158 i v297), ∀ (k1_h16 : k1_cond16 i = 1#1), ∀ a x, ((![v297] : Fin 1 → IVec S16 32) a x).toNat < S512.size a := fun i v297 k1_hw158 k1_h16 => k1_hw158.1 k1_h16
theorem k1_idx316_inb : ∀ (i : grid1.Coords) (v297 : IVec S16 32) (k1_hw158 : k1_chk158 i v297), ∀ (k1_h16 : k1_cond16 i = 1#1), ∀ a x, ((![v297] : Fin 1 → IVec S16 32) a x).toNat < S512.size a := fun i v297 k1_hw158 k1_h16 => k1_hw158.2 k1_h16
def k1_off223 (k1_t8 : Fin k1_t8_loop.trips) : Fin 2 → Nat :=
  let c2_i32_115 : BitVec 32 := 2#32
  let v301 : Index := Scalar.indexCast c2_i32_115
  let c0_i32_61 : BitVec 32 := 0#32
  let c1_i32 : BitVec 32 := 1#32
  let arg40 : BitVec 32 := Scf.iv c0_i32_61 c1_i32 k1_t8
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v302 : Index := Scalar.indexCast v280
  ![2, v302.toNat]

def k1_chk159 (i : grid1.Coords) (v305 : IVec S16 32) : Prop :=
  (∀ (k1_h16 : k1_cond16 i = 1#1), ∀ a x, ((![v305] : Fin 1 → IVec S16 32) a x).toNat < S512.size a) ∧
  (∀ (k1_h16 : k1_cond16 i = 1#1), ∀ a x, ((![v305] : Fin 1 → IVec S16 32) a x).toNat < S512.size a)
theorem k1_idx317_inb : ∀ (i : grid1.Coords) (v305 : IVec S16 32) (k1_hw159 : k1_chk159 i v305), ∀ (k1_h16 : k1_cond16 i = 1#1), ∀ a x, ((![v305] : Fin 1 → IVec S16 32) a x).toNat < S512.size a := fun i v305 k1_hw159 k1_h16 => k1_hw159.1 k1_h16
theorem k1_idx318_inb : ∀ (i : grid1.Coords) (v305 : IVec S16 32) (k1_hw159 : k1_chk159 i v305), ∀ (k1_h16 : k1_cond16 i = 1#1), ∀ a x, ((![v305] : Fin 1 → IVec S16 32) a x).toNat < S512.size a := fun i v305 k1_hw159 k1_h16 => k1_hw159.2 k1_h16
def k1_off224 (k1_t8 : Fin k1_t8_loop.trips) : Fin 2 → Nat :=
  let c3_i32_117 : BitVec 32 := 3#32
  let v309 : Index := Scalar.indexCast c3_i32_117
  let c0_i32_61 : BitVec 32 := 0#32
  let c1_i32 : BitVec 32 := 1#32
  let arg40 : BitVec 32 := Scf.iv c0_i32_61 c1_i32 k1_t8
  let c5_i32_108 : BitVec 32 := 5#32
  let v278 : BitVec 32 := Scalar.muli arg40 c5_i32_108
  let c4_i32 : BitVec 32 := 4#32
  let v279 : BitVec 32 := Scalar.addi v278 c4_i32
  let c16_i32_109 : BitVec 32 := 16#32
  let v280 : BitVec 32 := Scalar.muli v279 c16_i32_109
  let v310 : Index := Scalar.indexCast v280
  ![3, v310.toNat]

def k1_chk160 (i : grid1.Coords) (v313 : IVec S16 32) : Prop :=
  (∀ (k1_h16 : k1_cond16 i = 1#1), ∀ a x, ((![v313] : Fin 1 → IVec S16 32) a x).toNat < S512.size a) ∧
  (∀ (k1_h16 : k1_cond16 i = 1#1), ∀ a x, ((![v313] : Fin 1 → IVec S16 32) a x).toNat < S512.size a)
theorem k1_idx319_inb : ∀ (i : grid1.Coords) (v313 : IVec S16 32) (k1_hw160 : k1_chk160 i v313), ∀ (k1_h16 : k1_cond16 i = 1#1), ∀ a x, ((![v313] : Fin 1 → IVec S16 32) a x).toNat < S512.size a := fun i v313 k1_hw160 k1_h16 => k1_hw160.1 k1_h16
theorem k1_idx320_inb : ∀ (i : grid1.Coords) (v313 : IVec S16 32) (k1_hw160 : k1_chk160 i v313), ∀ (k1_h16 : k1_cond16 i = 1#1), ∀ a x, ((![v313] : Fin 1 → IVec S16 32) a x).toNat < S512.size a := fun i v313 k1_hw160 k1_h16 => k1_hw160.2 k1_h16
def k1_off225 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_54_r1 : BitVec 32 := 0#32
  ![v1.toNat, 0]
abbrev grid2 : Pipeline.Grid := ⟨1, ![50], ![false]⟩

def k2_cond1 (i : grid2.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_12 : BitVec 32 := 0#32
  let v25 : BitVec 1 := Scalar.cmpi .ne v24 c0_i32_12
  v25

def k2_cond2 (i : grid2.Coords) : BitVec 1 :=
  let arg0 : BitVec 32 := BitVec.ofNat 32 (i 0).val
  let c0_i32_13 : BitVec 32 := 0#32
  let v26 : BitVec 1 := Scalar.cmpi .sgt arg0 c0_i32_13
  let v27 : BitVec 32 := Scalar.extui v26
  let c0_i32_14 : BitVec 32 := 0#32
  let v28 : BitVec 1 := Scalar.cmpi .ne v27 c0_i32_14
  v28

def k2_cond3 (i : grid2.Coords) : BitVec 1 :=
  let arg0 : BitVec 32 := BitVec.ofNat 32 (i 0).val
  let c0_i32_18 : BitVec 32 := 0#32
  let v34 : BitVec 1 := Scalar.cmpi .eq arg0 c0_i32_18
  let v35 : BitVec 32 := Scalar.extui v34
  let c0_i32_19 : BitVec 32 := 0#32
  let v36 : BitVec 1 := Scalar.cmpi .ne v35 c0_i32_19
  v36

def k2_cond4 (i : grid2.Coords) : BitVec 1 :=
  let arg0 : BitVec 32 := BitVec.ofNat 32 (i 0).val
  let c0_i32_20 : BitVec 32 := 0#32
  let v37 : BitVec 1 := Scalar.cmpi .sgt arg0 c0_i32_20
  let v38 : BitVec 32 := Scalar.extui v37
  let c0_i32_21 : BitVec 32 := 0#32
  let v39 : BitVec 1 := Scalar.cmpi .ne v38 c0_i32_21
  v39

def k2_cond5 (i : grid2.Coords) : BitVec 1 :=
  let arg0 : BitVec 32 := BitVec.ofNat 32 (i 0).val
  let c0_i32_25 : BitVec 32 := 0#32
  let v45 : BitVec 1 := Scalar.cmpi .eq arg0 c0_i32_25
  let v46 : BitVec 32 := Scalar.extui v45
  let c0_i32_26 : BitVec 32 := 0#32
  let v47 : BitVec 1 := Scalar.cmpi .ne v46 c0_i32_26
  v47

def k2_cond6 (i : grid2.Coords) : BitVec 1 :=
  let arg0 : BitVec 32 := BitVec.ofNat 32 (i 0).val
  let c0_i32_27 : BitVec 32 := 0#32
  let v48 : BitVec 1 := Scalar.cmpi .sgt arg0 c0_i32_27
  let v49 : BitVec 32 := Scalar.extui v48
  let c0_i32_28 : BitVec 32 := 0#32
  let v50 : BitVec 1 := Scalar.cmpi .ne v49 c0_i32_28
  v50

def k2_cond7 (i : grid2.Coords) : BitVec 1 :=
  let arg0 : BitVec 32 := BitVec.ofNat 32 (i 0).val
  let c0_i32_32 : BitVec 32 := 0#32
  let v56 : BitVec 1 := Scalar.cmpi .eq arg0 c0_i32_32
  let v57 : BitVec 32 := Scalar.extui v56
  let c0_i32_33 : BitVec 32 := 0#32
  let v58 : BitVec 1 := Scalar.cmpi .ne v57 c0_i32_33
  v58

def k2_cond8 (i : grid2.Coords) : BitVec 1 :=
  let arg0 : BitVec 32 := BitVec.ofNat 32 (i 0).val
  let c0_i32_34 : BitVec 32 := 0#32
  let v59 : BitVec 1 := Scalar.cmpi .sgt arg0 c0_i32_34
  let v60 : BitVec 32 := Scalar.extui v59
  let c0_i32_35 : BitVec 32 := 0#32
  let v61 : BitVec 1 := Scalar.cmpi .ne v60 c0_i32_35
  v61

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x2000 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x8x2000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4x64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := .none

abbrev stage3_0 : Fin 1 → Memref sig .tc .vmem S4x64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S32x64x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S4x128x16 : Shape := ⟨3, ![4, 128, 16]⟩
abbrev S4x16 : Shape := ⟨2, ![4, 16]⟩
abbrev S4x16x1 : Shape := ⟨3, ![4, 16, 1]⟩
abbrev S4x1 : Shape := ⟨2, ![4, 1]⟩
abbrev S100000x1 : Shape := ⟨2, ![100000, 1]⟩
abbrev S64 : Shape := ⟨1, ![64]⟩
abbrev S1x64 : Shape := ⟨2, ![1, 64]⟩
abbrev S100000x64 : Shape := ⟨2, ![100000, 64]⟩
abbrev S1x128x16 : Shape := ⟨3, ![1, 128, 16]⟩
abbrev S128x16 : Shape := ⟨2, ![128, 16]⟩
abbrev S100000x16 : Shape := ⟨2, ![100000, 16]⟩
abbrev S1x16 : Shape := ⟨2, ![1, 16]⟩
abbrev S16 : Shape := ⟨1, ![16]⟩
abbrev S_ : Shape := ⟨0, ![]⟩
abbrev S1x16x1 : Shape := ⟨3, ![1, 16, 1]⟩
abbrev S16x1 : Shape := ⟨2, ![16, 1]⟩
abbrev S1x1 : Shape := ⟨2, ![1, 1]⟩
abbrev S1 : Shape := ⟨1, ![1]⟩
abbrev S64x128 : Shape := ⟨2, ![64, 128]⟩
abbrev S1x64x128 : Shape := ⟨3, ![1, 64, 128]⟩
abbrev S4x64x128 : Shape := ⟨3, ![4, 64, 128]⟩

abbrev nBuf : Space → Nat
  | .hbm => 294
  | .vmem => 0
  | .smem => 0
  | _ => 0

abbrev hbmTy0_0 (i : Nat) : BufTy := match i % 128 with
  | 0 => ⟨S100000x128, .f32⟩
  | 1 => ⟨S100000, .i32⟩
  | 2 => ⟨S4x128x16, .f32⟩
  | 3 => ⟨S4x16, .f32⟩
  | 4 => ⟨S4x16x1, .f32⟩
  | 5 => ⟨S4x1, .f32⟩
  | 6 => ⟨S100000x1, .i32⟩
  | 7 => ⟨S64, .i32⟩
  | 8 => ⟨S1x64, .i32⟩
  | 9 => ⟨S100000x64, .i32⟩
  | 10 => ⟨S100000x64, .i32⟩
  | 11 => ⟨S100000x64, .i1⟩
  | 12 => ⟨S1x128x16, .f32⟩
  | 13 => ⟨S128x16, .f32⟩
  | 14 => ⟨S100000x16, .f32⟩
  | 15 => ⟨S1x16, .f32⟩
  | 16 => ⟨S16, .f32⟩
  | 17 => ⟨S1x16, .f32⟩
  | 18 => ⟨S100000x16, .f32⟩
  | 19 => ⟨S100000x16, .f32⟩
  | 20 => ⟨S_, .f32⟩
  | 21 => ⟨S100000x16, .f32⟩
  | 22 => ⟨S100000x16, .f32⟩
  | 23 => ⟨S1x16x1, .f32⟩
  | 24 => ⟨S16x1, .f32⟩
  | 25 => ⟨S100000x1, .f32⟩
  | 26 => ⟨S1x1, .f32⟩
  | 27 => ⟨S1, .f32⟩
  | 28 => ⟨S1x1, .f32⟩
  | 29 => ⟨S100000x1, .f32⟩
  | 30 => ⟨S100000x1, .f32⟩
  | 31 => ⟨S100000, .f32⟩
  | 32 => ⟨S100000x1, .f32⟩
  | 33 => ⟨S_, .f32⟩
  | 34 => ⟨S_, .f32⟩
  | 35 => ⟨S100000x64, .f32⟩
  | 36 => ⟨S100000x64, .f32⟩
  | 37 => ⟨S100000x64, .f32⟩
  | 38 => ⟨S_, .f32⟩
  | 39 => ⟨S64, .f32⟩
  | 40 => ⟨S64, .f32⟩
  | 41 => ⟨S_, .f32⟩
  | 42 => ⟨S64, .f32⟩
  | 43 => ⟨S64, .i1⟩
  | 44 => ⟨S_, .f32⟩
  | 45 => ⟨S_, .f32⟩
  | 46 => ⟨S64, .f32⟩
  | 47 => ⟨S64, .f32⟩
  | 48 => ⟨S_, .i32⟩
  | 49 => ⟨S100000, .i32⟩
  | 50 => ⟨S100000, .i1⟩
  | 51 => ⟨S_, .i32⟩
  | 52 => ⟨S100000, .i32⟩
  | 53 => ⟨S100000, .i32⟩
  | 54 => ⟨S100000, .i32⟩
  | 55 => ⟨S100000x1, .i32⟩
  | 56 => ⟨S100000, .f32⟩
  | 57 => ⟨S100000, .f32⟩
  | 58 => ⟨S100000, .f32⟩
  | 59 => ⟨S_, .f32⟩
  | 60 => ⟨S64, .f32⟩
  | 61 => ⟨S100000x1, .i32⟩
  | 62 => ⟨S64, .f32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S100000, .f32⟩
  | 72 => ⟨S100000, .f32⟩
  | 73 => ⟨S100000x1, .f32⟩
  | 74 => ⟨S100000x128, .f32⟩
  | 75 => ⟨S100000x128, .f32⟩
  | 76 => ⟨S_, .f32⟩
  | 77 => ⟨S64x128, .f32⟩
  | 78 => ⟨S100000x1, .i32⟩
  | 79 => ⟨S64x128, .f32⟩
  | 80 => ⟨S1x128x16, .f32⟩
  | 81 => ⟨S128x16, .f32⟩
  | 82 => ⟨S100000x16, .f32⟩
  | 83 => ⟨S1x16, .f32⟩
  | 84 => ⟨S16, .f32⟩
  | 85 => ⟨S1x16, .f32⟩
  | 86 => ⟨S100000x16, .f32⟩
  | 87 => ⟨S100000x16, .f32⟩
  | 88 => ⟨S_, .f32⟩
  | 89 => ⟨S100000x16, .f32⟩
  | 90 => ⟨S100000x16, .f32⟩
  | 91 => ⟨S1x16x1, .f32⟩
  | 92 => ⟨S16x1, .f32⟩
  | 93 => ⟨S100000x1, .f32⟩
  | 94 => ⟨S1x1, .f32⟩
  | 95 => ⟨S1, .f32⟩
  | 96 => ⟨S1x1, .f32⟩
  | 97 => ⟨S100000x1, .f32⟩
  | 98 => ⟨S100000x1, .f32⟩
  | 99 => ⟨S100000, .f32⟩
  | 100 => ⟨S100000x1, .f32⟩
  | 101 => ⟨S_, .f32⟩
  | 102 => ⟨S_, .f32⟩
  | 103 => ⟨S100000x64, .f32⟩
  | 104 => ⟨S100000x64, .f32⟩
  | 105 => ⟨S100000x64, .f32⟩
  | 106 => ⟨S_, .f32⟩
  | 107 => ⟨S64, .f32⟩
  | 108 => ⟨S64, .f32⟩
  | 109 => ⟨S_, .f32⟩
  | 110 => ⟨S64, .f32⟩
  | 111 => ⟨S64, .i1⟩
  | 112 => ⟨S_, .f32⟩
  | 113 => ⟨S_, .f32⟩
  | 114 => ⟨S64, .f32⟩
  | 115 => ⟨S64, .f32⟩
  | 116 => ⟨S_, .i32⟩
  | 117 => ⟨S100000, .i32⟩
  | 118 => ⟨S100000, .i1⟩
  | 119 => ⟨S_, .i32⟩
  | 120 => ⟨S100000, .i32⟩
  | 121 => ⟨S100000, .i32⟩
  | 122 => ⟨S100000, .i32⟩
  | 123 => ⟨S100000x1, .i32⟩
  | 124 => ⟨S100000, .f32⟩
  | 125 => ⟨S100000, .f32⟩
  | 126 => ⟨S100000, .f32⟩
  | 127 => ⟨S_, .f32⟩
  | _ => ⟨S100000x128, .f32⟩

abbrev hbmTy0_1 (i : Nat) : BufTy := match i % 128 with
  | 0 => ⟨S64, .f32⟩
  | 1 => ⟨S100000x1, .i32⟩
  | 2 => ⟨S64, .f32⟩
  | 3 => ⟨S_, .i32⟩
  | 4 => ⟨S100000, .i32⟩
  | 5 => ⟨S100000, .i1⟩
  | 6 => ⟨S_, .i32⟩
  | 7 => ⟨S100000, .i32⟩
  | 8 => ⟨S100000, .i32⟩
  | 9 => ⟨S100000, .i32⟩
  | 10 => ⟨S100000x1, .i32⟩
  | 11 => ⟨S100000, .f32⟩
  | 12 => ⟨S100000, .f32⟩
  | 13 => ⟨S100000x1, .f32⟩
  | 14 => ⟨S100000x128, .f32⟩
  | 15 => ⟨S100000x128, .f32⟩
  | 16 => ⟨S_, .f32⟩
  | 17 => ⟨S64x128, .f32⟩
  | 18 => ⟨S100000x1, .i32⟩
  | 19 => ⟨S64x128, .f32⟩
  | 20 => ⟨S1x128x16, .f32⟩
  | 21 => ⟨S128x16, .f32⟩
  | 22 => ⟨S100000x16, .f32⟩
  | 23 => ⟨S1x16, .f32⟩
  | 24 => ⟨S16, .f32⟩
  | 25 => ⟨S1x16, .f32⟩
  | 26 => ⟨S100000x16, .f32⟩
  | 27 => ⟨S100000x16, .f32⟩
  | 28 => ⟨S_, .f32⟩
  | 29 => ⟨S100000x16, .f32⟩
  | 30 => ⟨S100000x16, .f32⟩
  | 31 => ⟨S1x16x1, .f32⟩
  | 32 => ⟨S16x1, .f32⟩
  | 33 => ⟨S100000x1, .f32⟩
  | 34 => ⟨S1x1, .f32⟩
  | 35 => ⟨S1, .f32⟩
  | 36 => ⟨S1x1, .f32⟩
  | 37 => ⟨S100000x1, .f32⟩
  | 38 => ⟨S100000x1, .f32⟩
  | 39 => ⟨S100000, .f32⟩
  | 40 => ⟨S100000x1, .f32⟩
  | 41 => ⟨S_, .f32⟩
  | 42 => ⟨S_, .f32⟩
  | 43 => ⟨S100000x64, .f32⟩
  | 44 => ⟨S100000x64, .f32⟩
  | 45 => ⟨S100000x64, .f32⟩
  | 46 => ⟨S_, .f32⟩
  | 47 => ⟨S64, .f32⟩
  | 48 => ⟨S64, .f32⟩
  | 49 => ⟨S_, .f32⟩
  | 50 => ⟨S64, .f32⟩
  | 51 => ⟨S64, .i1⟩
  | 52 => ⟨S_, .f32⟩
  | 53 => ⟨S_, .f32⟩
  | 54 => ⟨S64, .f32⟩
  | 55 => ⟨S64, .f32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S100000, .f32⟩
  | 65 => ⟨S100000, .f32⟩
  | 66 => ⟨S100000, .f32⟩
  | 67 => ⟨S_, .f32⟩
  | 68 => ⟨S64, .f32⟩
  | 69 => ⟨S100000x1, .i32⟩
  | 70 => ⟨S64, .f32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S_, .f32⟩
  | 85 => ⟨S64x128, .f32⟩
  | 86 => ⟨S100000x1, .i32⟩
  | 87 => ⟨S64x128, .f32⟩
  | 88 => ⟨S1x128x16, .f32⟩
  | 89 => ⟨S128x16, .f32⟩
  | 90 => ⟨S100000x16, .f32⟩
  | 91 => ⟨S1x16, .f32⟩
  | 92 => ⟨S16, .f32⟩
  | 93 => ⟨S1x16, .f32⟩
  | 94 => ⟨S100000x16, .f32⟩
  | 95 => ⟨S100000x16, .f32⟩
  | 96 => ⟨S_, .f32⟩
  | 97 => ⟨S100000x16, .f32⟩
  | 98 => ⟨S100000x16, .f32⟩
  | 99 => ⟨S1x16x1, .f32⟩
  | 100 => ⟨S16x1, .f32⟩
  | 101 => ⟨S100000x1, .f32⟩
  | 102 => ⟨S1x1, .f32⟩
  | 103 => ⟨S1, .f32⟩
  | 104 => ⟨S1x1, .f32⟩
  | 105 => ⟨S100000x1, .f32⟩
  | 106 => ⟨S100000x1, .f32⟩
  | 107 => ⟨S100000, .f32⟩
  | 108 => ⟨S100000x1, .f32⟩
  | 109 => ⟨S_, .f32⟩
  | 110 => ⟨S_, .f32⟩
  | 111 => ⟨S100000x64, .f32⟩
  | 112 => ⟨S100000x64, .f32⟩
  | 113 => ⟨S100000x64, .f32⟩
  | 114 => ⟨S_, .f32⟩
  | 115 => ⟨S64, .f32⟩
  | 116 => ⟨S64, .f32⟩
  | 117 => ⟨S_, .f32⟩
  | 118 => ⟨S64, .f32⟩
  | 119 => ⟨S64, .i1⟩
  | 120 => ⟨S_, .f32⟩
  | 121 => ⟨S_, .f32⟩
  | 122 => ⟨S64, .f32⟩
  | 123 => ⟨S64, .f32⟩
  | 124 => ⟨S_, .i32⟩
  | 125 => ⟨S100000, .i32⟩
  | 126 => ⟨S100000, .i1⟩
  | 127 => ⟨S_, .i32⟩
  | _ => ⟨S100000x128, .f32⟩

abbrev hbmTy0_2 (i : Nat) : BufTy := match i % 128 with
  | 0 => ⟨S100000, .i32⟩
  | 1 => ⟨S100000, .i32⟩
  | 2 => ⟨S100000, .i32⟩
  | 3 => ⟨S100000x1, .i32⟩
  | 4 => ⟨S100000, .f32⟩
  | 5 => ⟨S100000, .f32⟩
  | 6 => ⟨S100000, .f32⟩
  | 7 => ⟨S_, .f32⟩
  | 8 => ⟨S64, .f32⟩
  | 9 => ⟨S100000x1, .i32⟩
  | 10 => ⟨S64, .f32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000, .f32⟩
  | 20 => ⟨S100000, .f32⟩
  | 21 => ⟨S100000x1, .f32⟩
  | 22 => ⟨S100000x128, .f32⟩
  | 23 => ⟨S100000x128, .f32⟩
  | 24 => ⟨S_, .f32⟩
  | 25 => ⟨S64x128, .f32⟩
  | 26 => ⟨S100000x1, .i32⟩
  | 27 => ⟨S64x128, .f32⟩
  | 28 => ⟨S1x64x128, .f32⟩
  | 29 => ⟨S1x64x128, .f32⟩
  | 30 => ⟨S1x64x128, .f32⟩
  | 31 => ⟨S1x64x128, .f32⟩
  | 32 => ⟨S4x64x128, .f32⟩
  | 33 => ⟨S_, .f32⟩
  | 34 => ⟨S64x128, .f32⟩
  | 35 => ⟨S_, .f32⟩
  | 36 => ⟨S64x128, .f32⟩
  | 37 => ⟨S64x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_call2_v0 : Ref sig .tc := ⟨.hbm, 45, rfl⟩
abbrev main_call2_v1 : Ref sig .tc := ⟨.hbm, 46, rfl⟩
abbrev main_v30 : Ref sig .tc := ⟨.hbm, 47, rfl⟩
abbrev main_c : Ref sig .tc := ⟨.hbm, 48, rfl⟩
abbrev main_v31 : Ref sig .tc := ⟨.hbm, 49, rfl⟩
abbrev main_v32 : Ref sig .tc := ⟨.hbm, 50, rfl⟩
abbrev main_c_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_c_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call3_cst : Ref sig .tc := ⟨.hbm, 88, rfl⟩
abbrev main_call3_v0 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_8 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_v76 : Ref sig .tc := ⟨.hbm, 105, rfl⟩
abbrev main_cst_9 : Ref sig .tc := ⟨.hbm, 106, rfl⟩
abbrev main_v77 : Ref sig .tc := ⟨.hbm, 107, rfl⟩
abbrev main_v78 : Ref sig .tc := ⟨.hbm, 108, rfl⟩
abbrev main_cst_10 : Ref sig .tc := ⟨.hbm, 109, rfl⟩
abbrev main_v79 : Ref sig .tc := ⟨.hbm, 110, rfl⟩
abbrev main_v80 : Ref sig .tc := ⟨.hbm, 111, rfl⟩
abbrev main_cst_11 : Ref sig .tc := ⟨.hbm, 112, rfl⟩
abbrev main_call5_v0 : Ref sig .tc := ⟨.hbm, 113, rfl⟩
abbrev main_call5_v1 : Ref sig .tc := ⟨.hbm, 114, rfl⟩
abbrev main_v81 : Ref sig .tc := ⟨.hbm, 115, rfl⟩
abbrev main_c_12 : Ref sig .tc := ⟨.hbm, 116, rfl⟩
abbrev main_v82 : Ref sig .tc := ⟨.hbm, 117, rfl⟩
abbrev main_v83 : Ref sig .tc := ⟨.hbm, 118, rfl⟩
abbrev main_c_13 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_14 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_15 : Ref sig .tc := ⟨.hbm, 131, rfl⟩
abbrev main_v94 : Ref sig .tc := ⟨.hbm, 132, rfl⟩
abbrev main_v95 : Ref sig .tc := ⟨.hbm, 133, rfl⟩
abbrev main_c_16 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_17 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_call6_cst : Ref sig .tc := ⟨.hbm, 156, rfl⟩
abbrev main_call6_v0 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_18 : Ref sig .tc := ⟨.hbm, 169, rfl⟩
abbrev main_call7_v0 : Ref sig .tc := ⟨.hbm, 170, rfl⟩
abbrev main_call7_v1 : Ref sig .tc := ⟨.hbm, 171, rfl⟩
abbrev main_call7_v2 : Ref sig .tc := ⟨.hbm, 172, rfl⟩
abbrev main_v127 : Ref sig .tc := ⟨.hbm, 173, rfl⟩
abbrev main_cst_19 : Ref sig .tc := ⟨.hbm, 174, rfl⟩
abbrev main_v128 : Ref sig .tc := ⟨.hbm, 175, rfl⟩
abbrev main_v129 : Ref sig .tc := ⟨.hbm, 176, rfl⟩
abbrev main_cst_20 : Ref sig .tc := ⟨.hbm, 177, rfl⟩
abbrev main_v130 : Ref sig .tc := ⟨.hbm, 178, rfl⟩
abbrev main_v131 : Ref sig .tc := ⟨.hbm, 179, rfl⟩
abbrev main_cst_21 : Ref sig .tc := ⟨.hbm, 180, rfl⟩
abbrev main_call8_v0 : Ref sig .tc := ⟨.hbm, 181, rfl⟩
abbrev main_call8_v1 : Ref sig .tc := ⟨.hbm, 182, rfl⟩
abbrev main_v132 : Ref sig .tc := ⟨.hbm, 183, rfl⟩
abbrev main_c_22 : Ref sig .tc := ⟨.hbm, 184, rfl⟩
abbrev main_v133 : Ref sig .tc := ⟨.hbm, 185, rfl⟩
abbrev main_v134 : Ref sig .tc := ⟨.hbm, 186, rfl⟩
abbrev main_c_23 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_24 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_c_25 : Ref sig .tc := ⟨.hbm, 199, rfl⟩
abbrev main_v145 : Ref sig .tc := ⟨.hbm, 200, rfl⟩
abbrev main_v146 : Ref sig .tc := ⟨.hbm, 201, rfl⟩
abbrev main_c_26 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_cst_27 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_call9_cst : Ref sig .tc := ⟨.hbm, 224, rfl⟩
abbrev main_call9_v0 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_cst_28 : Ref sig .tc := ⟨.hbm, 237, rfl⟩
abbrev main_call10_v0 : Ref sig .tc := ⟨.hbm, 238, rfl⟩
abbrev main_call10_v1 : Ref sig .tc := ⟨.hbm, 239, rfl⟩
abbrev main_call10_v2 : Ref sig .tc := ⟨.hbm, 240, rfl⟩
abbrev main_v178 : Ref sig .tc := ⟨.hbm, 241, rfl⟩
abbrev main_cst_29 : Ref sig .tc := ⟨.hbm, 242, rfl⟩
abbrev main_v179 : Ref sig .tc := ⟨.hbm, 243, rfl⟩
abbrev main_v180 : Ref sig .tc := ⟨.hbm, 244, rfl⟩
abbrev main_cst_30 : Ref sig .tc := ⟨.hbm, 245, rfl⟩
abbrev main_v181 : Ref sig .tc := ⟨.hbm, 246, rfl⟩
abbrev main_v182 : Ref sig .tc := ⟨.hbm, 247, rfl⟩
abbrev main_cst_31 : Ref sig .tc := ⟨.hbm, 248, rfl⟩
abbrev main_call11_v0 : Ref sig .tc := ⟨.hbm, 249, rfl⟩
abbrev main_call11_v1 : Ref sig .tc := ⟨.hbm, 250, rfl⟩
abbrev main_v183 : Ref sig .tc := ⟨.hbm, 251, rfl⟩
abbrev main_c_32 : Ref sig .tc := ⟨.hbm, 252, rfl⟩
abbrev main_v184 : Ref sig .tc := ⟨.hbm, 253, rfl⟩
abbrev main_v185 : Ref sig .tc := ⟨.hbm, 254, rfl⟩
abbrev main_c_33 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_cst_34 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_c_35 : Ref sig .tc := ⟨.hbm, 267, rfl⟩
abbrev main_v196 : Ref sig .tc := ⟨.hbm, 268, rfl⟩
abbrev main_v197 : Ref sig .tc := ⟨.hbm, 269, rfl⟩
abbrev main_c_36 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_cst_37 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_cst_38 : Ref sig .tc := ⟨.hbm, 289, rfl⟩
abbrev main_v215 : Ref sig .tc := ⟨.hbm, 290, rfl⟩
abbrev main_cst_39 : Ref sig .tc := ⟨.hbm, 291, rfl⟩
abbrev main_v216 : Ref sig .tc := ⟨.hbm, 292, rfl⟩
abbrev main_v217 : Ref sig .tc := ⟨.hbm, 293, rfl⟩

abbrev nD : Nat := 1
abbrev τ : Topo := Topo.v7x

variable {F : FTy → Type} [FloatOps F]
-- ==== Proof.Common.lean ====
/-
  What every module of this proof shares: the program as the SparseCore launch theorem sees it (its configuration,
  the kernel labels of the TensorCore pipelines), the resource algebra (the handshakes' rounds beside the transfers'
  counters), and the names of a vector subcore's coordinates.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type}

/-- The labels of the TensorCore pipelines over the kernels' own. -/
abbrev ΛP : Labels := Pipeline.Sig Λ₀ (Fin 3) fun p => (pcfgs (F := F) p).Adm
/-- The SparseCore configuration of the program. -/
abbrev K : SparseCore.Cfg τ sig (ΛP (F := F)) 1 := sc (F := F)
/-- The definitions of the kernels with the pipelines' bodies. -/
abbrev D [FloatOps F] : Defs nD τ sig (Elt F) (ΛP (F := F)) := Pipeline.defs pcfgs defs₀
/-- The kernels' loops need no measures of their own. -/
abbrev 𝒱₀ : Variants := Variants.none
/-- The measures of the program with its launches. -/
abbrev 𝒱 : Variants := 𝒱₀.lift
/-- The measure the tasks are run at. -/
abbrev v₀ : 𝒱.V := Sum.inl none

/-- The side conditions the launch asks of the configuration's cells. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, beside them the TensorCore pipelines' rounds and the local transfers' counters. -/
abbrev UH : Type := URounds (GSem nD τ sig) ℕ
/-- The rounds of the TensorCore pipelines. -/
abbrev UP : Type := URounds (GSem nD τ sig) Unit
/-- The user part of the resource algebra: the handshakes, the pipelines, the transfers' counters. -/
abbrev UU : Type := UH × (UP × Counters)

/-- The rounds' embedding: the left factor. -/
abbrev EH : Emb UH (MT nD τ sig (HIx 1) (Elt F) ℕ UU ℕ) := embL

/-- The pipelines' rounds' embedding: the left factor of the right one. -/
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

/-- The pipelines' part lands in the user part. -/
instance EP_landsIn : (EP (F := F)).LandsIn (upEmb : UEmb _ (MT nD τ sig (HIx 1) (Elt F) ℕ UU ℕ)) := by
  unfold EP; infer_instance

/-- The SparseCore and the subcore a grid point of the call runs on. -/
abbrev cV (L : grid1.Coords) : Fin τ.nSC := (L 0).castLE hcore1
/-- The subcore of a tile's coordinates. -/
abbrev jV (L : grid1.Coords) : Fin τ.nSub := (L 1).castLE hsub1
/-- The vector subcore's thread. -/
abbrev tt (d : Dev nD) (L : grid1.Coords) : Thread nD τ := V d (cV L) (jV L)

end Cert.Proof
-- ==== Proof.Bodies.lean ====
/-
  The three kernels that run on the TensorCore, each body run once: what it leaves in its result's staging buffers, as a
  function of the blocks it loads. The score kernel and the weighted-sum kernel have two forms each, one for the first grid
  point (the accumulator is stored) and one for the later points (the accumulator is read and updated).
-/
module

public import proofs.«01_k».proof.Proof.Common
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.Value

@[expose] public section

noncomputable section

namespace Cert.Proof

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]
local notation "𝕄" => MT nD τ sig (HIx 1) (Elt F) ℕ UU ℕ

/-- A memref's buffer on the TensorCore of device `c`, whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-! ## The values -/

/-- The score block's pieces: the four used rows of unit `k` of a block, for the five units of a block. -/
def unitPieces (x : Vec F S2000x128 .f32) (w : Vec F S128x64 .f32) (b : Vec F S1x64 .f32) (v : Vec F S8x64 .f32) : List (View.Piece (Elt F) S1x5x4x400 .f32) :=
  [⟨Rect.unit ![0, 4, 0, 0] S1x1x4x400.size inb_S1x5x4x400_S1x1x4x400_0_4_0_0, k0_pay10 (k0_pay3 x w b v)⟩,
   ⟨Rect.unit ![0, 3, 0, 0] S1x1x4x400.size inb_S1x5x4x400_S1x1x4x400_0_3_0_0, k0_pay9 (k0_pay8 x w b v)⟩,
   ⟨Rect.unit ![0, 2, 0, 0] S1x1x4x400.size inb_S1x5x4x400_S1x1x4x400_0_2_0_0, k0_pay7 x w b v⟩,
   ⟨Rect.unit ![0, 1, 0, 0] S1x1x4x400.size inb_S1x5x4x400_S1x1x4x400_0_1_0_0, k0_pay6 x w b v⟩,
   ⟨Rect.unit ![0, 0, 0, 0] S1x1x4x400.size inb_S1x5x4x400_S1x1x4x400_0_0_0_0, k0_pay5 x w b v⟩]

/-- What the score kernel leaves in its second result's block: its scores, unit by unit. -/
def unitOut (x : Vec F S2000x128 .f32) (w : Vec F S128x64 .f32) (b : Vec F S1x64 .f32) (v : Vec F S8x64 .f32) : Vec F S1x5x4x400 .f32 :=
  View.canon (unitPieces x w b v)

/-- The maxima of a block's scores over each segment's rows, a column per head. -/
def blockMax (x : Vec F S2000x128 .f32) (g : Vec F S1x1x2000 .i32) (w : Vec F S128x64 .f32) (b : Vec F S1x64 .f32) (v : Vec F S8x64 .f32) : Vec F S64x8 .f32 :=
  k0_pay1 (k0_pay3 x w b v) (k0_pay11 g) (iota .tc S64x8 32 [1] iota_S64x8_d1_w32) (k0_pay12 (k0_pay3 x w b v) g) (k0_pay13 (k0_pay3 x w b v)) (Scalar.ofBits .f32 0xFF800000#32)

/-- The running maxima after a later block. -/
def laterMax (x : Vec F S2000x128 .f32) (g : Vec F S1x1x2000 .i32) (w : Vec F S128x64 .f32) (b : Vec F S1x64 .f32) (v : Vec F S8x64 .f32) (old : Vec F S64x8 .f32) : Vec F S64x8 .f32 :=
  k0_pay2 (k0_pay3 x w b v) (k0_pay11 g) (iota .tc S64x8 32 [1] iota_S64x8_d1_w32) (k0_pay12 (k0_pay3 x w b v) g) (k0_pay13 (k0_pay3 x w b v)) (Scalar.ofBits .f32 0xFF800000#32) old

/-- The weighted sums of a block, stored at the first point, a piece per head. -/
def sumPieces (x : Vec F S2000x128 .f32) (g : Vec F S1x1x2000 .i32) (s : Vec F S1x8x2000 .f32) (m : Vec F S64x8 .f32) : List (View.Piece (Elt F) S4x64x128 .f32) :=
  [⟨Rect.unit ![3, 0, 0] S1x64x128.size inb_S4x64x128_S1x64x128_3_0_0, k2_pay7 (k2_pay9 g) (k2_pay10 m g s) x⟩,
   ⟨Rect.unit ![2, 0, 0] S1x64x128.size inb_S4x64x128_S1x64x128_2_0_0, k2_pay4 (k2_pay9 g) (k2_pay10 m g s) x⟩,
   ⟨Rect.unit ![1, 0, 0] S1x64x128.size inb_S4x64x128_S1x64x128_1_0_0, k2_pay1 (k2_pay14 m g s x)⟩,
   ⟨Rect.unit ![0, 0, 0] S1x64x128.size inb_S4x64x128_S1x64x128_0_0_0, k2_pay12 m g s x⟩]

/-- The weighted sums of a block added to the running ones, at a later point, a piece per head. -/
def addPieces (x : Vec F S2000x128 .f32) (g : Vec F S1x1x2000 .i32) (s : Vec F S1x8x2000 .f32) (m : Vec F S64x8 .f32) (old : Vec F S4x64x128 .f32) : List (View.Piece (Elt F) S4x64x128 .f32) :=
  [⟨Rect.unit ![3, 0, 0] S1x64x128.size inb_S4x64x128_S1x64x128_3_0_0, k2_pay8 (k2_pay9 g) (k2_pay10 m g s) x (View.ld old (Rect.unit ![3, 0, 0] S1x64x128.size inb_S4x64x128_S1x64x128_3_0_0))⟩,
   ⟨Rect.unit ![2, 0, 0] S1x64x128.size inb_S4x64x128_S1x64x128_2_0_0, k2_pay5 (k2_pay9 g) (k2_pay10 m g s) x (View.ld old (Rect.unit ![2, 0, 0] S1x64x128.size inb_S4x64x128_S1x64x128_2_0_0))⟩,
   ⟨Rect.unit ![1, 0, 0] S1x64x128.size inb_S4x64x128_S1x64x128_1_0_0, k2_pay2 (k2_pay14 m g s x) (View.ld old (Rect.unit ![1, 0, 0] S1x64x128.size inb_S4x64x128_S1x64x128_1_0_0))⟩,
   ⟨Rect.unit ![0, 0, 0] S1x64x128.size inb_S4x64x128_S1x64x128_0_0_0, k2_pay13 m g s x (View.ld old (Rect.unit ![0, 0, 0] S1x64x128.size inb_S4x64x128_S1x64x128_0_0_0))⟩]

/-- The weighted sums after the first block. -/
def firstSum (x : Vec F S2000x128 .f32) (g : Vec F S1x1x2000 .i32) (s : Vec F S1x8x2000 .f32) (m : Vec F S64x8 .f32) : Vec F S4x64x128 .f32 := View.canon (sumPieces x g s m)
/-- The weighted sums after a later block. -/
def laterSum (x : Vec F S2000x128 .f32) (g : Vec F S1x1x2000 .i32) (s : Vec F S1x8x2000 .f32) (m : Vec F S64x8 .f32) (old : Vec F S4x64x128 .f32) : Vec F S4x64x128 .f32 :=
  View.canon (addPieces x g s m old)

/-- What the last kernel leaves: the quotients of the sums, meaned over the heads. -/
def meanOut (u : Vec F S4x64x128 .f32) (p : Vec F S32x64x8 .f32) : Vec F S64x128 .f32 :=
  k3_pay1 p (View.ld u (Rect.unit ![0, 0, 0] S1x64x128.size inb_S4x64x128_S1x64x128_0_0_0)) (View.ld u (Rect.unit ![1, 0, 0] S1x64x128.size inb_S4x64x128_S1x64x128_1_0_0))
    (View.ld u (Rect.unit ![2, 0, 0] S1x64x128.size inb_S4x64x128_S1x64x128_2_0_0)) (View.ld u (Rect.unit ![3, 0, 0] S1x64x128.size inb_S4x64x128_S1x64x128_3_0_0))

omit [FloatOps F] in
/-- What a covering list of pieces leaves reads as the pieces say. -/
theorem read_canon {κ : Kind} {sp : Space} {s : Shape} {e : EltTy} (v : View sig κ sp s e) (f : v.ty.Contents (Elt F)) (L : List (View.Piece (Elt F) s e))
    (h : ∀ y, ∃ p ∈ L, y ∈ p.1.set) : v.read (Elt F) (v.writes (Elt F) f L) = View.canon L :=
  funext fun y => View.read_writes_apply_eq_canon v f y L (h y)

omit [FloatOps F] in
/-- One piece over the whole of the shape leaves its payload. -/
theorem read_one {κ : Kind} {sp : Space} {s : Shape} {e : EltTy} (v : View sig κ sp s e) (f : v.ty.Contents (Elt F)) {off : Fin s.rank → ℕ} (ho : off = fun _ => 0)
    (inb : ∀ a, off a + s.size a ≤ s.size a) (w : s.Idx → Elt F e) :
    v.read (Elt F) (v.writes (Elt F) f [⟨Rect.unit off s.size inb, w⟩]) = w :=
  (read_canon v f _ fun y => ⟨_, List.mem_singleton.mpr rfl, by
    subst ho
    show y ∈ (Rect.whole s).set
    rw [Rect.set_whole]; exact Finset.mem_univ y⟩).trans (View.canon_unit_zero ho inb w)

omit [FloatOps F] [∀ e, Nonempty (Elt F e)] in
/-- The origin of a matrix. -/
theorem zero2 : (![0, 0] : Fin 2 → ℕ) = fun _ => 0 := by decide
omit [FloatOps F] [∀ e, Nonempty (Elt F e)] in
/-- The origin of a rank 3 array. -/
theorem zero3 : (![0, 0, 0] : Fin 3 → ℕ) = fun _ => 0 := by decide

/-! ## The score kernel -/

section Score

variable (c : Dev nD) (i : grid0.Coords) (M1 : Memref sig .tc .vmem S2000x128 .f32) (h1 : M1.IsWhole) (M2 : Memref sig .tc .vmem S1x1x2000 .i32) (h2 : M2.IsWhole)
  (M3 : Memref sig .tc .vmem S128x64 .f32) (h3 : M3.IsWhole) (M4 : Memref sig .tc .vmem S1x64 .f32) (h4 : M4.IsWhole) (M5 : Memref sig .tc .vmem S8x64 .f32) (h5 : M5.IsWhole)
  (M6 : Memref sig .tc .vmem S1x8x2000 .f32) (h6 : M6.IsWhole) (M7 : Memref sig .tc .vmem S1x5x4x400 .f32) (h7 : M7.IsWhole) (M8 : Memref sig .tc .vmem S64x8 .f32) (h8 : M8.IsWhole)
  (f1 : Buf (Elt F) (M1.view.loc (c : Thread nD τ))) (f2 : Buf (Elt F) (M2.view.loc (c : Thread nD τ))) (f3 : Buf (Elt F) (M3.view.loc (c : Thread nD τ)))
  (f4 : Buf (Elt F) (M4.view.loc (c : Thread nD τ))) (f5 : Buf (Elt F) (M5.view.loc (c : Thread nD τ))) (f6 : Buf (Elt F) (M6.view.loc (c : Thread nD τ)))
  (f7 : Buf (Elt F) (M7.view.loc (c : Thread nD τ))) (f8 : Buf (Elt F) (M8.view.loc (c : Thread nD τ)))
  (x : Vec F S2000x128 .f32) (g : Vec F S1x1x2000 .i32) (w : Vec F S128x64 .f32) (b : Vec F S1x64 .f32) (v : Vec F S8x64 .f32) (old : Vec F S64x8 .f32)

/-- The first point of the score kernel: scores, scores by unit, and the block's maxima stored. -/
theorem score_first (hc1 : k0_cond1 i = 1#1) (hc2 : ¬ k0_cond2 i = 1#1)
    (e1 : M1.view.read (Elt F) f1 = x) (e2 : M2.view.read (Elt F) f2 = g) (e3 : M3.view.read (Elt F) f3 = w) (e4 : M4.view.read (Elt F) f4 = b) (e5 : M5.view.read (Elt F) f5 = v)
    (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗
        (∀ W6 W7 W8, iprop(⌜M6.view.read (Elt F) W6 = k0_pay4 x w b v ∧ M7.view.read (Elt F) W7 = unitOut x w b v ∧ M8.view.read (Elt F) W8 = blockMax x g w b v⌝ ∗
          pt c M1 f1 ∗ pt c M2 f2 ∗ pt c M3 f3 ∗ pt c M4 f4 ∗ pt c M5 f5 ∗ pt c M6 W6 ∗ pt c M7 W7 ∗ pt c M8 W8) -∗ Q ⟨⟩))
      ⊢ wp frame (wpE (defs₀ (F := F)) 𝒱₀ c none) E (cc0__score_body i M1 h1 M2 h2 M3 h3 M4 h4 M5 h5 M6 h6 M7 h7 M8 h8) Q := by
  iintro ⟨H1, H2, H3, H4, H5, H6, H7, H8, Hk⟩
  sl_exec!
  sl_step
  iapply Hk
  isplitr; swap
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  ipureintro
  refine ⟨?_, ?_, ?_⟩
  · unfold score_first.sl.H6_1
    refine (read_one _ _ zero3 _ _).trans ?_
    subst e1 e3 e4 e5
    simp only [View.readAt_eq_ld, View.ld_unit_zero (S := S2000x128) zero2, View.ld_unit_zero (S := S128x64) zero2, View.ld_unit_zero (S := S1x64) zero2, View.ld_unit_zero (S := S8x64) zero2]
  · unfold score_first.sl.H7_5
    refine (read_canon _ _ _ ?_).trans ?_
    · exact View.cover_of_tiled _ S1x1x4x400.size rfl
    subst e1 e3 e4 e5
    unfold score_first.sl.r score_first.sl.r_1
    simp only [View.readAt_eq_ld, View.ld_unit_zero (S := S2000x128) zero2, View.ld_unit_zero (S := S128x64) zero2, View.ld_unit_zero (S := S1x64) zero2, View.ld_unit_zero (S := S8x64) zero2, View.ld_unit_zero (S := S64x8) zero2, View.ld_unit_zero (S := S1x1x2000) zero3]
    rfl
  · unfold score_first.sl.H8_1
    refine (read_one _ _ zero2 _ _).trans ?_
    subst e1 e2 e3 e4 e5
    unfold blockMax score_first.sl.r_2 score_first.sl.r_3 score_first.sl.r_4 score_first.sl.r
    simp only [View.readAt_eq_ld, View.ld_unit_zero (S := S2000x128) zero2, View.ld_unit_zero (S := S128x64) zero2, View.ld_unit_zero (S := S1x64) zero2, View.ld_unit_zero (S := S8x64) zero2, View.ld_unit_zero (S := S64x8) zero2, View.ld_unit_zero (S := S1x1x2000) zero3]
    rfl

/-- A later point of the score kernel: the running maxima updated. -/
theorem score_later (hc1 : ¬ k0_cond1 i = 1#1) (hc2 : k0_cond2 i = 1#1)
    (e1 : M1.view.read (Elt F) f1 = x) (e2 : M2.view.read (Elt F) f2 = g) (e3 : M3.view.read (Elt F) f3 = w) (e4 : M4.view.read (Elt F) f4 = b) (e5 : M5.view.read (Elt F) f5 = v)
    (e8 : M8.view.read (Elt F) f8 = old) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗
        (∀ W6 W7 W8, iprop(⌜M6.view.read (Elt F) W6 = k0_pay4 x w b v ∧ M7.view.read (Elt F) W7 = unitOut x w b v ∧ M8.view.read (Elt F) W8 = laterMax x g w b v old⌝ ∗
          pt c M1 f1 ∗ pt c M2 f2 ∗ pt c M3 f3 ∗ pt c M4 f4 ∗ pt c M5 f5 ∗ pt c M6 W6 ∗ pt c M7 W7 ∗ pt c M8 W8) -∗ Q ⟨⟩))
      ⊢ wp frame (wpE (defs₀ (F := F)) 𝒱₀ c none) E (cc0__score_body i M1 h1 M2 h2 M3 h3 M4 h4 M5 h5 M6 h6 M7 h7 M8 h8) Q := by
  iintro ⟨H1, H2, H3, H4, H5, H6, H7, H8, Hk⟩
  sl_exec!
  sl_step
  iapply Hk
  isplitr; swap
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  ipureintro
  refine ⟨?_, ?_, ?_⟩
  · unfold score_later.sl.H6_1
    refine (read_one _ _ zero3 _ _).trans ?_
    subst e1 e3 e4 e5
    simp only [View.readAt_eq_ld, View.ld_unit_zero (S := S2000x128) zero2, View.ld_unit_zero (S := S128x64) zero2, View.ld_unit_zero (S := S1x64) zero2, View.ld_unit_zero (S := S8x64) zero2]
  · unfold score_later.sl.H7_5
    refine (read_canon _ _ _ ?_).trans ?_
    · exact View.cover_of_tiled _ S1x1x4x400.size rfl
    subst e1 e3 e4 e5
    unfold score_later.sl.r score_later.sl.r_1
    simp only [View.readAt_eq_ld, View.ld_unit_zero (S := S2000x128) zero2, View.ld_unit_zero (S := S128x64) zero2, View.ld_unit_zero (S := S1x64) zero2, View.ld_unit_zero (S := S8x64) zero2, View.ld_unit_zero (S := S64x8) zero2, View.ld_unit_zero (S := S1x1x2000) zero3]
    rfl
  · unfold score_later.sl.H8_1
    refine (read_one _ _ zero2 _ _).trans ?_
    subst e1 e2 e3 e4 e5 e8
    unfold laterMax score_later.sl.r_2 score_later.sl.r_3 score_later.sl.r_4 score_later.sl.r
    simp only [View.readAt_eq_ld, View.ld_unit_zero (S := S2000x128) zero2, View.ld_unit_zero (S := S128x64) zero2, View.ld_unit_zero (S := S1x64) zero2, View.ld_unit_zero (S := S8x64) zero2, View.ld_unit_zero (S := S64x8) zero2, View.ld_unit_zero (S := S1x1x2000) zero3]
    rfl

end Score

/-! ## The weighted sums -/

section Sums

variable (c : Dev nD) (i : grid2.Coords) (M1 : Memref sig .tc .vmem S2000x128 .f32) (h1 : M1.IsWhole) (M2 : Memref sig .tc .vmem S1x1x2000 .i32) (h2 : M2.IsWhole)
  (M3 : Memref sig .tc .vmem S1x8x2000 .f32) (h3 : M3.IsWhole) (M4 : Memref sig .tc .vmem S64x8 .f32) (h4 : M4.IsWhole) (M5 : Memref sig .tc .vmem S4x64x128 .f32) (h5 : M5.IsWhole)
  (f1 : Buf (Elt F) (M1.view.loc (c : Thread nD τ))) (f2 : Buf (Elt F) (M2.view.loc (c : Thread nD τ))) (f3 : Buf (Elt F) (M3.view.loc (c : Thread nD τ)))
  (f4 : Buf (Elt F) (M4.view.loc (c : Thread nD τ))) (f5 : Buf (Elt F) (M5.view.loc (c : Thread nD τ)))
  (x : Vec F S2000x128 .f32) (g : Vec F S1x1x2000 .i32) (s : Vec F S1x8x2000 .f32) (m : Vec F S64x8 .f32) (old : Vec F S4x64x128 .f32)

/-- The first point of the weighted-sum kernel. -/
theorem uacc_first (hc1 : k2_cond1 i = 1#1) (hc2 : ¬ k2_cond2 i = 1#1) (hc3 : k2_cond3 i = 1#1) (hc4 : ¬ k2_cond4 i = 1#1) (hc5 : k2_cond5 i = 1#1)
    (hc6 : ¬ k2_cond6 i = 1#1) (hc7 : k2_cond7 i = 1#1) (hc8 : ¬ k2_cond8 i = 1#1)
    (e1 : M1.view.read (Elt F) f1 = x) (e2 : M2.view.read (Elt F) f2 = g) (e3 : M3.view.read (Elt F) f3 = s) (e4 : M4.view.read (Elt F) f4 = m)
    (E : Set ℕ) (Q : PUnit → sProp 𝕄) :
    iprop(pt c M1 f1 ∗ pt c M2 f2 ∗ pt c M3 f3 ∗ pt c M4 f4 ∗ pt c M5 f5 ∗
        (∀ W5, iprop(⌜M5.view.read (Elt F) W5 = firstSum x g s m⌝ ∗ pt c M1 f1 ∗ pt c M2 f2 ∗ pt c M3 f3 ∗ pt c M4 f4 ∗ pt c M5 W5) -∗ Q ⟨⟩))
      ⊢ wp frame (wpE (defs₀ (F := F)) 𝒱₀ c none) E (cc2__uacc_body i M1 h1 M2 h2 M3 h3 M4 h4 M5 h5) Q := by
  iintro ⟨H1, H2, H3, H4, H5, Hk⟩
  sl_exec!
  sl_step
  iapply Hk
  isplitr; swap
  · isplitl [H1]; · iexact H1
    isplitl [H2]; · iexact H2
    isplitl [H3]; · iexact H3
    isplitl [H4]; · iexact H4
    iexact H5
  ipureintro
  unfold uacc_first.sl.H5_4
  refine (read_canon _ _ _ ?_).trans ?_
  · exact View.cover_of_tiled _ S1x64x128.size rfl
  subst e1 e2 e3 e4
  unfold uacc_first.sl.r uacc_first.sl.r_1 uacc_first.sl.r_2
  simp only [View.readAt_eq_ld, View.ld_unit_zero (S := S2000x128) zero2, View.ld_unit_zero (S := S64x8) zero2, View.ld_unit_zero (S := S1x1x2000) zero3, View.ld_unit_zero (S := S1x8x2000) zero3]
  rfl

/-- A later point of the weighted-sum kernel. -/
theorem uacc_later (hc1 : ¬ k2_cond1 i = 1#1) (hc2 : k2_cond2 i = 1#1) (hc3 : ¬ k2_cond3 i = 1#1) (hc4 : k2_cond4 i = 1#1) (hc5 : ¬ k2_cond5 i = 1#1)
    (hc6 : k2_cond6 i = 1#1) (hc7 : ¬ k2_cond7 i = 1#1) (hc8 : k2_cond8 i = 1#1)
    (e1 : M1.view.read (Elt F) f1 = x) (e2 : M2.view.read (Elt F) f2 = g) (e3 : M3.view.read (Elt F) f3 = s) (e4 : M4.view.read (Elt F) f4 = m)
    (e5 : M5.view.read (Elt F) f5 = old) (E : Set ℕ) (Q : PUnit → sProp 𝕄) :
    iprop(pt c M1 f1 ∗ pt c M2 f2 ∗ pt c M3 f3 ∗ pt c M4 f4 ∗ pt c M5 f5 ∗
        (∀ W5, iprop(⌜M5.view.read (Elt F) W5 = laterSum x g s m old⌝ ∗ pt c M1 f1 ∗ pt c M2 f2 ∗ pt c M3 f3 ∗ pt c M4 f4 ∗ pt c M5 W5) -∗ Q ⟨⟩))
      ⊢ wp frame (wpE (defs₀ (F := F)) 𝒱₀ c none) E (cc2__uacc_body i M1 h1 M2 h2 M3 h3 M4 h4 M5 h5) Q := by
  iintro ⟨H1, H2, H3, H4, H5, Hk⟩
  sl_exec!
  sl_step
  iapply Hk
  isplitr; swap
  · isplitl [H1]; · iexact H1
    isplitl [H2]; · iexact H2
    isplitl [H3]; · iexact H3
    isplitl [H4]; · iexact H4
    iexact H5
  ipureintro
  unfold uacc_later.sl.H5_4
  refine (read_canon _ _ _ ?_).trans ?_
  · exact View.cover_of_tiled _ S1x64x128.size rfl
  subst e1 e2 e3 e4 e5
  unfold uacc_later.sl.r uacc_later.sl.r_1 uacc_later.sl.r_2 uacc_later.sl.v62 uacc_later.sl.v62_1 uacc_later.sl.v62_2
  simp only [View.readAt_eq_ld, View.ld_unit_zero (S := S2000x128) zero2, View.ld_unit_zero (S := S64x8) zero2, View.ld_unit_zero (S := S1x1x2000) zero3, View.ld_unit_zero (S := S1x8x2000) zero3]
  rfl

end Sums

/-! ## The mean -/

/-- The last kernel's one point. -/
theorem mean_run (c : Dev nD) (M0 : Memref sig .tc .vmem S4x64x128 .f32) (h0 : M0.IsWhole) (M1 : Memref sig .tc .vmem S32x64x8 .f32) (h1 : M1.IsWhole)
    (M2 : Memref sig .tc .vmem S64x128 .f32) (h2 : M2.IsWhole)
    (f0 : Buf (Elt F) (M0.view.loc (c : Thread nD τ))) (f1 : Buf (Elt F) (M1.view.loc (c : Thread nD τ))) (f2 : Buf (Elt F) (M2.view.loc (c : Thread nD τ)))
    (u : Vec F S4x64x128 .f32) (p : Vec F S32x64x8 .f32) (e0 : M0.view.read (Elt F) f0 = u) (e1 : M1.view.read (Elt F) f1 = p) (E : Set ℕ) (Q : PUnit → sProp 𝕄) :
    iprop(pt c M0 f0 ∗ pt c M1 f1 ∗ pt c M2 f2 ∗ (∀ W, iprop(⌜M2.view.read (Elt F) W = meanOut u p⌝ ∗ pt c M0 f0 ∗ pt c M1 f1 ∗ pt c M2 W) -∗ Q ⟨⟩))
      ⊢ wp frame (wpE (defs₀ (F := F)) 𝒱₀ c none) E (cc3__finish_body M0 h0 M1 h1 M2 h2) Q := by
  iintro ⟨H0, H1, H2, Hk⟩
  sl_exec!
  sl_step
  iapply Hk
  isplitr; swap
  · isplitl [H0]; · iexact H0
    isplitl [H1]; · iexact H1
    iexact H2
  ipureintro
  unfold mean_run.sl.H2_1
  refine (read_one _ _ zero2 _ _).trans ?_
  subst e0 e1
  simp only [View.readAt_eq_ld, View.ld_unit_zero (S := S32x64x8) zero3]
  rfl

end Cert.Proof

end
-- ==== Proof.Regions.lean ====
/-
  The three calls on the TensorCore as regions of the program: the proof data of each (what every staged block holds after
  every grid point, as a function of the buffers' contents at the region's entry), the body obligations, and each region's
  run over the thread state "every unscoped buffer at a valuation".
-/
module

public import proofs.«01_k».proof.Proof.Bodies

@[expose] public section

noncomputable section

namespace Cert.Proof

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F] [∀ e, Nonempty (Elt F e)]
local notation "𝕄" => MT nD τ sig (HIx 1) (Elt F) ℕ UU ℕ

/-- A whole memref held at contents that read as `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

section Data

variable (A : Valuation τ sig (Elt F))

/-! ## Call 0 -/

/-- The block window `w` of call 0 reads at point `t`. -/
def in0 (w : Fin cfg0.W) (t : Fin cfg0.N) : ((cfg0.win w).xblock (cfg0.grid.coords t)).Idx → Elt F (cfg0.win w).elt :=
  ((cfg0.win w).blk t).view.read (Elt F) (A (Proc.devRef .tc (Pipeline.arrRef spec0 w)))

/-- The running maxima after the point `k`. -/
def maxTo : (k : ℕ) → k < cfg0.N → Vec F S64x8 .f32
  | 0, h => blockMax (in0 A 0 ⟨0, h⟩) (in0 A 1 ⟨0, h⟩) (in0 A 2 ⟨0, h⟩) (in0 A 3 ⟨0, h⟩) (in0 A 4 ⟨0, h⟩)
  | k + 1, h => laterMax (in0 A 0 ⟨k + 1, h⟩) (in0 A 1 ⟨k + 1, h⟩) (in0 A 2 ⟨k + 1, h⟩) (in0 A 3 ⟨k + 1, h⟩) (in0 A 4 ⟨k + 1, h⟩) (maxTo k (Nat.lt_of_succ_lt h))

/-- What the windows of call 0 hold after the body at point `t`. -/
def after0 (w : Fin cfg0.W) (t : Fin cfg0.N) : (cfg0.win w).block.Idx → Elt F (cfg0.win w).elt :=
  match w with
  | ⟨0, _⟩ => in0 A 0 t
  | ⟨1, _⟩ => in0 A 1 t
  | ⟨2, _⟩ => in0 A 2 t
  | ⟨3, _⟩ => in0 A 3 t
  | ⟨4, _⟩ => in0 A 4 t
  | ⟨5, _⟩ => k0_pay4 (in0 A 0 t) (in0 A 2 t) (in0 A 3 t) (in0 A 4 t)
  | ⟨6, _⟩ => unitOut (in0 A 0 t) (in0 A 2 t) (in0 A 3 t) (in0 A 4 t)
  | ⟨7, _⟩ => maxTo A t.val t.isLt

/-! ## Call 2 -/

/-- The block window `w` of call 2 reads at point `t`. -/
def in2 (w : Fin cfg2.W) (t : Fin cfg2.N) : ((cfg2.win w).xblock (cfg2.grid.coords t)).Idx → Elt F (cfg2.win w).elt :=
  ((cfg2.win w).blk t).view.read (Elt F) (A (Proc.devRef .tc (Pipeline.arrRef spec2 w)))

/-- The running weighted sums after the point `k`. -/
def sumTo : (k : ℕ) → k < cfg2.N → Vec F S4x64x128 .f32
  | 0, h => firstSum (in2 A 0 ⟨0, h⟩) (in2 A 1 ⟨0, h⟩) (in2 A 2 ⟨0, h⟩) (in2 A 3 ⟨0, h⟩)
  | k + 1, h => laterSum (in2 A 0 ⟨k + 1, h⟩) (in2 A 1 ⟨k + 1, h⟩) (in2 A 2 ⟨k + 1, h⟩) (in2 A 3 ⟨k + 1, h⟩) (sumTo k (Nat.lt_of_succ_lt h))

/-- What the windows of call 2 hold after the body at point `t`. -/
def after2 (w : Fin cfg2.W) (t : Fin cfg2.N) : (cfg2.win w).block.Idx → Elt F (cfg2.win w).elt :=
  match w with
  | ⟨0, _⟩ => in2 A 0 t
  | ⟨1, _⟩ => in2 A 1 t
  | ⟨2, _⟩ => in2 A 2 t
  | ⟨3, _⟩ => in2 A 3 t
  | ⟨4, _⟩ => sumTo A t.val t.isLt

/-! ## Call 3 -/

/-- The block window `w` of call 3 reads. -/
def in3 (w : Fin cfg3.W) (t : Fin cfg3.N) : ((cfg3.win w).xblock (cfg3.grid.coords t)).Idx → Elt F (cfg3.win w).elt :=
  ((cfg3.win w).blk t).view.read (Elt F) (A (Proc.devRef .tc (Pipeline.arrRef spec3 w)))

/-- What the windows of call 3 hold after the body. -/
def after3 (w : Fin cfg3.W) (t : Fin cfg3.N) : (cfg3.win w).block.Idx → Elt F (cfg3.win w).elt :=
  match w with
  | ⟨0, _⟩ => in3 A 0 t
  | ⟨1, _⟩ => in3 A 1 t
  | ⟨2, _⟩ => meanOut (in3 A 0 t) (in3 A 1 t)

/-- The proof data of a pipeline entered at `A` before SparseCore call `n`: the arrays at `A`, the start signals of the
    calls from `n` on owed, every recorded wait at or below call `n`'s levels. -/
abbrev mkDat (cfg : Cfg sig Λ₀) (n : ℕ) (c : Dev nD) (after : (w : Fin cfg.W) → Fin cfg.N → (cfg.win w).block.Idx → Elt F (cfg.win w).elt) :
    Dat τ (Elt F) (HIx 1) ℕ UU ℕ cfg c where
  A w := A (Proc.devRef .tc (Pipeline.arrRef cfg.spec w))
  after := after
  Φ _ := Pipeline.scopedRest (Ix := HIx 1) (Name := ℕ) (U := UU) (Lvl := ℕ) (Val := Elt F) cfg.spec c
  q _ := fullShare
  owed _ := (K (F := F)).Otc c n
  recorded _ := {p | (K (F := F)).lev (T c, p.1) p.2 ≤ 8 * n}

variable (n : ℕ) (c : Dev nD)

/-- The score kernel's proof data. -/
def dat0 : Dat τ (Elt F) (HIx 1) ℕ UU ℕ cfg0 c := mkDat A cfg0 n c (after0 A)
/-- The weighted-sum kernel's proof data. -/
def dat2 : Dat τ (Elt F) (HIx 1) ℕ UU ℕ cfg2 c := mkDat A cfg2 n c (after2 A)
/-- The last kernel's proof data. -/
def dat3 : Dat τ (Elt F) (HIx 1) ℕ UU ℕ cfg3 c := mkDat A cfg3 n c (after3 A)

end Data

/-! ## The body obligations -/

/-- The score kernel's conditions at the first point. -/
theorem cond0_first : ∀ t : Fin grid0.N, t.val = 0 → k0_cond1 (grid0.coords t) = 1#1 ∧ ¬ k0_cond2 (grid0.coords t) = 1#1 := by decide +kernel
/-- The score kernel's conditions at the later points. -/
theorem cond0_later : ∀ t : Fin grid0.N, t.val ≠ 0 → ¬ k0_cond1 (grid0.coords t) = 1#1 ∧ k0_cond2 (grid0.coords t) = 1#1 := by decide +kernel
/-- The score kernel writes its maxima at every point. -/
theorem live0 : ∀ i : grid0.Coords, idle0 7 i = false := by decide +kernel
/-- The weighted-sum kernel's conditions at the first point. -/
theorem cond2_first : ∀ t : Fin grid2.N, t.val = 0 → k2_cond1 (grid2.coords t) = 1#1 ∧ ¬ k2_cond2 (grid2.coords t) = 1#1 ∧ k2_cond3 (grid2.coords t) = 1#1 ∧
    ¬ k2_cond4 (grid2.coords t) = 1#1 ∧ k2_cond5 (grid2.coords t) = 1#1 ∧ ¬ k2_cond6 (grid2.coords t) = 1#1 ∧ k2_cond7 (grid2.coords t) = 1#1 ∧
    ¬ k2_cond8 (grid2.coords t) = 1#1 := by decide +kernel
/-- The weighted-sum kernel's conditions at the later points. -/
theorem cond2_later : ∀ t : Fin grid2.N, t.val ≠ 0 → ¬ k2_cond1 (grid2.coords t) = 1#1 ∧ k2_cond2 (grid2.coords t) = 1#1 ∧ ¬ k2_cond3 (grid2.coords t) = 1#1 ∧
    k2_cond4 (grid2.coords t) = 1#1 ∧ ¬ k2_cond5 (grid2.coords t) = 1#1 ∧ k2_cond6 (grid2.coords t) = 1#1 ∧ ¬ k2_cond7 (grid2.coords t) = 1#1 ∧
    k2_cond8 (grid2.coords t) = 1#1 := by decide +kernel
/-- The weighted-sum kernel writes its sums at every point. -/
theorem live2 : ∀ i : grid2.Coords, idle2 4 i = false := by decide +kernel

section Bodies

seal unitOut blockMax laterMax firstSum laterSum meanOut

variable (A : Valuation τ sig (Elt F)) (n : ℕ) (c : Dev nD)

/-- What input 0 of call 0 holds before a point: its block. -/
theorem before0_0 (t : Fin cfg0.N) (d) : (dat0 A n c).before 0 t d = in0 A 0 t :=
  (dat0 A n c).before_in_eq_fetched 0 rfl (fun _ => rfl) (fun _ _ _ => rfl) (fun _ => rfl) t d
/-- What input 1 of call 0 holds before a point: its block. -/
theorem before0_1 (t : Fin cfg0.N) (d) : (dat0 A n c).before 1 t d = in0 A 1 t :=
  (dat0 A n c).before_in_eq_fetched 1 rfl (fun _ => rfl) (fun _ _ _ => rfl) (fun _ => rfl) t d
/-- What input 2 of call 0 holds before a point: its block. -/
theorem before0_2 (t : Fin cfg0.N) (d) : (dat0 A n c).before 2 t d = in0 A 2 t :=
  (dat0 A n c).before_in_eq_fetched 2 rfl (fun _ => rfl) (fun _ _ _ => rfl) (fun _ => rfl) t d
/-- What input 3 of call 0 holds before a point: its block. -/
theorem before0_3 (t : Fin cfg0.N) (d) : (dat0 A n c).before 3 t d = in0 A 3 t :=
  (dat0 A n c).before_in_eq_fetched 3 rfl (fun _ => rfl) (fun _ _ _ => rfl) (fun _ => rfl) t d
/-- What input 4 of call 0 holds before a point: its block. -/
theorem before0_4 (t : Fin cfg0.N) (d) : (dat0 A n c).before 4 t d = in0 A 4 t :=
  (dat0 A n c).before_in_eq_fetched 4 rfl (fun _ => rfl) (fun _ _ _ => rfl) (fun _ => rfl) t d
/-- What input 0 of call 2 holds before a point: its block. -/
theorem before2_0 (t : Fin cfg2.N) (d) : (dat2 A n c).before 0 t d = in2 A 0 t :=
  (dat2 A n c).before_in_eq_fetched 0 rfl (fun _ => rfl) (fun _ _ _ => rfl) (fun _ => rfl) t d
/-- What input 1 of call 2 holds before a point: its block. -/
theorem before2_1 (t : Fin cfg2.N) (d) : (dat2 A n c).before 1 t d = in2 A 1 t :=
  (dat2 A n c).before_in_eq_fetched 1 rfl (fun _ => rfl) (fun _ _ _ => rfl) (fun _ => rfl) t d
/-- What input 2 of call 2 holds before a point: its block. -/
theorem before2_2 (t : Fin cfg2.N) (d) : (dat2 A n c).before 2 t d = in2 A 2 t :=
  (dat2 A n c).before_in_eq_fetched 2 rfl (fun _ => rfl) (fun _ _ _ => rfl) (fun _ => rfl) t d
/-- What input 3 of call 2 holds before a point: its block. -/
theorem before2_3 (t : Fin cfg2.N) (d) : (dat2 A n c).before 3 t d = in2 A 3 t :=
  (dat2 A n c).before_in_eq_fetched 3 rfl (fun _ => rfl) (fun _ _ _ => rfl) (fun _ => rfl) t d
/-- What input 0 of call 3 holds before a point: its block. -/
theorem before3_0 (t : Fin cfg3.N) (d) : (dat3 A n c).before 0 t d = in3 A 0 t :=
  (dat3 A n c).before_in_eq_fetched 0 rfl (fun _ => rfl) (fun _ _ _ => rfl) (fun _ => rfl) t d
/-- What input 1 of call 3 holds before a point: its block. -/
theorem before3_1 (t : Fin cfg3.N) (d) : (dat3 A n c).before 1 t d = in3 A 1 t :=
  (dat3 A n c).before_in_eq_fetched 1 rfl (fun _ => rfl) (fun _ _ _ => rfl) (fun _ => rfl) t d

/-- At a later point the score kernel finds the maxima of the points before. -/
theorem before0_acc (t : Fin cfg0.N) (ht : t.val ≠ 0) (d) :
    (dat0 A n c).before 7 t d = maxTo A (t.val - 1) (Nat.lt_of_le_of_lt (Nat.sub_le _ _) t.isLt) := by
  refine (dat0 A n c).before_out_kept 7 rfl t ht ?_ live0 (fun _ _ => rfl) d
  rw [← Bool.not_eq_true, flush0_7]
  have h := t.isLt
  have hN : cfg0.N = 50 := N_0
  show ¬ (t.val - 1) % 50 = 49
  omega

/-- The maxima after a later point. -/
theorem maxTo_later (t : Fin cfg0.N) (ht : t.val ≠ 0) : maxTo A t.val t.isLt = laterMax (in0 A 0 t) (in0 A 1 t) (in0 A 2 t) (in0 A 3 t) (in0 A 4 t)
    (maxTo A (t.val - 1) (Nat.lt_of_le_of_lt (Nat.sub_le _ _) t.isLt)) := by
  obtain ⟨_ | k, h⟩ := t
  · exact absurd rfl ht
  · rfl

/-- The maxima after the first point. -/
theorem maxTo_first (t : Fin cfg0.N) (ht : t.val = 0) : maxTo A t.val t.isLt = blockMax (in0 A 0 t) (in0 A 1 t) (in0 A 2 t) (in0 A 3 t) (in0 A 4 t) := by
  obtain ⟨k, h⟩ := t; cases ht; rfl

/-- At a later point the weighted-sum kernel finds the sums of the points before. -/
theorem before2_acc (t : Fin cfg2.N) (ht : t.val ≠ 0) (d) :
    (dat2 A n c).before 4 t d = sumTo A (t.val - 1) (Nat.lt_of_le_of_lt (Nat.sub_le _ _) t.isLt) := by
  refine (dat2 A n c).before_out_kept 4 rfl t ht ?_ live2 (fun _ _ => rfl) d
  rw [← Bool.not_eq_true, flush2_4]
  have h := t.isLt
  have hN : cfg2.N = 50 := N_2
  show ¬ (t.val - 1) % 50 = 49
  omega

/-- The sums after a later point. -/
theorem sumTo_later (t : Fin cfg2.N) (ht : t.val ≠ 0) : sumTo A t.val t.isLt = laterSum (in2 A 0 t) (in2 A 1 t) (in2 A 2 t) (in2 A 3 t)
    (sumTo A (t.val - 1) (Nat.lt_of_le_of_lt (Nat.sub_le _ _) t.isLt)) := by
  obtain ⟨_ | k, h⟩ := t
  · exact absurd rfl ht
  · rfl

/-- The sums after the first point. -/
theorem sumTo_first (t : Fin cfg2.N) (ht : t.val = 0) : sumTo A t.val t.isLt = firstSum (in2 A 0 t) (in2 A 1 t) (in2 A 2 t) (in2 A 3 t) := by
  obtain ⟨k, h⟩ := t; cases ht; rfl

set_option maxHeartbeats 800000 in
set_option backward.isDefEq.respectTransparency.types false in
/-- The score kernel's body at every point. -/
theorem body0 : BodyObligation (dat0 A n c) (defs₀ (F := F)) 𝒱₀ none Set.univ := fun t => by
  rw [bigSep_W0, bigSep_W0]
  dsimp only
  have e0 : ∀ X, (owns (c : Thread nD τ) (stage0_0 (cfg0.slots t 0)) fullShare X : sProp 𝕄) = iprop(∃ f, ⌜(stage0_0 (cfg0.slots t 0)).view.read (Elt F) f = X⌝ ∗ pt c (stage0_0 (cfg0.slots t 0)) f) :=
    fun X => owns_pt c _ (hstage0_0 ((cfg0.slots t 0).cast nbuf0_0)) X
  have e1 : ∀ X, (owns (c : Thread nD τ) (stage0_1 (cfg0.slots t 1)) fullShare X : sProp 𝕄) = iprop(∃ f, ⌜(stage0_1 (cfg0.slots t 1)).view.read (Elt F) f = X⌝ ∗ pt c (stage0_1 (cfg0.slots t 1)) f) :=
    fun X => owns_pt c _ (hstage0_1 ((cfg0.slots t 1).cast nbuf0_1)) X
  have e2 : ∀ X, (owns (c : Thread nD τ) (stage0_2 (cfg0.slots t 2)) fullShare X : sProp 𝕄) = iprop(∃ f, ⌜(stage0_2 (cfg0.slots t 2)).view.read (Elt F) f = X⌝ ∗ pt c (stage0_2 (cfg0.slots t 2)) f) :=
    fun X => owns_pt c _ (hstage0_2 ((cfg0.slots t 2).cast nbuf0_2)) X
  have e3 : ∀ X, (owns (c : Thread nD τ) (stage0_3 (cfg0.slots t 3)) fullShare X : sProp 𝕄) = iprop(∃ f, ⌜(stage0_3 (cfg0.slots t 3)).view.read (Elt F) f = X⌝ ∗ pt c (stage0_3 (cfg0.slots t 3)) f) :=
    fun X => owns_pt c _ (hstage0_3 ((cfg0.slots t 3).cast nbuf0_3)) X
  have e4 : ∀ X, (owns (c : Thread nD τ) (stage0_4 (cfg0.slots t 4)) fullShare X : sProp 𝕄) = iprop(∃ f, ⌜(stage0_4 (cfg0.slots t 4)).view.read (Elt F) f = X⌝ ∗ pt c (stage0_4 (cfg0.slots t 4)) f) :=
    fun X => owns_pt c _ (hstage0_4 ((cfg0.slots t 4).cast nbuf0_4)) X
  have e5 : ∀ X, (owns (c : Thread nD τ) (stage0_5 (cfg0.slots t 5)) fullShare X : sProp 𝕄) = iprop(∃ f, ⌜(stage0_5 (cfg0.slots t 5)).view.read (Elt F) f = X⌝ ∗ pt c (stage0_5 (cfg0.slots t 5)) f) :=
    fun X => owns_pt c _ (hstage0_5 ((cfg0.slots t 5).cast nbuf0_5)) X
  have e6 : ∀ X, (owns (c : Thread nD τ) (stage0_6 (cfg0.slots t 6)) fullShare X : sProp 𝕄) = iprop(∃ f, ⌜(stage0_6 (cfg0.slots t 6)).view.read (Elt F) f = X⌝ ∗ pt c (stage0_6 (cfg0.slots t 6)) f) :=
    fun X => owns_pt c _ (hstage0_6 ((cfg0.slots t 6).cast nbuf0_6)) X
  have e7 : ∀ X, (owns (c : Thread nD τ) (stage0_7 (cfg0.slots t 7)) fullShare X : sProp 𝕄) = iprop(∃ f, ⌜(stage0_7 (cfg0.slots t 7)).view.read (Elt F) f = X⌝ ∗ pt c (stage0_7 (cfg0.slots t 7)) f) :=
    fun X => owns_pt c _ (hstage0_7 ((cfg0.slots t 7).cast nbuf0_7)) X
  rw [live0 (grid0.coords t)]
  simp only [e0, e1, e2, e3, e4, e5, e6, e7, before0_0, before0_1, before0_2, before0_3, before0_4]
  rw [show (dat0 A n c).Φ t.castSucc = (dat0 A n c).Φ t.succ from rfl, show (dat0 A n c).owesAt none t.succ = (dat0 A n c).owesAt none t.castSucc from rfl]
  iintro ⟨HΦ, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  by_cases ht : t.val = 0
  · obtain ⟨c1, c2⟩ := cond0_first t ht
    iapply (score_first c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) f0 f1 f2 f3 f4 f5 f6 f7 (in0 A 0 t) (in0 A 1 t) (in0 A 2 t) (in0 A 3 t) (in0 A 4 t) c1 c2 h0 h1 h2 h3 h4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro %W5 %W6 %W7 ⟨%hW, H0, H1, H2, H3, H4, H5, H6, H7⟩
    isplitl [HΦ]; · iexact HΦ
    isplitl [HO]; · iexact HO
    isplitl [H0]; · iexists _; isplitr; swap; (· iexact H0); ipureintro; exact h0
    isplitl [H1]; · iexists _; isplitr; swap; (· iexact H1); ipureintro; exact h1
    isplitl [H2]; · iexists _; isplitr; swap; (· iexact H2); ipureintro; exact h2
    isplitl [H3]; · iexists _; isplitr; swap; (· iexact H3); ipureintro; exact h3
    isplitl [H4]; · iexists _; isplitr; swap; (· iexact H4); ipureintro; exact h4
    isplitl [H5]; · iexists _; isplitr; swap; (· iexact H5); ipureintro; exact hW.1
    isplitl [H6]; · iexists _; isplitr; swap; (· iexact H6); ipureintro; exact hW.2.1
    iexists _; isplitr; swap; (· iexact H7); ipureintro; exact hW.2.2.trans (maxTo_first A t ht).symm
  · obtain ⟨c1, c2⟩ := cond0_later t ht
    rw [before0_acc A n c t ht] at h7
    iapply (score_later c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) f0 f1 f2 f3 f4 f5 f6 f7 (in0 A 0 t) (in0 A 1 t) (in0 A 2 t) (in0 A 3 t) (in0 A 4 t) _ c1 c2 h0 h1 h2 h3 h4 h7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro %W5 %W6 %W7 ⟨%hW, H0, H1, H2, H3, H4, H5, H6, H7⟩
    isplitl [HΦ]; · iexact HΦ
    isplitl [HO]; · iexact HO
    isplitl [H0]; · iexists _; isplitr; swap; (· iexact H0); ipureintro; exact h0
    isplitl [H1]; · iexists _; isplitr; swap; (· iexact H1); ipureintro; exact h1
    isplitl [H2]; · iexists _; isplitr; swap; (· iexact H2); ipureintro; exact h2
    isplitl [H3]; · iexists _; isplitr; swap; (· iexact H3); ipureintro; exact h3
    isplitl [H4]; · iexists _; isplitr; swap; (· iexact H4); ipureintro; exact h4
    isplitl [H5]; · iexists _; isplitr; swap; (· iexact H5); ipureintro; exact hW.1
    isplitl [H6]; · iexists _; isplitr; swap; (· iexact H6); ipureintro; exact hW.2.1
    iexists _; isplitr; swap; (· iexact H7); ipureintro; exact hW.2.2.trans (maxTo_later A t ht).symm

set_option backward.isDefEq.respectTransparency.types false in
/-- The weighted-sum kernel's body at every point. -/
theorem body2 : BodyObligation (dat2 A n c) (defs₀ (F := F)) 𝒱₀ none Set.univ := fun t => by
  rw [bigSep_W2, bigSep_W2]
  dsimp only
  have e0 : ∀ X, (owns (c : Thread nD τ) (stage2_0 (cfg2.slots t 0)) fullShare X : sProp 𝕄) = iprop(∃ f, ⌜(stage2_0 (cfg2.slots t 0)).view.read (Elt F) f = X⌝ ∗ pt c (stage2_0 (cfg2.slots t 0)) f) :=
    fun X => owns_pt c _ (hstage2_0 ((cfg2.slots t 0).cast nbuf2_0)) X
  have e1 : ∀ X, (owns (c : Thread nD τ) (stage2_1 (cfg2.slots t 1)) fullShare X : sProp 𝕄) = iprop(∃ f, ⌜(stage2_1 (cfg2.slots t 1)).view.read (Elt F) f = X⌝ ∗ pt c (stage2_1 (cfg2.slots t 1)) f) :=
    fun X => owns_pt c _ (hstage2_1 ((cfg2.slots t 1).cast nbuf2_1)) X
  have e2 : ∀ X, (owns (c : Thread nD τ) (stage2_2 (cfg2.slots t 2)) fullShare X : sProp 𝕄) = iprop(∃ f, ⌜(stage2_2 (cfg2.slots t 2)).view.read (Elt F) f = X⌝ ∗ pt c (stage2_2 (cfg2.slots t 2)) f) :=
    fun X => owns_pt c _ (hstage2_2 ((cfg2.slots t 2).cast nbuf2_2)) X
  have e3 : ∀ X, (owns (c : Thread nD τ) (stage2_3 (cfg2.slots t 3)) fullShare X : sProp 𝕄) = iprop(∃ f, ⌜(stage2_3 (cfg2.slots t 3)).view.read (Elt F) f = X⌝ ∗ pt c (stage2_3 (cfg2.slots t 3)) f) :=
    fun X => owns_pt c _ (hstage2_3 ((cfg2.slots t 3).cast nbuf2_3)) X
  have e4 : ∀ X, (owns (c : Thread nD τ) (stage2_4 (cfg2.slots t 4)) fullShare X : sProp 𝕄) = iprop(∃ f, ⌜(stage2_4 (cfg2.slots t 4)).view.read (Elt F) f = X⌝ ∗ pt c (stage2_4 (cfg2.slots t 4)) f) :=
    fun X => owns_pt c _ (hstage2_4 ((cfg2.slots t 4).cast nbuf2_4)) X
  rw [live2 (grid2.coords t)]
  simp only [e0, e1, e2, e3, e4, before2_0, before2_1, before2_2, before2_3]
  rw [show (dat2 A n c).Φ t.castSucc = (dat2 A n c).Φ t.succ from rfl, show (dat2 A n c).owesAt none t.succ = (dat2 A n c).owesAt none t.castSucc from rfl]
  iintro ⟨HΦ, HO, ⟨%d0, %f0, %h0, H0⟩, ⟨%d1, %f1, %h1, H1⟩, ⟨%d2, %f2, %h2, H2⟩, ⟨%d3, %f3, %h3, H3⟩, ⟨%d4, %f4, %h4, H4⟩⟩
  by_cases ht : t.val = 0
  · obtain ⟨c1, c2, c3, c4, c5, c6, c7, c8⟩ := cond2_first t ht
    iapply (uacc_first c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) f0 f1 f2 f3 f4 (in2 A 0 t) (in2 A 1 t) (in2 A 2 t) (in2 A 3 t) c1 c2 c3 c4 c5 c6 c7 c8 h0 h1 h2 h3 Set.univ _)
    isplitl [H0]; · iexact H0
    isplitl [H1]; · iexact H1
    isplitl [H2]; · iexact H2
    isplitl [H3]; · iexact H3
    isplitl [H4]; · iexact H4
    iintro %W4 ⟨%hW, H0, H1, H2, H3, H4⟩
    isplitl [HΦ]; · iexact HΦ
    isplitl [HO]; · iexact HO
    isplitl [H0]; · iexists _; isplitr; swap; (· iexact H0); ipureintro; exact h0
    isplitl [H1]; · iexists _; isplitr; swap; (· iexact H1); ipureintro; exact h1
    isplitl [H2]; · iexists _; isplitr; swap; (· iexact H2); ipureintro; exact h2
    isplitl [H3]; · iexists _; isplitr; swap; (· iexact H3); ipureintro; exact h3
    iexists _; isplitr; swap; (· iexact H4); ipureintro; exact hW.trans (sumTo_first A t ht).symm
  · obtain ⟨c1, c2, c3, c4, c5, c6, c7, c8⟩ := cond2_later t ht
    rw [before2_acc A n c t ht] at h4
    iapply (uacc_later c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) f0 f1 f2 f3 f4 (in2 A 0 t) (in2 A 1 t) (in2 A 2 t) (in2 A 3 t) _ c1 c2 c3 c4 c5 c6 c7 c8 h0 h1 h2 h3 h4 Set.univ _)
    isplitl [H0]; · iexact H0
    isplitl [H1]; · iexact H1
    isplitl [H2]; · iexact H2
    isplitl [H3]; · iexact H3
    isplitl [H4]; · iexact H4
    iintro %W4 ⟨%hW, H0, H1, H2, H3, H4⟩
    isplitl [HΦ]; · iexact HΦ
    isplitl [HO]; · iexact HO
    isplitl [H0]; · iexists _; isplitr; swap; (· iexact H0); ipureintro; exact h0
    isplitl [H1]; · iexists _; isplitr; swap; (· iexact H1); ipureintro; exact h1
    isplitl [H2]; · iexists _; isplitr; swap; (· iexact H2); ipureintro; exact h2
    isplitl [H3]; · iexists _; isplitr; swap; (· iexact H3); ipureintro; exact h3
    iexists _; isplitr; swap; (· iexact H4); ipureintro; exact hW.trans (sumTo_later A t ht).symm

set_option backward.isDefEq.respectTransparency.types false in
/-- The last kernel's body. -/
theorem body3 : BodyObligation (dat3 A n c) (defs₀ (F := F)) 𝒱₀ none Set.univ := fun t => by
  rw [bigSep_W3, bigSep_W3]
  dsimp only
  have e0 : ∀ X, (owns (c : Thread nD τ) (stage3_0 0) fullShare X : sProp 𝕄) = iprop(∃ f, ⌜(stage3_0 0).view.read (Elt F) f = X⌝ ∗ pt c (stage3_0 0) f) :=
    fun X => owns_pt c _ (hstage3_0 0) X
  have e1 : ∀ X, (owns (c : Thread nD τ) (stage3_1 0) fullShare X : sProp 𝕄) = iprop(∃ f, ⌜(stage3_1 0).view.read (Elt F) f = X⌝ ∗ pt c (stage3_1 0) f) :=
    fun X => owns_pt c _ (hstage3_1 0) X
  have e2 : ∀ X, (owns (c : Thread nD τ) (stage3_2 0) fullShare X : sProp 𝕄) = iprop(∃ f, ⌜(stage3_2 0).view.read (Elt F) f = X⌝ ∗ pt c (stage3_2 0) f) :=
    fun X => owns_pt c _ (hstage3_2 0) X
  simp only [e0, e1, e2, before3_0, before3_1]
  rw [show (dat3 A n c).Φ t.castSucc = (dat3 A n c).Φ t.succ from rfl, show (dat3 A n c).owesAt none t.succ = (dat3 A n c).owesAt none t.castSucc from rfl]
  iintro ⟨HΦ, HO, ⟨%d0, %f0, %h0, H0⟩, ⟨%d1, %f1, %h1, H1⟩, ⟨%d2, %f2, %h2, H2⟩⟩
  iapply (mean_run c _ (hstage3_0 0) _ (hstage3_1 0) _ (hstage3_2 0) f0 f1 f2 (in3 A 0 t) (in3 A 1 t) h0 h1 Set.univ _)
  isplitl [H0]; · iexact H0
  isplitl [H1]; · iexact H1
  isplitl [H2]; · iexact H2
  iintro %W2 ⟨%hW, H0, H1, H2⟩
  isplitl [HΦ]; · iexact HΦ
  isplitl [HO]; · iexact HO
  isplitl [H0]; · iexists _; isplitr; swap; (· iexact H0); ipureintro; exact h0
  isplitl [H1]; · iexists _; isplitr; swap; (· iexact H1); ipureintro; exact h1
  iexists _; isplitr; swap; (· iexact H2); ipureintro; exact hW

end Bodies

end Cert.Proof

end
-- ==== Proof.Sections.lean ====
/-
  A TensorCore call of the program as one step of its main function: entered with every unscoped buffer of the device held at
  a valuation, left with them at the valuation the region's proof data name, the debts to the SparseCores unchanged.
-/
module

public import proofs.«01_k».proof.Proof.Regions

@[expose] public section

noncomputable section

namespace Cert.Proof

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation afterRegion ucRefs)

variable {F : FTy → Type} [FloatOps F] [∀ e, Nonempty (Elt F e)]
local notation "𝕄" => MT nD τ sig (HIx 1) (Elt F) ℕ UU ℕ

/-- The pipelines' tables: none. -/
abbrev adm : (p : Fin 3) → (pcfgs (F := F) p).Adm := fun p => (cfgs p).toPCfg_adm

/-- What the TensorCore of `d` owes before SparseCore call `n`, its recorded waits below the call. -/
abbrev owing (n : ℕ) (c : Dev nD) : sProp 𝕄 :=
  iprop(∃ W, ⌜(K (F := F)).WBelow (T c) W (8 * n)⌝ ∗ owes (T c) ((K (F := F)).Otc c n) W)

/-- The TensorCore owes nothing outside a call's own cells. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

section Region

variable (A : Dev nD → Valuation τ sig (Elt F)) (n : ℕ)

/-- What each window of each pipeline holds after a point. -/
def afters (B : Valuation τ sig (Elt F)) : (p : Fin 3) → (w : Fin (Pipeline.pin (pcfgs (F := F)) adm p).W) →
    Fin (Pipeline.pin (pcfgs (F := F)) adm p).N → ((Pipeline.pin (pcfgs (F := F)) adm p).win w).block.Idx → Elt F ((Pipeline.pin (pcfgs (F := F)) adm p).win w).elt
  | ⟨0, _⟩ => after0 B
  | ⟨1, _⟩ => after2 B
  | ⟨2, _⟩ => after3 B

/-- The proof data of the three pipelines, every one entered at `A` before SparseCore call `n`. -/
def pdats (p : Fin 3) (c : Dev nD) : Dat τ (Elt F) (HIx 1) ℕ UU ℕ (Pipeline.pin (pcfgs (F := F)) adm p) c :=
  mkDat (A c) (Pipeline.pin (pcfgs (F := F)) adm p) n c (afters (A c) p)

/-- Every call's body obligation. -/
theorem pdats_body : ∀ (p : Fin 3) (c : Dev nD), BodyObligation (pdats A n p c) (defs₀ (F := F)) 𝒱₀ none Set.univ
  | ⟨0, _⟩ => fun c => body0 (A c) n c
  | ⟨1, _⟩ => fun c => body2 (A c) n c
  | ⟨2, _⟩ => fun c => body3 (A c) n c

/-- What a call owes is what the program owes there. -/
theorem pdats_owed (p : Fin 3) (c : Dev nD) (t) : (pdats A n p c).owed t = (K (F := F)).Otc c n := rfl

/-- What a call has on record. -/
theorem pdats_recorded (p : Fin 3) (c : Dev nD) (t) : (pdats A n p c).recorded t = {x | (K (F := F)).lev (T c, x.1) x.2 ≤ 8 * n} := rfl

/-- What a call keeps besides its windows: its other scoped storage. -/
theorem pdats_inv (p : Fin 3) (c : Dev nD) (t) : (pdats A n p c).Φ t =
    Pipeline.scopedRest (Ix := HIx 1) (Name := ℕ) (U := UU) (Lvl := ℕ) (Val := Elt F) (Pipeline.pin (pcfgs (F := F)) adm p).spec c := rfl

/-- A call holds its arrays whole. -/
theorem pdats_share (p : Fin 3) (c : Dev nD) (w) : (pdats A n p c).share w = fullShare := (pdats A n p c).share_full (fun _ => rfl) w

/-- A call's arrays at its entry. -/
theorem pdats_A (p : Fin 3) (c : Dev nD) (w) :
    (pdats A n p c).arrAt w 0 = A c (Proc.devRef .tc (Pipeline.arrRef (Pipeline.pin (pcfgs (F := F)) adm p).spec w)) := rfl

/-- The launch facts of every call. -/
theorem plaunch : ∀ p : Fin 3, Pipeline.PLaunchFacts (nD := nD) (τ := τ) (pcfgs (F := F)) p
  | ⟨0, _⟩ => launch0.toP
  | ⟨1, _⟩ => launch2.toP
  | ⟨2, _⟩ => launch3.toP

/-- A call's arrays are among the held buffers. -/
theorem arrs_sub (p : Fin 3) : Pipeline.arrRefs (τ := τ) (pcfgs (F := F) p).spec ⊆ ucRefs τ sig :=
  Pipeline.arrRefs_sub_ucRefs _ (plaunch (F := F) p).win.arr_unscoped

set_option backward.isDefEq.respectTransparency.types false in
/-- Pipeline `p`'s region over the thread state "every unscoped buffer at `A`, the debts before call `n`". -/
def regSeg (p : Fin 3) : Pipeline.RegionSeg (pcfgs (F := F)) adm (pdats A n) none defs₀ 𝒱₀ (K (F := F)).L (K (F := F)).lev p where
  win := (plaunch (F := F) p).win.to₀
  block_pos := (plaunch (F := F) p).block_pos
  stage_whole := (plaunch (F := F) p).stage_whole
  K := PEmpty
  osem k := k.elim
  ho := Pipeline.OwnSemFacts.none _
  hbody c := (pdats_body A n p c).loose
  hwaits c := Pipeline.cellsWaits_intro (Pipeline.pin (pcfgs (F := F)) adm) (pdats A n) none p c fun w s t => by
    rw [pdats_owed A n p c t]
    exact (K (F := F)).mayWait_none _ (Otc_none c n)
  pre c := iprop(StableHlo.held (c.tc : Thread nD τ) (ucRefs τ sig) (A c) ∗ owing n c)
  post c := iprop(StableHlo.held (c.tc : Thread nD τ) (ucRefs τ sig) (afterRegion (pdats A n p c) (A c)) ∗ owing n c)
  X _ := BI.emp
  Y _ := BI.emp
  Z c := StableHlo.held (c.tc : Thread nD τ) (ucRefs τ sig \ Pipeline.arrRefs (pcfgs (F := F) p).spec) (A c)
  hentry c := by
    rw [Pipeline.ownSems0_none, Pipeline.prefHeld_of_none _ (by rfl), StableHlo.held_sub_split (c.tc : Thread nD τ) (arrs_sub (F := F) p) (A c),
      Pipeline.arrays_held (pcfgs (F := F)) adm (pdats A n) p (plaunch p) c (pdats_share A n p c) ((pdats A n p c).arrAt · 0) (A c) (pdats_A A n p c)]
    iintro ⟨⟨⟨Ha, Hr⟩, HO⟩, -, -⟩
    imodintro
    isplitl [Ha]; · iexact Ha
    isplitr; · iempintro
    isplitl [HO]
    · unfold Pipeline.Dat.owesAt Pipeline.owesWithin Pipeline.Dat.bound
      rw [pdats_owed, pdats_recorded]
      icases HO with ⟨%W, %hW, HO⟩; iexists W; isplitr; · ipureintro; exact fun x hx => Or.inl (hW x hx)
      iexact HO
    isplitr; · iempintro
    iexact Hr
  hin c := by
    rw [pdats_inv]
    iintro ⟨-, -, Hr⟩; iexact Hr
  hout c := by
    rw [Pipeline.ownSems0_none, pdats_inv]
    iintro Hr
    isplitr; · iempintro
    isplitr; · iempintro
    iexact Hr
  hexit c := by
    rw [StableHlo.held_sub_split (c.tc : Thread nD τ) (arrs_sub (F := F) p) (afterRegion (pdats A n p c) (A c)),
      StableHlo.held_congr (c.tc : Thread nD τ) (S := ucRefs τ sig \ Pipeline.arrRefs (pcfgs (F := F) p).spec) (V := afterRegion (pdats A n p c) (A c)) (V' := A c)
        (Pipeline.afterRegion_off (pdats A n p c) (A c) _),
      Pipeline.arrays_held (pcfgs (F := F)) adm (pdats A n) p (plaunch p) c (pdats_share A n p c) ((pdats A n p c).arrAt · _) (afterRegion (pdats A n p c) (A c))
        (fun w => (Pipeline.afterRegion_arr (pdats A n p c) (A c) (plaunch (F := F) p).win.arr_inj w).symm)]
    iintro ⟨Ha, HO, -, Hr⟩
    imodintro
    isplitl [Ha Hr]
    · isplitl [Ha]; · iexact Ha
      iexact Hr
    unfold Pipeline.Dat.owesAt Pipeline.owesWithin Pipeline.Dat.bound
    rw [pdats_owed, pdats_recorded]
    icases HO with ⟨%W, %hW, HO⟩; iexists W; isplitr; swap; (· iexact HO)
    ipureintro
    intro x hx
    rcases hW hx with h | ⟨w, s, rfl⟩
    · exact h
    · exact Nat.zero_le _

/-- What a call is entered with. -/
theorem regSeg_pre (p : Fin 3) (c : Dev nD) : (regSeg A n p).pre c = iprop(StableHlo.held (c.tc : Thread nD τ) (ucRefs τ sig) (A c) ∗ owing n c) := rfl
/-- What a call leaves. -/
theorem regSeg_post (p : Fin 3) (c : Dev nD) :
    (regSeg A n p).post c = iprop(StableHlo.held (c.tc : Thread nD τ) (ucRefs τ sig) (afterRegion (pdats A n p c) (A c)) ∗ owing n c) := rfl

set_option backward.isDefEq.respectTransparency.types false in
/-- Pipeline `p`'s call in the main function: from the boundary, the unscoped buffers at `A`, the debts and the pipeline's
    share of the ghost state, to the buffers as the region leaves them. -/
theorem wp_call (p : Fin 3) (c : Dev nD) {β : Type} (k : PUnit → Prog (TpuEff nD τ sig (Elt F) (SparseCore.Sig (ΛP (F := F)) 1) .tc) β) (Q : β → sProp 𝕄) :
    iprop((boundary (T c) ∗ (StableHlo.held (T c) (ucRefs τ sig) (A c) ∗ owing n c) ∗ levAts (K (F := F)).L (K (F := F)).lev
        ∗ Pipeline.cellsGhost (Pipeline.pin (pcfgs (F := F)) adm) EP p c ∗ Pipeline.toksInit (Pipeline.pin (pcfgs (F := F)) adm) EP p c)
        ∗ (iprop(boundary (T c) ∗ (StableHlo.held (T c) (ucRefs τ sig) (afterRegion (pdats A n p c) (A c)) ∗ owing n c))
            -∗ wp frame (wpE ((K (F := F)).defs (D (F := F))) 𝒱 (T c) none) Set.univ (k ⟨⟩) Q))
      ⊢ wp frame (wpE ((K (F := F)).defs (D (F := F))) 𝒱 (T c) none) Set.univ (Prog.lift (.customCall (SparseCore.inner (Pipeline.entry p)) ()) >>= k) Q := by
  rw [wp_bind]
  have hl := fun Q' : PUnit → sProp 𝕄 => (K (F := F)).wp_liftProg (D (F := F)) 𝒱 (T c) Set.univ none
    (.op (.customCall (Pipeline.entry p : (ΛP (F := F)).Label) ()) fun _ => .ret ⟨⟩) Q'
  simp only [SparseCore.liftProg_op, SparseCore.liftProg_ret] at hl
  have h := Pipeline.RegionSeg.wp (pcfgs (F := F)) adm (pdats A n) none cellOf_inj EP defs₀ 𝒱₀ (K (F := F)).L (K (F := F)).lev (regSeg A n p) c none
    (by intro u hu; cases hu) (α := PUnit) (fun _ => .ret PUnit.unit)
  rw [regSeg_pre, regSeg_post] at h
  refine BIBase.Entails.trans ?_ ((h _).trans (hl _))
  iintro ⟨⟨Hb, Hpre, Hl, Hg, Ht⟩, Hk⟩
  isplitl [Hk]
  · iintro H
    rw [wp_ret]; imodintro
    iapply Hk; iexact H
  isplitl [Hb]; · iexact Hb
  isplitl [Hpre]; · iexact Hpre
  isplitl [Hl]; · iexact Hl
  isplitl [Hg] <;> iassumption

end Region

end Cert.Proof

end
-- ==== Proof.Heads.lean ====
/-
  One step of the SparseCore kernel: for one group of sixteen nodes and one head, the tile loads the scores, gathers
  the segment maxima, and adds the exponentials into its accumulator. The accumulator's value is carried as a function
  of the segment numbers, the scores and the maxima (`headStep`); `wp_head` runs one step.
-/
module

public import proofs.«01_k».proof.Proof.Common
public import Idealize.ShloMosaic.Lib.Pipeline.Value

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The values -/

/-- The segment numbers of the sixteen nodes from node `o`. -/
def lanes (seg : ℕ → BitVec 32) (o : ℕ) : IVec S16 32 := fun x => seg (o + (x 0).val)

/-- The table index of head `h` for segment numbers `v`: eight times the segment, plus the head. -/
def ivOf (v : IVec S16 32) (h : ℕ) : IVec S16 32 :=
  addi (muli v (broadcast S16 8#32)) (broadcast S16 (BitVec.ofNat 32 h))

/-- Every index of a vector lies in the table of 512 entries. -/
abbrev InB (v : IVec S16 32) : Prop := ∀ a x, ((![v] : Fin 1 → IVec S16 32) a x).toNat < S512.size a

/-- The accumulator after one step: node group from `o`, head `h`. -/
def headStep (sm : Vec F S512 .f32) (seg : ℕ → BitVec 32) (sc : ℕ → ℕ → F .f32) (o h : ℕ) (acc : Vec F S512 .f32) : Vec F S512 .f32 :=
  if hi : InB (ivOf (lanes seg o) h) then
    storeIdx acc ![ivOf (lanes seg o) h]
      (exp (subf (fun x : S16.Idx => sc h (o + (x 0).val)) (loadIdx sm ![ivOf (lanes seg o) h] hi))) (fun _ => 1#1) true hi
  else acc

/-- Segment numbers below 64 and heads below 8 give indices in the table. -/
theorem inB_of_lt {v : IVec S16 32} {h : ℕ} (hv : ∀ x, (v x).toNat < 64) (hh : h < 8) : InB (ivOf v h) := by
  intro a x
  obtain rfl : a = 0 := Subsingleton.elim _ _
  show (v x * 8#32 + BitVec.ofNat 32 h).toNat < 512
  have := hv x
  rw [BitVec.toNat_add, BitVec.toNat_mul, BitVec.toNat_ofNat, BitVec.toNat_ofNat]
  omega

/-! ## One step run -/

variable (d : Dev nD) (L : grid1.Coords)

/-- A buffer of segment numbers holds those of unit `u`'s four hundred nodes. -/
def segHolds (b : Memref sig .scVector .vmem S400 .i32) (seg : ℕ → BitVec 32) (u : ℕ) : sProp 𝕄 :=
  iprop(∃ f, ⌜∀ x : S400.Idx, b.view.read (Elt F) f x = seg (400 * u + (x 0).val)⌝ ∗ b.view.loc (tt d L) ↦{fullShare} f)

/-- A buffer of scores holds those of unit `u`'s four hundred nodes, a row per head. -/
def scHolds (b : Memref sig .scVector .vmem S4x400 .f32) (sc : ℕ → ℕ → F .f32) (u : ℕ) : sProp 𝕄 :=
  iprop(∃ f, ⌜∀ x : S4x400.Idx, b.view.read (Elt F) f x = sc (x 0).val (400 * u + (x 1).val)⌝ ∗ b.view.loc (tt d L) ↦{fullShare} f)

/-- A buffer of 512 entries holds `v`. -/
def tabHolds (b : Memref sig .scVector .vmem S512 .f32) (v : Vec F S512 .f32) : sProp 𝕄 :=
  iprop(∃ f, ⌜b.view.read (Elt F) f = v⌝ ∗ b.view.loc (tt d L) ↦{fullShare} f)

/-- Reading the whole of a buffer through the unit rectangle is reading the buffer. -/
theorem readAt_whole {s : Shape} {e : EltTy} (b : Memref sig .scVector .vmem s e) (f : b.view.ty.Contents (Elt F)) :
    b.view.readAt (Elt F) (LoadRect.whole s) f = b.view.read (Elt F) f := by
  funext x
  rw [View.readAt_apply]
  congr 1
  funext a; apply Fin.ext
  rw [LoadRect.idx_apply]
  show 0 + 1 * (x a).val = (x a).val
  omega

/-- Storing the whole of a buffer leaves the stored value. -/
theorem read_storeWhole {s : Shape} {e : EltTy} (b : Memref sig .scVector .vmem s e) (f : b.view.ty.Contents (Elt F)) (w : s.Idx → Elt F e) :
    b.view.read (Elt F) ((b.access (Rect.whole s)).write (Elt F) f w Finset.univ) = w := by
  funext x
  have hx : x = (Rect.whole s).emb x := by
    funext a; apply Fin.ext
    show (x a).val = 0 + 1 * (x a).val
    omega
  conv_lhs => rw [hx]
  exact b.view.read_slice_write_emb (Rect.whole s) f w (Finset.mem_univ _)

/-- The load of a group's segment numbers. -/
theorem wp_segLoad {b6 : Memref sig .scVector .vmem S400 .i32} {seg : ℕ → BitVec 32} {u q : ℕ} {off : Fin 1 → ℕ}
    {inb : ∀ a, off a + S16.size a ≤ S400.size a} {hl} {α : Type} {k : Vec F S16 .i32 → Prog (TpuEff nD τ sig (Elt F) Λ₀ (.scVector (cV L) (jV L))) α}
    {Q : α → sProp 𝕄} {R : sProp 𝕄} (hoff : off = ![q])
    (hk : iprop(segHolds (F := F) d L b6 seg u ∗ R) ⊢ wp frame (wpE (defs₀ (F := F)) 𝒱₀ (tt d L) none) Set.univ (k (lanes seg (400 * u + q))) Q) :
    iprop(segHolds (F := F) d L b6 seg u ∗ R)
      ⊢ wp frame (wpE (defs₀ (F := F)) 𝒱₀ (tt d L) none) Set.univ (.op (.load b6 (Rect.unit (s := S400) off S16.size inb).toLoadRect hl) k) Q := by
  unfold segHolds
  iintro ⟨⟨%f, %hf, Hf⟩, HR⟩
  iapply (wp_load 𝒱₀ (tt d L) none Set.univ (m := b6) (S := Finset.univ) (Finset.subset_univ _)) $$ Hf
  iintro Hf
  have hv : b6.view.readAt (Elt F) (Rect.unit (s := S400) off S16.size inb).toLoadRect f = lanes seg (400 * u + q) := by
    funext x
    rw [View.readAt_apply, hf]
    unfold lanes
    rw [LoadRect.idx_apply]
    subst hoff
    show seg (400 * u + (q + 1 * (x 0).val)) = _
    congr 1; omega
  rw [hv]
  iapply hk
  isplitl [Hf]
  · unfold segHolds; iexists f; isplitr
    · ipureintro; exact hf
    · iexact Hf
  · iexact HR

/-- One head's step: the scores' load, the index check, the gather of the maxima, the addition into the accumulator. -/
theorem wp_head {b14 : Memref sig .scVector .vmem S4x400 .f32} {b22 b23 : Memref sig .scVector .vmem S512 .f32}
    {sm acc : Vec F S512 .f32} {seg : ℕ → BitVec 32} {sc : ℕ → ℕ → F .f32} {u q h : ℕ} {off : Fin 2 → ℕ}
    {inb : ∀ a, off a + S1x16.size a ≤ S4x400.size a} {hl hl22 hl23 hs hm} {C : Prop} {dC : Decidable C} {α : Type}
    {k : Vec F S1x16 .f32 → PLift C → Vec F S512 .f32 → Vec F S512 .f32 → Prog (TpuEff nD τ sig (Elt F) Λ₀ (.scVector (cV L) (jV L))) α} {Q : α → sProp 𝕄} {R : sProp 𝕄}
    (hoff : off = ![h, q]) (hi : InB (ivOf (lanes seg (400 * u + q)) h)) (hC : C)
    (hk : ∀ ld f g, iprop(tabHolds (F := F) d L b23 (headStep sm seg sc (400 * u + q) h acc) ∗ tabHolds (F := F) d L b22 sm ∗ scHolds (F := F) d L b14 sc u ∗ R)
      ⊢ wp frame (wpE (defs₀ (F := F)) 𝒱₀ (tt d L) none) Set.univ (k ld ⟨hC⟩ f g) Q) :
    iprop(tabHolds (F := F) d L b23 acc ∗ tabHolds (F := F) d L b22 sm ∗ scHolds (F := F) d L b14 sc u ∗ R)
      ⊢ wp frame (wpE (defs₀ (F := F)) 𝒱₀ (tt d L) none) Set.univ
          (.op (.load b14 (Rect.unit (s := S4x400) off S1x16.size inb).toLoadRect hl) fun ld =>
           .op (.assume C dC) fun hw =>
           .op (.load b22 (LoadRect.whole S512) hl22) fun f =>
           .op (.load b23 (LoadRect.whole S512) hl23) fun g =>
           .op (.store b23 (Rect.whole S512)
              (storeIdx g ![ivOf (lanes seg (400 * u + q)) h]
                (exp (subf (shapeCast S16 ld shapeCasts_S1x16_S16) (loadIdx f ![ivOf (lanes seg (400 * u + q)) h] hi))) (fun _ => 1#1) true hi)
              Finset.univ hs hm) fun _ => k ld hw f g) Q := by
  unfold tabHolds
  iintro ⟨⟨%fa, %hfa, Ha⟩, ⟨%fm, %hfm, Hm⟩, Hs, HR⟩
  unfold scHolds
  icases Hs with ⟨%fs, %hfs, Hs⟩
  iapply (wp_load 𝒱₀ (tt d L) none Set.univ (m := b14) (S := Finset.univ) (Finset.subset_univ _)) $$ Hs
  iintro Hs
  rw [wp_assume_of _ _ _ _ hC]
  iapply (wp_load 𝒱₀ (tt d L) none Set.univ (m := b22) (S := Finset.univ) (Finset.subset_univ _)) $$ Hm
  iintro Hm
  iapply (wp_load 𝒱₀ (tt d L) none Set.univ (m := b23) (S := Finset.univ) (Finset.subset_univ _)) $$ Ha
  iintro Ha
  iapply (wp_store 𝒱₀ (tt d L) none Set.univ (m := b23) (r := Rect.whole S512) (Mk := Finset.univ) (S := Finset.univ) (Finset.subset_univ _)) $$ Ha
  iintro Ha
  iapply (hk _ _ _)
  isplitl [Ha]
  · unfold tabHolds
    iexists _; isplitr
    rotate_left
    · iexact Ha
    · ipureintro
      have hld : shapeCast S16 (b14.view.readAt (Elt F) (Rect.unit (s := S4x400) off S1x16.size inb).toLoadRect fs) shapeCasts_S1x16_S16
          = fun x : S16.Idx => sc h (400 * u + q + (x 0).val) := by
        funext x
        refine (shapeCast_dropUnit_apply ![16] _ shapeCasts_S1x16_S16 x).trans ?_
        rw [View.readAt_apply, hfs]
        subst hoff
        rw [LoadRect.idx_apply, LoadRect.idx_apply]
        show sc (h + 1 * 0) (400 * u + (q + 1 * (x 0).val)) = _
        congr 1; omega
      rw [read_storeWhole, readAt_whole, readAt_whole, hfa, hfm, hld]
      unfold headStep
      rw [dif_pos hi]
  isplitl [Hm]
  · unfold tabHolds; iexists fm; isplitr
    · ipureintro; exact hfm
    · iexact Hm
  isplitl [Hs]
  · unfold scHolds; iexists fs; isplitr
    · ipureintro; exact hfs
    · iexact Hs
  · iexact HR

/-! ## A trip, a unit, a tile -/

/-- The accumulator after a group of sixteen nodes from node `o`: the four heads in turn. -/
def groupStep (sm : Vec F S512 .f32) (seg : ℕ → BitVec 32) (sc : ℕ → ℕ → F .f32) (o : ℕ) (acc : Vec F S512 .f32) : Vec F S512 .f32 :=
  headStep sm seg sc o 3 (headStep sm seg sc o 2 (headStep sm seg sc o 1 (headStep sm seg sc o 0 acc)))

/-- The accumulator after `n` groups of the unit `u`. -/
def unitPart (sm : Vec F S512 .f32) (seg : ℕ → BitVec 32) (sc : ℕ → ℕ → F .f32) (u : ℕ) (acc : Vec F S512 .f32) : ℕ → Vec F S512 .f32
  | 0 => acc
  | n + 1 => groupStep sm seg sc (400 * u + 16 * n) (unitPart sm seg sc u acc n)

/-- The accumulator of tile `w` after its first `r` turns, from zero: turn `r` takes unit `w + 32 r` if there is one. -/
def tileAcc (sm : Vec F S512 .f32) (seg : ℕ → BitVec 32) (sc : ℕ → ℕ → F .f32) (w : ℕ) : ℕ → Vec F S512 .f32
  | 0 => fun _ => FloatOps.ofBits .f32 0x0#32
  | r + 1 => if w + 32 * r < 250 then unitPart sm seg sc (w + 32 * r) (tileAcc sm seg sc w r) 25 else tileAcc sm seg sc w r

/-- What a trip of a unit's loop holds: the accumulator after `n` groups, the maxima, the unit's scores and segment numbers. -/
def unitRes (b6 : Memref sig .scVector .vmem S400 .i32) (b14 : Memref sig .scVector .vmem S4x400 .f32) (b22 b23 : Memref sig .scVector .vmem S512 .f32)
    (sm : Vec F S512 .f32) (seg : ℕ → BitVec 32) (sc : ℕ → ℕ → F .f32) (u : ℕ) (acc : Vec F S512 .f32) : sProp 𝕄 :=
  iprop(tabHolds (F := F) d L b23 acc ∗ tabHolds (F := F) d L b22 sm ∗ scHolds (F := F) d L b14 sc u ∗ segHolds (F := F) d L b6 seg u)

/-- The table's indices are in range for every unit's node, whatever the head. -/
def SegOK (seg : ℕ → BitVec 32) : Prop := ∀ n, (seg n).toNat < 64

/-- The entries a step reads and adds to are in the table. -/
theorem SegOK.inB {seg : ℕ → BitVec 32} (hs : SegOK seg) (o : ℕ) {h : ℕ} (hh : h < 8) : InB (ivOf (lanes seg o) h) :=
  inB_of_lt (fun _ => hs _) hh

variable {b6 : Memref sig .scVector .vmem S400 .i32} {b14 : Memref sig .scVector .vmem S4x400 .f32} {b22 b23 : Memref sig .scVector .vmem S512 .f32}
  {sm acc : Vec F S512 .f32} {seg : ℕ → BitVec 32} {sc : ℕ → ℕ → F .f32} {u q : ℕ}

/-- A group's first operation within a trip: its segment numbers' load, the other resources framed. -/
theorem wp_groupLoad {off : Fin 1 → ℕ} {inb : ∀ a, off a + S16.size a ≤ S400.size a} {hl} {α : Type}
    {k : Vec F S16 .i32 → Prog (TpuEff nD τ sig (Elt F) Λ₀ (.scVector (cV L) (jV L))) α} {Q : α → sProp 𝕄} [co : ClosedOff off]
    (hk : unitRes (F := F) d L b6 b14 b22 b23 sm seg sc u acc
      ⊢ wp frame (wpE (defs₀ (F := F)) 𝒱₀ (tt d L) none) Set.univ (k (lanes seg (400 * u + q))) Q) (hoff : co.form = ![q] := by rfl) :
    unitRes (F := F) d L b6 b14 b22 b23 sm seg sc u acc
      ⊢ wp frame (wpE (defs₀ (F := F)) 𝒱₀ (tt d L) none) Set.univ (.op (.load b6 (Rect.unit (s := S400) off S16.size inb).toLoadRect hl) k) Q := by
  have e : unitRes (F := F) d L b6 b14 b22 b23 sm seg sc u acc
      ⊣⊢ iprop(segHolds (F := F) d L b6 seg u ∗ (tabHolds (F := F) d L b23 acc ∗ tabHolds (F := F) d L b22 sm ∗ scHolds (F := F) d L b14 sc u)) := by
    unfold unitRes
    constructor
    · iintro ⟨Ha, Hm, Hs, Hg⟩
      isplitl [Hg]; · iexact Hg
      isplitl [Ha]; · iexact Ha
      isplitl [Hm]; · iexact Hm
      iexact Hs
    · iintro ⟨Hg, Ha, Hm, Hs⟩
      isplitl [Ha]; · iexact Ha
      isplitl [Hm]; · iexact Hm
      isplitl [Hs]; · iexact Hs
      iexact Hg
  exact e.1.trans (wp_segLoad d L (co.eq.trans hoff) (e.2.trans hk))

/-- One head's step within a trip. -/
theorem wp_groupHead {h : ℕ} {off : Fin 2 → ℕ}
    {inb : ∀ a, off a + S1x16.size a ≤ S4x400.size a} {hl hl22 hl23 hst hm} {C : Prop} {dC : Decidable C} {α : Type}
    {k : Vec F S1x16 .f32 → PLift C → Vec F S512 .f32 → Vec F S512 .f32 → Prog (TpuEff nD τ sig (Elt F) Λ₀ (.scVector (cV L) (jV L))) α} {Q : α → sProp 𝕄} [co : ClosedOff off]
    (hi : InB (ivOf (lanes seg (400 * u + q)) h)) (hC : C)
    (hk : ∀ ld f g, unitRes (F := F) d L b6 b14 b22 b23 sm seg sc u (headStep sm seg sc (400 * u + q) h acc)
      ⊢ wp frame (wpE (defs₀ (F := F)) 𝒱₀ (tt d L) none) Set.univ (k ld ⟨hC⟩ f g) Q) (hoff : co.form = ![h, q] := by rfl) :
    unitRes (F := F) d L b6 b14 b22 b23 sm seg sc u acc
      ⊢ wp frame (wpE (defs₀ (F := F)) 𝒱₀ (tt d L) none) Set.univ
          (.op (.load b14 (Rect.unit (s := S4x400) off S1x16.size inb).toLoadRect hl) fun ld =>
           .op (.assume C dC) fun hw =>
           .op (.load b22 (LoadRect.whole S512) hl22) fun f =>
           .op (.load b23 (LoadRect.whole S512) hl23) fun g =>
           .op (.store b23 (Rect.whole S512)
              (storeIdx g ![ivOf (lanes seg (400 * u + q)) h]
                (exp (subf (shapeCast S16 ld shapeCasts_S1x16_S16) (loadIdx f ![ivOf (lanes seg (400 * u + q)) h] hi))) (fun _ => 1#1) true hi)
              Finset.univ hst hm) fun _ => k ld hw f g) Q :=
  wp_head d L (co.eq.trans hoff) hi hC hk

/-- Five groups from group `5 t` of a unit, at the node offsets a trip computes. -/
theorem unitPart_trip (sm : Vec F S512 .f32) (seg : ℕ → BitVec 32) (sc : ℕ → ℕ → F .f32) (u : ℕ) (acc : Vec F S512 .f32) (t : ℕ) :
    groupStep sm seg sc (400 * u + (80 * t + 64)) (groupStep sm seg sc (400 * u + (80 * t + 48)) (groupStep sm seg sc (400 * u + (80 * t + 32))
      (groupStep sm seg sc (400 * u + (80 * t + 16)) (groupStep sm seg sc (400 * u + 80 * t) (unitPart sm seg sc u acc (5 * t))))))
      = unitPart sm seg sc u acc (5 * t + 5) := by
  show _ = groupStep sm seg sc (400 * u + 16 * (5 * t + 4)) (groupStep sm seg sc (400 * u + 16 * (5 * t + 3))
    (groupStep sm seg sc (400 * u + 16 * (5 * t + 2)) (groupStep sm seg sc (400 * u + 16 * (5 * t + 1)) (groupStep sm seg sc (400 * u + 16 * (5 * t)) _))))
  rw [show 16 * (5 * t + 4) = 80 * t + 64 by omega, show 16 * (5 * t + 3) = 80 * t + 48 by omega, show 16 * (5 * t + 2) = 80 * t + 32 by omega,
    show 16 * (5 * t + 1) = 80 * t + 16 by omega, show 16 * (5 * t) = 80 * t by omega]

/-- The end of a trip: five groups further. -/
theorem wp_tripEnd {t : ℕ} {x : PUnit} :
    unitRes (F := F) d L b6 b14 b22 b23 sm seg sc u
        (groupStep sm seg sc (400 * u + (80 * t + 64)) (groupStep sm seg sc (400 * u + (80 * t + 48)) (groupStep sm seg sc (400 * u + (80 * t + 32))
          (groupStep sm seg sc (400 * u + (80 * t + 16)) (groupStep sm seg sc (400 * u + 80 * t) (unitPart sm seg sc u acc (5 * t)))))))
      ⊢ wp frame (wpE (defs₀ (F := F)) 𝒱₀ (tt d L) none) Set.univ (.ret x)
          fun _ => unitRes (F := F) d L b6 b14 b22 b23 sm seg sc u (unitPart sm seg sc u acc (5 * t + 5)) := by
  rw [unitPart_trip, wp_ret]
  iintro H; imodintro; iexact H

end Cert.Proof
-- ==== Proof.Trips.lean ====
/-
  The trips of the eight counted loops (one per turn of a tile): each runs five groups of sixteen nodes, four heads a
  group, over the unit's buffers.
-/
module

public import proofs.«01_k».proof.Proof.Heads

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

variable {seg : ℕ → BitVec 32} {sm acc : Vec F S512 .f32} {sc : ℕ → ℕ → F .f32} {u : ℕ} (hs : SegOK seg)
include hs

set_option maxHeartbeats 2000000 in
/-- Trip `t` of turn 0's loop. -/
theorem trip1 (t : Fin k1_t1_loop.trips) (w1 w71 w250 : BitVec 32) (h : k1_cond9 L = 1#1) :
    unitRes (F := F) d L (Memref.whole cc1_scratch0) (Memref.whole cc1_scratch8) (Memref.whole cc1_scratch16) (Memref.whole cc1_scratch17) sm seg sc u (unitPart sm seg sc u acc (5 * t.val))
      ⊢ wp frame (wpE (defs₀ (F := F)) 𝒱₀ (tt d L) none) Set.univ
          (k1_t1_body L (Memref.whole main_v30_1_scv) (Memref.isWhole_whole _) (Memref.whole main_arg1_scv) (Memref.isWhole_whole _) (Memref.whole main_v31_scv) (Memref.isWhole_whole _) (Memref.whole main_v32_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1 w1 w71 w250 h t ())
          fun _ => unitRes (F := F) d L (Memref.whole cc1_scratch0) (Memref.whole cc1_scratch8) (Memref.whole cc1_scratch16) (Memref.whole cc1_scratch17) sm seg sc u (unitPart sm seg sc u acc (5 * t.val + 5)) := by
  simp only [k1_t1_body, k1_part1_eq_skeleton, k1_part2_eq_skeleton, k1_part3_eq_skeleton, k1_part4_eq_skeleton, k1_part5_eq_skeleton,
    k1_part1_skel, k1_part2_skel, k1_part3_skel, k1_part4_skel, k1_part5_skel, SparseCore.vectorLoadIdx, SparseCore.vectorStoreIdx,
    Prog.lift, Prog.bind_op, Prog.bind_ret, Prog.pure_eq_ret]
  iterate 5
    refine wp_groupLoad d L ?_
    iterate 4 refine wp_groupHead d L (hs.inB _ (by omega)) (And.intro (fun _ => hs.inB _ (by omega)) (fun _ => hs.inB _ (by omega))) (fun _ _ _ => ?_)
  exact wp_tripEnd d L

set_option maxHeartbeats 2000000 in
/-- Trip `t` of turn 1's loop. -/
theorem trip2 (t : Fin k1_t2_loop.trips) (w1 w71 w250 : BitVec 32) (h : k1_cond10 L = 1#1) :
    unitRes (F := F) d L (Memref.whole cc1_scratch1) (Memref.whole cc1_scratch9) (Memref.whole cc1_scratch16) (Memref.whole cc1_scratch17) sm seg sc u (unitPart sm seg sc u acc (5 * t.val))
      ⊢ wp frame (wpE (defs₀ (F := F)) 𝒱₀ (tt d L) none) Set.univ
          (k1_t2_body L (Memref.whole main_v30_1_scv) (Memref.isWhole_whole _) (Memref.whole main_arg1_scv) (Memref.isWhole_whole _) (Memref.whole main_v31_scv) (Memref.isWhole_whole _) (Memref.whole main_v32_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1 w1 w71 w250 h t ())
          fun _ => unitRes (F := F) d L (Memref.whole cc1_scratch1) (Memref.whole cc1_scratch9) (Memref.whole cc1_scratch16) (Memref.whole cc1_scratch17) sm seg sc u (unitPart sm seg sc u acc (5 * t.val + 5)) := by
  simp only [k1_t2_body, k1_part6_eq_skeleton, k1_part7_eq_skeleton, k1_part8_eq_skeleton, k1_part9_eq_skeleton, k1_part10_eq_skeleton,
    k1_part6_skel, k1_part7_skel, k1_part8_skel, k1_part9_skel, k1_part10_skel, SparseCore.vectorLoadIdx, SparseCore.vectorStoreIdx,
    Prog.lift, Prog.bind_op, Prog.bind_ret, Prog.pure_eq_ret]
  iterate 5
    refine wp_groupLoad d L ?_
    iterate 4 refine wp_groupHead d L (hs.inB _ (by omega)) (And.intro (fun _ => hs.inB _ (by omega)) (fun _ => hs.inB _ (by omega))) (fun _ _ _ => ?_)
  exact wp_tripEnd d L

set_option maxHeartbeats 2000000 in
/-- Trip `t` of turn 2's loop. -/
theorem trip3 (t : Fin k1_t3_loop.trips) (w1 w71 w250 : BitVec 32) (h : k1_cond11 L = 1#1) :
    unitRes (F := F) d L (Memref.whole cc1_scratch2) (Memref.whole cc1_scratch10) (Memref.whole cc1_scratch16) (Memref.whole cc1_scratch17) sm seg sc u (unitPart sm seg sc u acc (5 * t.val))
      ⊢ wp frame (wpE (defs₀ (F := F)) 𝒱₀ (tt d L) none) Set.univ
          (k1_t3_body L (Memref.whole main_v30_1_scv) (Memref.isWhole_whole _) (Memref.whole main_arg1_scv) (Memref.isWhole_whole _) (Memref.whole main_v31_scv) (Memref.isWhole_whole _) (Memref.whole main_v32_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1 w1 w71 w250 h t ())
          fun _ => unitRes (F := F) d L (Memref.whole cc1_scratch2) (Memref.whole cc1_scratch10) (Memref.whole cc1_scratch16) (Memref.whole cc1_scratch17) sm seg sc u (unitPart sm seg sc u acc (5 * t.val + 5)) := by
  simp only [k1_t3_body, k1_part11_eq_skeleton, k1_part12_eq_skeleton, k1_part13_eq_skeleton, k1_part14_eq_skeleton, k1_part15_eq_skeleton,
    k1_part11_skel, k1_part12_skel, k1_part13_skel, k1_part14_skel, k1_part15_skel, SparseCore.vectorLoadIdx, SparseCore.vectorStoreIdx,
    Prog.lift, Prog.bind_op, Prog.bind_ret, Prog.pure_eq_ret]
  iterate 5
    refine wp_groupLoad d L ?_
    iterate 4 refine wp_groupHead d L (hs.inB _ (by omega)) (And.intro (fun _ => hs.inB _ (by omega)) (fun _ => hs.inB _ (by omega))) (fun _ _ _ => ?_)
  exact wp_tripEnd d L

set_option maxHeartbeats 2000000 in
/-- Trip `t` of turn 3's loop. -/
theorem trip4 (t : Fin k1_t4_loop.trips) (w1 w71 w250 : BitVec 32) (h : k1_cond12 L = 1#1) :
    unitRes (F := F) d L (Memref.whole cc1_scratch3) (Memref.whole cc1_scratch11) (Memref.whole cc1_scratch16) (Memref.whole cc1_scratch17) sm seg sc u (unitPart sm seg sc u acc (5 * t.val))
      ⊢ wp frame (wpE (defs₀ (F := F)) 𝒱₀ (tt d L) none) Set.univ
          (k1_t4_body L (Memref.whole main_v30_1_scv) (Memref.isWhole_whole _) (Memref.whole main_arg1_scv) (Memref.isWhole_whole _) (Memref.whole main_v31_scv) (Memref.isWhole_whole _) (Memref.whole main_v32_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1 w1 w71 w250 h t ())
          fun _ => unitRes (F := F) d L (Memref.whole cc1_scratch3) (Memref.whole cc1_scratch11) (Memref.whole cc1_scratch16) (Memref.whole cc1_scratch17) sm seg sc u (unitPart sm seg sc u acc (5 * t.val + 5)) := by
  simp only [k1_t4_body, k1_part16_eq_skeleton, k1_part17_eq_skeleton, k1_part18_eq_skeleton, k1_part19_eq_skeleton, k1_part20_eq_skeleton,
    k1_part16_skel, k1_part17_skel, k1_part18_skel, k1_part19_skel, k1_part20_skel, SparseCore.vectorLoadIdx, SparseCore.vectorStoreIdx,
    Prog.lift, Prog.bind_op, Prog.bind_ret, Prog.pure_eq_ret]
  iterate 5
    refine wp_groupLoad d L ?_
    iterate 4 refine wp_groupHead d L (hs.inB _ (by omega)) (And.intro (fun _ => hs.inB _ (by omega)) (fun _ => hs.inB _ (by omega))) (fun _ _ _ => ?_)
  exact wp_tripEnd d L

set_option maxHeartbeats 2000000 in
/-- Trip `t` of turn 4's loop. -/
theorem trip5 (t : Fin k1_t5_loop.trips) (h : k1_cond13 L = 1#1) :
    unitRes (F := F) d L (Memref.whole cc1_scratch4) (Memref.whole cc1_scratch12) (Memref.whole cc1_scratch16) (Memref.whole cc1_scratch17) sm seg sc u (unitPart sm seg sc u acc (5 * t.val))
      ⊢ wp frame (wpE (defs₀ (F := F)) 𝒱₀ (tt d L) none) Set.univ
          (k1_t5_body L (Memref.whole main_v30_1_scv) (Memref.isWhole_whole _) (Memref.whole main_arg1_scv) (Memref.isWhole_whole _) (Memref.whole main_v31_scv) (Memref.isWhole_whole _) (Memref.whole main_v32_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1 h t ())
          fun _ => unitRes (F := F) d L (Memref.whole cc1_scratch4) (Memref.whole cc1_scratch12) (Memref.whole cc1_scratch16) (Memref.whole cc1_scratch17) sm seg sc u (unitPart sm seg sc u acc (5 * t.val + 5)) := by
  simp only [k1_t5_body, k1_part21_eq_skeleton, k1_part22_eq_skeleton, k1_part23_eq_skeleton, k1_part24_eq_skeleton, k1_part25_eq_skeleton,
    k1_part21_skel, k1_part22_skel, k1_part23_skel, k1_part24_skel, k1_part25_skel, SparseCore.vectorLoadIdx, SparseCore.vectorStoreIdx,
    Prog.lift, Prog.bind_op, Prog.bind_ret, Prog.pure_eq_ret]
  iterate 5
    refine wp_groupLoad d L ?_
    iterate 4 refine wp_groupHead d L (hs.inB _ (by omega)) (And.intro (fun _ => hs.inB _ (by omega)) (fun _ => hs.inB _ (by omega))) (fun _ _ _ => ?_)
  exact wp_tripEnd d L

set_option maxHeartbeats 2000000 in
/-- Trip `t` of turn 5's loop. -/
theorem trip6 (t : Fin k1_t6_loop.trips) (h : k1_cond14 L = 1#1) :
    unitRes (F := F) d L (Memref.whole cc1_scratch5) (Memref.whole cc1_scratch13) (Memref.whole cc1_scratch16) (Memref.whole cc1_scratch17) sm seg sc u (unitPart sm seg sc u acc (5 * t.val))
      ⊢ wp frame (wpE (defs₀ (F := F)) 𝒱₀ (tt d L) none) Set.univ
          (k1_t6_body L (Memref.whole main_v30_1_scv) (Memref.isWhole_whole _) (Memref.whole main_arg1_scv) (Memref.isWhole_whole _) (Memref.whole main_v31_scv) (Memref.isWhole_whole _) (Memref.whole main_v32_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1 h t ())
          fun _ => unitRes (F := F) d L (Memref.whole cc1_scratch5) (Memref.whole cc1_scratch13) (Memref.whole cc1_scratch16) (Memref.whole cc1_scratch17) sm seg sc u (unitPart sm seg sc u acc (5 * t.val + 5)) := by
  simp only [k1_t6_body, k1_part26_eq_skeleton, k1_part27_eq_skeleton, k1_part28_eq_skeleton, k1_part29_eq_skeleton, k1_part30_eq_skeleton,
    k1_part26_skel, k1_part27_skel, k1_part28_skel, k1_part29_skel, k1_part30_skel, SparseCore.vectorLoadIdx, SparseCore.vectorStoreIdx,
    Prog.lift, Prog.bind_op, Prog.bind_ret, Prog.pure_eq_ret]
  iterate 5
    refine wp_groupLoad d L ?_
    iterate 4 refine wp_groupHead d L (hs.inB _ (by omega)) (And.intro (fun _ => hs.inB _ (by omega)) (fun _ => hs.inB _ (by omega))) (fun _ _ _ => ?_)
  exact wp_tripEnd d L

set_option maxHeartbeats 2000000 in
/-- Trip `t` of turn 6's loop. -/
theorem trip7 (t : Fin k1_t7_loop.trips) (h : k1_cond15 L = 1#1) :
    unitRes (F := F) d L (Memref.whole cc1_scratch6) (Memref.whole cc1_scratch14) (Memref.whole cc1_scratch16) (Memref.whole cc1_scratch17) sm seg sc u (unitPart sm seg sc u acc (5 * t.val))
      ⊢ wp frame (wpE (defs₀ (F := F)) 𝒱₀ (tt d L) none) Set.univ
          (k1_t7_body L (Memref.whole main_v30_1_scv) (Memref.isWhole_whole _) (Memref.whole main_arg1_scv) (Memref.isWhole_whole _) (Memref.whole main_v31_scv) (Memref.isWhole_whole _) (Memref.whole main_v32_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1 h t ())
          fun _ => unitRes (F := F) d L (Memref.whole cc1_scratch6) (Memref.whole cc1_scratch14) (Memref.whole cc1_scratch16) (Memref.whole cc1_scratch17) sm seg sc u (unitPart sm seg sc u acc (5 * t.val + 5)) := by
  simp only [k1_t7_body, k1_part31_eq_skeleton, k1_part32_eq_skeleton, k1_part33_eq_skeleton, k1_part34_eq_skeleton, k1_part35_eq_skeleton,
    k1_part31_skel, k1_part32_skel, k1_part33_skel, k1_part34_skel, k1_part35_skel, SparseCore.vectorLoadIdx, SparseCore.vectorStoreIdx,
    Prog.lift, Prog.bind_op, Prog.bind_ret, Prog.pure_eq_ret]
  iterate 5
    refine wp_groupLoad d L ?_
    iterate 4 refine wp_groupHead d L (hs.inB _ (by omega)) (And.intro (fun _ => hs.inB _ (by omega)) (fun _ => hs.inB _ (by omega))) (fun _ _ _ => ?_)
  exact wp_tripEnd d L

set_option maxHeartbeats 2000000 in
/-- Trip `t` of turn 7's loop. -/
theorem trip8 (t : Fin k1_t8_loop.trips) (h : k1_cond16 L = 1#1) :
    unitRes (F := F) d L (Memref.whole cc1_scratch7) (Memref.whole cc1_scratch15) (Memref.whole cc1_scratch16) (Memref.whole cc1_scratch17) sm seg sc u (unitPart sm seg sc u acc (5 * t.val))
      ⊢ wp frame (wpE (defs₀ (F := F)) 𝒱₀ (tt d L) none) Set.univ
          (k1_t8_body L (Memref.whole main_v30_1_scv) (Memref.isWhole_whole _) (Memref.whole main_arg1_scv) (Memref.isWhole_whole _) (Memref.whole main_v31_scv) (Memref.isWhole_whole _) (Memref.whole main_v32_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1 h t ())
          fun _ => unitRes (F := F) d L (Memref.whole cc1_scratch7) (Memref.whole cc1_scratch15) (Memref.whole cc1_scratch16) (Memref.whole cc1_scratch17) sm seg sc u (unitPart sm seg sc u acc (5 * t.val + 5)) := by
  simp only [k1_t8_body, k1_part36_eq_skeleton, k1_part37_eq_skeleton, k1_part38_eq_skeleton, k1_part39_eq_skeleton, k1_part40_eq_skeleton,
    k1_part36_skel, k1_part37_skel, k1_part38_skel, k1_part39_skel, k1_part40_skel, SparseCore.vectorLoadIdx, SparseCore.vectorStoreIdx,
    Prog.lift, Prog.bind_op, Prog.bind_ret, Prog.pure_eq_ret]
  iterate 5
    refine wp_groupLoad d L ?_
    iterate 4 refine wp_groupHead d L (hs.inB _ (by omega)) (And.intro (fun _ => hs.inB _ (by omega)) (fun _ => hs.inB _ (by omega))) (fun _ _ _ => ?_)
  exact wp_tripEnd d L

end Cert.Proof
-- ==== Proof.Turns.lean ====
/-
  The copies of a tile's turns: a turn starts the copies of a unit's segment numbers and scores, waits for both, and
  runs the unit's loop. Each copy is stated with what it brings when it lands (`Coming`).
-/
module

public import proofs.«01_k».proof.Proof.Trips

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight wp_dmaLocal wp_waitLocalO)

variable {F : FTy → Type} [FloatOps F]

local notation "𝕄" => MT nD τ sig (HIx 1) (Elt F) ℕ UU ℕ

variable (d : Dev nD) (L : grid1.Coords)

/-! ## Two steps in a row -/

/-- A step followed by the rest of the program, what the step does not touch framed. -/
theorem wp_seq {α β : Type} {e : Prog (TpuEff nD τ sig (Elt F) Λ₀ (.scVector (cV L) (jV L))) α}
    {k : α → Prog (TpuEff nD τ sig (Elt F) Λ₀ (.scVector (cV L) (jV L))) β} {A R : sProp 𝕄} {B : sProp 𝕄} {Q : β → sProp 𝕄}
    (h : A ⊢ wp frame (wpE (defs₀ (F := F)) 𝒱₀ (tt d L) none) Set.univ e fun _ => B)
    (hk : ∀ a, iprop(B ∗ R) ⊢ wp frame (wpE (defs₀ (F := F)) 𝒱₀ (tt d L) none) Set.univ (k a) Q) :
    iprop(A ∗ R) ⊢ wp frame (wpE (defs₀ (F := F)) 𝒱₀ (tt d L) none) Set.univ (e >>= k) Q := by
  rw [wp_bind]
  refine (sep_mono h .rfl).trans ?_
  refine (wp_frame_r _ _ _).trans ?_
  exact wp_mono _ _ _ fun a => hk a

/-! ## A copy under way -/

/-- A copy is under way on semaphore `sm`, and its landing yields `G`. -/
def Coming (sm : DmaSem sig) (N : ℕ) (G : sProp 𝕄) : sProp 𝕄 :=
  iprop(∃ D R, ⌜iprop(D ∗ R) ⊢ G⌝ ∗ R ∗ Flight countersEmb (tt d L) (.dma sm) (none : HIx 1) N D)

/-- Starting a copy out of a buffer held at a share: the landing brings the destination at the copied value, and the share back. -/
theorem wp_start {s : Shape} {e : EltTy} {sp sp' : Space} {src : Memref sig .scVector sp s e} {dst : Memref sig .scVector sp' s e} {sm : DmaSem sig}
    {hsrc hdst hsem} {α : Type} {k : PUnit → Prog (TpuEff nD τ sig (Elt F) Λ₀ (.scVector (cV L) (jV L))) α} {Q : α → sProp 𝕄}
    {q : PosShare TreeShare} {fs : Buf (Elt F) (src.view.loc (tt d L))} {fd : Buf (Elt F) (dst.view.loc (tt d L))}
    {Sd : Finset (Idx (dst.view.loc (tt d L)))} {N : ℕ} (hN : dst.view.amount (.dma sm) = N) (hN0 : 0 < N) (hSd : dst.view.set ⊆ Sd) {G R : sProp 𝕄}
    (hG : iprop((dst.view.loc (tt d L) ↦[Sd]{fullShare} (dst.view.write (Elt F) fd (src.view.read (Elt F) fs) Finset.univ)) ∗ src.view.loc (tt d L) ↦{q} fs) ⊢ G)
    (hk : iprop(Coming (F := F) d L sm N G ∗ R) ⊢ wp frame (wpE (defs₀ (F := F)) 𝒱₀ (tt d L) none) Set.univ (k ⟨⟩) Q) :
    iprop(((src.view.loc (tt d L) ↦{q} fs) ∗ (dst.view.loc (tt d L) ↦[Sd]{fullShare} fd) ∗ semVal (tt d L, .dma sm) 0) ∗ R)
      ⊢ wp frame (wpE (defs₀ (F := F)) 𝒱₀ (tt d L) none) Set.univ (.op (.enqueueDma src (.here dst) (.dma sm) hsrc hdst hsem) k) Q := by
  iintro ⟨⟨Hs, Hd, Hv⟩, HR⟩
  ihave Hs' := (pointsTo_split_subset (Finset.subset_univ src.view.set)).1 $$ Hs
  icases Hs' with ⟨Hs, Hrest⟩
  iapply (wp_dmaLocal countersEmb 𝒱₀ (tt d L) none (none : HIx 1) N hN hN0 hSd) $$ [Hs Hd Hv]
  · isplitl [Hs]; · iexact Hs
    isplitl [Hd]; · iexact Hd
    iexact Hv
  iintro HF
  iapply hk
  isplitr [HR]
  · unfold Coming
    iexists _; iexists (src.view.loc (tt d L) ↦[Finset.univ \ src.view.set]{q} fs)
    isplitr
    rotate_left
    · isplitl [Hrest]; · iexact Hrest
      iexact HF
    · ipureintro
      iintro ⟨⟨Hd, Hs⟩, Hr⟩
      iapply hG
      isplitl [Hd]; · iexact Hd
      iapply (pointsTo_split_subset (Finset.subset_univ src.view.set)).2
      isplitl [Hs] <;> iassumption
  · iexact HR

/-- Waiting for a copy under way: what its landing yields, and the semaphore at zero again. -/
theorem wp_land {s s' : Shape} {e e' : EltTy} {sp sp' : Space} {κ' : Kind} {srcw : Memref sig .scVector sp s' e'} {dstw : Memref sig κ' sp' s e} {sm : DmaSem sig}
    {hsrc hdst} {α : Type} {k : PUnit → Prog (TpuEff nD τ sig (Elt F) Λ₀ (.scVector (cV L) (jV L))) α} {Q : α → sProp 𝕄}
    {N : ℕ} {O : CellTallies nD τ sig (HIx 1)} {W₀ : Waits sig (HIx 1)} {G R : sProp 𝕄} (hO : ∀ g, O g none = 0) (hN : dstw.view.dmaCredit = N)
    (hk : iprop((G ∗ semVal (tt d L, .dma sm) 0 ∗ levAts (K (F := F)).L (K (F := F)).lev ∗ ∃ W', ⌜∀ p ∈ W', p ∈ W₀ ∨ p.2 = none⌝ ∗ owes (tt d L) O W') ∗ R)
      ⊢ wp frame (wpE (defs₀ (F := F)) 𝒱₀ (tt d L) none) Set.univ (k ⟨⟩) Q) :
    iprop((Coming (F := F) d L sm N G ∗ levAts (K (F := F)).L (K (F := F)).lev ∗ ∃ W', ⌜∀ p ∈ W', p ∈ W₀ ∨ p.2 = none⌝ ∗ owes (tt d L) O W') ∗ R)
      ⊢ wp frame (wpE (defs₀ (F := F)) 𝒱₀ (tt d L) none) Set.univ (.op (.waitDma2 sm srcw dstw hsrc hdst) k) Q := by
  unfold Coming
  iintro ⟨⟨⟨%D, %R', %hD, Hr, HF⟩, #Hlv, %W', %hW', HO⟩, HR⟩
  iapply (wp_waitLocalO countersEmb 𝒱₀ (tt d L) none (none : HIx 1) hN) $$ [HF HO]
  · isplitl [HF]; · iexact HF
    isplitl [HO]; · iexact HO
    iapply ((K (F := F)).mayWait_none (SemLoc.dma sm) hO); iexact Hlv
  iintro ⟨HD, Hv, HO⟩
  iapply hk
  isplitr [HR]
  · isplitl [HD Hr]
    · iapply hD; isplitl [HD] <;> iassumption
    isplitl [Hv]; · iexact Hv
    isplitr; · iexact Hlv
    iexists _; isplitr
    rotate_left
    · iexact HO
    · ipureintro
      intro p hp
      rcases Finset.mem_insert.mp hp with rfl | hp
      · exact .inr rfl
      · exact hW' p hp
  · iexact HR

end Cert.Proof
-- ==== Proof.Issue.lean ====
/-
  A turn of a tile: the start of its two copies, if its unit exists, and the waits for them followed by the unit's loop.
-/
module

public import proofs.«01_k».proof.Proof.Turns
public import Idealize.ShloMosaic.Lib.ValueLayout
public import Idealize.ShloMosaic.Lib.Pointwise.Index

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-! ## The arrays the tiles read -/

/-- The segment number of node `n`. -/
def segOf (A : IVec S100000 32) (n : ℕ) : BitVec 32 := A (ix1 (n0 := 100000) ⟨n % 100000, Nat.mod_lt _ (by norm_num)⟩)

/-- The score of node `n` under head `h`, from the scores kept by blocks of 2000 nodes and units of 400. -/
def scOf (X : FVec F S50x5x4x400 .f32) (h n : ℕ) : F .f32 :=
  X (ix4 (n0 := 50) (n1 := 5) (n2 := 4) (n3 := 400) ⟨n / 2000 % 50, Nat.mod_lt _ (by norm_num)⟩ ⟨n % 2000 / 400 % 5, Nat.mod_lt _ (by norm_num)⟩
    ⟨h % 4, Nat.mod_lt _ (by norm_num)⟩ ⟨n % 400, Nat.mod_lt _ (by norm_num)⟩)

/-- The segment numbers as a tile sees them. -/
abbrev mSeg : Memref sig .scVector .hbm S100000 .i32 := Memref.whole main_arg1_scv
/-- The scores as a tile sees them. -/
abbrev mSc : Memref sig .scVector .hbm S50x5x4x400 .f32 := Memref.whole main_v30_1_scv

/-- A unit's segment numbers, as its copy reads them. -/
theorem read_segSlice (A : IVec S100000 32) {u : ℕ} (hu : u < 250) {off : Fin 1 → ℕ} {inb : ∀ a, off a + S400.size a ≤ S100000.size a} (hoff : off = ![400 * u])
    (x : S400.Idx) :
    (mSeg.slice (Rect.unit (s := S100000) off S400.size inb) (fun _ => rfl)).view.read (Elt F) A x = segOf A (400 * u + (x 0).val) := by
  show A _ = A _
  have hx : (x 0).val < 400 := (x 0).isLt
  congr 1
  funext a; apply Fin.ext
  obtain rfl : a = (0 : Fin 1) := Subsingleton.elim (α := Fin 1) a 0
  subst hoff
  show 400 * u + 1 * (x 0).val = (400 * u + (x 0).val) % 100000
  omega

/-- A unit's scores, as its copy reads them. -/
theorem read_scSlice (X : FVec F S50x5x4x400 .f32) {u : ℕ} (hu : u < 250) {off : Fin 4 → ℕ} {inb : ∀ a, off a + S1x1x4x400.size a ≤ S50x5x4x400.size a}
    (hoff : off = ![u / 5, u % 5, 0, 0]) (x : S4x400.Idx) :
    ((mSc.slice (Rect.unit (s := S50x5x4x400) off S1x1x4x400.size inb) (fun _ => rfl)).squeeze S4x400 squeezes_S1x1x4x400_S4x400).view.read (Elt F) X x
      = scOf X (x 0).val (400 * u + (x 1).val) := by
  have h0 : (x 0).val < 4 := (x 0).isLt
  have h1 : (x 1).val < 400 := (x 1).isLt
  refine (congrFun (Memref.read_squeeze_slice (Val := Elt F) mSc (Rect.unit (s := S50x5x4x400) off S1x1x4x400.size inb) (fun _ => rfl) squeezes_S1x1x4x400_S4x400
    squeezes_S1x1x4x400_S4x400.numel_eq X) x).trans ?_
  refine (shapeCast_apply _ _ x (ix4 (n0 := 1) (n1 := 1) (n2 := 4) (n3 := 400) 0 0 ⟨(x 0).val, h0⟩ ⟨(x 1).val, h1⟩ : S1x1x4x400.Idx) ?_).trans ?_
  · rw [Shape.rowMajor_val_four, Shape.rowMajor_val_two]
    show ((0 * 1 + 0) * 4 + (x 0).val) * 400 + (x 1).val = (x 0).val * 400 + (x 1).val
    omega
  · rw [View.readAt_apply]
    show X _ = X _
    congr 1
    funext a; apply Fin.ext
    subst hoff
    match a with
    | 0 => show u / 5 + 1 * 0 = (400 * u + (x 1).val) / 2000 % 50; omega
    | 1 => show u % 5 + 1 * 0 = (400 * u + (x 1).val) % 2000 / 400 % 5; omega
    | 2 => show 0 + 1 * (x 0).val = (x 0).val % 4; omega
    | 3 => show 0 + 1 * (x 1).val = (400 * u + (x 1).val) % 400; omega

/-! ## A turn's start -/

variable {b6 : Memref sig .scVector .vmem S400 .i32} {b14 : Memref sig .scVector .vmem S4x400 .f32} {b22 b23 : Memref sig .scVector .vmem S512 .f32}
  {sA sB : DmaSem sig} {sm acc : Vec F S512 .f32} {A : IVec S100000 32} {X : FVec F S50x5x4x400 .f32} {q : PosShare TreeShare} {u : ℕ}

/-- What a turn owns while nothing is under way: its two buffers, its two semaphores at zero, its shares of the arrays. -/
def turnIdle (b6 : Memref sig .scVector .vmem S400 .i32) (b14 : Memref sig .scVector .vmem S4x400 .f32) (sA sB : DmaSem sig)
    (q : PosShare TreeShare) (A : IVec S100000 32) (X : FVec F S50x5x4x400 .f32) : sProp 𝕄 :=
  iprop((∃ f, b6.view.loc (tt d L) ↦{fullShare} f) ∗ (∃ f, b14.view.loc (tt d L) ↦{fullShare} f) ∗ semVal (tt d L, .dma sA) 0 ∗ semVal (tt d L, .dma sB) 0
    ∗ (mSeg.view.loc (tt d L) ↦{q} (A : Buf (Elt F) (mSeg.view.loc (tt d L)))) ∗ (mSc.view.loc (tt d L) ↦{q} (X : Buf (Elt F) (mSc.view.loc (tt d L)))))

/-- What a turn owns once it has started: both copies under way, if its unit exists. -/
def turnOut (b6 : Memref sig .scVector .vmem S400 .i32) (b14 : Memref sig .scVector .vmem S4x400 .f32) (sA sB : DmaSem sig)
    (q : PosShare TreeShare) (A : IVec S100000 32) (X : FVec F S50x5x4x400 .f32) (u : ℕ) : sProp 𝕄 :=
  if u < 250 then
    iprop(Coming (F := F) d L sA b6.view.dmaCredit iprop(segHolds (F := F) d L b6 (segOf A) u ∗ (mSeg.view.loc (tt d L) ↦{q} (A : Buf (Elt F) (mSeg.view.loc (tt d L)))))
      ∗ Coming (F := F) d L sB b14.view.dmaCredit iprop(scHolds (F := F) d L b14 (scOf X) u ∗ (mSc.view.loc (tt d L) ↦{q} (X : Buf (Elt F) (mSc.view.loc (tt d L))))))
  else turnIdle (F := F) d L b6 b14 sA sB q A X

/-- The start of a turn. -/
theorem wp_issue {c : BitVec 1} {off1 : Fin 1 → ℕ} {off2 : Fin 4 → ℕ} {inb1 : c = 1#1 → ∀ a, off1 a + S400.size a ≤ S100000.size a}
    {inb2 : c = 1#1 → ∀ a, off2 a + S1x1x4x400.size a ≤ S50x5x4x400.size a}
    {p1 : ∀ h : c = 1#1, (mSeg.slice (Rect.unit (s := S100000) off1 S400.size (inb1 h)) (fun _ => rfl)).view.WordExact} {p2 : c = 1#1 → b6.view.WordExact}
    {p3 : c = 1#1 → DmaTarget.Typed (nD := nD) .hbm (.dma sA) (DmaTarget.here (p := Proc.scVector (cV L) (jV L)) b6)}
    {p4 : ∀ h : c = 1#1, ((mSc.slice (Rect.unit (s := S50x5x4x400) off2 S1x1x4x400.size (inb2 h)) (fun _ => rfl)).squeeze S4x400 squeezes_S1x1x4x400_S4x400).view.WordExact}
    {p5 : c = 1#1 → b14.view.WordExact} {p6 : c = 1#1 → DmaTarget.Typed (nD := nD) .hbm (.dma sB) (DmaTarget.here (p := Proc.scVector (cV L) (jV L)) b14)}
    (hc : c = 1#1 ↔ u < 250) (h1 : u < 250 → off1 = ![400 * u]) (h2 : u < 250 → off2 = ![u / 5, u % 5, 0, 0]) :
    turnIdle (F := F) d L b6 b14 sA sB q A X
      ⊢ wp frame (wpE (defs₀ (F := F)) 𝒱₀ (tt d L) none) Set.univ
          (if h : c = 1#1 then
            .op (.enqueueDma (mSeg.slice (Rect.unit (s := S100000) off1 S400.size (inb1 h)) (fun _ => rfl)) (.here b6) (.dma sA) (p1 h) (p2 h) (p3 h)) fun _ =>
            .op (.enqueueDma ((mSc.slice (Rect.unit (s := S50x5x4x400) off2 S1x1x4x400.size (inb2 h)) (fun _ => rfl)).squeeze S4x400 squeezes_S1x1x4x400_S4x400)
              (.here b14) (.dma sB) (p4 h) (p5 h) (p6 h)) fun _ => .ret PUnit.unit
           else .ret PUnit.unit)
          fun _ => turnOut (F := F) d L b6 b14 sA sB q A X u := by
  unfold turnOut
  by_cases h : c = 1#1
  · have hu := hc.1 h
    rw [dif_pos h, if_pos hu]
    unfold turnIdle
    iintro ⟨⟨%f6, H6⟩, ⟨%f14, H14⟩, HA, HB, Hseg, Hsc⟩
    iapply (wp_start d L (src := mSeg.slice (Rect.unit (s := S100000) off1 S400.size (inb1 h)) (fun _ => rfl)) (dst := b6) (fs := A) (fd := f6) (q := q)
      (Sd := Finset.univ) (N := b6.view.dmaCredit) rfl (View.dmaCredit_pos _ (by decide)) (Finset.subset_univ _)
      (G := iprop(segHolds (F := F) d L b6 (segOf A) u ∗ (mSeg.view.loc (tt d L) ↦{q} (A : Buf (Elt F) (mSeg.view.loc (tt d L))))))
      (R := iprop((b14.view.loc (tt d L) ↦{fullShare} f14) ∗ semVal (tt d L, .dma sB) 0 ∗ (mSc.view.loc (tt d L) ↦{q} (X : Buf (Elt F) (mSc.view.loc (tt d L))))))
      ?hG1 ?hk1)
    case hG1 =>
      iintro ⟨H6, Hs⟩
      isplitl [H6]
      · unfold segHolds
        iexists _; isplitr
        rotate_left
        · iexact H6
        · ipureintro
          intro x
          rw [View.read_write_univ]
          exact read_segSlice A hu (h1 hu) x
      · iexact Hs
    case hk1 =>
      iintro ⟨HC, H14, HB, Hsc⟩
      iapply (wp_start d L (src := (mSc.slice (Rect.unit (s := S50x5x4x400) off2 S1x1x4x400.size (inb2 h)) (fun _ => rfl)).squeeze S4x400 squeezes_S1x1x4x400_S4x400)
        (dst := b14) (fs := X) (fd := f14) (q := q)
        (Sd := Finset.univ) (N := b14.view.dmaCredit) rfl (View.dmaCredit_pos _ (by decide)) (Finset.subset_univ _)
        (G := iprop(scHolds (F := F) d L b14 (scOf X) u ∗ (mSc.view.loc (tt d L) ↦{q} (X : Buf (Elt F) (mSc.view.loc (tt d L))))))
        (R := Coming (F := F) d L sA b6.view.dmaCredit iprop(segHolds (F := F) d L b6 (segOf A) u ∗ (mSeg.view.loc (tt d L) ↦{q} (A : Buf (Elt F) (mSeg.view.loc (tt d L))))))
        ?hG2 ?hk2)
      case hG2 =>
        iintro ⟨H14, Hs⟩
        isplitl [H14]
        · unfold scHolds
          iexists _; isplitr
          rotate_left
          · iexact H14
          · ipureintro
            intro x
            rw [View.read_write_univ]
            exact read_scSlice X hu (h2 hu) x
        · iexact Hs
      case hk2 =>
        rw [wp_ret]
        iintro ⟨HC2, HC⟩
        imodintro
        isplitl [HC] <;> iassumption
      isplitr [HC]
      · isplitl [Hsc]; · iexact Hsc
        isplitl [H14]; · iexact H14
        iexact HB
      · iexact HC
    isplitl [Hseg H6 HA]
    · isplitl [Hseg]; · iexact Hseg
      isplitl [H6]; · iexact H6
      iexact HA
    · isplitl [H14]; · iexact H14
      isplitl [HB]; · iexact HB
      iexact Hsc
  · rw [dif_neg h, if_neg (fun hu => h (hc.2 hu)), wp_ret]
    iintro H; imodintro; iexact H

/-! ## A turn's end -/

/-- What the waits for a tile's copies keep: the order of the semaphores, and what the tile owes, the waits recorded. -/
def waits (O : CellTallies nD τ sig (HIx 1)) (W₀ : Waits sig (HIx 1)) : sProp 𝕄 :=
  iprop(levAts (K (F := F)).L (K (F := F)).lev ∗ ∃ W', ⌜∀ p ∈ W', p ∈ W₀ ∨ p.2 = none⌝ ∗ owes (tt d L) O W')

/-- The accumulator after the turn that takes unit `u`, if there is one. -/
def turnAcc (sm : Vec F S512 .f32) (A : IVec S100000 32) (X : FVec F S50x5x4x400 .f32) (u : ℕ) (acc : Vec F S512 .f32) : Vec F S512 .f32 :=
  if u < 250 then unitPart sm (segOf A) (scOf X) u acc 25 else acc

/-- The waits for a turn's copies, and its loop. -/
theorem wp_drain {c : BitVec 1} {O : CellTallies nD τ sig (HIx 1)} {W₀ : Waits sig (HIx 1)} (hO : ∀ g, O g none = 0)
    {src1 : c = 1#1 → Memref sig .scVector .hbm S400 .i32} {src2 : c = 1#1 → Memref sig .scVector .hbm S4x400 .f32}
    {p1 : ∀ h, (src1 h).view.WordExact} {p2 : c = 1#1 → b6.view.WordExact} {p3 : ∀ h, (src2 h).view.WordExact} {p4 : c = 1#1 → b14.view.WordExact}
    {body : c = 1#1 → Prog (TpuEff nD τ sig (Elt F) Λ₀ (.scVector (cV L) (jV L))) PUnit}
    (hc : c = 1#1 ↔ u < 250)
    (hloop : ∀ h, unitRes (F := F) d L b6 b14 b22 b23 sm (segOf A) (scOf X) u acc
      ⊢ wp frame (wpE (defs₀ (F := F)) 𝒱₀ (tt d L) none) Set.univ (body h) fun _ => unitRes (F := F) d L b6 b14 b22 b23 sm (segOf A) (scOf X) u (unitPart sm (segOf A) (scOf X) u acc 25)) :
    iprop(turnOut (F := F) d L b6 b14 sA sB q A X u ∗ tabHolds (F := F) d L b23 acc ∗ tabHolds (F := F) d L b22 sm ∗ waits (F := F) d L O W₀)
      ⊢ wp frame (wpE (defs₀ (F := F)) 𝒱₀ (tt d L) none) Set.univ
          (if h : c = 1#1 then
            .op (.waitDma2 sA (src1 h) b6 (p1 h) (p2 h)) fun _ => .op (.waitDma2 sB (src2 h) b14 (p3 h) (p4 h)) fun _ => (body h) >>= fun _ => .ret PUnit.unit
           else .ret PUnit.unit)
          fun _ => iprop(turnIdle (F := F) d L b6 b14 sA sB q A X ∗ tabHolds (F := F) d L b23 (turnAcc sm A X u acc) ∗ tabHolds (F := F) d L b22 sm ∗ waits (F := F) d L O W₀) := by
  unfold turnOut turnAcc waits
  by_cases h : c = 1#1
  · have hu := hc.1 h
    rw [dif_pos h, if_pos hu, if_pos hu]
    iintro ⟨⟨HC, HC2⟩, H23, H22, HW⟩
    iapply (wp_land d L (G := iprop(segHolds (F := F) d L b6 (segOf A) u ∗ (mSeg.view.loc (tt d L) ↦{q} (A : Buf (Elt F) (mSeg.view.loc (tt d L))))))
      (R := iprop(Coming (F := F) d L sB b14.view.dmaCredit iprop(scHolds (F := F) d L b14 (scOf X) u ∗ (mSc.view.loc (tt d L) ↦{q} (X : Buf (Elt F) (mSc.view.loc (tt d L)))))
        ∗ tabHolds (F := F) d L b23 acc ∗ tabHolds (F := F) d L b22 sm)) (N := b6.view.dmaCredit) (O := O) (W₀ := W₀) hO rfl ?hk1)
    case hk1 =>
      iintro ⟨⟨⟨H6, Hseg⟩, HA, HW⟩, HC2, H23, H22⟩
      iapply (wp_land d L (G := iprop(scHolds (F := F) d L b14 (scOf X) u ∗ (mSc.view.loc (tt d L) ↦{q} (X : Buf (Elt F) (mSc.view.loc (tt d L))))))
        (R := iprop((segHolds (F := F) d L b6 (segOf A) u ∗ (mSeg.view.loc (tt d L) ↦{q} (A : Buf (Elt F) (mSeg.view.loc (tt d L)))) ∗ semVal (tt d L, .dma sA) 0)
          ∗ tabHolds (F := F) d L b23 acc ∗ tabHolds (F := F) d L b22 sm)) (N := b14.view.dmaCredit) (O := O) (W₀ := W₀) hO rfl ?hk2)
      case hk2 =>
        iintro ⟨⟨⟨H14, Hsc⟩, HB, HW⟩, ⟨H6, Hseg, HA⟩, H23, H22⟩
        iapply (wp_seq d L (hloop h) (R := iprop((mSeg.view.loc (tt d L) ↦{q} (A : Buf (Elt F) (mSeg.view.loc (tt d L)))) ∗ (mSc.view.loc (tt d L) ↦{q} (X : Buf (Elt F) (mSc.view.loc (tt d L))))
          ∗ semVal (tt d L, .dma sA) 0 ∗ semVal (tt d L, .dma sB) 0 ∗ waits (F := F) d L O W₀)) ?hk3)
        case hk3 =>
          intro _
          rw [wp_ret]
          unfold unitRes turnIdle segHolds scHolds waits
          iintro ⟨⟨H23, H22, ⟨%f14, -, H14⟩, ⟨%f6, -, H6⟩⟩, Hseg, Hsc, HA, HB, HW⟩
          imodintro
          isplitl [H6 H14 HA HB Hseg Hsc]
          · isplitl [H6]; · iexists _; iexact H6
            isplitl [H14]; · iexists _; iexact H14
            isplitl [HA]; · iexact HA
            isplitl [HB]; · iexact HB
            isplitl [Hseg]; · iexact Hseg
            iexact Hsc
          isplitl [H23]; · iexact H23
          isplitl [H22]; · iexact H22
          iexact HW
        unfold unitRes waits
        isplitl [H23 H22 H14 H6]
        · isplitl [H23]; · iexact H23
          isplitl [H22]; · iexact H22
          isplitl [H14]; · iexact H14
          iexact H6
        · isplitl [Hseg]; · iexact Hseg
          isplitl [Hsc]; · iexact Hsc
          isplitl [HA]; · iexact HA
          isplitl [HB]; · iexact HB
          iexact HW
      isplitl [HC2 HW]
      · isplitl [HC2]; · iexact HC2
        iexact HW
      · isplitl [H6 Hseg HA]
        · isplitl [H6]; · iexact H6
          isplitl [Hseg]; · iexact Hseg
          iexact HA
        isplitl [H23]; · iexact H23
        iexact H22
    isplitl [HC HW]
    · isplitl [HC]; · iexact HC
      iexact HW
    · isplitl [HC2]; · iexact HC2
      isplitl [H23]; · iexact H23
      iexact H22
  · rw [dif_neg h, if_neg (fun hu => h (hc.2 hu)), if_neg (fun hu => h (hc.2 hu)), wp_ret]
    iintro H; imodintro; iexact H

end Cert.Proof
-- ==== Proof.Tile.lean ====
/-
  The task of a vector subcore: the maxima copied in, the accumulator zeroed, the eight turns started and then drained,
  the accumulator copied to the tile's row of the partial sums.
-/
module

public import proofs.«01_k».proof.Proof.Issue
public import Idealize.ShloMosaic.Lib.Pipeline.BigSepL

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-! ## The tile's number, and where its turns' copies lie -/

/-- The number of the tile: two SparseCores take the tiles alternately. -/
def wid (L : grid1.Coords) : ℕ := 2 * (L 1).val + (L 0).val

/-- Turn 0 runs when its unit exists, and its copies lie at the unit. -/
theorem turn0 : ∀ L : grid1.Coords, (k1_cond1 L = 1#1 ↔ wid L + 0 < 250) ∧ (k1_cond9 L = 1#1 ↔ wid L + 0 < 250)
    ∧ (∀ a, k1_off1 L a = (![400 * (wid L + 0)] : Fin 1 → ℕ) a)
    ∧ (wid L + 0 < 250 → ∀ a, k1_off2 L a = (![(wid L + 0) / 5, (wid L + 0) % 5, 0, 0] : Fin 4 → ℕ) a) := by decide +kernel
/-- Turn 1 runs when its unit exists, and its copies lie at the unit. -/
theorem turn1 : ∀ L : grid1.Coords, (k1_cond2 L = 1#1 ↔ wid L + 32 < 250) ∧ (k1_cond10 L = 1#1 ↔ wid L + 32 < 250)
    ∧ (∀ a, k1_off3 L a = (![400 * (wid L + 32)] : Fin 1 → ℕ) a)
    ∧ (wid L + 32 < 250 → ∀ a, k1_off4 L a = (![(wid L + 32) / 5, (wid L + 32) % 5, 0, 0] : Fin 4 → ℕ) a) := by decide +kernel
/-- Turn 2 runs when its unit exists, and its copies lie at the unit. -/
theorem turn2 : ∀ L : grid1.Coords, (k1_cond3 L = 1#1 ↔ wid L + 64 < 250) ∧ (k1_cond11 L = 1#1 ↔ wid L + 64 < 250)
    ∧ (∀ a, k1_off5 L a = (![400 * (wid L + 64)] : Fin 1 → ℕ) a)
    ∧ (wid L + 64 < 250 → ∀ a, k1_off6 L a = (![(wid L + 64) / 5, (wid L + 64) % 5, 0, 0] : Fin 4 → ℕ) a) := by decide +kernel
/-- Turn 3 runs when its unit exists, and its copies lie at the unit. -/
theorem turn3 : ∀ L : grid1.Coords, (k1_cond4 L = 1#1 ↔ wid L + 96 < 250) ∧ (k1_cond12 L = 1#1 ↔ wid L + 96 < 250)
    ∧ (∀ a, k1_off7 L a = (![400 * (wid L + 96)] : Fin 1 → ℕ) a)
    ∧ (wid L + 96 < 250 → ∀ a, k1_off8 L a = (![(wid L + 96) / 5, (wid L + 96) % 5, 0, 0] : Fin 4 → ℕ) a) := by decide +kernel
/-- Turn 4 runs when its unit exists, and its copies lie at the unit. -/
theorem turn4 : ∀ L : grid1.Coords, (k1_cond5 L = 1#1 ↔ wid L + 128 < 250) ∧ (k1_cond13 L = 1#1 ↔ wid L + 128 < 250)
    ∧ (∀ a, k1_off9 L a = (![400 * (wid L + 128)] : Fin 1 → ℕ) a)
    ∧ (wid L + 128 < 250 → ∀ a, k1_off10 L a = (![(wid L + 128) / 5, (wid L + 128) % 5, 0, 0] : Fin 4 → ℕ) a) := by decide +kernel
/-- Turn 5 runs when its unit exists, and its copies lie at the unit. -/
theorem turn5 : ∀ L : grid1.Coords, (k1_cond6 L = 1#1 ↔ wid L + 160 < 250) ∧ (k1_cond14 L = 1#1 ↔ wid L + 160 < 250)
    ∧ (∀ a, k1_off11 L a = (![400 * (wid L + 160)] : Fin 1 → ℕ) a)
    ∧ (wid L + 160 < 250 → ∀ a, k1_off12 L a = (![(wid L + 160) / 5, (wid L + 160) % 5, 0, 0] : Fin 4 → ℕ) a) := by decide +kernel
/-- Turn 6 runs when its unit exists, and its copies lie at the unit. -/
theorem turn6 : ∀ L : grid1.Coords, (k1_cond7 L = 1#1 ↔ wid L + 192 < 250) ∧ (k1_cond15 L = 1#1 ↔ wid L + 192 < 250)
    ∧ (∀ a, k1_off13 L a = (![400 * (wid L + 192)] : Fin 1 → ℕ) a)
    ∧ (wid L + 192 < 250 → ∀ a, k1_off14 L a = (![(wid L + 192) / 5, (wid L + 192) % 5, 0, 0] : Fin 4 → ℕ) a) := by decide +kernel
/-- Turn 7 runs when its unit exists, and its copies lie at the unit. -/
theorem turn7 : ∀ L : grid1.Coords, (k1_cond8 L = 1#1 ↔ wid L + 224 < 250) ∧ (k1_cond16 L = 1#1 ↔ wid L + 224 < 250)
    ∧ (∀ a, k1_off15 L a = (![400 * (wid L + 224)] : Fin 1 → ℕ) a)
    ∧ (wid L + 224 < 250 → ∀ a, k1_off16 L a = (![(wid L + 224) / 5, (wid L + 224) % 5, 0, 0] : Fin 4 → ℕ) a) := by decide +kernel

/-- The tile's row of the partial sums. -/
theorem rowOff : ∀ L : grid1.Coords, ∀ a, k1_off225 L a = (![wid L, 0] : Fin 2 → ℕ) a := by decide +kernel

/-! ## What the subcore owns -/

/-- A product over a set with a list's members taken out. -/
theorem bigSep_pull {I M : Type} [DecidableEq I] [URA M] (S : Finset I) (l : List I) (hn : l.Nodup) (hm : ∀ x ∈ l, x ∈ S) (Φ : I → sProp M) :
    bigSep S Φ = iprop(bigSepL l Φ ∗ bigSep (S \ l.toFinset) Φ) := by
  rw [SparseCore.bigSep_sdiff_split' (t := l.toFinset) (fun x hx => hm x (List.mem_toFinset.mp hx)), bigSep_eq_bigSepL l hn]

/-- The tile's scratch buffers. -/
def scratchRefs : List (Ref sig .scVector) :=
  [cc1_scratch0, cc1_scratch1, cc1_scratch2, cc1_scratch3, cc1_scratch4, cc1_scratch5, cc1_scratch6, cc1_scratch7, cc1_scratch8, cc1_scratch9, cc1_scratch10, cc1_scratch11, cc1_scratch12, cc1_scratch13, cc1_scratch14, cc1_scratch15, cc1_scratch16, cc1_scratch17]
/-- The tile's semaphores: a turn's two, and the two of the copies that wait at once. -/
def scratchSems : List (DmaSem sig) :=
  [cc1_scratch18.sem, cc1_scratch19.sem, cc1_scratch20.sem, cc1_scratch21.sem, cc1_scratch22.sem, cc1_scratch23.sem, cc1_scratch24.sem, cc1_scratch25.sem, cc1_scratch26.sem, cc1_scratch27.sem, cc1_scratch28.sem, cc1_scratch29.sem, cc1_scratch30.sem, cc1_scratch31.sem, cc1_scratch32.sem, cc1_scratch33.sem, cc1_scoped0.sem, cc1_scoped1.sem]

/-- A tile's buffers are distinct. -/
theorem scratchRefs_nodup : scratchRefs.Nodup := by decide
/-- A tile's semaphores are distinct. -/
theorem scratchSems_nodup : scratchSems.Nodup := by decide
/-- A tile's semaphores are its own. -/
theorem scratchSems_scoped : ∀ s ∈ scratchSems, (SemLoc.dma s : SemLoc sig).isScoped .scVector = true := by decide

omit [FloatOps F] in
/-- A tile's storage with the kernel's buffers taken out. -/
theorem ownBufs_tile :
    (SparseCore.Cfg.ownBufs (tt d L) : sProp 𝕄)
      = iprop(bigSepL scratchRefs (fun b => iprop(∃ f, (tt d L).loc b ↦{fullShare} f))
          ∗ bigSep (SparseCore.Cfg.ownRefs (τ := τ) (.scVector (cV L) (jV L)) \ (scratchRefs.map (Proc.scVector (cV L) (jV L)).devRef).toFinset)
              fun b => iprop(∃ f, ((d, b) : Loc nD τ sig) ↦{fullShare} f)) := by
  unfold SparseCore.Cfg.ownBufs
  rw [bigSep_pull _ (scratchRefs.map (Proc.scVector (cV L) (jV L)).devRef)
    (List.Nodup.map (Proc.devRef_injective _) scratchRefs_nodup) (by
      intro x hx
      obtain ⟨b, hb, rfl⟩ := List.mem_map.mp hx
      refine SparseCore.Cfg.mem_ownRefs_of_owner ?_
      unfold scratchRefs at hb
      fin_cases hb <;> rfl)]
  rw [bigSepL_map]

omit [FloatOps F] in
/-- A tile's semaphores with the kernel's taken out. -/
theorem ownSems_tile :
    (SparseCore.Cfg.ownSems0 (tt d L) : sProp 𝕄)
      = iprop(bigSepL scratchSems (fun s => semVal (tt d L, .dma s) 0)
          ∗ bigSep (SparseCore.Cfg.ownCells (tt d L) \ (scratchSems.map fun s => ((tt d L, .dma s) : GSem nD τ sig)).toFinset) fun g => semVal g 0) := by
  unfold SparseCore.Cfg.ownSems0
  rw [bigSep_pull _ (scratchSems.map fun s => ((tt d L, .dma s) : GSem nD τ sig))
    (List.Nodup.map (fun a b h => by injection (Prod.mk.inj h).2) scratchSems_nodup) (by
      intro x hx
      obtain ⟨b, hb, rfl⟩ := List.mem_map.mp hx
      refine SparseCore.Cfg.mem_ownCells.mpr ⟨rfl, ?_⟩
      exact scratchSems_scoped b hb)]
  rw [bigSepL_map]

/-! ## The accumulator zeroed -/

/-- The buffer's first `16 n` entries are zero. -/
def zeroed (b : Memref sig .scVector .vmem S512 .f32) (n : ℕ) : sProp 𝕄 :=
  iprop(∃ f, ⌜∀ x : S512.Idx, (x 0).val < 16 * n → b.view.read (Elt F) f x = FloatOps.ofBits .f32 0x0#32⌝ ∗ b.view.loc (tt d L) ↦{fullShare} f)

/-- A step of the zeroing: sixteen entries further. -/
theorem wp_zero {b : Memref sig .scVector .vmem S512 .f32} {n : ℕ} {off : Fin 1 → ℕ} {inb : ∀ a, off a + S16.size a ≤ S512.size a} {hl hs hm} {α : Type}
    {k : Vec F S16 .f32 → PUnit → Prog (TpuEff nD τ sig (Elt F) Λ₀ (.scVector (cV L) (jV L))) α} {Q : α → sProp 𝕄} {R : sProp 𝕄}
    (hk : ∀ v, iprop(zeroed (F := F) d L b (n + 1) ∗ R) ⊢ wp frame (wpE (defs₀ (F := F)) 𝒱₀ (tt d L) none) Set.univ (k v ⟨⟩) Q)
    (hoff : off = ![16 * n] := by rfl) :
    iprop(zeroed (F := F) d L b n ∗ R) ⊢ wp frame (wpE (defs₀ (F := F)) 𝒱₀ (tt d L) none) Set.univ
      (.op (.load b (Rect.unit (s := S512) off S16.size inb).toLoadRect hl) fun v =>
        .op (.store b (Rect.unit (s := S512) off S16.size inb) (k1_pay373 (F := F)) Finset.univ hs hm) (k v)) Q := by
  unfold zeroed
  iintro ⟨⟨%f, %hf, Hf⟩, HR⟩
  iapply (wp_load 𝒱₀ (tt d L) none Set.univ (m := b) (S := Finset.univ) (Finset.subset_univ _)) $$ Hf
  iintro Hf
  iapply (wp_store 𝒱₀ (tt d L) none Set.univ (m := b) (r := Rect.unit (s := S512) off S16.size inb) (Mk := Finset.univ) (S := Finset.univ) (Finset.subset_univ _)) $$ Hf
  iintro Hf
  iapply (hk _)
  isplitl [Hf]
  · unfold zeroed
    iexists _; isplitr
    rotate_left
    · iexact Hf
    · ipureintro
      intro x hx
      by_cases h : (x 0).val < 16 * n
      · refine (b.view.read_slice_write_of_not_mem _ f _ _ ?_).trans (hf x h)
        intro hm
        obtain ⟨y, -, hy⟩ := Finset.mem_map.mp hm
        have : (x 0).val = 16 * n + 1 * (y 0).val := by
          rw [← hy]; subst hoff; rfl
        omega
      · have hx' : x = (Rect.unit (s := S512) off S16.size inb).emb (ix1 (n0 := 16) ⟨(x 0).val - 16 * n, by omega⟩) := by
          funext a; apply Fin.ext
          obtain rfl : a = 0 := Subsingleton.elim _ _
          subst hoff
          show (x 0).val = 16 * n + 1 * ((x 0).val - 16 * n)
          omega
        conv_lhs => rw [hx']
        exact b.view.read_slice_write_emb _ f _ (Finset.mem_univ _)
  · iexact HR

end Cert.Proof
-- ==== Proof.TileBody.lean ====
/-
  The task of a vector subcore as a whole: from its shares of the tables and its row of the partial sums, to the row
  holding the accumulator of its eight turns.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-! ## A turn's start and end, inside the program -/

section
variable {b6 : Memref sig .scVector .vmem S400 .i32} {b14 : Memref sig .scVector .vmem S4x400 .f32} {b22 b23 : Memref sig .scVector .vmem S512 .f32}
  {sA sB : DmaSem sig} {q : PosShare TreeShare} {A : IVec S100000 32} {X : FVec F S50x5x4x400 .f32} {sm acc : Vec F S512 .f32} {u : ℕ}

/-- The start of a turn, the rest of the program following both branches. -/
theorem issue_then {α : Type} {k : Prog (TpuEff nD τ sig (Elt F) Λ₀ (.scVector (cV L) (jV L))) α} {Q : α → sProp 𝕄} {c : BitVec 1} {off1 : Fin 1 → ℕ} {off2 : Fin 4 → ℕ} {inb1 : c = 1#1 → ∀ a, off1 a + S400.size a ≤ S100000.size a}
    {inb2 : c = 1#1 → ∀ a, off2 a + S1x1x4x400.size a ≤ S50x5x4x400.size a}
    {p1 : ∀ h : c = 1#1, (mSeg.slice (Rect.unit (s := S100000) off1 S400.size (inb1 h)) (fun _ => rfl)).view.WordExact} {p2 : c = 1#1 → b6.view.WordExact}
    {p3 : c = 1#1 → DmaTarget.Typed (nD := nD) .hbm (.dma sA) (DmaTarget.here (p := Proc.scVector (cV L) (jV L)) b6)}
    {p4 : ∀ h : c = 1#1, ((mSc.slice (Rect.unit (s := S50x5x4x400) off2 S1x1x4x400.size (inb2 h)) (fun _ => rfl)).squeeze S4x400 squeezes_S1x1x4x400_S4x400).view.WordExact}
    {p5 : c = 1#1 → b14.view.WordExact} {p6 : c = 1#1 → DmaTarget.Typed (nD := nD) .hbm (.dma sB) (DmaTarget.here (p := Proc.scVector (cV L) (jV L)) b14)}
    (hc : c = 1#1 ↔ u < 250) (h1 : ∀ a, off1 a = (![400 * u] : Fin 1 → ℕ) a) (h2 : u < 250 → ∀ a, off2 a = (![u / 5, u % 5, 0, 0] : Fin 4 → ℕ) a) :
    turnIdle (F := F) d L b6 b14 sA sB q A X
      ⊢ iprop((turnOut (F := F) d L b6 b14 sA sB q A X u -∗ wp frame (wpE (defs₀ (F := F)) 𝒱₀ (tt d L) none) Set.univ k Q) -∗ wp frame (wpE (defs₀ (F := F)) 𝒱₀ (tt d L) none) Set.univ
          (if h : c = 1#1 then
            .op (.enqueueDma (mSeg.slice (Rect.unit (s := S100000) off1 S400.size (inb1 h)) (fun _ => rfl)) (.here b6) (.dma sA) (p1 h) (p2 h) (p3 h)) fun _ =>
            .op (.enqueueDma ((mSc.slice (Rect.unit (s := S50x5x4x400) off2 S1x1x4x400.size (inb2 h)) (fun _ => rfl)).squeeze S4x400 squeezes_S1x1x4x400_S4x400)
              (.here b14) (.dma sB) (p4 h) (p5 h) (p6 h)) fun _ => k
           else k) Q) := by
  iintro HI Hk
  have key := wp_seq (F := F) d L (k := fun _ => k) (Q := Q)
    (wp_issue (F := F) d L (sA := sA) (sB := sB) (q := q) (A := A) (X := X) (p1 := p1) (p2 := p2) (p3 := p3) (p4 := p4) (p5 := p5) (p6 := p6) hc
      (fun _ => funext h1) (fun h => funext (h2 h)))
    (R := iprop(turnOut (F := F) d L b6 b14 sA sB q A X u -∗ wp frame (wpE (defs₀ (F := F)) 𝒱₀ (tt d L) none) Set.univ k Q)) (fun _ => by
      iintro ⟨HO, Hk⟩; iapply Hk; iexact HO)
  by_cases h : c = 1#1
  · rw [dif_pos h] at key ⊢
    iapply key
    isplitl [HI] <;> iassumption
  · rw [dif_neg h] at key ⊢
    iapply key
    isplitl [HI] <;> iassumption

/-- The end of a turn, the rest of the program following both branches. -/
theorem drain_then {α : Type} {k : Prog (TpuEff nD τ sig (Elt F) Λ₀ (.scVector (cV L) (jV L))) α} {Q : α → sProp 𝕄} {c : BitVec 1} {O : CellTallies nD τ sig (HIx 1)} {W₀ : Waits sig (HIx 1)} (hO : ∀ g, O g none = 0)
    {src1 : c = 1#1 → Memref sig .scVector .hbm S400 .i32} {src2 : c = 1#1 → Memref sig .scVector .hbm S4x400 .f32}
    {p1 : ∀ h, (src1 h).view.WordExact} {p2 : c = 1#1 → b6.view.WordExact} {p3 : ∀ h, (src2 h).view.WordExact} {p4 : c = 1#1 → b14.view.WordExact}
    {lb ub st : BitVec 32} {hok : c = 1#1 → Scf.OK lb ub st}
    {body : c = 1#1 → Fin (Scf.trips lb ub st) → PUnit → Prog (TpuEff nD τ sig (Elt F) Λ₀ (.scVector (cV L) (jV L))) PUnit}
    (hc : c = 1#1 ↔ u < 250) (htr : Scf.trips lb ub st = 5)
    (hloop : ∀ h (t : Fin (Scf.trips lb ub st)), unitRes (F := F) d L b6 b14 b22 b23 sm (segOf A) (scOf X) u (unitPart sm (segOf A) (scOf X) u acc (5 * t.val))
      ⊢ wp frame (wpE (defs₀ (F := F)) 𝒱₀ (tt d L) none) Set.univ (body h t ⟨⟩) fun _ => unitRes (F := F) d L b6 b14 b22 b23 sm (segOf A) (scOf X) u (unitPart sm (segOf A) (scOf X) u acc (5 * t.val + 5))) :
    iprop(turnOut (F := F) d L b6 b14 sA sB q A X u ∗ tabHolds (F := F) d L b23 acc ∗ tabHolds (F := F) d L b22 sm ∗ waits (F := F) d L O W₀)
      ⊢ iprop((turnIdle (F := F) d L b6 b14 sA sB q A X ∗ tabHolds (F := F) d L b23 (turnAcc sm A X u acc) ∗ tabHolds (F := F) d L b22 sm ∗ waits (F := F) d L O W₀
            -∗ wp frame (wpE (defs₀ (F := F)) 𝒱₀ (tt d L) none) Set.univ k Q) -∗ wp frame (wpE (defs₀ (F := F)) 𝒱₀ (tt d L) none) Set.univ
          (if h : c = 1#1 then
            .op (.waitDma2 sA (src1 h) b6 (p1 h) (p2 h)) fun _ => .op (.waitDma2 sB (src2 h) b14 (p3 h) (p4 h)) fun _ =>
              (Scf.for lb ub st (hok h) PUnit.unit (body h)) >>= fun _ => k
           else k) Q) := by
  iintro HI Hk
  have key := wp_seq (F := F) d L (k := fun _ => k) (Q := Q)
    (wp_drain (F := F) d L (b6 := b6) (b14 := b14) (b22 := b22) (b23 := b23) (sA := sA) (sB := sB) (q := q) (A := A) (X := X) (sm := sm) (acc := acc) (W₀ := W₀) hO (p1 := p1) (p2 := p2) (p3 := p3) (p4 := p4)
      (body := fun h => Scf.for lb ub st (hok h) PUnit.unit (body h)) hc (fun h => by
        refine .trans ?_ (Scf.wp_for _ _ _ lb ub st (hok h) PUnit.unit (body h)
          (fun n _ => unitRes (F := F) d L b6 b14 b22 b23 sm (segOf A) (scOf X) u (unitPart sm (segOf A) (scOf X) u acc (5 * n))) (fun t _ => hloop h t))
        iintro H
        isplitl [H]; · iexact H
        iintro %_ H
        rw [htr]
        iexact H))
    (R := iprop(turnIdle (F := F) d L b6 b14 sA sB q A X ∗ tabHolds (F := F) d L b23 (turnAcc sm A X u acc) ∗ tabHolds (F := F) d L b22 sm ∗ waits (F := F) d L O W₀
            -∗ wp frame (wpE (defs₀ (F := F)) 𝒱₀ (tt d L) none) Set.univ k Q)) (fun _ => by
      iintro ⟨HO, Hk⟩; iapply Hk; iexact HO)
  by_cases h : c = 1#1
  · rw [dif_pos h] at key ⊢
    simp only [Prog.bind_op, Prog.bind_ret, bind_assoc] at key
    iapply key
    isplitl [HI] <;> iassumption
  · rw [dif_neg h] at key ⊢
    iapply key
    isplitl [HI] <;> iassumption
end

variable {q : ℕ → PosShare TreeShare} {A : IVec S100000 32} {X : FVec F S50x5x4x400 .f32} {sm acc : Vec F S512 .f32}

set_option maxRecDepth 4000 in
set_option maxHeartbeats 1000000 in
/-- The first five turns' starts. -/
theorem wp_part43 (w1 w41 w400 : BitVec 32) :
    iprop(turnIdle (F := F) d L (Memref.whole cc1_scratch0) (Memref.whole cc1_scratch8) cc1_scratch18.sem cc1_scratch26.sem (q 0) A X ∗ turnIdle (F := F) d L (Memref.whole cc1_scratch1) (Memref.whole cc1_scratch9) cc1_scratch19.sem cc1_scratch27.sem (q 1) A X ∗ turnIdle (F := F) d L (Memref.whole cc1_scratch2) (Memref.whole cc1_scratch10) cc1_scratch20.sem cc1_scratch28.sem (q 2) A X ∗ turnIdle (F := F) d L (Memref.whole cc1_scratch3) (Memref.whole cc1_scratch11) cc1_scratch21.sem cc1_scratch29.sem (q 3) A X ∗ turnIdle (F := F) d L (Memref.whole cc1_scratch4) (Memref.whole cc1_scratch12) cc1_scratch22.sem cc1_scratch30.sem (q 4) A X)
      ⊢ wp frame (wpE (defs₀ (F := F)) 𝒱₀ (tt d L) none) Set.univ
          (k1_part43 L (Memref.whole main_v30_1_scv) (Memref.isWhole_whole _) (Memref.whole main_arg1_scv) (Memref.isWhole_whole _) (Memref.whole main_v31_scv) (Memref.isWhole_whole _) (Memref.whole main_v32_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1 w1 w41 w400)
          fun _ => iprop(turnOut (F := F) d L (Memref.whole cc1_scratch0) (Memref.whole cc1_scratch8) cc1_scratch18.sem cc1_scratch26.sem (q 0) A X (wid L + 0) ∗ turnOut (F := F) d L (Memref.whole cc1_scratch1) (Memref.whole cc1_scratch9) cc1_scratch19.sem cc1_scratch27.sem (q 1) A X (wid L + 32) ∗ turnOut (F := F) d L (Memref.whole cc1_scratch2) (Memref.whole cc1_scratch10) cc1_scratch20.sem cc1_scratch28.sem (q 2) A X (wid L + 64) ∗ turnOut (F := F) d L (Memref.whole cc1_scratch3) (Memref.whole cc1_scratch11) cc1_scratch21.sem cc1_scratch29.sem (q 3) A X (wid L + 96) ∗ turnOut (F := F) d L (Memref.whole cc1_scratch4) (Memref.whole cc1_scratch12) cc1_scratch22.sem cc1_scratch30.sem (q 4) A X (wid L + 128)) := by
  simp only [k1_part43_eq_skeleton, k1_part43_skel, Prog.lift, Prog.bind_op, Prog.bind_ret, Prog.pure_eq_ret]
  iintro ⟨H0, H1, H2, H3, H4⟩
  iapply (issue_then (F := F) d L (turn0 L).1 (turn0 L).2.2.1 (turn0 L).2.2.2) $$ H0
  iintro H0
  iapply (issue_then (F := F) d L (turn1 L).1 (turn1 L).2.2.1 (turn1 L).2.2.2) $$ H1
  iintro H1
  iapply (issue_then (F := F) d L (turn2 L).1 (turn2 L).2.2.1 (turn2 L).2.2.2) $$ H2
  iintro H2
  iapply (issue_then (F := F) d L (turn3 L).1 (turn3 L).2.2.1 (turn3 L).2.2.2) $$ H3
  iintro H3
  iapply (issue_then (F := F) d L (turn4 L).1 (turn4 L).2.2.1 (turn4 L).2.2.2) $$ H4
  iintro H4
  rw [wp_ret]
  imodintro
  isplitl [H0]; · iexact H0
  isplitl [H1]; · iexact H1
  isplitl [H2]; · iexact H2
  isplitl [H3]; · iexact H3
  iexact H4

variable {O : CellTallies nD τ sig (HIx 1)} {W₀ : Waits sig (HIx 1)}

set_option maxRecDepth 4000 in
set_option maxHeartbeats 2000000 in
/-- The last three turns' starts, and the first four turns' ends. -/
theorem wp_part44 (hO : ∀ g, O g none = 0) (hs : SegOK (segOf A)) (w1 w71 w250 : BitVec 32) :
    iprop(turnOut (F := F) d L (Memref.whole cc1_scratch0) (Memref.whole cc1_scratch8) cc1_scratch18.sem cc1_scratch26.sem (q 0) A X (wid L + 0) ∗ turnOut (F := F) d L (Memref.whole cc1_scratch1) (Memref.whole cc1_scratch9) cc1_scratch19.sem cc1_scratch27.sem (q 1) A X (wid L + 32) ∗ turnOut (F := F) d L (Memref.whole cc1_scratch2) (Memref.whole cc1_scratch10) cc1_scratch20.sem cc1_scratch28.sem (q 2) A X (wid L + 64) ∗ turnOut (F := F) d L (Memref.whole cc1_scratch3) (Memref.whole cc1_scratch11) cc1_scratch21.sem cc1_scratch29.sem (q 3) A X (wid L + 96) ∗ turnIdle (F := F) d L (Memref.whole cc1_scratch5) (Memref.whole cc1_scratch13) cc1_scratch23.sem cc1_scratch31.sem (q 5) A X ∗ turnIdle (F := F) d L (Memref.whole cc1_scratch6) (Memref.whole cc1_scratch14) cc1_scratch24.sem cc1_scratch32.sem (q 6) A X ∗ turnIdle (F := F) d L (Memref.whole cc1_scratch7) (Memref.whole cc1_scratch15) cc1_scratch25.sem cc1_scratch33.sem (q 7) A X
        ∗ tabHolds (F := F) d L (Memref.whole cc1_scratch17) acc ∗ tabHolds (F := F) d L (Memref.whole cc1_scratch16) sm ∗ waits (F := F) d L O W₀)
      ⊢ wp frame (wpE (defs₀ (F := F)) 𝒱₀ (tt d L) none) Set.univ
          (k1_part44 L (Memref.whole main_v30_1_scv) (Memref.isWhole_whole _) (Memref.whole main_arg1_scv) (Memref.isWhole_whole _) (Memref.whole main_v31_scv) (Memref.isWhole_whole _) (Memref.whole main_v32_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1 w1 w71 w250)
          fun _ => iprop(turnIdle (F := F) d L (Memref.whole cc1_scratch0) (Memref.whole cc1_scratch8) cc1_scratch18.sem cc1_scratch26.sem (q 0) A X ∗ turnIdle (F := F) d L (Memref.whole cc1_scratch1) (Memref.whole cc1_scratch9) cc1_scratch19.sem cc1_scratch27.sem (q 1) A X ∗ turnIdle (F := F) d L (Memref.whole cc1_scratch2) (Memref.whole cc1_scratch10) cc1_scratch20.sem cc1_scratch28.sem (q 2) A X ∗ turnIdle (F := F) d L (Memref.whole cc1_scratch3) (Memref.whole cc1_scratch11) cc1_scratch21.sem cc1_scratch29.sem (q 3) A X ∗ turnOut (F := F) d L (Memref.whole cc1_scratch5) (Memref.whole cc1_scratch13) cc1_scratch23.sem cc1_scratch31.sem (q 5) A X (wid L + 160) ∗ turnOut (F := F) d L (Memref.whole cc1_scratch6) (Memref.whole cc1_scratch14) cc1_scratch24.sem cc1_scratch32.sem (q 6) A X (wid L + 192) ∗ turnOut (F := F) d L (Memref.whole cc1_scratch7) (Memref.whole cc1_scratch15) cc1_scratch25.sem cc1_scratch33.sem (q 7) A X (wid L + 224)
            ∗ tabHolds (F := F) d L (Memref.whole cc1_scratch17) (turnAcc sm A X (wid L + 96) (turnAcc sm A X (wid L + 64) (turnAcc sm A X (wid L + 32) (turnAcc sm A X (wid L + 0) acc)))) ∗ tabHolds (F := F) d L (Memref.whole cc1_scratch16) sm ∗ waits (F := F) d L O W₀) := by
  simp only [k1_part44_eq_skeleton, k1_part44_skel, Prog.lift, Prog.bind_op, Prog.bind_ret, Prog.pure_eq_ret]
  iintro ⟨H0, H1, H2, H3, H5, H6, H7, HA, HM, HW⟩
  iapply (issue_then (F := F) d L (turn5 L).1 (turn5 L).2.2.1 (turn5 L).2.2.2) $$ H5
  iintro H5
  iapply (issue_then (F := F) d L (turn6 L).1 (turn6 L).2.2.1 (turn6 L).2.2.2) $$ H6
  iintro H6
  iapply (issue_then (F := F) d L (turn7 L).1 (turn7 L).2.2.1 (turn7 L).2.2.2) $$ H7
  iintro H7
  iapply (drain_then (F := F) d L hO (turn0 L).2.1 (by decide) (fun h t => trip1 (F := F) d L hs t _ _ _ h)) $$ [H0 HA HM HW]
  · isplitl [H0]; · iexact H0
    isplitl [HA]; · iexact HA
    isplitl [HM]; · iexact HM
    iexact HW
  iintro ⟨H0, HA, HM, HW⟩
  iapply (drain_then (F := F) d L hO (turn1 L).2.1 (by decide) (fun h t => trip2 (F := F) d L hs t _ _ _ h)) $$ [H1 HA HM HW]
  · isplitl [H1]; · iexact H1
    isplitl [HA]; · iexact HA
    isplitl [HM]; · iexact HM
    iexact HW
  iintro ⟨H1, HA, HM, HW⟩
  iapply (drain_then (F := F) d L hO (turn2 L).2.1 (by decide) (fun h t => trip3 (F := F) d L hs t _ _ _ h)) $$ [H2 HA HM HW]
  · isplitl [H2]; · iexact H2
    isplitl [HA]; · iexact HA
    isplitl [HM]; · iexact HM
    iexact HW
  iintro ⟨H2, HA, HM, HW⟩
  iapply (drain_then (F := F) d L hO (turn3 L).2.1 (by decide) (fun h t => trip4 (F := F) d L hs t _ _ _ h)) $$ [H3 HA HM HW]
  · isplitl [H3]; · iexact H3
    isplitl [HA]; · iexact HA
    isplitl [HM]; · iexact HM
    iexact HW
  iintro ⟨H3, HA, HM, HW⟩
  rw [wp_ret]
  imodintro
  isplitl [H0]; · iexact H0
  isplitl [H1]; · iexact H1
  isplitl [H2]; · iexact H2
  isplitl [H3]; · iexact H3
  isplitl [H5]; · iexact H5
  isplitl [H6]; · iexact H6
  isplitl [H7]; · iexact H7
  isplitl [HA]; · iexact HA
  isplitl [HM]; · iexact HM
  iexact HW

end Cert.Proof
-- ==== Proof.Task.lean ====
/-
  The task of a vector subcore: the maxima copied in, the accumulator zeroed, the eight turns, and the accumulator
  copied to the tile's row of the partial sums.
-/
module

public import proofs.«01_k».proof.Proof.TileBody

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-- The kernel's view of the maxima. -/
abbrev mSm : Memref sig .scVector .hbm S512 .f32 := Memref.whole main_v31_scv
/-- The kernel's view of the partial sums. -/
abbrev mPart : Memref sig .scVector .hbm S32x512 .f32 := Memref.whole main_v32_scv

/-! ## The row of the partial sums a tile writes -/

/-- The elements of row `w` of the partial sums. -/
def rowSet (w : ℕ) : Finset S32x512.Idx := Finset.univ.filter fun x => (x 0).val = w

/-- The indices of a row. -/
theorem mem_rowSet {w : ℕ} {x : S32x512.Idx} : x ∈ rowSet w ↔ (x 0).val = w := by simp [rowSet]

/-- The partial sums: row `w` is what tile `w` has accumulated after its eight turns. -/
def partsOf (sm : Vec F S512 .f32) (A : IVec S100000 32) (X : FVec F S50x5x4x400 .f32) : FVec F S32x512 .f32 :=
  fun x => tileAcc sm (segOf A) (scOf X) (x 0).val 8 (ix1 (n0 := 512) ⟨(x 1).val, (x 1).isLt⟩)

/-- The view of the tile's row. -/
abbrev outRow (inb : ∀ a, k1_off225 L a + S1x512.size a ≤ S32x512.size a) : Memref sig .scVector .hbm S512 .f32 :=
  (mPart.slice (Rect.unit (s := S32x512) (k1_off225 L) S1x512.size inb) (fun _ => rfl)).squeeze S512 squeezes_S1x512_S512

/-- The words a tile's copy writes are its row. -/
theorem set_outRow {inb} : (outRow L inb).view.set = rowSet (wid L) := by
  show (View.reshape _ _ _).set = _
  rw [View.set_reshape]
  show ((View.whole main_v32_scv).slice _).set = _
  rw [View.set_slice_whole]
  ext x
  rw [mem_rowSet]
  refine (LoadRect.mem_set (r := (Rect.unit (s := S32x512) (k1_off225 L) S1x512.size inb).toLoadRect)).trans ?_
  have h0 := rowOff L 0
  have h1 := rowOff L 1
  constructor
  · intro h
    obtain ⟨j, hj, e⟩ := h 0
    have hj : j < 1 := hj
    have e : (x 0).val = k1_off225 L 0 + 1 * j := e
    have h0 : k1_off225 L 0 = wid L := h0
    omega
  · intro h a
    fin_cases a
    · refine ⟨0, Nat.zero_lt_one, ?_⟩
      show (x 0).val = k1_off225 L 0 + 1 * 0
      have h0 : k1_off225 L 0 = wid L := h0
      omega
    · refine ⟨(x 1).val, (x 1).isLt, ?_⟩
      show (x 1).val = k1_off225 L 1 + 1 * (x 1).val
      have h1 : k1_off225 L 1 = 0 := h1
      omega

/-- A tile's row of the partial sums is its accumulator. -/
theorem read_outRow {inb} (sm : Vec F S512 .f32) (A : IVec S100000 32) (X : FVec F S50x5x4x400 .f32) :
    (outRow L inb).view.read (Elt F) (partsOf sm A X) = tileAcc sm (segOf A) (scOf X) (wid L) 8 := by
  funext x
  refine (congrFun (Memref.read_squeeze_slice (Val := Elt F) mPart (Rect.unit (s := S32x512) (k1_off225 L) S1x512.size inb) (fun _ => rfl) squeezes_S1x512_S512
    squeezes_S1x512_S512.numel_eq (partsOf sm A X)) x).trans ?_
  refine (shapeCast_apply _ _ x (ix2 (n0 := 1) (n1 := 512) 0 ⟨(x 0).val, (x 0).isLt⟩ : S1x512.Idx) ?_).trans ?_
  · rw [Shape.rowMajor_val_two, Shape.rowMajor_val_one]
    show 0 * 512 + (x 0).val = (x 0).val
    omega
  · rw [View.readAt_apply]
    have h0 : k1_off225 L 0 = wid L := rowOff L 0
    have h1 : k1_off225 L 1 = 0 := rowOff L 1
    show tileAcc sm (segOf A) (scOf X) (k1_off225 L 0 + 1 * 0) 8 (ix1 (n0 := 512) ⟨k1_off225 L 1 + 1 * (x 0).val, _⟩) = _
    rw [show k1_off225 L 0 + 1 * 0 = wid L by omega]
    congr 1
    · funext a; apply Fin.ext
      obtain rfl : a = 0 := Subsingleton.elim (α := Fin 1) _ _
      show k1_off225 L 1 + 1 * (x 0).val = (x 0).val
      omega

/-- What the row holds once the accumulator has been copied to it. -/
theorem row_written {inb} {v : Vec F S512 .f32} (sm : Vec F S512 .f32) (A : IVec S100000 32) (X : FVec F S50x5x4x400 .f32)
    (hv : v = tileAcc sm (segOf A) (scOf X) (wid L) 8) (f : FVec F S32x512 .f32) :
    ∀ x ∈ rowSet (wid L), (outRow L inb).view.write (Elt F) f v Finset.univ x = partsOf sm A X x := by
  intro x hx
  rw [hv, ← read_outRow L (inb := inb) sm A X, View.write_read_eq_piecewise]
  rw [← set_outRow L (inb := inb)] at hx
  exact Finset.piecewise_eq_of_mem _ _ _ hx

/-- The accumulator zeroed throughout. -/
theorem zeroed_all {b : Memref sig .scVector .vmem S512 .f32} : zeroed (F := F) d L b 32 ⊢ tabHolds (F := F) d L b (fun _ => FloatOps.ofBits .f32 0x0#32) := by
  unfold zeroed tabHolds
  iintro ⟨%f, %hf, H⟩
  iexists f
  isplitr
  · ipureintro; funext x; exact hf x (x 0).isLt
  · iexact H

/-- A step followed by the rest of the program. -/
theorem wp_seq_w {α β : Type} {e : Prog (TpuEff nD τ sig (Elt F) Λ₀ (.scVector (cV L) (jV L))) α}
    {k : α → Prog (TpuEff nD τ sig (Elt F) Λ₀ (.scVector (cV L) (jV L))) β} {A : sProp 𝕄} {B : sProp 𝕄} {Q : β → sProp 𝕄}
    (h : A ⊢ wp frame (wpE (defs₀ (F := F)) 𝒱₀ (tt d L) none) Set.univ e fun _ => B) :
    A ⊢ iprop((∀ a, B -∗ wp frame (wpE (defs₀ (F := F)) 𝒱₀ (tt d L) none) Set.univ (k a) Q) -∗ wp frame (wpE (defs₀ (F := F)) 𝒱₀ (tt d L) none) Set.univ (e >>= k) Q) := by
  iintro HA Hk
  iapply (wp_seq (F := F) d L h (R := iprop(∀ a, B -∗ wp frame (wpE (defs₀ (F := F)) 𝒱₀ (tt d L) none) Set.univ (k a) Q)) (fun a => by
    iintro ⟨HB, Hk⟩
    iapply Hk $$ HB))
  isplitl [HA] <;> iassumption

/-! ## The task -/

variable {q : ℕ → PosShare TreeShare} {q₀ : PosShare TreeShare} {A : IVec S100000 32} {X : FVec F S50x5x4x400 .f32} {sm : Vec F S512 .f32}
variable {O : CellTallies nD τ sig (HIx 1)} {W₀ : Waits sig (HIx 1)}

/-- Before its copies, a turn owns its two buffers and semaphores and a share of each table. The eight turns of a tile. -/
def idles (q : ℕ → PosShare TreeShare) (A : IVec S100000 32) (X : FVec F S50x5x4x400 .f32) : sProp 𝕄 :=
  iprop(turnIdle (F := F) d L (Memref.whole cc1_scratch0) (Memref.whole cc1_scratch8) cc1_scratch18.sem cc1_scratch26.sem (q 0) A X ∗ turnIdle (F := F) d L (Memref.whole cc1_scratch1) (Memref.whole cc1_scratch9) cc1_scratch19.sem cc1_scratch27.sem (q 1) A X ∗ turnIdle (F := F) d L (Memref.whole cc1_scratch2) (Memref.whole cc1_scratch10) cc1_scratch20.sem cc1_scratch28.sem (q 2) A X ∗ turnIdle (F := F) d L (Memref.whole cc1_scratch3) (Memref.whole cc1_scratch11) cc1_scratch21.sem cc1_scratch29.sem (q 3) A X ∗ turnIdle (F := F) d L (Memref.whole cc1_scratch4) (Memref.whole cc1_scratch12) cc1_scratch22.sem cc1_scratch30.sem (q 4) A X ∗ turnIdle (F := F) d L (Memref.whole cc1_scratch5) (Memref.whole cc1_scratch13) cc1_scratch23.sem cc1_scratch31.sem (q 5) A X ∗ turnIdle (F := F) d L (Memref.whole cc1_scratch6) (Memref.whole cc1_scratch14) cc1_scratch24.sem cc1_scratch32.sem (q 6) A X ∗ turnIdle (F := F) d L (Memref.whole cc1_scratch7) (Memref.whole cc1_scratch15) cc1_scratch25.sem cc1_scratch33.sem (q 7) A X)

set_option maxRecDepth 6000 in
set_option maxHeartbeats 4000000 in
/-- The task on what it uses. -/
theorem task_core (hO : ∀ g, O g none = 0) (hs : SegOK (segOf A)) (f₀ : FVec F S32x512 .f32) :
    iprop(idles (F := F) d L q A X ∗ (mSm.view.loc (tt d L) ↦{q₀} (sm : Buf (Elt F) (mSm.view.loc (tt d L))))
        ∗ (∃ f, (Memref.whole cc1_scratch16).view.loc (tt d L) ↦{fullShare} f) ∗ (∃ f, (Memref.whole cc1_scratch17).view.loc (tt d L) ↦{fullShare} f)
        ∗ semVal (tt d L, .dma cc1_scoped0.sem) 0 ∗ semVal (tt d L, .dma cc1_scoped1.sem) 0
        ∗ (mPart.view.loc (tt d L) ↦[rowSet (wid L)]{fullShare} (f₀ : Buf (Elt F) (mPart.view.loc (tt d L)))) ∗ waits (F := F) d L O W₀)
      ⊢ wp frame (wpE (defs₀ (F := F)) 𝒱₀ (tt d L) none) Set.univ
          (cc1__denom_body L (Memref.whole main_v30_1_scv) (Memref.isWhole_whole _) (Memref.whole main_arg1_scv) (Memref.isWhole_whole _) (Memref.whole main_v31_scv) (Memref.isWhole_whole _) (Memref.whole main_v32_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1)
          fun _ => iprop(idles (F := F) d L q A X ∗ (mSm.view.loc (tt d L) ↦{q₀} (sm : Buf (Elt F) (mSm.view.loc (tt d L))))
        ∗ (∃ f, (Memref.whole cc1_scratch16).view.loc (tt d L) ↦{fullShare} f) ∗ (∃ f, (Memref.whole cc1_scratch17).view.loc (tt d L) ↦{fullShare} f)
        ∗ semVal (tt d L, .dma cc1_scoped0.sem) 0 ∗ semVal (tt d L, .dma cc1_scoped1.sem) 0
        ∗ (mPart.view.loc (tt d L) ↦[rowSet (wid L)]{fullShare} (partsOf sm A X : Buf (Elt F) (mPart.view.loc (tt d L)))) ∗ waits (F := F) d L O W₀) := by
  simp only [cc1__denom_body_eq_skeleton, cc1__denom_body_skel, k1_part41_eq_skeleton, k1_part42_eq_skeleton, k1_part41_skel, k1_part42_skel,
    Prog.lift, Prog.bind_op, Prog.bind_ret, Prog.pure_eq_ret]
  unfold idles
  iintro ⟨⟨H0, H1, H2, H3, H4, H5, H6, H7⟩, Hsm, ⟨%f22, HM⟩, ⟨%f23, HA⟩, Hr0, Hr1, Hrow, HW⟩
  -- the maxima in
  iapply (wp_start (F := F) d L (src := mSm) (dst := Memref.whole cc1_scratch16) (fs := sm) (fd := f22) (q := q₀)
      (Sd := Finset.univ) (N := (Memref.whole cc1_scratch16).view.dmaCredit) rfl (View.dmaCredit_pos _ (by decide)) (Finset.subset_univ _)
      (G := iprop(tabHolds (F := F) d L (Memref.whole cc1_scratch16) sm ∗ (mSm.view.loc (tt d L) ↦{q₀} (sm : Buf (Elt F) (mSm.view.loc (tt d L))))))
      (R := iprop((turnIdle (F := F) d L (Memref.whole cc1_scratch0) (Memref.whole cc1_scratch8) cc1_scratch18.sem cc1_scratch26.sem (q 0) A X ∗ turnIdle (F := F) d L (Memref.whole cc1_scratch1) (Memref.whole cc1_scratch9) cc1_scratch19.sem cc1_scratch27.sem (q 1) A X ∗ turnIdle (F := F) d L (Memref.whole cc1_scratch2) (Memref.whole cc1_scratch10) cc1_scratch20.sem cc1_scratch28.sem (q 2) A X ∗ turnIdle (F := F) d L (Memref.whole cc1_scratch3) (Memref.whole cc1_scratch11) cc1_scratch21.sem cc1_scratch29.sem (q 3) A X ∗ turnIdle (F := F) d L (Memref.whole cc1_scratch4) (Memref.whole cc1_scratch12) cc1_scratch22.sem cc1_scratch30.sem (q 4) A X ∗ turnIdle (F := F) d L (Memref.whole cc1_scratch5) (Memref.whole cc1_scratch13) cc1_scratch23.sem cc1_scratch31.sem (q 5) A X ∗ turnIdle (F := F) d L (Memref.whole cc1_scratch6) (Memref.whole cc1_scratch14) cc1_scratch24.sem cc1_scratch32.sem (q 6) A X ∗ turnIdle (F := F) d L (Memref.whole cc1_scratch7) (Memref.whole cc1_scratch15) cc1_scratch25.sem cc1_scratch33.sem (q 7) A X) ∗ ((Memref.whole cc1_scratch17).view.loc (tt d L) ↦{fullShare} f23) ∗ semVal (tt d L, .dma cc1_scoped1.sem) 0
        ∗ (mPart.view.loc (tt d L) ↦[rowSet (wid L)]{fullShare} (f₀ : Buf (Elt F) (mPart.view.loc (tt d L)))) ∗ waits (F := F) d L O W₀)) ?hG1 ?hk1)
  rotate_left 2
  · isplitl [Hsm HM Hr0]
    · isplitl [Hsm]; · iexact Hsm
      isplitl [HM]; · iexact HM
      iexact Hr0
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [HA]; · iexact HA
    isplitl [Hr1]; · iexact Hr1
    isplitl [Hrow]; · iexact Hrow
    iexact HW
  case hG1 =>
    iintro ⟨HM, Hs⟩
    isplitl [HM]
    · unfold tabHolds
      iexists _; isplitr
      rotate_left
      · iexact HM
      · ipureintro
        rw [View.read_write_univ]
        rfl
    · iexact Hs
  case hk1 =>
    iintro ⟨HC, HI, HA, Hr1, Hrow, HW⟩
    iapply (wp_land (F := F) d L (G := iprop(tabHolds (F := F) d L (Memref.whole cc1_scratch16) sm ∗ (mSm.view.loc (tt d L) ↦{q₀} (sm : Buf (Elt F) (mSm.view.loc (tt d L))))))
      (R := iprop((turnIdle (F := F) d L (Memref.whole cc1_scratch0) (Memref.whole cc1_scratch8) cc1_scratch18.sem cc1_scratch26.sem (q 0) A X ∗ turnIdle (F := F) d L (Memref.whole cc1_scratch1) (Memref.whole cc1_scratch9) cc1_scratch19.sem cc1_scratch27.sem (q 1) A X ∗ turnIdle (F := F) d L (Memref.whole cc1_scratch2) (Memref.whole cc1_scratch10) cc1_scratch20.sem cc1_scratch28.sem (q 2) A X ∗ turnIdle (F := F) d L (Memref.whole cc1_scratch3) (Memref.whole cc1_scratch11) cc1_scratch21.sem cc1_scratch29.sem (q 3) A X ∗ turnIdle (F := F) d L (Memref.whole cc1_scratch4) (Memref.whole cc1_scratch12) cc1_scratch22.sem cc1_scratch30.sem (q 4) A X ∗ turnIdle (F := F) d L (Memref.whole cc1_scratch5) (Memref.whole cc1_scratch13) cc1_scratch23.sem cc1_scratch31.sem (q 5) A X ∗ turnIdle (F := F) d L (Memref.whole cc1_scratch6) (Memref.whole cc1_scratch14) cc1_scratch24.sem cc1_scratch32.sem (q 6) A X ∗ turnIdle (F := F) d L (Memref.whole cc1_scratch7) (Memref.whole cc1_scratch15) cc1_scratch25.sem cc1_scratch33.sem (q 7) A X) ∗ ((Memref.whole cc1_scratch17).view.loc (tt d L) ↦{fullShare} f23) ∗ semVal (tt d L, .dma cc1_scoped1.sem) 0
        ∗ (mPart.view.loc (tt d L) ↦[rowSet (wid L)]{fullShare} (f₀ : Buf (Elt F) (mPart.view.loc (tt d L)))))) (N := (Memref.whole cc1_scratch16).view.dmaCredit) (O := O) (W₀ := W₀) hO rfl ?hk2)
    rotate_left
    · isplitl [HC HW]
      · isplitl [HC]; · iexact HC
        unfold waits
        iexact HW
      isplitl [HI]; · iexact HI
      isplitl [HA]; · iexact HA
      isplitl [Hr1]; · iexact Hr1
      iexact Hrow
    iintro ⟨⟨⟨HM, Hsm⟩, Hr0, HW⟩, HI, HA, Hr1, Hrow⟩
    -- the accumulator zeroed
    iapply (show iprop(zeroed (F := F) d L (Memref.whole cc1_scratch17) 0 ∗ ((turnIdle (F := F) d L (Memref.whole cc1_scratch0) (Memref.whole cc1_scratch8) cc1_scratch18.sem cc1_scratch26.sem (q 0) A X ∗ turnIdle (F := F) d L (Memref.whole cc1_scratch1) (Memref.whole cc1_scratch9) cc1_scratch19.sem cc1_scratch27.sem (q 1) A X ∗ turnIdle (F := F) d L (Memref.whole cc1_scratch2) (Memref.whole cc1_scratch10) cc1_scratch20.sem cc1_scratch28.sem (q 2) A X ∗ turnIdle (F := F) d L (Memref.whole cc1_scratch3) (Memref.whole cc1_scratch11) cc1_scratch21.sem cc1_scratch29.sem (q 3) A X ∗ turnIdle (F := F) d L (Memref.whole cc1_scratch4) (Memref.whole cc1_scratch12) cc1_scratch22.sem cc1_scratch30.sem (q 4) A X ∗ turnIdle (F := F) d L (Memref.whole cc1_scratch5) (Memref.whole cc1_scratch13) cc1_scratch23.sem cc1_scratch31.sem (q 5) A X ∗ turnIdle (F := F) d L (Memref.whole cc1_scratch6) (Memref.whole cc1_scratch14) cc1_scratch24.sem cc1_scratch32.sem (q 6) A X ∗ turnIdle (F := F) d L (Memref.whole cc1_scratch7) (Memref.whole cc1_scratch15) cc1_scratch25.sem cc1_scratch33.sem (q 7) A X) ∗ tabHolds (F := F) d L (Memref.whole cc1_scratch16) sm ∗ (mSm.view.loc (tt d L) ↦{q₀} (sm : Buf (Elt F) (mSm.view.loc (tt d L))))
        ∗ semVal (tt d L, .dma cc1_scoped0.sem) 0 ∗ semVal (tt d L, .dma cc1_scoped1.sem) 0
        ∗ (mPart.view.loc (tt d L) ↦[rowSet (wid L)]{fullShare} (f₀ : Buf (Elt F) (mPart.view.loc (tt d L)))) ∗ waits (F := F) d L O W₀)) ⊢ _ from ?hz)
    rotate_left
    · isplitl [HA]
      · unfold zeroed
        iexists f23; isplitr
        · ipureintro; intro x hx; exact absurd hx (Nat.not_lt_zero _)
        · iexact HA
      isplitl [HI]; · iexact HI
      isplitl [HM]; · iexact HM
      isplitl [Hsm]; · iexact Hsm
      isplitl [Hr0]; · iexact Hr0
      isplitl [Hr1]; · iexact Hr1
      isplitl [Hrow]; · iexact Hrow
      unfold waits
      iexact HW
    iterate 32 refine wp_zero (F := F) d L (fun _ => ?_)
    iintro ⟨HZ, ⟨H0, H1, H2, H3, H4, H5, H6, H7⟩, HM, Hsm, Hr0, Hr1, Hrow, HW⟩
    ihave HA := (zeroed_all (F := F) d L) $$ HZ
    -- the first five starts
    iapply (wp_seq_w (F := F) d L (wp_part43 (F := F) d L _ _ _)) $$ [H0 H1 H2 H3 H4]
    · isplitl [H0]; · iexact H0
      isplitl [H1]; · iexact H1
      isplitl [H2]; · iexact H2
      isplitl [H3]; · iexact H3
      iexact H4
    iintro %_ ⟨H0, H1, H2, H3, H4⟩
    iapply (wp_seq_w (F := F) d L (wp_part44 (F := F) d L (W₀ := W₀) hO hs _ _ _)) $$ [H0 H1 H2 H3 H5 H6 H7 HA HM HW]
    · isplitl [H0]; · iexact H0
      isplitl [H1]; · iexact H1
      isplitl [H2]; · iexact H2
      isplitl [H3]; · iexact H3
      isplitl [H5]; · iexact H5
      isplitl [H6]; · iexact H6
      isplitl [H7]; · iexact H7
      isplitl [HA]; · iexact HA
      isplitl [HM]; · iexact HM
      iexact HW
    iintro %_ ⟨H0, H1, H2, H3, H5, H6, H7, HA, HM, HW⟩
    iapply (drain_then (F := F) d L hO (turn4 L).2.1 (by decide) (fun h t => trip5 (F := F) d L hs t h)) $$ [H4 HA HM HW]
    · isplitl [H4]; · iexact H4
      isplitl [HA]; · iexact HA
      isplitl [HM]; · iexact HM
      iexact HW
    iintro ⟨H4, HA, HM, HW⟩
    iapply (drain_then (F := F) d L hO (turn5 L).2.1 (by decide) (fun h t => trip6 (F := F) d L hs t h)) $$ [H5 HA HM HW]
    · isplitl [H5]; · iexact H5
      isplitl [HA]; · iexact HA
      isplitl [HM]; · iexact HM
      iexact HW
    iintro ⟨H5, HA, HM, HW⟩
    iapply (drain_then (F := F) d L hO (turn6 L).2.1 (by decide) (fun h t => trip7 (F := F) d L hs t h)) $$ [H6 HA HM HW]
    · isplitl [H6]; · iexact H6
      isplitl [HA]; · iexact HA
      isplitl [HM]; · iexact HM
      iexact HW
    iintro ⟨H6, HA, HM, HW⟩
    iapply (drain_then (F := F) d L hO (turn7 L).2.1 (by decide) (fun h t => trip8 (F := F) d L hs t h)) $$ [H7 HA HM HW]
    · isplitl [H7]; · iexact H7
      isplitl [HA]; · iexact HA
      isplitl [HM]; · iexact HM
      iexact HW
    iintro ⟨H7, HA, HM, HW⟩
    unfold tabHolds
    icases HA with ⟨%fa, %hfa, HA⟩
    -- the accumulator out
    iapply (wp_start (F := F) d L (src := Memref.whole cc1_scratch17) (dst := outRow L (k1_off225_inb L)) (fs := fa) (fd := f₀) (q := fullShare)
        (Sd := rowSet (wid L)) (N := (outRow L (k1_off225_inb L)).view.dmaCredit) rfl (View.dmaCredit_pos _ (by decide)) (set_outRow L).le
        (G := iprop((mPart.view.loc (tt d L) ↦[rowSet (wid L)]{fullShare} (partsOf sm A X : Buf (Elt F) (mPart.view.loc (tt d L)))) ∗ ((Memref.whole cc1_scratch17).view.loc (tt d L) ↦{fullShare} fa)))
        (R := iprop(idles (F := F) d L q A X ∗ (mSm.view.loc (tt d L) ↦{q₀} (sm : Buf (Elt F) (mSm.view.loc (tt d L))))
          ∗ tabHolds (F := F) d L (Memref.whole cc1_scratch16) sm ∗ semVal (tt d L, .dma cc1_scoped0.sem) 0 ∗ waits (F := F) d L O W₀)) ?hG3 ?hk3)
    rotate_left 2
    · isplitl [HA Hrow Hr1]
      · isplitl [HA]; · iexact HA
        isplitl [Hrow]; · iexact Hrow
        iexact Hr1
      isplitl [H0 H1 H2 H3 H4 H5 H6 H7]
      · unfold idles
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [Hsm]; · iexact Hsm
      isplitl [HM]
      · unfold tabHolds; iexact HM
      isplitl [Hr0]; · iexact Hr0
      iexact HW
    case hG3 =>
      iintro ⟨Hd, HA⟩
      isplitl [Hd]
      · iapply (Entails.of_eq (pointsTo_congr (row_written L (F := F) sm A X hfa f₀))) $$ Hd
      · iexact HA
    case hk3 =>
      iintro ⟨HC, HI, Hsm, HM, Hr0, HW⟩
      iapply (wp_land (F := F) d L (G := iprop((mPart.view.loc (tt d L) ↦[rowSet (wid L)]{fullShare} (partsOf sm A X : Buf (Elt F) (mPart.view.loc (tt d L)))) ∗ ((Memref.whole cc1_scratch17).view.loc (tt d L) ↦{fullShare} fa)))
        (R := iprop(idles (F := F) d L q A X ∗ (mSm.view.loc (tt d L) ↦{q₀} (sm : Buf (Elt F) (mSm.view.loc (tt d L))))
          ∗ tabHolds (F := F) d L (Memref.whole cc1_scratch16) sm ∗ semVal (tt d L, .dma cc1_scoped0.sem) 0)) (N := (outRow L (k1_off225_inb L)).view.dmaCredit) (O := O) (W₀ := W₀) hO rfl ?hk4)
      rotate_left
      · isplitl [HC HW]
        · isplitl [HC]; · iexact HC
          unfold waits
          iexact HW
        isplitl [HI]; · iexact HI
        isplitl [Hsm]; · iexact Hsm
        isplitl [HM]; · iexact HM
        iexact Hr0
      iintro ⟨⟨⟨Hrow, HA⟩, Hr1, HW⟩, HI, Hsm, HM, Hr0⟩
      unfold tabHolds
      icases HM with ⟨%fm, -, HM⟩
      rw [wp_ret]
      imodintro
      isplitl [HI]
      · unfold idles; iexact HI
      isplitl [Hsm]; · iexact Hsm
      isplitl [HM]; · iexists fm; iexact HM
      isplitl [HA]; · iexists fa; iexact HA
      isplitl [Hr0]; · iexact Hr0
      isplitl [Hr1]; · iexact Hr1
      isplitl [Hrow]; · iexact Hrow
      unfold waits
      iexact HW

end Cert.Proof
-- ==== Proof.TaskRun.lean ====
/-
  The task of a vector subcore from what its launch hands it, its scoped storage included.
-/
module

public import proofs.«01_k».proof.Proof.Task

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Transfers

variable (d : Dev nD) (L : grid1.Coords)

/-- The share of the tables that turn `r` of a tile holding share `q` reads by. -/
abbrev tokOf (q : PosShare TreeShare) (r : ℕ) : PosShare TreeShare := shareTokN q r

variable {q : PosShare TreeShare} {A : IVec S100000 32} {X : FVec F S50x5x4x400 .f32} {sm : Vec F S512 .f32}

/-- A program run to its end, what it needs set apart. -/
theorem wp_seq_w' {β : Type} {e : Prog (TpuEff nD τ sig (Elt F) Λ₀ (.scVector (cV L) (jV L))) β} {A : sProp 𝕄} {B : sProp 𝕄} {Q : β → sProp 𝕄}
    (h : A ⊢ wp frame (wpE (defs₀ (F := F)) 𝒱₀ (tt d L) none) Set.univ e fun _ => B) :
    A ⊢ iprop((∀ a, B -∗ Q a) -∗ wp frame (wpE (defs₀ (F := F)) 𝒱₀ (tt d L) none) Set.univ e Q) := by
  have key : iprop(A ∗ (∀ a, B -∗ Q a)) ⊢ wp frame (wpE (defs₀ (F := F)) 𝒱₀ (tt d L) none) Set.univ e Q := by
    refine (sep_mono h .rfl).trans ?_
    refine (wp_frame_r _ _ _).trans ?_
    refine wp_mono _ _ _ fun a => ?_
    iintro ⟨HB, HQ⟩
    iapply HQ $$ HB
  iintro HA HQ
  iapply key
  isplitl [HA] <;> iassumption

/-- A share of a table as the shares of eight turns and what is left over. -/
theorem toks8 (q : PosShare TreeShare) {ℓ : Loc nD τ sig} {f : Buf (Elt F) ℓ} :
    ((ℓ ↦{q} f : sProp 𝕄) ⊢ iprop((ℓ ↦{shareDrop q 8} f) ∗ (ℓ ↦{tokOf q 0} f) ∗ (ℓ ↦{tokOf q 1} f) ∗ (ℓ ↦{tokOf q 2} f) ∗ (ℓ ↦{tokOf q 3} f)
      ∗ (ℓ ↦{tokOf q 4} f) ∗ (ℓ ↦{tokOf q 5} f) ∗ (ℓ ↦{tokOf q 6} f) ∗ (ℓ ↦{tokOf q 7} f)))
    ∧ (iprop((ℓ ↦{shareDrop q 8} f) ∗ (ℓ ↦{tokOf q 0} f) ∗ (ℓ ↦{tokOf q 1} f) ∗ (ℓ ↦{tokOf q 2} f) ∗ (ℓ ↦{tokOf q 3} f)
      ∗ (ℓ ↦{tokOf q 4} f) ∗ (ℓ ↦{tokOf q 5} f) ∗ (ℓ ↦{tokOf q 6} f) ∗ (ℓ ↦{tokOf q 7} f)) ⊢ (ℓ ↦{q} f : sProp 𝕄)) :=
  ⟨(pointsTo_toks_split q 8).trans (sep_mono .rfl (Entails.of_eq (bigSep_univ_eq_bigSepL [(0 : Fin 8), 1, 2, 3, 4, 5, 6, 7] (by decide) (by decide) _))),
    (sep_mono .rfl (Entails.of_eq (bigSep_univ_eq_bigSepL [(0 : Fin 8), 1, 2, 3, 4, 5, 6, 7] (by decide) (by decide) _).symm)).trans (pointsTo_toks_join q 8)⟩

/-- A list's resources, the first apart. -/
theorem bigSepL_cons' {I M : Type} [URA M] (i j : I) (l : List I) (Φ : I → sProp M) : bigSepL (i :: j :: l) Φ = iprop(Φ i ∗ bigSepL (j :: l) Φ) := rfl

set_option maxHeartbeats 4000000 in
/-- The task of the vector subcore `L`: from a share of each table and its row, to the row holding its accumulator. -/
theorem tile_body (hF : (K (F := F)).Facts) (hs : SegOK (segOf A)) (f₀ : FVec F S32x512 .f32)
    (O : CellTallies nD τ sig (HIx 1)) (W : Waits sig (HIx 1)) (hO : ∀ g, O g none = 0) :
    iprop(levAts (K (F := F)).L (K (F := F)).lev ∗ (iprop(emp) : sProp 𝕄)
        ∗ ((mSeg.view.loc (tt d L) ↦{q} (A : Buf (Elt F) (mSeg.view.loc (tt d L)))) ∗ (mSc.view.loc (tt d L) ↦{q} (X : Buf (Elt F) (mSc.view.loc (tt d L)))) ∗ (mSm.view.loc (tt d L) ↦{q} (sm : Buf (Elt F) (mSm.view.loc (tt d L)))) ∗ (mPart.view.loc (tt d L) ↦[rowSet (wid L)]{fullShare} (f₀ : Buf (Elt F) (mPart.view.loc (tt d L)))))
        ∗ scopedBufs (tt d L) ∗ scopedSems0 (tt d L) ∗ owes (tt d L) O W)
      ⊢ wp frame (wpE (defs₀ (F := F)) 𝒱₀ (tt d L) none) Set.univ
          (cc1__denom_body L (Memref.whole main_v30_1_scv) (Memref.isWhole_whole _) (Memref.whole main_arg1_scv) (Memref.isWhole_whole _) (Memref.whole main_v31_scv) (Memref.isWhole_whole _) (Memref.whole main_v32_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1)
          fun _ => iprop(((mSeg.view.loc (tt d L) ↦{q} (A : Buf (Elt F) (mSeg.view.loc (tt d L)))) ∗ (mSc.view.loc (tt d L) ↦{q} (X : Buf (Elt F) (mSc.view.loc (tt d L)))) ∗ (mSm.view.loc (tt d L) ↦{q} (sm : Buf (Elt F) (mSm.view.loc (tt d L)))) ∗ (mPart.view.loc (tt d L) ↦[rowSet (wid L)]{fullShare} (partsOf sm A X : Buf (Elt F) (mPart.view.loc (tt d L)))))
            ∗ scopedBufs (tt d L) ∗ scopedSems0 (tt d L) ∗ ∃ W', ⌜∀ p ∈ W', p ∈ W ∨ p.2 = none⌝ ∗ owes (tt d L) O W') := by
  rw [(K (F := F)).scopedBufs_V hF d (cV L) (jV L), SparseCore.Cfg.scopedSems0_V (Val := Elt F) d (cV L) (jV L), ownSems_tile, ownBufs_tile]
  unfold scratchRefs scratchSems
  simp only [bigSepL_cons', bigSepL_singleton]
  iintro ⟨#Hlv, -, ⟨HA, HX, Hm, Hrow⟩, ⟨⟨Hb0, Hb1, Hb2, Hb3, Hb4, Hb5, Hb6, Hb7, Hb8, Hb9, Hb10, Hb11, Hb12, Hb13, Hb14, Hb15, Hb16, Hb17⟩, Hbufs⟩,
    ⟨⟨Hs0, Hs1, Hs2, Hs3, Hs4, Hs5, Hs6, Hs7, Hs8, Hs9, Hs10, Hs11, Hs12, Hs13, Hs14, Hs15, Hr0, Hr1⟩, Hsems⟩, HO⟩
  ihave HA' := (toks8 q).1 $$ HA
  ihave HX' := (toks8 q).1 $$ HX
  icases HA' with ⟨HAd, Ha0, Ha1, Ha2, Ha3, Ha4, Ha5, Ha6, Ha7⟩
  icases HX' with ⟨HXd, Hx0, Hx1, Hx2, Hx3, Hx4, Hx5, Hx6, Hx7⟩
  iapply (wp_seq_w' (F := F) d L (task_core (F := F) d L (q := tokOf q) (q₀ := q) (A := A) (X := X) (sm := sm) (O := O) (W₀ := W) hO hs f₀)) $$ [Ha0 Ha1 Ha2 Ha3 Ha4 Ha5 Ha6 Ha7 Hx0 Hx1 Hx2 Hx3 Hx4 Hx5 Hx6 Hx7 Hm Hrow Hb0 Hb1 Hb2 Hb3 Hb4 Hb5 Hb6 Hb7 Hb8 Hb9 Hb10 Hb11 Hb12 Hb13 Hb14 Hb15 Hb16 Hb17 Hs0 Hs1 Hs2 Hs3 Hs4 Hs5 Hs6 Hs7 Hs8 Hs9 Hs10 Hs11 Hs12 Hs13 Hs14 Hs15 Hr0 Hr1 HO]
  · isplitl [Ha0 Ha1 Ha2 Ha3 Ha4 Ha5 Ha6 Ha7 Hx0 Hx1 Hx2 Hx3 Hx4 Hx5 Hx6 Hx7 Hb0 Hb1 Hb2 Hb3 Hb4 Hb5 Hb6 Hb7 Hb8 Hb9 Hb10 Hb11 Hb12 Hb13 Hb14 Hb15 Hs0 Hs1 Hs2 Hs3 Hs4 Hs5 Hs6 Hs7 Hs8 Hs9 Hs10 Hs11 Hs12 Hs13 Hs14 Hs15]
    · unfold idles turnIdle
      isplitl [Hb0 Hb8 Hs0 Hs8 Ha0 Hx0]
      · isplitl [Hb0]; · iexact Hb0
        isplitl [Hb8]; · iexact Hb8
        isplitl [Hs0]; · iexact Hs0
        isplitl [Hs8]; · iexact Hs8
        isplitl [Ha0]; · iexact Ha0
        iexact Hx0
      isplitl [Hb1 Hb9 Hs1 Hs9 Ha1 Hx1]
      · isplitl [Hb1]; · iexact Hb1
        isplitl [Hb9]; · iexact Hb9
        isplitl [Hs1]; · iexact Hs1
        isplitl [Hs9]; · iexact Hs9
        isplitl [Ha1]; · iexact Ha1
        iexact Hx1
      isplitl [Hb2 Hb10 Hs2 Hs10 Ha2 Hx2]
      · isplitl [Hb2]; · iexact Hb2
        isplitl [Hb10]; · iexact Hb10
        isplitl [Hs2]; · iexact Hs2
        isplitl [Hs10]; · iexact Hs10
        isplitl [Ha2]; · iexact Ha2
        iexact Hx2
      isplitl [Hb3 Hb11 Hs3 Hs11 Ha3 Hx3]
      · isplitl [Hb3]; · iexact Hb3
        isplitl [Hb11]; · iexact Hb11
        isplitl [Hs3]; · iexact Hs3
        isplitl [Hs11]; · iexact Hs11
        isplitl [Ha3]; · iexact Ha3
        iexact Hx3
      isplitl [Hb4 Hb12 Hs4 Hs12 Ha4 Hx4]
      · isplitl [Hb4]; · iexact Hb4
        isplitl [Hb12]; · iexact Hb12
        isplitl [Hs4]; · iexact Hs4
        isplitl [Hs12]; · iexact Hs12
        isplitl [Ha4]; · iexact Ha4
        iexact Hx4
      isplitl [Hb5 Hb13 Hs5 Hs13 Ha5 Hx5]
      · isplitl [Hb5]; · iexact Hb5
        isplitl [Hb13]; · iexact Hb13
        isplitl [Hs5]; · iexact Hs5
        isplitl [Hs13]; · iexact Hs13
        isplitl [Ha5]; · iexact Ha5
        iexact Hx5
      isplitl [Hb6 Hb14 Hs6 Hs14 Ha6 Hx6]
      · isplitl [Hb6]; · iexact Hb6
        isplitl [Hb14]; · iexact Hb14
        isplitl [Hs6]; · iexact Hs6
        isplitl [Hs14]; · iexact Hs14
        isplitl [Ha6]; · iexact Ha6
        iexact Hx6
      isplitl [Hb7]; · iexact Hb7
      isplitl [Hb15]; · iexact Hb15
      isplitl [Hs7]; · iexact Hs7
      isplitl [Hs15]; · iexact Hs15
      isplitl [Ha7]; · iexact Ha7
      iexact Hx7
    isplitl [Hm]; · iexact Hm
    isplitl [Hb16]; · iexact Hb16
    isplitl [Hb17]; · iexact Hb17
    isplitl [Hr0]; · iexact Hr0
    isplitl [Hr1]; · iexact Hr1
    isplitl [Hrow]; · iexact Hrow
    unfold waits
    isplitr; · iexact Hlv
    iexists W
    isplitr
    · ipureintro; intro p hp; exact .inl hp
    · iexact HO
  iintro %_ ⟨HI, Hm, Hb16, Hb17, Hr0, Hr1, Hrow, HW⟩
  unfold idles turnIdle waits
  icases HI with ⟨⟨Hb0, Hb8, Hs0, Hs8, Ha0, Hx0⟩, ⟨Hb1, Hb9, Hs1, Hs9, Ha1, Hx1⟩, ⟨Hb2, Hb10, Hs2, Hs10, Ha2, Hx2⟩, ⟨Hb3, Hb11, Hs3, Hs11, Ha3, Hx3⟩, ⟨Hb4, Hb12, Hs4, Hs12, Ha4, Hx4⟩, ⟨Hb5, Hb13, Hs5, Hs13, Ha5, Hx5⟩, ⟨Hb6, Hb14, Hs6, Hs14, Ha6, Hx6⟩, ⟨Hb7, Hb15, Hs7, Hs15, Ha7, Hx7⟩⟩
  icases HW with ⟨-, HW⟩
  isplitl [HAd HXd Ha0 Ha1 Ha2 Ha3 Ha4 Ha5 Ha6 Ha7 Hx0 Hx1 Hx2 Hx3 Hx4 Hx5 Hx6 Hx7 Hm Hrow]
  · isplitl [HAd Ha0 Ha1 Ha2 Ha3 Ha4 Ha5 Ha6 Ha7]
    · iapply (toks8 q).2
      isplitl [HAd]; · iexact HAd
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      iexact Ha7
    isplitl [HXd Hx0 Hx1 Hx2 Hx3 Hx4 Hx5 Hx6 Hx7]
    · iapply (toks8 q).2
      isplitl [HXd]; · iexact HXd
      isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      iexact Hx7
    isplitl [Hm]; · iexact Hm
    iexact Hrow
  isplitl [Hb0 Hb1 Hb2 Hb3 Hb4 Hb5 Hb6 Hb7 Hb8 Hb9 Hb10 Hb11 Hb12 Hb13 Hb14 Hb15 Hb16 Hb17 Hbufs]
  · isplitl [Hb0 Hb1 Hb2 Hb3 Hb4 Hb5 Hb6 Hb7 Hb8 Hb9 Hb10 Hb11 Hb12 Hb13 Hb14 Hb15 Hb16 Hb17]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      isplitl [Hb8]; · iexact Hb8
      isplitl [Hb9]; · iexact Hb9
      isplitl [Hb10]; · iexact Hb10
      isplitl [Hb11]; · iexact Hb11
      isplitl [Hb12]; · iexact Hb12
      isplitl [Hb13]; · iexact Hb13
      isplitl [Hb14]; · iexact Hb14
      isplitl [Hb15]; · iexact Hb15
      isplitl [Hb16]; · iexact Hb16
      iexact Hb17
    · iexact Hbufs
  isplitl [Hs0 Hs1 Hs2 Hs3 Hs4 Hs5 Hs6 Hs7 Hs8 Hs9 Hs10 Hs11 Hs12 Hs13 Hs14 Hs15 Hr0 Hr1 Hsems]
  · isplitl [Hs0 Hs1 Hs2 Hs3 Hs4 Hs5 Hs6 Hs7 Hs8 Hs9 Hs10 Hs11 Hs12 Hs13 Hs14 Hs15 Hr0 Hr1]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hr0]; · iexact Hr0
      iexact Hr1
    · iexact Hsems
  iexact HW

end Cert.Proof
-- ==== Proof.Launch.lean ====
/-
  What the launch asks of the SparseCore call: the payloads of its handshakes, the tiles' tasks, and how the call's operands split
  into the tasks'. Every tile reads the three tables by a share of its own and writes its own row of the partial sums.
-/
module

public import proofs.«01_k».proof.Proof.Sections
public import proofs.«01_k».proof.Proof.TaskRun

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
local notation "𝕄" => MT nD τ sig (HIx 1) (Elt F) ℕ UU ℕ

/-- The buffer a TensorCore reference of device `d` names. -/
abbrev at' (d : Dev nD) (r : Ref sig .tc) : Loc nD τ sig := (d, Proc.devRef .tc r)

variable (A : Dev nD → IVec S100000 32) (X : Dev nD → FVec F S50x5x4x400 .f32) (sm : Dev nD → Vec F S512 .f32) (f₀ : Dev nD → FVec F S32x512 .f32)

/-- The three tables the tiles read, by the share `q`. -/
abbrev tabs (q : PosShare TreeShare) (d : Dev nD) : sProp 𝕄 :=
  iprop((at' d main_arg1 ↦{q} (A d : Buf (Elt F) (at' d main_arg1))) ∗ (at' d main_v30_1 ↦{q} (X d : Buf (Elt F) (at' d main_v30_1)))
    ∗ (at' d main_v31 ↦{q} (sm d : Buf (Elt F) (at' d main_v31))))

/-- Row `w` of the partial sums. -/
abbrev rowPts (d : Dev nD) (w : ℕ) (f : FVec F S32x512 .f32) : sProp 𝕄 :=
  at' d main_v32 ↦[rowSet w]{fullShare} (f : Buf (Elt F) (at' d main_v32))

/-- The partial sums the tiles leave. -/
abbrev partsAt (d : Dev nD) : FVec F S32x512 .f32 := partsOf (sm d) (A d) (X d)

/-- The share of the tables SparseCore `c` gets, and its tile `i`'s. -/
abbrev coreShare (c : ℕ) : PosShare TreeShare := shareTokN fullShare c
/-- A tile's share of the tables. -/
abbrev tileShare (c i : ℕ) : PosShare TreeShare := shareTokN (coreShare c) i

/-- What the handshakes of the call carry: to SparseCore `c` a share of the tables and the rows of its tiles, to each tile a share of
    that and its row; back the same, the rows written. -/
def P : (K (F := F)).Pay (nD := nD) (Val := Elt F) (Name := ℕ) (U := UU) where
  st := fun _ d c => iprop(tabs A X sm (coreShare c.val) d ∗ bigSep Finset.univ fun i : Fin 16 => rowPts d (2 * i.val + c.val) (f₀ d))
  dn := fun _ d c => iprop(tabs A X sm (coreShare c.val) d ∗ bigSep Finset.univ fun i : Fin 16 => rowPts d (2 * i.val + c.val) (partsAt A X sm d))
  go := fun _ d c i => iprop(tabs A X sm (tileShare c.val i.val) d ∗ rowPts d (2 * i.val + c.val) (f₀ d))
  td := fun _ d c i => iprop(tabs A X sm (tileShare c.val i.val) d ∗ rowPts d (2 * i.val + c.val) (partsAt A X sm d))
  x := fun _ _ => iprop(emp)

/-- The payloads can be kept in an invariant. -/
instance P_storable : (P A X sm f₀).IsStorable where
  st q d c := (inferInstance : BI.Storable (upEmb : UEmb _ 𝕄) iprop(tabs A X sm (coreShare c.val) d ∗ bigSep Finset.univ fun i : Fin 16 => rowPts d (2 * i.val + c.val) (f₀ d)))
  dn q d c := (inferInstance : BI.Storable (upEmb : UEmb _ 𝕄) iprop(tabs A X sm (coreShare c.val) d ∗ bigSep Finset.univ fun i : Fin 16 => rowPts d (2 * i.val + c.val) (partsAt A X sm d)))
  go q d c i := (inferInstance : BI.Storable (upEmb : UEmb _ 𝕄) iprop(tabs A X sm (tileShare c.val i.val) d ∗ rowPts d (2 * i.val + c.val) (f₀ d)))
  td q d c i := (inferInstance : BI.Storable (upEmb : UEmb _ 𝕄) iprop(tabs A X sm (tileShare c.val i.val) d ∗ rowPts d (2 * i.val + c.val) (partsAt A X sm d)))

/-! ## A tile's task -/

/-- A tile's grid point. -/
def coordsV (c : Fin (grid1.bound 0)) (s : Fin (grid1.bound 1)) : grid1.Coords :=
  fun | 0 => c | 1 => s | ⟨_ + 2, h⟩ => absurd h (Nat.not_lt.2 (Nat.le_add_left _ _))

/-- A tile's number by its coordinates. -/
theorem wid_coordsV (c : Fin (grid1.bound 0)) (s : Fin (grid1.bound 1)) : wid (coordsV c s) = 2 * s.val + c.val := rfl

/-- The call's task on a tile. -/
theorem defs₀_vector (c : Fin τ.nSC) (s : Fin τ.nSub) :
    defs₀ (F := F) (.scVector c s) 1 () = SparseCore.onTile hcore1 hsub1 (fun c s => cc1__denom_body (coordsV c s) (Memref.whole main_v30_1_scv) (Memref.isWhole_whole _) (Memref.whole main_arg1_scv) (Memref.isWhole_whole _) (Memref.whole main_v31_scv) (Memref.isWhole_whole _) (Memref.whole main_v32_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1) ⟨⟩ c s := rfl

/-- A task's end, as the launch reads it. -/
theorem obl_post {thr : Thread nD τ} {A' B C : sProp 𝕄} {O : CellTallies nD τ sig (HIx 1)} {W : Waits sig (HIx 1)} {q : Fin 1} :
    iprop(A' ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  refine sep_mono .rfl (sep_mono .rfl (sep_mono .rfl ?_))
  iintro ⟨%W', %hW', HO⟩
  iexists W'; isplitr; · ipureintro; exact fun p hp => (hW' p hp).imp_right Or.inl
  iexact HO

/-- The tile's assertion about tables and row, regrouped. -/
theorem four {A' B C R : sProp 𝕄} : iprop((A' ∗ B ∗ C) ∗ R) ⊢ iprop(A' ∗ B ∗ C ∗ R) := by
  iintro ⟨⟨H1, H2, H3⟩, H4⟩
  isplitl [H1]; · iexact H1
  isplitl [H2]; · iexact H2
  isplitl [H3] <;> iassumption

/-- And back. -/
theorem four' {A' B C R : sProp 𝕄} : iprop(A' ∗ B ∗ C ∗ R) ⊢ iprop((A' ∗ B ∗ C) ∗ R) := by
  iintro ⟨H1, H2, H3, H4⟩
  isplitr [H4]; swap; (· iexact H4)
  isplitl [H1]; · iexact H1
  isplitl [H2] <;> iassumption

/-- Every tile's task runs from what it is handed to what it returns. -/
theorem tileObl (hs : ∀ d, SegOK (segOf (A d))) : (K (F := F)).TileObl (D (F := F)) 𝒱 (P A X sm f₀) v₀ 0 := by
  intro d c i O W hO _ _
  simp only [show (P A X sm f₀).ox = fun _ _ => 0 from rfl, add_zero]
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have h := tile_body (q := tileShare c.val i.val) (A := A d) (X := X d) (sm := sm d) d (coordsV ⟨_, hc.1⟩ ⟨_, hc.2⟩) facts (hs d) (f₀ d) O W hO
  exact (sep_mono .rfl (sep_mono .rfl (sep_mono four .rfl))).trans (h.trans (wp_mono frame _ _ fun _ =>
    (sep_mono four' .rfl).trans obl_post))

/-! ## The operands split into the tasks' -/

/-- The rows of a core's tiles are apart. -/
theorem rows_disjoint (c : ℕ) : ∀ i ∈ (Finset.univ : Finset (Fin 16)), ∀ j ∈ (Finset.univ : Finset (Fin 16)), i ≠ j →
    Disjoint (rowSet (2 * i.val + c)) (rowSet (2 * j.val + c)) := fun i _ j _ h =>
  Finset.disjoint_left.mpr fun x hx hy => h (Fin.ext (by have := mem_rowSet.mp hx; have := mem_rowSet.mp hy; omega))

/-- The rows of SparseCore `c`'s tiles. -/
def coreRows (c : ℕ) : Finset S32x512.Idx := Finset.univ.biUnion fun i : Fin 16 => rowSet (2 * i.val + c)

/-- A core's rows are those of its parity. -/
theorem mem_coreRows {c : ℕ} (hc : c < 2) {x : S32x512.Idx} : x ∈ coreRows c ↔ (x 0).val % 2 = c := by
  have hx : (x 0).val < 32 := (x 0).isLt
  simp only [coreRows, Finset.mem_biUnion, Finset.mem_univ, true_and, mem_rowSet]
  exact ⟨fun ⟨i, hi⟩ => by omega, fun h => ⟨⟨(x 0).val / 2, by omega⟩, show (x 0).val = 2 * ((x 0).val / 2) + c by omega⟩⟩

/-- The two cores' rows are apart. -/
theorem cores_disjoint : ∀ c ∈ (Finset.univ : Finset (Fin 2)), ∀ c' ∈ (Finset.univ : Finset (Fin 2)), c ≠ c' → Disjoint (coreRows c.val) (coreRows c'.val) :=
  fun c _ c' _ h => Finset.disjoint_left.mpr fun x hx hy =>
    h (Fin.ext (((mem_coreRows c.isLt).mp hx).symm.trans ((mem_coreRows c'.isLt).mp hy)))

/-- The two cores' rows are all rows. -/
theorem cores_cover : (Finset.univ : Finset (Fin 2)).biUnion (fun c => coreRows c.val) = Finset.univ := by
  ext x
  simp only [Finset.mem_biUnion, Finset.mem_univ, true_and, iff_true]
  exact ⟨⟨(x 0).val % 2, Nat.mod_lt _ (by norm_num)⟩, (mem_coreRows (Nat.mod_lt _ (by norm_num))).mpr rfl⟩

/-- The partial sums whole are the rows of the two SparseCores' tiles. -/
theorem rows_split (d : Dev nD) (f : FVec F S32x512 .f32) :
    (at' d main_v32 ↦{fullShare} (f : Buf (Elt F) (at' d main_v32)) : sProp 𝕄)
      = bigSep Finset.univ fun c : Fin 2 => bigSep Finset.univ fun i : Fin 16 => rowPts d (2 * i.val + c.val) f := by
  refine Eq.trans (b := bigSep Finset.univ fun c : Fin 2 => at' d main_v32 ↦[coreRows c.val]{fullShare} (f : Buf (Elt F) (at' d main_v32))) ?_
    (bigSep_congr fun c _ => ?_)
  · rw [← pointsTo_biUnion Finset.univ (ℓ := at' d main_v32) (fun c : Fin 2 => coreRows c.val) cores_disjoint, cores_cover]; try rfl
  · exact pointsTo_biUnion Finset.univ (ℓ := at' d main_v32) (fun i : Fin 16 => rowSet (2 * i.val + c.val)) (rows_disjoint c.val)

/-- A table's share as `n` shares and the rest. -/
theorem tabs_split (q : PosShare TreeShare) (n : ℕ) (d : Dev nD) :
    (tabs A X sm q d : sProp 𝕄) ⊣⊢ iprop(tabs A X sm (shareDrop q n) d ∗ bigSep Finset.univ fun i : Fin n => tabs A X sm (shareTokN q i.val) d) := by
  have e1 := pointsTo_toks (Val := Elt F) (Ix := HIx 1) (Name := ℕ) (U := UU) (Lvl := ℕ) (ℓ := at' d main_arg1) (S := Finset.univ) (f := (A d : Buf (Elt F) (at' d main_arg1))) q n
  have e2 := pointsTo_toks (Val := Elt F) (Ix := HIx 1) (Name := ℕ) (U := UU) (Lvl := ℕ) (ℓ := at' d main_v30_1) (S := Finset.univ) (f := (X d : Buf (Elt F) (at' d main_v30_1))) q n
  have e3 := pointsTo_toks (Val := Elt F) (Ix := HIx 1) (Name := ℕ) (U := UU) (Lvl := ℕ) (ℓ := at' d main_v31) (S := Finset.univ) (f := (sm d : Buf (Elt F) (at' d main_v31))) q n
  rw [bigSep_sep', bigSep_sep']
  constructor
  · refine (BIClass.sep_mono e1.1 (BIClass.sep_mono e2.1 e3.1)).trans ?_
    iintro ⟨⟨Hd1, H1⟩, ⟨Hd2, H2⟩, Hd3, H3⟩
    isplitl [Hd1 Hd2 Hd3]
    · isplitl [Hd1]; · iexact Hd1
      isplitl [Hd2] <;> iassumption
    isplitl [H1]; · iexact H1
    isplitl [H2] <;> iassumption
  · refine BIBase.Entails.trans ?_ (BIClass.sep_mono e1.2 (BIClass.sep_mono e2.2 e3.2))
    iintro ⟨⟨Hd1, Hd2, Hd3⟩, H1, H2, H3⟩
    isplitl [Hd1 H1]; · isplitl [Hd1] <;> iassumption
    isplitl [Hd2 H2]; · isplitl [Hd2] <;> iassumption
    isplitl [Hd3] <;> iassumption

/-- The call runs 16 tiles on a core. -/
theorem nSub_zero : (K (F := F)).nSub 0 = 16 := rfl
/-- The call runs on 2 cores. -/
theorem nCore_zero : (K (F := F)).nCore 0 = 2 := rfl

/-- A product over the call's tiles is one over 16 numbers. -/
theorem bigSep_tasks (Φ : ℕ → sProp 𝕄) :
    (bigSep Finset.univ fun i : Fin ((K (F := F)).nSub 0) => Φ i.val) = bigSep Finset.univ fun i : Fin 16 => Φ i.val := rfl
/-- A product over the call's cores is one over 2 numbers. -/
theorem bigSep_cores (Φ : ℕ → sProp 𝕄) :
    (bigSep Finset.univ fun i : Fin ((K (F := F)).nCore 0) => Φ i.val) = bigSep Finset.univ fun i : Fin 2 => Φ i.val := rfl

/-- A core's operands split into its tiles', and the tiles' results join to the core's. -/
theorem vecSplit : (K (F := F)).VecSplit' (P A X sm f₀) 0 := by
  intro d c
  show iprop(tabs A X sm (coreShare c.val) d ∗ bigSep Finset.univ fun i : Fin 16 => rowPts d (2 * i.val + c.val) (f₀ d)) ⊢ |={Set.univ}=> iprop(
      (bigSep Finset.univ fun i : Fin ((K (F := F)).nSub 0) => iprop(tabs A X sm (tileShare c.val i.val) d ∗ rowPts d (2 * i.val + c.val) (f₀ d)))
      ∗ ((bigSep Finset.univ fun i : Fin ((K (F := F)).nSub 0) => iprop(tabs A X sm (tileShare c.val i.val) d ∗ rowPts d (2 * i.val + c.val) (partsAt A X sm d)))
          -∗ iprop(tabs A X sm (coreShare c.val) d ∗ bigSep Finset.univ fun i : Fin 16 => rowPts d (2 * i.val + c.val) (partsAt A X sm d))))
  have e : ∀ g : FVec F S32x512 .f32, (bigSep Finset.univ fun i : Fin 16 => iprop(tabs A X sm (tileShare c.val i.val) d ∗ rowPts d (2 * i.val + c.val) g))
      = (iprop((bigSep Finset.univ fun i : Fin 16 => tabs A X sm (tileShare c.val i.val) d) ∗ bigSep Finset.univ fun i : Fin 16 => rowPts d (2 * i.val + c.val) g) : sProp 𝕄) :=
    fun g => bigSep_sep' _ _ _
  rw [bigSep_tasks (fun i => iprop(tabs A X sm (tileShare c.val i) d ∗ rowPts d (2 * i + c.val) (f₀ d))),
    bigSep_tasks (fun i => iprop(tabs A X sm (tileShare c.val i) d ∗ rowPts d (2 * i + c.val) (partsAt A X sm d))), e, e]
  iintro ⟨Ht, Hr⟩
  ihave Ht' := (tabs_split A X sm (coreShare c.val) 16 d).1 $$ Ht
  icases Ht' with ⟨Hd, Ht⟩
  imodintro
  isplitl [Ht Hr]
  · isplitl [Ht] <;> iassumption
  iintro ⟨Ht, Hr⟩
  isplitr [Hr]
  · iapply (tabs_split A X sm (coreShare c.val) 16 d).2
    isplitl [Hd] <;> iassumption
  iexact Hr

/-! ## The launch element of the ghost state -/

/-- The handshakes' cells beside the TensorCore pipelines'. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The user part splits into the handshakes' and the pipelines'. -/
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-- What the launch deals device `d`'s TensorCore: the three pipelines' ghost state. -/
abbrev G (d : Dev nD) : sProp 𝕄 :=
  iprop((bigSep Finset.univ fun p : Fin 3 => Pipeline.cellsGhost (Pipeline.pin (pcfgs (F := F)) adm) EP p d)
    ∗ bigSep Finset.univ fun p : Fin 3 => Pipeline.toksInit (Pipeline.pin (pcfgs (F := F)) adm) EP p d)

/-- What the launch starts with, split. -/
theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P A X sm f₀).x q thr) := by
  unfold u₀
  iintro Hu
  ihave H := (ownU_split _ _) $$ Hu
  icases H with ⟨HH, HK⟩
  imod (Pipeline.fund_ghost (Pipeline.pin (pcfgs (F := F)) adm) EP cellOf_inj) $$ HK with HG
  imodintro
  isplitl [HH]; · iexact HH
  isplitl [HG]
  · rw [bigSep_sep']; iexact HG
  · rw [show (bigSep Finset.univ fun thr : Thread nD τ => bigSep Finset.univ fun q : Fin 1 => (P A X sm f₀).x q thr)
        = (iprop(emp) : sProp 𝕄) from (bigSep_congr fun _ _ => bigSep_emp_const _).trans (bigSep_emp_const _)]
    iempintro

end Cert.Proof

end
-- ==== Proof.Run.lean ====
/-
  The program's run: the host operations, the three TensorCore calls and the SparseCore call in order, every unscoped buffer of the
  device followed from the launch to the end as one valuation.
-/
module

public import proofs.«01_k».proof.Proof.Launch

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (ucRefs afterRegion)

variable {F : FTy → Type} [FloatOps F]
local notation "𝕄" => MT nD τ sig (HIx 1) (Elt F) ℕ UU ℕ

/-! ## The host operations -/

/-- The operations before the first call. -/
def opsA : List (HloOp τ sig (Elt F)) :=
  [StableHlo.reshape main_arg1 main_v0 (rfl : (.i32 : EltTy) = .i32) shapeCasts_S100000_S50x1x2000,
   StableHlo.unary main_arg2 main_v1 ((transpose S128x4x16 [1, 0, 2] · transposes_S4x128x16_S128x4x16_1_0_2) : (⟨S4x128x16, .f32⟩ : BufTy).Contents (Elt F) → (⟨S128x4x16, .f32⟩ : BufTy).Contents (Elt F)),
   StableHlo.reshape main_v1 main_v2 (rfl : (.f32 : EltTy) = .f32) shapeCasts_S128x4x16_S128x64,
   StableHlo.reshape main_arg3 main_v3 (rfl : (.f32 : EltTy) = .f32) shapeCasts_S4x16_S1x64,
   StableHlo.reshape main_arg4 main_v4 (rfl : (.f32 : EltTy) = .f32) shapeCasts_S4x16x1_S4x16,
   StableHlo.nullary main_cst (constant S_ .f32 0x00000000#32),
   StableHlo.unary main_cst main_v5 (broadcastInDim S8x64 ![] bcast_S_S8x64 : (⟨S_, .f32⟩ : BufTy).Contents (Elt F) → (⟨S8x64, .f32⟩ : BufTy).Contents (Elt F)),
   StableHlo.unary main_v4 main_v6 ((extractStridedSlice S1x16 ![0, 0] · slices_S4x16_S1x16_0_0) : (⟨S4x16, .f32⟩ : BufTy).Contents (Elt F) → (⟨S1x16, .f32⟩ : BufTy).Contents (Elt F)),
   StableHlo.reshape main_v6 main_v7 (rfl : (.f32 : EltTy) = .f32) shapeCasts_S1x16_S16,
   StableHlo.nullary main_c (constantI S_ 32 0#32),
   StableHlo.unary main_c main_v8 (broadcastInDim S1 ![] bcast_S_S1 : (⟨S_, .i32⟩ : BufTy).Contents (Elt F) → (⟨S1, .i32⟩ : BufTy).Contents (Elt F)),
   StableHlo.nullary main_c_0 (constantI S_ 32 0#32),
   StableHlo.unary main_c_0 main_v9 (broadcastInDim S1 ![] bcast_S_S1 : (⟨S_, .i32⟩ : BufTy).Contents (Elt F) → (⟨S1, .i32⟩ : BufTy).Contents (Elt F)),
   StableHlo.binary main_v8 main_v9 main_v10 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v5 main_v10 main_v7 main_v11 ((fun x i u => Host.scatter scatter_S8x64_S2_S16_0_0_01_0 (fun _ b => b) x i u) : (⟨S8x64, .f32⟩ : BufTy).Contents (Elt F) → (⟨S2, .i32⟩ : BufTy).Contents (Elt F) → (⟨S16, .f32⟩ : BufTy).Contents (Elt F) → (⟨S8x64, .f32⟩ : BufTy).Contents (Elt F)),
   StableHlo.unary main_v4 main_v12 ((extractStridedSlice S1x16 ![1, 0] · slices_S4x16_S1x16_1_0) : (⟨S4x16, .f32⟩ : BufTy).Contents (Elt F) → (⟨S1x16, .f32⟩ : BufTy).Contents (Elt F)),
   StableHlo.reshape main_v12 main_v13 (rfl : (.f32 : EltTy) = .f32) shapeCasts_S1x16_S16,
   StableHlo.nullary main_c_1 (constantI S_ 32 1#32),
   StableHlo.unary main_c_1 main_v14 (broadcastInDim S1 ![] bcast_S_S1 : (⟨S_, .i32⟩ : BufTy).Contents (Elt F) → (⟨S1, .i32⟩ : BufTy).Contents (Elt F)),
   StableHlo.nullary main_c_2 (constantI S_ 32 16#32),
   StableHlo.unary main_c_2 main_v15 (broadcastInDim S1 ![] bcast_S_S1 : (⟨S_, .i32⟩ : BufTy).Contents (Elt F) → (⟨S1, .i32⟩ : BufTy).Contents (Elt F)),
   StableHlo.binary main_v14 main_v15 main_v16 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v11 main_v16 main_v13 main_v17 ((fun x i u => Host.scatter scatter_S8x64_S2_S16_0_0_01_0 (fun _ b => b) x i u) : (⟨S8x64, .f32⟩ : BufTy).Contents (Elt F) → (⟨S2, .i32⟩ : BufTy).Contents (Elt F) → (⟨S16, .f32⟩ : BufTy).Contents (Elt F) → (⟨S8x64, .f32⟩ : BufTy).Contents (Elt F)),
   StableHlo.unary main_v4 main_v18 ((extractStridedSlice S1x16 ![2, 0] · slices_S4x16_S1x16_2_0) : (⟨S4x16, .f32⟩ : BufTy).Contents (Elt F) → (⟨S1x16, .f32⟩ : BufTy).Contents (Elt F)),
   StableHlo.reshape main_v18 main_v19 (rfl : (.f32 : EltTy) = .f32) shapeCasts_S1x16_S16,
   StableHlo.nullary main_c_3 (constantI S_ 32 2#32),
   StableHlo.unary main_c_3 main_v20 (broadcastInDim S1 ![] bcast_S_S1 : (⟨S_, .i32⟩ : BufTy).Contents (Elt F) → (⟨S1, .i32⟩ : BufTy).Contents (Elt F)),
   StableHlo.nullary main_c_4 (constantI S_ 32 32#32),
   StableHlo.unary main_c_4 main_v21 (broadcastInDim S1 ![] bcast_S_S1 : (⟨S_, .i32⟩ : BufTy).Contents (Elt F) → (⟨S1, .i32⟩ : BufTy).Contents (Elt F)),
   StableHlo.binary main_v20 main_v21 main_v22 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v17 main_v22 main_v19 main_v23 ((fun x i u => Host.scatter scatter_S8x64_S2_S16_0_0_01_0 (fun _ b => b) x i u) : (⟨S8x64, .f32⟩ : BufTy).Contents (Elt F) → (⟨S2, .i32⟩ : BufTy).Contents (Elt F) → (⟨S16, .f32⟩ : BufTy).Contents (Elt F) → (⟨S8x64, .f32⟩ : BufTy).Contents (Elt F)),
   StableHlo.unary main_v4 main_v24 ((extractStridedSlice S1x16 ![3, 0] · slices_S4x16_S1x16_3_0) : (⟨S4x16, .f32⟩ : BufTy).Contents (Elt F) → (⟨S1x16, .f32⟩ : BufTy).Contents (Elt F)),
   StableHlo.reshape main_v24 main_v25 (rfl : (.f32 : EltTy) = .f32) shapeCasts_S1x16_S16,
   StableHlo.nullary main_c_5 (constantI S_ 32 3#32),
   StableHlo.unary main_c_5 main_v26 (broadcastInDim S1 ![] bcast_S_S1 : (⟨S_, .i32⟩ : BufTy).Contents (Elt F) → (⟨S1, .i32⟩ : BufTy).Contents (Elt F)),
   StableHlo.nullary main_c_6 (constantI S_ 32 48#32),
   StableHlo.unary main_c_6 main_v27 (broadcastInDim S1 ![] bcast_S_S1 : (⟨S_, .i32⟩ : BufTy).Contents (Elt F) → (⟨S1, .i32⟩ : BufTy).Contents (Elt F)),
   StableHlo.binary main_v26 main_v27 main_v28 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v23 main_v28 main_v25 main_v29 ((fun x i u => Host.scatter scatter_S8x64_S2_S16_0_0_01_0 (fun _ b => b) x i u) : (⟨S8x64, .f32⟩ : BufTy).Contents (Elt F) → (⟨S2, .i32⟩ : BufTy).Contents (Elt F) → (⟨S16, .f32⟩ : BufTy).Contents (Elt F) → (⟨S8x64, .f32⟩ : BufTy).Contents (Elt F))]

/-- The maxima flattened. -/
def opB : HloOp τ sig (Elt F) := StableHlo.reshape main_v30_2 main_v31 (rfl : (.f32 : EltTy) = .f32) shapeCasts_S64x8_S512
/-- The partial sums by tile, segment and head. -/
def opC : HloOp τ sig (Elt F) := StableHlo.reshape main_v32 main_v34 (rfl : (.f32 : EltTy) = .f32) shapeCasts_S32x512_S32x64x8

/-- The main function as its stretches and calls. -/
theorem main_eq (d : Dev nD) : main (F := F) d = StableHlo.seq opsA >>= fun _ => Prog.lift (.customCall (SparseCore.inner (Pipeline.entry 0)) ()) >>= fun _ =>
    StableHlo.seq [opB] >>= fun _ => (K (F := F)).run d 0 >>= fun _ => Prog.lift (.customCall (SparseCore.inner (Pipeline.entry 1)) ()) >>= fun _ =>
    StableHlo.seq [opC] >>= fun _ => Prog.lift (.customCall (SparseCore.inner (Pipeline.entry 2)) ()) >>= fun _ => pure ⟨⟩ := rfl

/-- The first host operations touch the TensorCore's buffers only. -/
theorem opsA_sub : (opsA (F := F)).Forall fun op => op.bufs ⊆ StableHlo.tcRefs τ sig := by
  simp only [opsA, List.Forall, StableHlo.nullary_bufs_sub, StableHlo.unary_bufs_sub, StableHlo.binary_bufs_sub, StableHlo.ternary_bufs_sub,
    StableHlo.reshape_bufs_sub, and_self]
/-- The first host operations take no fresh buffer. -/
theorem opsA_fresh : ∀ op ∈ opsA (F := F), op.fresh = ∅ := by
  intro _ h; (repeat (cases h with | head => rfl | tail _ h => ?_)); exact nomatch h

/-- The second host step touches the TensorCore's buffers only. -/
theorem opB_sub : [opB (F := F)].Forall fun op => op.bufs ⊆ StableHlo.tcRefs τ sig := by
  simp only [opB, List.Forall, StableHlo.reshape_bufs_sub]
/-- The third host step touches the TensorCore's buffers only. -/
theorem opC_sub : [opC (F := F)].Forall fun op => op.bufs ⊆ StableHlo.tcRefs τ sig := by
  simp only [opC, List.Forall, StableHlo.reshape_bufs_sub]
/-- A list of one operation takes what the operation takes. -/
theorem one_fresh {op : HloOp τ sig (Elt F)} (h : op.fresh = ∅) : ∀ o ∈ [op], o.fresh = ∅ := by
  intro o ho; obtain rfl := List.mem_singleton.mp ho; exact h

/-- A stretch of host operations takes the unscoped buffers from one valuation to the next. -/
theorem wp_ops (ops : List (HloOp τ sig (Elt F))) (hS : ops.Forall fun op => op.bufs ⊆ StableHlo.tcRefs τ sig) (hf : ∀ op ∈ ops, op.fresh = ∅)
    {A A' : Valuation τ sig (Elt F)} (e : StableHlo.after ops A = A') (d : Dev nD) {α : Type}
    (k : PUnit → Prog (TpuEff nD τ sig (Elt F) (SparseCore.Sig (ΛP (F := F)) 1) .tc) α) (Q : α → sProp 𝕄) :
    iprop((boundary (T d) ∗ StableHlo.held (T d) (ucRefs τ sig) A)
        ∗ ((boundary (T d) ∗ StableHlo.held (T d) (ucRefs τ sig) A') -∗ wp frame (wpE ((K (F := F)).defs (D (F := F))) 𝒱 (T d) none) Set.univ (k ⟨⟩) Q))
      ⊢ wp frame (wpE ((K (F := F)).defs (D (F := F))) 𝒱 (T d) none) Set.univ (StableHlo.seq ops >>= k) Q := by
  subst e
  iintro ⟨H, Hk⟩
  iapply (StableHlo.wp_seq 𝒱 none Set.univ d (ucRefs τ sig) _ ops (fun op h => Pipeline.sub_ucRefs op ((List.forall_iff_forall_mem.mp hS) op h)) hf A) $$ H
  iexact Hk

/-! ## The valuations -/

variable (m : (ℓ : Loc nD τ sig) → Buf (Elt F) ℓ) (ρ : Dev nD → PrngReg)

/-- A TensorCore reference as a device's buffer. -/
abbrev rf (r : Ref sig .tc) : DevRef τ sig := Proc.devRef .tc r

/-- The launch contents, -/
def V0 (d : Dev nD) : Valuation τ sig (Elt F) := fun b => m (d, b)
/-- after the operations before the first call, -/
def V1 (d : Dev nD) : Valuation τ sig (Elt F) := StableHlo.after opsA (V0 m d)

section
variable [∀ e, Nonempty (Elt F e)]

/-- after the scores' call, -/
def V2 (d : Dev nD) : Valuation τ sig (Elt F) := afterRegion (pdats (V1 m) 0 0 d) (V1 m d)
/-- with the maxima flattened, -/
def V3 (d : Dev nD) : Valuation τ sig (Elt F) := StableHlo.after [opB] (V2 m d)
/-- the tables the tiles read, -/
def tabSeg (d : Dev nD) : IVec S100000 32 := V3 m d (rf main_arg1)
/-- The scores that the tiles read. -/
def tabSc (d : Dev nD) : FVec F S50x5x4x400 .f32 := V3 m d (rf main_v30_1)
/-- The maxima that the tiles read. -/
def tabMax (d : Dev nD) : Vec F S512 .f32 := V3 m d (rf main_v31)
/-- the partial sums' buffer before the call, -/
def tabOut (d : Dev nD) : FVec F S32x512 .f32 := V3 m d (rf main_v32)
/-- after the SparseCore call, -/
def V4 (d : Dev nD) : Valuation τ sig (Elt F) := Function.update (V3 m d) (rf main_v32) (partsAt (tabSeg m) (tabSc m) (tabMax m) d : FVec F S32x512 .f32)
/-- after the weighted sums' call, -/
def V5 (d : Dev nD) : Valuation τ sig (Elt F) := afterRegion (pdats (V4 m) 1 1 d) (V4 m d)
/-- with the partial sums reshaped, -/
def V6 (d : Dev nD) : Valuation τ sig (Elt F) := StableHlo.after [opC] (V5 m d)
/-- and after the last call. -/
def V7 (d : Dev nD) : Valuation τ sig (Elt F) := afterRegion (pdats (V6 m) 1 2 d) (V6 m d)

/-! ## The buffers of the SparseCore call -/

/-- The tables' and the partial sums' buffers. -/
def callRefs : Finset (DevRef τ sig) := {rf main_arg1, rf main_v30_1, rf main_v31, rf main_v32}

/-- A buffer that no scope frees is among the held ones. -/
theorem uc_mem (r : Ref sig .tc) (h : ¬ (rf r).isScoped) : rf r ∈ ucRefs τ sig := Finset.mem_filter.mpr ⟨StableHlo.devRef_mem_tcRefs r, h⟩

/-- The SparseCore call's arrays are among the held ones. -/
theorem callRefs_sub : callRefs ⊆ ucRefs τ sig := by
  intro b hb
  simp only [callRefs, Finset.mem_insert, Finset.mem_singleton] at hb
  rcases hb with rfl | rfl | rfl | rfl <;> exact uc_mem _ (by decide)

/-- The SparseCore call's arrays, one by one. -/
theorem held_callRefs (d : Dev nD) (B : Valuation τ sig (Elt F)) : (StableHlo.held (T d) callRefs B : sProp 𝕄)
    = iprop((at' d main_arg1 ↦{fullShare} B (rf main_arg1)) ∗ (at' d main_v30_1 ↦{fullShare} B (rf main_v30_1)) ∗ (at' d main_v31 ↦{fullShare} B (rf main_v31))
      ∗ at' d main_v32 ↦{fullShare} B (rf main_v32)) := by
  unfold StableHlo.held callRefs
  rw [SparseCore.bigSep_insert' (by decide), SparseCore.bigSep_insert' (by decide), SparseCore.bigSep_insert' (by decide), bigSep_singleton]

/-- The unscoped buffers before the call: the tables, the partial sums' and the rest. -/
theorem held_before (d : Dev nD) : (StableHlo.held (T d) (ucRefs τ sig) (V3 m d) : sProp 𝕄)
    ⊢ iprop((tabs (tabSeg m) (tabSc m) (tabMax m) fullShare d ∗ at' d main_v32 ↦{fullShare} (tabOut m d : Buf (Elt F) (at' d main_v32)))
      ∗ StableHlo.held (T d) (ucRefs τ sig \ callRefs) (V3 m d)) := by
  rw [StableHlo.held_sub_split (T d) callRefs_sub (V3 m d), held_callRefs]
  exact sep_mono four' .rfl

/-- After the call the held buffers are at the valuation with the partial sums. -/
theorem held_after (d : Dev nD) : iprop((tabs (tabSeg m) (tabSc m) (tabMax m) fullShare d
      ∗ at' d main_v32 ↦{fullShare} (partsAt (tabSeg m) (tabSc m) (tabMax m) d : Buf (Elt F) (at' d main_v32)))
      ∗ StableHlo.held (T d) (ucRefs τ sig \ callRefs) (V3 m d)) ⊢ (StableHlo.held (T d) (ucRefs τ sig) (V4 m d) : sProp 𝕄) := by
  rw [StableHlo.held_sub_split (T d) callRefs_sub (V4 m d), held_callRefs,
    StableHlo.held_congr (T d) (S := ucRefs τ sig \ callRefs) (V := V4 m d) (V' := V3 m d) (fun b hb => Function.update_of_ne
      (fun e => (Finset.mem_sdiff.mp hb).2 (by rw [e]; simp [callRefs])) _ _)]
  unfold V4
  rw [Function.update_of_ne (show rf main_arg1 ≠ rf main_v32 by decide), Function.update_of_ne (show rf main_v30_1 ≠ rf main_v32 by decide),
    Function.update_of_ne (show rf main_v31 ≠ rf main_v32 by decide), Function.update_self]
  exact sep_mono four .rfl

/-! ## The main function -/

/-- What the TensorCore keeps of a handshake state beside its debts. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- The TensorCore's state before a call, in two parts. -/
theorem tcSt_eq (d : Dev nD) (n : ℕ) : (K (F := F)).tcSt EH d n = (iprop(owing n d ∗ tcRest d n) : sProp 𝕄) := rfl

/-- The call's payloads in this run. -/
abbrev PP : (K (F := F)).Pay (nD := nD) (Val := Elt F) (Name := ℕ) (U := UU) := P (tabSeg m) (tabSc m) (tabMax m) (tabOut m)

/-- What the call is handed, over both cores. -/
theorem st_eq (d : Dev nD) : (bigSep Finset.univ fun c : Fin ((K (F := F)).nCore 0) => (PP m).st 0 d c)
    = (iprop((bigSep Finset.univ fun c : Fin 2 => tabs (tabSeg m) (tabSc m) (tabMax m) (shareTokN fullShare c.val) d)
      ∗ bigSep Finset.univ fun c : Fin 2 => bigSep Finset.univ fun i : Fin 16 => rowPts d (2 * i.val + c.val) (tabOut m d)) : sProp 𝕄) :=
  bigSep_sep' _ _ _
/-- What the call returns, over both cores. -/
theorem dn_eq (d : Dev nD) : (bigSep Finset.univ fun c : Fin ((K (F := F)).nCore 0) => (PP m).dn 0 d c)
    = (iprop((bigSep Finset.univ fun c : Fin 2 => tabs (tabSeg m) (tabSc m) (tabMax m) (shareTokN fullShare c.val) d)
      ∗ bigSep Finset.univ fun c : Fin 2 => bigSep Finset.univ fun i : Fin 16 => rowPts d (2 * i.val + c.val) (partsAt (tabSeg m) (tabSc m) (tabMax m) d)) : sProp 𝕄) :=
  bigSep_sep' _ _ _

/-- The launch's unscoped buffers are held at the launch contents. -/
theorem launch_held (d : Dev nD) : (unscopedBufs d (fun b => m ((T d : Thread nD τ).loc b)) : sProp 𝕄) = StableHlo.held (T d : Thread nD τ) (ucRefs τ sig) (V0 m d) :=
  Pipeline.unscopedBufs_held (Ix := HIx 1) (Name := ℕ) (U := UU) (Lvl := ℕ) d (V0 m d)

/-- What the device ends with: every unscoped buffer at the last valuation. -/
abbrev FIN (d : Dev nD) : sProp 𝕄 := StableHlo.held (T d) (ucRefs τ sig) (V7 m d)

/-- The main function runs from the launch to the final valuation. -/
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd G
  rw [main_eq, launch_held, tcSt_eq,
    bigSep_univ_eq_bigSepL [(0 : Fin 3), 1, 2] (by decide) (by decide), bigSep_univ_eq_bigSepL [(0 : Fin 3), 1, 2] (by decide) (by decide)]
  simp only [bigSepL_cons', bigSepL_singleton]
  iintro ⟨#Hctx, ⟨HO, Hrest⟩, ⟨Hb, Hh, Hts, -⟩, ⟨Hg0, Hg1, Hg2⟩, Ht0, Ht1, Ht2⟩
  ihave #Hl := (SparseCore.Cfg.ctx_levAts κ) $$ Hctx
  iapply (wp_ops opsA opsA_sub opsA_fresh (A := V0 m d) (A' := V1 m d) rfl d _ _) $$ [-]
  isplitl [Hb Hh]
  · isplitl [Hb]; · iexact Hb
    iexact Hh
  iintro ⟨Hb, Hh⟩
  iapply (wp_call (V1 m) 0 0 d) $$ [-]
  isplitl [Hb Hh HO Hg0 Ht0]
  · isplitl [Hb]; · iexact Hb
    isplitl [Hh HO]
    · isplitl [Hh]; · iexact Hh
      iexact HO
    isplitr; · iexact Hl
    isplitl [Hg0] <;> iassumption
  iintro ⟨Hb, Hh, HO⟩
  iapply (wp_ops [opB] opB_sub (one_fresh rfl) (A := V2 m d) (A' := V3 m d) rfl d _ _) $$ [-]
  isplitl [Hb Hh]
  · isplitl [Hb]; · iexact Hb
    iexact Hh
  iintro ⟨Hb, Hh⟩
  ihave Hh' := (held_before m d) $$ Hh
  icases Hh' with ⟨⟨Htab, Hout⟩, Hh⟩
  ihave Htab' := (tabs_split (tabSeg m) (tabSc m) (tabMax m) fullShare 2 d).1 $$ Htab
  icases Htab' with ⟨Hkeep, Htab⟩
  rw [wp_bind]
  iapply ((K (F := F)).wp_run (D (F := F)) 𝒱 (EH := EH) (P := PP m) κ d 0) $$ [-]
  isplitr; · iexact Hctx
  isplitl [HO Hrest]
  · iapply (Entails.of_eq (tcSt_eq d 0).symm) $$ [-]
    isplitl [HO]; · iexact HO
    iexact Hrest
  isplitl [Htab Hout]
  · rw [st_eq]
    isplitl [Htab]; · iexact Htab
    iapply (Entails.of_eq (rows_split d (tabOut m d))) $$ Hout
  rw [dn_eq, tcSt_eq]
  iintro ⟨⟨HO, Hrest⟩, Htab, Hout⟩
  ihave Hout := (Entails.of_eq (rows_split d (partsAt (tabSeg m) (tabSc m) (tabMax m) d)).symm) $$ Hout
  ihave Htab := (tabs_split (tabSeg m) (tabSc m) (tabMax m) fullShare 2 d).2 $$ [Hkeep Htab]
  · isplitl [Hkeep] <;> iassumption
  ihave Hh := (held_after m d) $$ [Htab Hout Hh]
  · isplitr [Hh]; swap; (· iexact Hh)
    isplitl [Htab] <;> iassumption
  iapply (wp_call (V4 m) 1 1 d) $$ [-]
  isplitl [Hb Hh HO Hg1 Ht1]
  · isplitl [Hb]; · iexact Hb
    isplitl [Hh HO]
    · isplitl [Hh]; · iexact Hh
      iexact HO
    isplitr; · iexact Hl
    isplitl [Hg1] <;> iassumption
  iintro ⟨Hb, Hh, HO⟩
  iapply (wp_ops [opC] opC_sub (one_fresh rfl) (A := V5 m d) (A' := V6 m d) rfl d _ _) $$ [-]
  isplitl [Hb Hh]
  · isplitl [Hb]; · iexact Hb
    iexact Hh
  iintro ⟨Hb, Hh⟩
  iapply (wp_call (V6 m) 1 2 d) $$ [-]
  isplitl [Hb Hh HO Hg2 Ht2]
  · isplitl [Hb]; · iexact Hb
    isplitl [Hh HO]
    · isplitl [Hh]; · iexact Hh
      iexact HO
    isplitr; · iexact Hl
    isplitl [Hg2] <;> iassumption
  iintro ⟨Hb, Hh, HO⟩
  rw [wp_pure]
  imodintro
  isplitl [HO Hrest]
  · iapply (Entails.of_eq (tcSt_eq d 1).symm) $$ [-]
    isplitl [HO]; · iexact HO
    iexact Hrest
  isplitl [Hh]; · iexact Hh
  isplitl [Hb] <;> iassumption

/-! ## The run -/

/-- Every unscoped buffer of device `d` ends at the last valuation. -/
def fq (d : Dev nD) (s' : Phys nD τ sig (Elt F)) : Prop := ∀ b ∈ ucRefs τ sig, s'.mem.mem (d, b) = V7 m d b

/-- What is held at the end determines the final memory. -/
theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (ucRefs τ sig)) $$ [HSI H]
  · isplitl [HSI]; · iexact HSI
    iexact H
  ipureintro; exact h

/-- From any memory whose segment ids are in range, every run ends with every unscoped buffer at the last valuation and every
    semaphore at zero. -/
theorem run_main (hs : ∀ d, SegOK (segOf (tabSeg m d))) :
    θ_run (defs (F := F)) (threads (F := F)) ⟨m, fun _ => 0, ρ⟩
      (fun r => (∀ d, ∀ b ∈ ucRefs τ sig, r.2.mem (d, b) = V7 m d b) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ _ hs)
    (fun q _ => match q with | 0 => SparseCore.Cfg.VecSplit.of_plain (vecSplit _ _ _ _))
    m ρ main (G (F := F)) (FIN m) (u₀ (F := F)) (sep_elim_left.trans (hu₀ _ _ _ _)) (hmain m ρ) (fq m) (hfin m) _ (fun _ h hz => ⟨h, hz⟩)

end

end Cert.Proof

end
-- ==== Proof.Kept.lean ====
/-
  The arguments at the end of the run: no operation and no call writes them; and the range of the segment ids, read from the
  precondition.
-/
module

public import proofs.«01_k».proof.Proof.Run
public import Idealize.ShloMosaic.Lib.ReduceAll
public import Idealize.ShloMosaic.Lib.Pipeline.RegionArraysS
public import proofs.«01_k».proof.Defs
public import proofs.«01_k».proof.Proof.Gen.Kernel
public import proofs.«01_k».proof.Proof.Gen.Pre_in_range

@[expose] public section

noncomputable section

namespace Cert.Proof

open Cert.KernelIdeal Cert.KernelIdeal.Gen
open Idealize.ShloMosaic Idealize.ShloMosaic.TcCoe Idealize.SL.Sem
open Idealize.ShloMosaic.SparseCore (T)
open Idealize.ShloMosaic.Pipeline (ucRefs afterRegion)

variable {F : FTy → Type} [FloatOps F] [∀ e, Nonempty (Elt F e)]
variable (m : (ℓ : Loc nD τ sig) → Buf (Elt F) ℓ)

/-- The buffers the operations before the first call write. -/
def writtenA : List (Ref sig .tc) :=
  [main_v0, main_v1, main_v2, main_v3, main_v4, main_cst, main_v5, main_v6, main_v7, main_c, main_v8, main_c_0, main_v9, main_v10, main_v11,
   main_v12, main_v13, main_c_1, main_v14, main_c_2, main_v15, main_v16, main_v17, main_v18, main_v19, main_c_3, main_v20, main_c_4, main_v21,
   main_v22, main_v23, main_v24, main_v25, main_c_5, main_v26, main_c_6, main_v27, main_v28, main_v29]

/-- Each of those operations writes one of these buffers. -/
theorem opsA_writes : (opsA (F := F)).Forall fun op => op.writes ⊆ (writtenA.map (Proc.devRef (τ := τ) .tc)).toFinset := by
  simp only [opsA, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

/-- A buffer those operations do not write is as at the launch. -/
theorem V1_off (d : Dev nD) {r : Ref sig .tc} (h : r ∉ writtenA) : V1 m d (rf r) = m (d, rf r) :=
  StableHlo.after_of_writes_sub opsA _ opsA_writes h

/-- The results among call 0's windows, -/
theorem out0 : ∀ w, Pipeline.arrRef spec0 w ∉ [main_v30_0, main_v30_1, main_v30_2] → (spec0 w).isOut = false := by decide
/-- among the weighted sums' call's -/
theorem out2 : ∀ w, Pipeline.arrRef spec2 w ≠ main_v33 → (spec2 w).isOut = false := by decide
/-- and among the last call's. -/
theorem out3 : ∀ w, Pipeline.arrRef spec3 w ≠ main_v35 → (spec3 w).isOut = false := by decide

/-- Call 0 changes its three results only. -/
theorem V2_off (d : Dev nD) {r : Ref sig .tc} (h : r ∉ [main_v30_0, main_v30_1, main_v30_2]) : V2 m d (rf r) = V1 m d (rf r) :=
  Pipeline.afterRegion_keeps (pdats (V1 m) 0 0 d) _ (plaunch (F := F) 0).win.arr_inj (fun _ => rfl) r (fun w e => out0 w (e ▸ h))

/-- Flattening the maxima changes their flat copy only. -/
theorem V3_off (d : Dev nD) {r : Ref sig .tc} (h : r ≠ main_v31) : V3 m d (rf r) = V2 m d (rf r) :=
  StableHlo.after_of_forall_not_mem _ _ (by
    intro op ho hb; obtain rfl := List.mem_singleton.mp ho
    exact h (Proc.devRef_injective _ (Finset.mem_singleton.mp hb)))

/-- The SparseCore call changes the partial sums only. -/
theorem V4_off (d : Dev nD) {r : Ref sig .tc} (h : r ≠ main_v32) : V4 m d (rf r) = V3 m d (rf r) :=
  Function.update_of_ne (fun e => h (Proc.devRef_injective _ e)) _ _

/-- The weighted sums' call changes its result only. -/
theorem V5_off (d : Dev nD) {r : Ref sig .tc} (h : r ≠ main_v33) : V5 m d (rf r) = V4 m d (rf r) :=
  Pipeline.afterRegion_keeps (pdats (V4 m) 1 1 d) _ (plaunch (F := F) 1).win.arr_inj (fun _ => rfl) r (fun w e => out2 w (e ▸ h))

/-- Reshaping the partial sums changes their copy only. -/
theorem V6_off (d : Dev nD) {r : Ref sig .tc} (h : r ≠ main_v34) : V6 m d (rf r) = V5 m d (rf r) :=
  StableHlo.after_of_forall_not_mem _ _ (by
    intro op ho hb; obtain rfl := List.mem_singleton.mp ho
    exact h (Proc.devRef_injective _ (Finset.mem_singleton.mp hb)))

/-- The last call changes its result only. -/
theorem V7_off (d : Dev nD) {r : Ref sig .tc} (h : r ≠ main_v35) : V7 m d (rf r) = V6 m d (rf r) :=
  Pipeline.afterRegion_keeps (pdats (V6 m) 1 2 d) _ (plaunch (F := F) 2).win.arr_inj (fun _ => rfl) r (fun w e => out3 w (e ▸ h))

/-- The arguments, whose buffers are written nowhere. -/
def argRefs : List (Ref sig .tc) := [main_arg0, main_arg1, main_arg2, main_arg3, main_arg4, main_arg5]

/-- An argument at the weighted sums' call is as at the launch. -/
theorem V3_arg (d : Dev nD) {r : Ref sig .tc} (h : r ∈ argRefs) : V3 m d (rf r) = m (d, rf r) := by
  have e : r ∉ writtenA ∧ r ∉ [main_v30_0, main_v30_1, main_v30_2] ∧ r ≠ main_v31 := by revert h; revert r; decide
  rw [V3_off m d e.2.2, V2_off m d e.2.1, V1_off m d e.1]

/-- An argument ends as it was at the launch. -/
theorem V7_arg (d : Dev nD) {r : Ref sig .tc} (h : r ∈ argRefs) : V7 m d (rf r) = m (d, rf r) := by
  have e : r ≠ main_v35 ∧ r ≠ main_v34 ∧ r ≠ main_v33 ∧ r ≠ main_v32 := by revert h; revert r; decide
  rw [V7_off m d e.1, V6_off m d e.2.1, V5_off m d e.2.2.1, V4_off m d e.2.2.2, V3_arg m d h]

/-- The ids the tiles read are the argument's. -/
theorem tabSeg_eq (d : Dev nD) : tabSeg m d = m (d, rf main_arg1) := V3_arg m d (by decide)

/-- A word that is at least 0 and below 64 as a signed number is below 64. -/
theorem word_range (v : BitVec 32) (e : IntOp.andi (IntOp.cmpi .sge v 0#32) (IntOp.cmpi .slt v 64#32) = 1#1) : v.toNat < 64 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- A rank 0 array has one index. -/
instance : Subsingleton S_.Idx := ⟨fun a b => funext fun i => i.elim0⟩

/-- The precondition's range, at every id. -/
theorem range_of {x0 : FVec F S100000x128 .f32} {x1 : IVec S100000 32} {x2 : FVec F S4x128x16 .f32} {x3 : FVec F S4x16 .f32} {x4 : FVec F S4x16x1 .f32}
    {x5 : FVec F S4x1 .f32} (h : Cert.Pre_in_range.fn (F := F) x0 x1 x2 x3 x4 x5 = fun _ => 1#1) (i : S100000.Idx) : (x1 i).toNat < 64 := by
  have e := congrFun h (fun i => i.elim0)
  dsimp only [Cert.Pre_in_range.fn] at e
  exact word_range _ (Host.reduce_andi_all _ _ _ _ _ e i)

/-- Ids in range, as the tiles ask it. -/
theorem segOK_of (h : ∀ d i, (m (d, rf main_arg1) i : BitVec 32).toNat < 64) (d : Dev nD) : SegOK (segOf (tabSeg m d)) := fun n => by
  rw [tabSeg_eq]; exact h d _

/-- A run's end: the arguments as they were and the semaphores at zero. -/
abbrev Kept (r : PUnit × MemSt nD τ sig (Elt F)) : Prop :=
  (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0

/-- From ids in range every run ends so, the result at the last valuation. -/
theorem run_ends (ρ : Dev nD → PrngReg) (h : ∀ d i, (m (d, rf main_arg1) i : BitVec 32).toNat < 64) :
    θ_run (defs (F := F)) (threads (F := F)) ⟨m, fun _ => 0, ρ⟩
      (fun r => Kept m r ∧ ∀ c : Dev nD, r.2.mem ((c.tc : Thread nD τ).loc main_v35) = V7 m c (rf main_v35)) := by
  refine (θ_run (defs (F := F)) _ _).mono ?_ (run_main m ρ (segOK_of m h))
  rintro r ⟨h, hz⟩
  have ha : ∀ (c : Dev nD) (a : Ref sig .tc), a ∈ argRefs → r.2.mem (c, rf a) = m (c, rf a) := fun c a ha =>
    (h c (rf a) (uc_mem a (by revert ha; revert a; decide))).trans (V7_arg m c ha)
  exact ⟨⟨fun c => ⟨ha c _ (by decide), ha c _ (by decide), ha c _ (by decide), ha c _ (by decide), ha c _ (by decide), ha c _ (by decide)⟩, hz⟩,
    fun c => h c _ (uc_mem _ (by decide))⟩

/-- From ids in range every run keeps the arguments. -/
theorem run_keeps (ρ : Dev nD → PrngReg) (h : ∀ d i, (m (d, rf main_arg1) i : BitVec 32).toNat < 64) :
    θ_run (defs (F := F)) (threads (F := F)) ⟨m, fun _ => 0, ρ⟩ (Kept m) :=
  (θ_run (defs (F := F)) _ _).mono (fun _ h => h.1) (run_ends m ρ h)

/-- The idealized kernel's frame. -/
theorem frame_ideal : Cert.quiescent_KernelIdeal := fun m ρ hp => run_keeps (F := Ideal) m ρ fun d i => range_of (hp d) i

end Cert.Proof

end
-- ==== Proof.Plain.lean ====
/-
  The mathematics in plain real numbers: the scores, the softmax over a segment's nodes, and that it doesn't change when each segment's
  scores are shifted. Sums of extended reals that are all finite are the real sums.
-/
module

public import Idealize.ShloMosaic.Lib.Pointwise

@[expose] public section

noncomputable section

namespace Cert.Proof

open Idealize.ShloMosaic

/-- A sum of finite extended reals is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite choice of finite extended reals is the real choice. -/
theorem coe_ite (p : Prop) [Decidable p] (a b : ℝ) : ((if p then a else b : ℝ) : EReal) = if p then (a : EReal) else (b : EReal) := by
  split <;> rfl

/-- The larger of two finite extended reals is the larger real. -/
theorem coe_max (a b : ℝ) : ((max a b : ℝ) : EReal) = max (a : EReal) (b : EReal) :=
  Monotone.map_max (fun _ _ h => EReal.coe_le_coe_iff.2 h)

/-- Node `n`'s score under head `h`, without the head's last bias: two layers, the first one's negative outputs set to zero. -/
def score (x : Fin 100000 → Fin 128 → ℝ) (W1 : Fin 4 → Fin 128 → Fin 16 → ℝ) (b1 : Fin 4 → Fin 16 → ℝ) (W2 : Fin 4 → Fin 16 → ℝ) (h : Fin 4) (n : Fin 100000) : ℝ :=
  ∑ j, max (∑ i, x n i * W1 h i j + b1 h j) 0 * W2 h j

/-- The sum of the rows of `x` over the nodes of segment `b`, weighted by the softmax of the scores `s` over these nodes: zero for a segment
    without nodes. -/
def soft (g : Fin 100000 → Fin 64) (s : Fin 100000 → ℝ) (x : Fin 100000 → Fin 128 → ℝ) (b : Fin 64) (d : Fin 128) : ℝ :=
  (∑ n, if g n = b then Real.exp (s n) * x n d else 0) / (∑ n, if g n = b then Real.exp (s n) else 0)

variable (g : Fin 100000 → Fin 64) (s : Fin 100000 → ℝ) (x : Fin 100000 → Fin 128 → ℝ) (b : Fin 64) (d : Fin 128)

/-- A shift of the segment's scores does not change it. -/
theorem soft_shift (m : ℝ) :
    (∑ n, if g n = b then Real.exp (s n - m) * x n d else 0) / (∑ n, if g n = b then Real.exp (s n - m) else 0) = soft g s x b d := by
  have e : ∀ n, Real.exp (s n - m) = Real.exp (-m) * Real.exp (s n) := fun n => by rw [← Real.exp_add]; congr 1; ring
  have e1 : (∑ n, if g n = b then Real.exp (s n - m) * x n d else 0) = Real.exp (-m) * ∑ n, if g n = b then Real.exp (s n) * x n d else 0 := by
    rw [Finset.mul_sum]; refine Finset.sum_congr rfl fun n _ => ?_
    rw [e]; split <;> ring
  have e2 : (∑ n, if g n = b then Real.exp (s n - m) else 0) = Real.exp (-m) * ∑ n, if g n = b then Real.exp (s n) else 0 := by
    rw [Finset.mul_sum]; refine Finset.sum_congr rfl fun n _ => ?_
    rw [e]; split <;> ring
  rw [e1, e2, soft, mul_div_mul_left _ _ (Real.exp_ne_zero _)]

/-- The same with the quotient taken at every node before the sum, each node's scores shifted by its segment's number and all by `c`. -/
theorem soft_nodes (m : Fin 64 → ℝ) (c : ℝ) :
    (∑ n, if g n = b then Real.exp (s n + c - m (g n)) / (∑ k, if g k = g n then Real.exp (s k + c - m (g k)) else 0) * x n d else 0) = soft g s x b d := by
  rw [← soft_shift g s x b d (m b - c), Finset.sum_div]
  refine Finset.sum_congr rfl fun n _ => ?_
  by_cases h : g n = b
  · rw [if_pos h, if_pos h, h]
    have e : ∀ k, s k - (m b - c) = s k + c - m b := fun k => by ring
    have e2 : (∑ k, if g k = b then Real.exp (s k + c - m (g k)) else 0) = ∑ k, if g k = b then Real.exp (s k - (m b - c)) else 0 :=
      Finset.sum_congr rfl fun k _ => by
        by_cases hk : g k = b
        · rw [if_pos hk, if_pos hk, hk, e]
        · rw [if_neg hk, if_neg hk]
    rw [e2, e, div_mul_eq_mul_div]
  · rw [if_neg h, if_neg h, zero_div]

/-- The weights' sum over a segment that has a node is positive. -/
theorem denom_pos {n : Fin 100000} (h : g n = b) (t : Fin 100000 → ℝ) : 0 < ∑ k, if g k = b then Real.exp (t k) else 0 :=
  Finset.sum_pos' (fun k _ => by split <;> positivity) ⟨n, Finset.mem_univ _, by rw [if_pos h]; positivity⟩

/-- The segment means: the mean over the four heads. -/
def answer (g : Fin 100000 → Fin 64) (s : Fin 4 → Fin 100000 → ℝ) (x : Fin 100000 → Fin 128 → ℝ) (b : Fin 64) (d : Fin 128) : ℝ :=
  (soft g (s 0) x b d + soft g (s 1) x b d + soft g (s 2) x b d + soft g (s 3) x b d) / 4

end Cert.Proof

end
-- ==== Proof.KerRead.lean ====
/-
  The TensorCore kernels' payloads read at an index.
-/
module

public import proofs.«01_k».proof.Proof.Bodies
public import proofs.«01_k».proof.Proof.Plain
public import Idealize.ShloMosaic.Lib.Pointwise
public import Idealize.ShloMosaic.Lib.Pipeline.ValueKit.Tiles

@[expose] public section

noncomputable section

namespace Cert.Proof

open Cert.KernelIdeal Cert.KernelIdeal.Gen
open Idealize.ShloMosaic

/-- An index of one unit's scores is a head and a lane. -/
theorem unit_ix (z : S1x1x4x400.Idx) : ∃ (h : Fin 4) (l : Fin 400), z = ix4 (0 : Fin 1) (0 : Fin 1) h l :=
  ⟨z 2, z 3, (eq_ix4 z).trans (by rw [Subsingleton.elim (α := Fin 1) (z 0) 0, Subsingleton.elim (α := Fin 1) (z 1) 0])⟩

/-- An index of one head's sums is a segment and a column. -/
theorem sum_ix (z : S1x64x128.Idx) : ∃ (c : Fin 64) (d : Fin 128), z = ix3 (0 : Fin 1) c d :=
  ⟨z 1, z 2, (eq_ix3 z).trans (by rw [Subsingleton.elim (α := Fin 1) (z 0) 0])⟩

/-- A selection by an equality of words. -/
theorem select_eq {w : ℕ} {α : Type} (a b : BitVec w) (s t : α) : Scalar.select (IntOp.cmpi .eq a b) s t = if a = b then s else t := by
  by_cases h : a = b
  · simp [Scalar.select, IntOp.cmpi, h]
  · simp [Scalar.select, IntOp.cmpi, h, beq_eq_false_iff_ne.2 h]

/-- Two segment numbers' words are equal only when the numbers are. -/
theorem word_inj (a b : Fin 64) : BitVec.ofNat 32 a.val = BitVec.ofNat 32 b.val ↔ a = b := by
  have := a.isLt; have := b.isLt
  rw [← BitVec.toNat_inj, BitVec.toNat_ofNat, BitVec.toNat_ofNat, Nat.mod_eq_of_lt (by omega), Nat.mod_eq_of_lt (by omega), Fin.ext_iff]

section Score

variable (x : Vec Ideal S2000x128 .f32) (w : Vec Ideal S128x64 .f32) (b : Vec Ideal S1x64 .f32) (v : Vec Ideal S8x64 .f32) (g : Vec Ideal S1x1x2000 .i32)

/-- A block's score of one head at one node: two layers. -/
theorem pay3_at (h : Fin 8) (n : Fin 2000) :
    k0_pay3 x w b v (ix2 h n) = ∑ k : Fin 64, v (ix2 h k) * max ((∑ i : Fin 128, x (ix2 n i) * w (ix2 i k)) + b (ix2 (0 : Fin 1) k)) (0 : EReal) := by
  pointwise [k0_pay3]

/-- The first result's block holds the scores. -/
theorem pay4_at (a : Fin 1) (h : Fin 8) (n : Fin 2000) : k0_pay4 x w b v (ix3 a h n) = k0_pay3 x w b v (ix2 h n) := by
  obtain rfl : a = 0 := Subsingleton.elim _ _
  pointwise [k0_pay4]

/-- The index of a unit's score in the block of units: unit `q`, head `h`, lane `l`. -/
theorem emb_unit (q : Fin 5) (inb) (a a' : Fin 1) (h : Fin 4) (l : Fin 400) :
    (Rect.unit (s := S1x5x4x400) ![0, q.val, 0, 0] S1x1x4x400.size inb).emb (ix4 a a' h l) = ix4 (0 : Fin 1) q h l := by
  have := a.isLt; have := a'.isLt
  funext d; apply Fin.ext
  refine (Rect.idx_unit_val _ _ inb _ d).trans ?_
  match d with
  | ⟨0, _⟩ => show 0 + a.val = 0; omega
  | ⟨1, _⟩ => show q.val + a'.val = q.val; omega
  | ⟨2, _⟩ => show 0 + h.val = h.val; omega
  | ⟨3, _⟩ => show 0 + l.val = l.val; omega

/-- The second result's block holds the same scores, 400 nodes a unit. -/
theorem unitOut_at (q : Fin 5) (h : Fin 4) (l : Fin 400) :
    unitOut x w b v (ix4 (0 : Fin 1) q h l) = k0_pay3 x w b v (ix2 ⟨h.val, by omega⟩ ⟨400 * q.val + l.val, by omega⟩) := by
  let G : S1x5x4x400.Idx → EReal := fun y => k0_pay3 x w b v (ix2 ⟨(y 2).val, lt_of_lt_of_le (y 2).isLt (by decide)⟩
    ⟨400 * (y 1).val + (y 3).val, by have h1 : (y 1).val < 5 := (y 1).isLt; have h3 : (y 3).val < 400 := (y 3).isLt; omega⟩)
  refine (View.canon_apply_of_pieces G (unitPieces x w b v) ?_ _ (View.cover_of_tiled (unitPieces x w b v) S1x1x4x400.size rfl _)).trans rfl
  intro p hp z
  simp only [unitPieces, List.mem_cons, List.not_mem_nil, or_false] at hp
  rcases hp with rfl | rfl | rfl | rfl | rfl
  · obtain ⟨h, l, rfl⟩ := unit_ix z
    refine Eq.trans ?_ (congrArg G (emb_unit 4 inb_S1x5x4x400_S1x1x4x400_0_4_0_0 0 0 h l)).symm
    show k0_pay10 (k0_pay3 x w b v) (ix4 (0 : Fin 1) (0 : Fin 1) h l) = k0_pay3 x w b v (ix2 (⟨h.val, by omega⟩ : Fin 8) (⟨400 * 4 + l.val, by omega⟩ : Fin 2000))
    pointwise [k0_pay10]
  · obtain ⟨h, l, rfl⟩ := unit_ix z
    refine Eq.trans ?_ (congrArg G (emb_unit 3 inb_S1x5x4x400_S1x1x4x400_0_3_0_0 0 0 h l)).symm
    show k0_pay9 (k0_pay8 x w b v) (ix4 (0 : Fin 1) (0 : Fin 1) h l) = k0_pay3 x w b v (ix2 (⟨h.val, by omega⟩ : Fin 8) (⟨400 * 3 + l.val, by omega⟩ : Fin 2000))
    pointwise [k0_pay9, k0_pay8]
  · obtain ⟨h, l, rfl⟩ := unit_ix z
    refine Eq.trans ?_ (congrArg G (emb_unit 2 inb_S1x5x4x400_S1x1x4x400_0_2_0_0 0 0 h l)).symm
    show k0_pay7 _ _ _ _ (ix4 (0 : Fin 1) (0 : Fin 1) h l) = k0_pay3 x w b v (ix2 (⟨h.val, by omega⟩ : Fin 8) (⟨400 * 2 + l.val, by omega⟩ : Fin 2000))
    pointwise [k0_pay7]
  · obtain ⟨h, l, rfl⟩ := unit_ix z
    refine Eq.trans ?_ (congrArg G (emb_unit 1 inb_S1x5x4x400_S1x1x4x400_0_1_0_0 0 0 h l)).symm
    show k0_pay6 _ _ _ _ (ix4 (0 : Fin 1) (0 : Fin 1) h l) = k0_pay3 x w b v (ix2 (⟨h.val, by omega⟩ : Fin 8) (⟨400 * 1 + l.val, by omega⟩ : Fin 2000))
    pointwise [k0_pay6]
  · obtain ⟨h, l, rfl⟩ := unit_ix z
    refine Eq.trans ?_ (congrArg G (emb_unit 0 inb_S1x5x4x400_S1x1x4x400_0_0_0_0 0 0 h l)).symm
    show k0_pay5 _ _ _ _ (ix4 (0 : Fin 1) (0 : Fin 1) h l) = k0_pay3 x w b v (ix2 (⟨h.val, by omega⟩ : Fin 8) (⟨400 * 0 + l.val, by omega⟩ : Fin 2000))
    pointwise [k0_pay5]

/-- The maximum of one head's scores over the nodes of a segment in a block. -/
def segMax (s : FVec Ideal S8x2000 .f32) (c : Fin 64) (h : Fin 8) : EReal :=
  Finset.univ.sup fun n : Fin 2000 => if BitVec.ofNat 32 c.val = g (ix3 (0 : Fin 1) (0 : Fin 1) n) then s (ix2 h n) else ⊥

/-- A block's maxima for the four heads. -/
theorem blockMax_at (c : Fin 64) (h : Fin 4) : blockMax x g w b v (ix2 c ⟨h.val, by omega⟩) = segMax g (k0_pay3 x w b v) c ⟨h.val, by omega⟩ := by
  have hb : Ideal.ofBits .f32 4286578688#32 = ⊥ := by simp [Ideal.ofBits, Ideal.ieee]
  unfold blockMax segMax
  fin_cases h
  all_goals
    pointwise [k0_pay1, k0_pay11, k0_pay13, k0_pay12]
    simp only [select_eq, hb]
    rfl

/-- The running maxima are the larger of the old ones and the block's. -/
theorem laterMax_at (old : Vec Ideal S64x8 .f32) (c : Fin 64) (h : Fin 8) : laterMax x g w b v old (ix2 c h) = max (old (ix2 c h)) (blockMax x g w b v (ix2 c h)) := by
  unfold laterMax blockMax
  generalize k0_pay12 (k0_pay3 x w b v) g = z
  pointwise [k0_pay2]

end Score

section Sums

variable (x : Vec Ideal S2000x128 .f32) (g : Vec Ideal S1x1x2000 .i32) (s : Vec Ideal S1x8x2000 .f32) (m : Vec Ideal S64x8 .f32)
variable (γ : Fin 2000 → Fin 64) (hγ : ∀ n, g (ix3 (0 : Fin 1) (0 : Fin 1) n) = BitVec.ofNat 32 (γ n).val)

include hγ in
/-- The one-hot table: one where the node is of the segment. -/
theorem onehot_at (c : Fin 64) (n : Fin 2000) : k2_pay9 (F := Ideal) g (ix2 c n) = ((if γ n = c then 1 else 0 : ℝ) : EReal) := by
  pointwise [k2_pay9]
  rw [hγ]
  show (((BitVec.setWidth 32 (BitVec.ofBool (BitVec.ofNat 32 c.val == BitVec.ofNat 32 (γ n).val))).toInt : ℝ) : EReal) = _
  by_cases h : γ n = c
  · simp [h]
  · rw [beq_eq_false_iff_ne.2 fun e => h ((word_inj _ _).1 e).symm, if_neg h]
    simp

include hγ in
/-- The weights: the exponential of the score less its segment's maximum, an infinite one taken as zero. -/
theorem weight_at (h : Fin 8) (n : Fin 2000) :
    k2_pay10 m g s (ix2 h n) = Ideal.exp (s (ix3 (0 : Fin 1) h n) - (((m (ix2 (γ n) h) : EReal).toReal : ℝ) : EReal)) := by
  have hw : ∀ t : EReal, Scalar.select (IntOp.xori (FloatOps.weird (F := Ideal) t) 1#1) t (0 : EReal) = ((t.toReal : ℝ) : EReal) := by
    intro t
    show Scalar.select (IntOp.xori (BitVec.ofBool (decide (t = ⊤ ∨ t = ⊥))) 1#1) t (0 : EReal) = _
    by_cases h : t = ⊤ ∨ t = ⊥
    · rcases h with rfl | rfl <;> simp [Scalar.select, IntOp.xori]
    · have h' := not_or.1 h
      simp [Scalar.select, IntOp.xori, h, EReal.coe_toReal h'.1 h'.2]
  have hs : ∀ c (t u : EReal), Scalar.select c (t * u) (0 : EReal) = Scalar.select c t 0 * u := fun c t u => by
    unfold Scalar.select
    split
    · rfl
    · rw [zero_mul]
  pointwise [k2_pay10]
  simp only [hs, hw, onehot_at g γ hγ, ← EReal.coe_mul, coe_sum]
  simp

/-- The block's contribution to head `h`'s sums. -/
def part (h : Fin 4) (c : Fin 64) (d : Fin 128) : EReal :=
  ∑ n : Fin 2000, k2_pay9 (F := Ideal) g (ix2 c n) * k2_pay10 m g s (ix2 ⟨h.val, by omega⟩ n) * x (ix2 n d)

/-- The index of head `h`'s entry in the array of sums. -/
theorem emb_sum (h : Fin 4) (inb) (a : Fin 1) (c : Fin 64) (d : Fin 128) :
    (Rect.unit (s := S4x64x128) ![h.val, 0, 0] S1x64x128.size inb).emb (ix3 a c d) = ix3 h c d := by
  have := a.isLt
  funext e; apply Fin.ext
  refine (Rect.idx_unit_val _ _ inb _ e).trans ?_
  match e with
  | ⟨0, _⟩ => show h.val + a.val = h.val; omega
  | ⟨1, _⟩ => show 0 + c.val = c.val; omega
  | ⟨2, _⟩ => show 0 + d.val = d.val; omega

/-- The first block's sums. -/
theorem firstSum_at (h : Fin 4) (c : Fin 64) (d : Fin 128) : firstSum x g s m (ix3 h c d) = part x g s m h c d := by
  let G : S4x64x128.Idx → EReal := fun y => part x g s m (y 0) (y 1) (y 2)
  refine (View.canon_apply_of_pieces G (sumPieces x g s m) ?_ _ (View.cover_of_tiled (sumPieces x g s m) S1x64x128.size rfl _)).trans rfl
  intro p hp z
  simp only [sumPieces, List.mem_cons, List.not_mem_nil, or_false] at hp
  rcases hp with rfl | rfl | rfl | rfl
  · obtain ⟨c, d, rfl⟩ := sum_ix z
    refine Eq.trans ?_ (congrArg G (emb_sum 3 inb_S4x64x128_S1x64x128_3_0_0 0 c d)).symm
    show _ = part x g s m 3 c d
    unfold part
    show k2_pay7 _ _ _ (ix3 (0 : Fin 1) c d) = _
    pointwise [k2_pay7, k2_pay6]
  · obtain ⟨c, d, rfl⟩ := sum_ix z
    refine Eq.trans ?_ (congrArg G (emb_sum 2 inb_S4x64x128_S1x64x128_2_0_0 0 c d)).symm
    show _ = part x g s m 2 c d
    unfold part
    show k2_pay4 _ _ _ (ix3 (0 : Fin 1) c d) = _
    pointwise [k2_pay4, k2_pay3]
  · obtain ⟨c, d, rfl⟩ := sum_ix z
    refine Eq.trans ?_ (congrArg G (emb_sum 1 inb_S4x64x128_S1x64x128_1_0_0 0 c d)).symm
    show _ = part x g s m 1 c d
    unfold part
    show k2_pay1 (k2_pay14 m g s x) (ix3 (0 : Fin 1) c d) = _
    pointwise [k2_pay1, k2_pay14]
  · obtain ⟨c, d, rfl⟩ := sum_ix z
    refine Eq.trans ?_ (congrArg G (emb_sum 0 inb_S4x64x128_S1x64x128_0_0_0 0 c d)).symm
    show _ = part x g s m 0 c d
    unfold part
    show k2_pay12 _ _ _ _ (ix3 (0 : Fin 1) c d) = _
    pointwise [k2_pay12, k2_pay11]

/-- A later block's sums: the old ones and the block's. -/
theorem laterSum_at (old : Vec Ideal S4x64x128 .f32) (h : Fin 4) (c : Fin 64) (d : Fin 128) :
    laterSum x g s m old (ix3 h c d) = old (ix3 h c d) + part x g s m h c d := by
  let G : S4x64x128.Idx → EReal := fun y => (old y : EReal) + part x g s m (y 0) (y 1) (y 2)
  refine (View.canon_apply_of_pieces G (addPieces x g s m old) ?_ _ (View.cover_of_tiled (addPieces x g s m old) S1x64x128.size rfl _)).trans rfl
  intro p hp z
  simp only [addPieces, List.mem_cons, List.not_mem_nil, or_false] at hp
  rcases hp with rfl | rfl | rfl | rfl
  · obtain ⟨c, d, rfl⟩ := sum_ix z
    refine Eq.trans ?_ (congrArg G (emb_sum 3 inb_S4x64x128_S1x64x128_3_0_0 0 c d)).symm
    have hl : View.ld old (Rect.unit ![3, 0, 0] S1x64x128.size inb_S4x64x128_S1x64x128_3_0_0) (ix3 (0 : Fin 1) c d) = old (ix3 (3 : Fin 4) c d) := congrArg old (emb_sum 3 inb_S4x64x128_S1x64x128_3_0_0 0 c d)
    show _ = (old (ix3 (3 : Fin 4) c d) : EReal) + part x g s m 3 c d
    rw [← hl, part]
    generalize View.ld old _ = l
    show k2_pay8 _ _ _ _ (ix3 (0 : Fin 1) c d) = _
    pointwise [k2_pay8, k2_pay6]
  · obtain ⟨c, d, rfl⟩ := sum_ix z
    refine Eq.trans ?_ (congrArg G (emb_sum 2 inb_S4x64x128_S1x64x128_2_0_0 0 c d)).symm
    have hl : View.ld old (Rect.unit ![2, 0, 0] S1x64x128.size inb_S4x64x128_S1x64x128_2_0_0) (ix3 (0 : Fin 1) c d) = old (ix3 (2 : Fin 4) c d) := congrArg old (emb_sum 2 inb_S4x64x128_S1x64x128_2_0_0 0 c d)
    show _ = (old (ix3 (2 : Fin 4) c d) : EReal) + part x g s m 2 c d
    rw [← hl, part]
    generalize View.ld old _ = l
    show k2_pay5 _ _ _ _ (ix3 (0 : Fin 1) c d) = _
    pointwise [k2_pay5, k2_pay3]
  · obtain ⟨c, d, rfl⟩ := sum_ix z
    refine Eq.trans ?_ (congrArg G (emb_sum 1 inb_S4x64x128_S1x64x128_1_0_0 0 c d)).symm
    have hl : View.ld old (Rect.unit ![1, 0, 0] S1x64x128.size inb_S4x64x128_S1x64x128_1_0_0) (ix3 (0 : Fin 1) c d) = old (ix3 (1 : Fin 4) c d) := congrArg old (emb_sum 1 inb_S4x64x128_S1x64x128_1_0_0 0 c d)
    show _ = (old (ix3 (1 : Fin 4) c d) : EReal) + part x g s m 1 c d
    rw [← hl, part]
    generalize View.ld old _ = l
    show k2_pay2 _ _ (ix3 (0 : Fin 1) c d) = _
    pointwise [k2_pay2, k2_pay14]
  · obtain ⟨c, d, rfl⟩ := sum_ix z
    refine Eq.trans ?_ (congrArg G (emb_sum 0 inb_S4x64x128_S1x64x128_0_0_0 0 c d)).symm
    have hl : View.ld old (Rect.unit ![0, 0, 0] S1x64x128.size inb_S4x64x128_S1x64x128_0_0_0) (ix3 (0 : Fin 1) c d) = old (ix3 (0 : Fin 4) c d) := congrArg old (emb_sum 0 inb_S4x64x128_S1x64x128_0_0_0 0 c d)
    show _ = (old (ix3 (0 : Fin 4) c d) : EReal) + part x g s m 0 c d
    rw [← hl, part]
    generalize View.ld old _ = l
    show k2_pay13 _ _ _ _ _ (ix3 (0 : Fin 1) c d) = _
    pointwise [k2_pay13, k2_pay11]

end Sums

/-- The last kernel's result: each head's sums over its denominator, a zero one's quotient zero, meaned. -/
theorem meanOut_at (u : Vec Ideal S4x64x128 .f32) (p : Vec Ideal S32x64x8 .f32) (c : Fin 64) (d : Fin 128) (U D : Fin 4 → ℝ)
    (hu : ∀ h : Fin 4, u (ix3 h c d) = ((U h : ℝ) : EReal)) (hp : ∀ h : Fin 4, (∑ t : Fin 32, (p (ix3 t c ⟨h.val, by omega⟩) : EReal)) = ((D h : ℝ) : EReal))
    (hD : ∀ h, 0 ≤ D h) :
    meanOut u p (ix2 c d) = (((U 0 / D 0 + U 1 / D 1 + U 2 / D 2 + U 3 / D 3) / 4 : ℝ) : EReal) := by
  have h4 : Ideal.ofBits .f32 1048576000#32 = ((1 / 4 : ℝ) : EReal) := by
    simp [Ideal.ofBits, Ideal.ieee]
    rw [← EReal.coe_mul]; norm_num
  have hl : ∀ (h : Fin 4) (inb), View.ld u (Rect.unit (s := S4x64x128) ![h.val, 0, 0] S1x64x128.size inb) (ix3 (0 : Fin 1) c d) = ((U h : ℝ) : EReal) :=
    fun h inb => (congrArg u (emb_sum h inb 0 c d)).trans (hu h)
  have hq : ∀ h : Fin 4, ((U h : ℝ) : EReal) * (if (0 : EReal) < ((D h : ℝ) : EReal) then Ideal.div 1 ((D h : ℝ) : EReal) else 0) = ((U h / D h : ℝ) : EReal) := fun h => by
    by_cases hd : 0 < D h
    · rw [if_pos (EReal.coe_pos.2 hd), Ideal.div_coe hd.ne', one_mul, ← EReal.coe_mul, mul_one_div]
    · rw [if_neg (fun e => hd (EReal.coe_pos.1 e)), mul_zero, le_antisymm (not_lt.1 hd) (hD h), div_zero]; rfl
  unfold meanOut
  have l0 := hl 0 inb_S4x64x128_S1x64x128_0_0_0
  have l1 := hl 1 inb_S4x64x128_S1x64x128_1_0_0
  have l2 := hl 2 inb_S4x64x128_S1x64x128_2_0_0
  have l3 := hl 3 inb_S4x64x128_S1x64x128_3_0_0
  have p0 := hp 0
  have p1 := hp 1
  have p2 := hp 2
  have p3 := hp 3
  generalize hv0 : View.ld u (Rect.unit (s := S4x64x128) ![0, 0, 0] S1x64x128.size inb_S4x64x128_S1x64x128_0_0_0) = v0
  generalize hv1 : View.ld u (Rect.unit (s := S4x64x128) ![1, 0, 0] S1x64x128.size inb_S4x64x128_S1x64x128_1_0_0) = v1
  generalize hv2 : View.ld u (Rect.unit (s := S4x64x128) ![2, 0, 0] S1x64x128.size inb_S4x64x128_S1x64x128_2_0_0) = v2
  generalize hv3 : View.ld u (Rect.unit (s := S4x64x128) ![3, 0, 0] S1x64x128.size inb_S4x64x128_S1x64x128_3_0_0) = v3
  replace l0 : v0 (ix3 (0 : Fin 1) c d) = _ := hv0 ▸ l0
  replace l1 : v1 (ix3 (0 : Fin 1) c d) = _ := hv1 ▸ l1
  replace l2 : v2 (ix3 (0 : Fin 1) c d) = _ := hv2 ▸ l2
  replace l3 : v3 (ix3 (0 : Fin 1) c d) = _ := hv3 ▸ l3
  pointwise [k3_pay1]
  rw [l0, l1, l2, l3]
  rw [show (∑ t : Fin 32, (p (ix3 t c 0) : EReal)) = _ from p0, show (∑ t : Fin 32, (p (ix3 t c 1) : EReal)) = _ from p1, show (∑ t : Fin 32, (p (ix3 t c 2) : EReal)) = _ from p2, show (∑ t : Fin 32, (p (ix3 t c 3) : EReal)) = _ from p3,
    hq, hq, hq, hq, h4, ← EReal.coe_add, ← EReal.coe_add, ← EReal.coe_add, ← EReal.coe_mul, mul_one_div]

end Cert.Proof

end
-- ==== Proof.Operands.lean ====
/-
  The score kernel's operands, which the host makes of the arguments: the segment ids in blocks, the first layer's weights with
  the heads' columns side by side, its biases, and the second layer's weights with a row per head, zero outside the head's columns.
-/
module

public import proofs.«01_k».proof.Proof.Kept
public import proofs.«01_k».proof.Proof.KerRead
public import Idealize.ShloMosaic.Lib.StableHlo.ReadAt
public import Idealize.ShloMosaic.Lib.Routing.OpsSet
public import Idealize.ShloMosaic.Lib.Routing.OpsPair

@[expose] public section

noncomputable section

namespace Cert.Proof

open Cert.KernelIdeal Cert.KernelIdeal.Gen
open Idealize.ShloMosaic Idealize.ShloMosaic.TcCoe Idealize.ShloMosaic.Routing

variable (m : (ℓ : Loc nD τ sig) → Buf (Elt Ideal) ℓ) (d : Dev nD)

/-- The segment ids, 2000 a block. -/
theorem ids_at (t : Fin 50) (n : Fin 2000) :
    (V1 m d (rf main_v0) : IVec S50x1x2000 32) (ix3 t (0 : Fin 1) n) = (m (d, rf main_arg1) : IVec S100000 32) (ix1 ⟨2000 * t.val + n.val, by omega⟩) := by
  unfold V1 opsA rf
  after_reads_at
  exact congrArg (fun k => (m (d, rf main_arg1) : IVec S100000 32) (ix1 k)) (Fin.ext (by simp only; omega))

/-- The first layer's weights. -/
theorem weights_at (i : Fin 128) (h : Fin 4) (j : Fin 16) :
    (V1 m d (rf main_v2) : FVec Ideal S128x64 .f32) (ix2 i ⟨16 * h.val + j.val, by omega⟩) = (m (d, rf main_arg2) : FVec Ideal S4x128x16 .f32) (ix3 h i j) := by
  unfold V1 opsA rf
  after_reads_at
  rfl

/-- The first layer's biases. -/
theorem biases_at (h : Fin 4) (j : Fin 16) :
    (V1 m d (rf main_v3) : FVec Ideal S1x64 .f32) (ix2 (0 : Fin 1) ⟨16 * h.val + j.val, by omega⟩) = (m (d, rf main_arg3) : FVec Ideal S4x16 .f32) (ix2 h j) := by
  unfold V1 opsA rf
  after_reads_at
  rfl

/-- One row's columns written: head `k`'s 16 entries at row `k`, from column `16 k`. -/
theorem row_at (x : FVec Ideal S8x64 .f32) (idx : IVec S2 32) (u : FVec Ideal S16 .f32) (k : Fin 4) (h0 : idx (ix1 0) = BitVec.ofNat 32 k.val) (h1 : idx (ix1 1) = BitVec.ofNat 32 (16 * k.val))
    (r : Fin 8) (h : Fin 4) (j : Fin 16) :
    Host.scatter scatter_S8x64_S2_S16_0_0_01_0 (fun _ b => b) x idx u (ix2 r ⟨16 * h.val + j.val, by omega⟩)
      = if r.val = k.val ∧ h.val = k.val then u (ix1 j) else x (ix2 r ⟨16 * h.val + j.val, by omega⟩) := by
  have hk := k.isLt
  have hn : ∀ a : ℕ, a < 64 → (BitVec.ofNat 32 a).toInt = (a : Int) := fun a ha => by
    rw [BitVec.toInt_eq_toNat_cond, BitVec.toNat_ofNat, Nat.mod_eq_of_lt (by omega), if_pos (by omega)]
  have hs0 : ∀ l : Fin 16, scatter_S8x64_S2_S16_0_0_01_0.start (ix1 l) idx 0 = (k.val : Int) := fun l => by
    rw [← hn k.val (by omega), ← h0]
    refine congrArg (fun i => (idx i).toInt) (funext fun a => ?_)
    match a with
    | ⟨0, _⟩ => rfl
  have hs1 : ∀ l : Fin 16, scatter_S8x64_S2_S16_0_0_01_0.start (ix1 l) idx 1 = (16 * k.val : ℕ) := fun l => by
    rw [← hn (16 * k.val) (by omega), ← h1]
    refine congrArg (fun i => (idx i).toInt) (funext fun a => ?_)
    match a with
    | ⟨0, _⟩ => rfl
  have hw0 : ∀ l : Fin 16, scatter_S8x64_S2_S16_0_0_01_0.window (ix1 l) 0 = 0 := fun _ => rfl
  have hw1 : ∀ l : Fin 16, scatter_S8x64_S2_S16_0_0_01_0.window (ix1 l) 1 = l.val := fun _ => rfl
  have e : ∀ (l : Fin 16) (p : Fin 8) (q : Fin 64), (scatter_S8x64_S2_S16_0_0_01_0.resultIdx? (ix1 l) idx = some (ix2 p q)) ↔ (k.val = p.val ∧ 16 * k.val + l.val = q.val) := fun l p q => by
    rw [show (ix2 p q : S8x64.Idx) = ValueIdx.ix2 p q from by funext d; match d with | ⟨0, _⟩ => rfl | ⟨1, _⟩ => rfl, resultIdx?_ix2 scatter_S8x64_S2_S16_0_0_01_0, hs0, hs1, hw0, hw1]
    omega
  by_cases hr : r.val = k.val ∧ h.val = k.val
  · rw [if_pos hr]
    refine scatter_set_hit _ x idx u _ (u (ix1 j)) (fun l hl => ?_) (ix1 j) ((e _ _ _).2 ⟨hr.1.symm, show 16 * k.val + j.val = 16 * h.val + j.val by omega⟩)
    rw [eq_ix1 l] at hl ⊢
    have hq : 16 * k.val + (l 0).val = 16 * h.val + j.val := ((e _ _ _).1 hl).2
    exact congrArg (fun z => u (ix1 z)) (Fin.ext (by omega))
  · rw [if_neg hr]
    refine scatter_set_miss _ x idx u _ fun l hl => hr ?_
    rw [eq_ix1 l] at hl
    have hq := (e _ _ _).1 hl
    have := (l 0).isLt
    have h2 : 16 * k.val + (l 0).val = 16 * h.val + j.val := hq.2
    have hll : (l 0).val < 16 := this
    exact ⟨hq.1.symm, by omega⟩

/-- Two words side by side. -/
theorem pair_words (a b : IVec S1 32) : concatenate S2 0 [⟨S1, a⟩, ⟨S1, b⟩] concatenates_S1_S1_S2_d0 = fun i => if (i 0).val = 0 then a (ix1 0) else b (ix1 0) := by
  funext i
  rw [eq_ix1 i]
  pointwise
  by_cases h : (i 0).val = 0
  · exact (dif_pos (by omega)).trans ((congrArg (fun k => a (ix1 k)) (Fin.ext h)).trans (if_pos h).symm)
  · have := (i 0).isLt
    exact (dif_neg (by omega)).trans ((congrArg (fun k => b (ix1 k)) (Fin.ext (Nat.sub_eq_zero_of_le (Nat.le_of_lt_succ this)))).trans (if_neg h).symm)

/-- The second layer's weights. -/
theorem seconds_at (r : Fin 8) (h : Fin 4) (j : Fin 16) :
    (V1 m d (rf main_v29) : FVec Ideal S8x64 .f32) (ix2 r ⟨16 * h.val + j.val, by omega⟩)
      = if r.val = h.val then (m (d, rf main_arg4) : FVec Ideal S4x16x1 .f32) (ix3 h j (0 : Fin 1)) else (0 : EReal) := by
  unfold V1 opsA rf
  after_reads_simp
  simp only [pair_words]
  after_reads_simp
  rw [row_at _ _ _ ⟨3, by decide⟩ rfl rfl, row_at _ _ _ ⟨2, by decide⟩ rfl rfl, row_at _ _ _ ⟨1, by decide⟩ rfl rfl, row_at _ _ _ ⟨0, by decide⟩ rfl rfl]
  dsimp only
  have h4 := h.isLt
  split_ifs
  all_goals first
    | (exfalso; omega)
    | (obtain rfl : h = ⟨3, by decide⟩ := Fin.ext (show h.val = 3 by omega)
       clean_types
       pointwise
       rfl)
    | (obtain rfl : h = ⟨2, by decide⟩ := Fin.ext (show h.val = 2 by omega)
       clean_types
       pointwise
       rfl)
    | (obtain rfl : h = ⟨1, by decide⟩ := Fin.ext (show h.val = 1 by omega)
       clean_types
       pointwise
       rfl)
    | (obtain rfl : h = ⟨0, by decide⟩ := Fin.ext (show h.val = 0 by omega)
       clean_types
       pointwise
       rfl)
    | (pointwise <;> simp [Ideal.ofBits, Ideal.ieee])

end Cert.Proof

end
-- ==== Proof.Blocks.lean ====
/-
  The windows' blocks at an index, and what the arrays the calls write hold after them.
-/
module

public import proofs.«01_k».proof.Proof.Kept
public import Idealize.ShloMosaic.Lib.Pipeline.ValueKit.Geometry

@[expose] public section

noncomputable section

namespace Cert.Proof

open Cert.KernelIdeal Cert.KernelIdeal.Gen
open Idealize.ShloMosaic Idealize.ShloMosaic.TcCoe

variable {F : FTy → Type} [FloatOps F] [∀ e, Nonempty (Elt F e)]

/-! ## Block indices -/

/-- The score kernel's rows move with the grid point. -/
theorem index0_0 : ∀ t : Fin grid0.N, win0_0.index t 0 = t.val ∧ win0_0.index t 1 = 0 := by decide +kernel
/-- Its segment ids move with the grid point. -/
theorem index0_1 : ∀ t : Fin grid0.N, win0_1.index t 0 = t.val ∧ win0_1.index t 1 = 0 ∧ win0_1.index t 2 = 0 := by decide +kernel
/-- Its first weights stay. -/
theorem index0_2 : ∀ t : Fin grid0.N, win0_2.index t 0 = 0 ∧ win0_2.index t 1 = 0 := by decide +kernel
/-- Its biases stay. -/
theorem index0_3 : ∀ t : Fin grid0.N, win0_3.index t 0 = 0 ∧ win0_3.index t 1 = 0 := by decide +kernel
/-- Its second weights stay. -/
theorem index0_4 : ∀ t : Fin grid0.N, win0_4.index t 0 = 0 ∧ win0_4.index t 1 = 0 := by decide +kernel
/-- The scores it writes move with the grid point. -/
theorem index0_5 : ∀ t : Fin grid0.N, win0_5.index t 0 = t.val ∧ win0_5.index t 1 = 0 ∧ win0_5.index t 2 = 0 := by decide +kernel
/-- The scores it writes for the tiles move with the grid point. -/
theorem index0_6 : ∀ t : Fin grid0.N, win0_6.index t 0 = t.val ∧ win0_6.index t 1 = 0 ∧ win0_6.index t 2 = 0 ∧ win0_6.index t 3 = 0 := by decide +kernel
/-- The weighted-sum kernel's rows move with the grid point. -/
theorem index2_0 : ∀ t : Fin grid2.N, win2_0.index t 0 = t.val ∧ win2_0.index t 1 = 0 := by decide +kernel
/-- Its segment ids move with the grid point. -/
theorem index2_1 : ∀ t : Fin grid2.N, win2_1.index t 0 = t.val ∧ win2_1.index t 1 = 0 ∧ win2_1.index t 2 = 0 := by decide +kernel
/-- Its scores move with the grid point. -/
theorem index2_2 : ∀ t : Fin grid2.N, win2_2.index t 0 = t.val ∧ win2_2.index t 1 = 0 ∧ win2_2.index t 2 = 0 := by decide +kernel
/-- Its maxima stay. -/
theorem index2_3 : ∀ t : Fin grid2.N, win2_3.index t 0 = 0 ∧ win2_3.index t 1 = 0 := by decide +kernel
/-- The last kernel's weighted sums are one block. -/
theorem index3_0 : ∀ t : Fin grid3.N, win3_0.index t 0 = 0 ∧ win3_0.index t 1 = 0 ∧ win3_0.index t 2 = 0 := by decide +kernel
/-- Its partial sums are one block. -/
theorem index3_1 : ∀ t : Fin grid3.N, win3_1.index t 0 = 0 ∧ win3_1.index t 1 = 0 ∧ win3_1.index t 2 = 0 := by decide +kernel

/-! ## The blocks read -/

section Reads

variable (A : Valuation τ sig (Elt F))

/-- The score kernel's block of rows. -/
theorem in0_0_at (t : Fin cfg0.N) (n : Fin 2000) (i : Fin 128) (ht : t.val < 50) :
    (in0 A 0 t : FVec F S2000x128 .f32) (ix2 n i) = (A (rf main_arg0) : FVec F S100000x128 .f32) (ix2 ⟨2000 * t.val + n.val, by omega⟩ i) := by
  obtain ⟨e0, e1⟩ := index0_0 t
  refine congrArg (A (rf main_arg0) : FVec F S100000x128 .f32) (funext fun a => Fin.ext ?_)
  match a with
  | ⟨0, _⟩ => show win0_0.index t 0 * 2000 + 1 * n.val = 2000 * t.val + n.val; omega
  | ⟨1, _⟩ => show win0_0.index t 1 * 128 + 1 * i.val = i.val; omega

/-- The score kernel's block of segment ids. -/
theorem in0_1_at (t : Fin cfg0.N) (n : Fin 2000) (ht : t.val < 50) :
    (in0 A 1 t : IVec S1x1x2000 32) (ix3 (0 : Fin 1) (0 : Fin 1) n) = (A (rf main_v0) : IVec S50x1x2000 32) (ix3 (⟨t.val, ht⟩ : Fin 50) (0 : Fin 1) n) := by
  obtain ⟨e0, e1, e2⟩ := index0_1 t
  refine congrArg (A (rf main_v0) : IVec S50x1x2000 32) (funext fun a => Fin.ext ?_)
  match a with
  | ⟨0, _⟩ => show win0_1.index t 0 * 1 + 1 * 0 = t.val; omega
  | ⟨1, _⟩ => show win0_1.index t 1 * 1 + 1 * 0 = 0; omega
  | ⟨2, _⟩ => show win0_1.index t 2 * 2000 + 1 * n.val = n.val; omega

/-- The score kernel's first weights, whole. -/
theorem in0_2_eq (t : Fin cfg0.N) : (in0 A 2 t : FVec F S128x64 .f32) = A (rf main_v2) := by
  obtain ⟨e0, e1⟩ := index0_2 t
  funext j
  refine congrArg (A (rf main_v2) : FVec F S128x64 .f32) (funext fun a => Fin.ext ?_)
  match a with
  | ⟨0, _⟩ => show win0_2.index t 0 * 128 + 1 * (j 0).val = (j 0).val; omega
  | ⟨1, _⟩ => show win0_2.index t 1 * 64 + 1 * (j 1).val = (j 1).val; omega

/-- The score kernel's biases, whole. -/
theorem in0_3_eq (t : Fin cfg0.N) : (in0 A 3 t : FVec F S1x64 .f32) = A (rf main_v3) := by
  obtain ⟨e0, e1⟩ := index0_3 t
  funext j
  refine congrArg (A (rf main_v3) : FVec F S1x64 .f32) (funext fun a => Fin.ext ?_)
  match a with
  | ⟨0, _⟩ => show win0_3.index t 0 * 1 + 1 * (j 0).val = (j 0).val; omega
  | ⟨1, _⟩ => show win0_3.index t 1 * 64 + 1 * (j 1).val = (j 1).val; omega

/-- The score kernel's second weights, whole. -/
theorem in0_4_eq (t : Fin cfg0.N) : (in0 A 4 t : FVec F S8x64 .f32) = A (rf main_v29) := by
  obtain ⟨e0, e1⟩ := index0_4 t
  funext j
  refine congrArg (A (rf main_v29) : FVec F S8x64 .f32) (funext fun a => Fin.ext ?_)
  match a with
  | ⟨0, _⟩ => show win0_4.index t 0 * 8 + 1 * (j 0).val = (j 0).val; omega
  | ⟨1, _⟩ => show win0_4.index t 1 * 64 + 1 * (j 1).val = (j 1).val; omega

/-- The weighted-sum kernel's block of rows. -/
theorem in2_0_at (t : Fin cfg2.N) (n : Fin 2000) (i : Fin 128) (ht : t.val < 50) :
    (in2 A 0 t : FVec F S2000x128 .f32) (ix2 n i) = (A (rf main_arg0) : FVec F S100000x128 .f32) (ix2 ⟨2000 * t.val + n.val, by omega⟩ i) := by
  obtain ⟨e0, e1⟩ := index2_0 t
  refine congrArg (A (rf main_arg0) : FVec F S100000x128 .f32) (funext fun a => Fin.ext ?_)
  match a with
  | ⟨0, _⟩ => show win2_0.index t 0 * 2000 + 1 * n.val = 2000 * t.val + n.val; omega
  | ⟨1, _⟩ => show win2_0.index t 1 * 128 + 1 * i.val = i.val; omega

/-- The weighted-sum kernel's block of segment ids. -/
theorem in2_1_at (t : Fin cfg2.N) (n : Fin 2000) (ht : t.val < 50) :
    (in2 A 1 t : IVec S1x1x2000 32) (ix3 (0 : Fin 1) (0 : Fin 1) n) = (A (rf main_v0) : IVec S50x1x2000 32) (ix3 (⟨t.val, ht⟩ : Fin 50) (0 : Fin 1) n) := by
  obtain ⟨e0, e1, e2⟩ := index2_1 t
  refine congrArg (A (rf main_v0) : IVec S50x1x2000 32) (funext fun a => Fin.ext ?_)
  match a with
  | ⟨0, _⟩ => show win2_1.index t 0 * 1 + 1 * 0 = t.val; omega
  | ⟨1, _⟩ => show win2_1.index t 1 * 1 + 1 * 0 = 0; omega
  | ⟨2, _⟩ => show win2_1.index t 2 * 2000 + 1 * n.val = n.val; omega

/-- The weighted-sum kernel's block of scores. -/
theorem in2_2_at (t : Fin cfg2.N) (h : Fin 8) (n : Fin 2000) (ht : t.val < 50) :
    (in2 A 2 t : FVec F S1x8x2000 .f32) (ix3 (0 : Fin 1) h n) = (A (rf main_v30_0) : FVec F S50x8x2000 .f32) (ix3 (⟨t.val, ht⟩ : Fin 50) h n) := by
  obtain ⟨e0, e1, e2⟩ := index2_2 t
  refine congrArg (A (rf main_v30_0) : FVec F S50x8x2000 .f32) (funext fun a => Fin.ext ?_)
  match a with
  | ⟨0, _⟩ => show win2_2.index t 0 * 1 + 1 * 0 = t.val; omega
  | ⟨1, _⟩ => show win2_2.index t 1 * 8 + 1 * h.val = h.val; omega
  | ⟨2, _⟩ => show win2_2.index t 2 * 2000 + 1 * n.val = n.val; omega

/-- The weighted-sum kernel's maxima, whole. -/
theorem in2_3_eq (t : Fin cfg2.N) : (in2 A 3 t : FVec F S64x8 .f32) = A (rf main_v30_2) := by
  obtain ⟨e0, e1⟩ := index2_3 t
  funext j
  refine congrArg (A (rf main_v30_2) : FVec F S64x8 .f32) (funext fun a => Fin.ext ?_)
  match a with
  | ⟨0, _⟩ => show win2_3.index t 0 * 64 + 1 * (j 0).val = (j 0).val; omega
  | ⟨1, _⟩ => show win2_3.index t 1 * 8 + 1 * (j 1).val = (j 1).val; omega

/-- The last kernel's weighted sums, whole. -/
theorem in3_0_eq (t : Fin cfg3.N) : (in3 A 0 t : FVec F S4x64x128 .f32) = A (rf main_v33) := by
  obtain ⟨e0, e1, e2⟩ := index3_0 t
  funext j
  refine congrArg (A (rf main_v33) : FVec F S4x64x128 .f32) (funext fun a => Fin.ext ?_)
  match a with
  | ⟨0, _⟩ => show win3_0.index t 0 * 4 + 1 * (j 0).val = (j 0).val; omega
  | ⟨1, _⟩ => show win3_0.index t 1 * 64 + 1 * (j 1).val = (j 1).val; omega
  | ⟨2, _⟩ => show win3_0.index t 2 * 128 + 1 * (j 2).val = (j 2).val; omega

/-- The last kernel's partial sums, whole. -/
theorem in3_1_eq (t : Fin cfg3.N) : (in3 A 1 t : FVec F S32x64x8 .f32) = A (rf main_v34) := by
  obtain ⟨e0, e1, e2⟩ := index3_1 t
  funext j
  refine congrArg (A (rf main_v34) : FVec F S32x64x8 .f32) (funext fun a => Fin.ext ?_)
  match a with
  | ⟨0, _⟩ => show win3_1.index t 0 * 32 + 1 * (j 0).val = (j 0).val; omega
  | ⟨1, _⟩ => show win3_1.index t 1 * 64 + 1 * (j 1).val = (j 1).val; omega
  | ⟨2, _⟩ => show win3_1.index t 2 * 8 + 1 * (j 2).val = (j 2).val; omega

end Reads

/-! ## The arrays written -/

section Writes

seal unitOut maxTo sumTo meanOut k0_pay4

variable (A : Valuation τ sig (Elt F)) (k : ℕ) (c : Dev nD)

/-- The blocks of scores are apart. -/
theorem sep0_5 : ∀ t t' : Fin cfg0.N, (cfg0.win 5).flush t = true → (cfg0.win 5).flush t' = true → t ≠ t' → Disjoint ((cfg0.win 5).blk t).view.set ((cfg0.win 5).blk t').view.set :=
  Pipeline.Window.hdisj_of_index_inj _ fun t t' _ _ h => Fin.ext ((index0_5 t).1.symm.trans ((congrFun h 0).trans (index0_5 t').1))

/-- The blocks of the tiles' scores are apart. -/
theorem sep0_6 : ∀ t t' : Fin cfg0.N, (cfg0.win 6).flush t = true → (cfg0.win 6).flush t' = true → t ≠ t' → Disjoint ((cfg0.win 6).blk t).view.set ((cfg0.win 6).blk t').view.set :=
  Pipeline.Window.hdisj_of_index_inj _ fun t t' _ _ h => Fin.ext ((index0_6 t).1.symm.trans ((congrFun h 0).trans (index0_6 t').1))

/-- The scores in rows. -/
theorem rows_at (t : Fin cfg0.N) (ht : t.val < 50) (h : Fin 8) (n : Fin 2000) :
    ((dat0 A k c).arrAt 5 cfg0.N : FVec F S50x8x2000 .f32) (ix3 (⟨t.val, ht⟩ : Fin 50) h n) = k0_pay4 (in0 A 0 t) (in0 A 2 t) (in0 A 3 t) (in0 A 4 t) (ix3 (0 : Fin 1) h n) := by
  obtain ⟨e0, e1, e2⟩ := index0_5 t
  have e := (dat0 A k c).arrAt_emb_eq_flushed 5 sep0_5 t (flush0_5 t) (ix3 (0 : Fin 1) h n : S1x8x2000.Idx)
  refine Eq.trans (congrArg ((dat0 A k c).arrAt 5 cfg0.N : FVec F S50x8x2000 .f32) (funext fun a => Fin.ext ?_)) (e.trans ?_)
  · match a with
    | ⟨0, _⟩ => show t.val = win0_5.index t 0 * 1 + 1 * 0; omega
    | ⟨1, _⟩ => show h.val = win0_5.index t 1 * 8 + 1 * h.val; omega
    | ⟨2, _⟩ => show n.val = win0_5.index t 2 * 2000 + 1 * n.val; omega
  · rfl

/-- The scores in units. -/
theorem units_at (t : Fin cfg0.N) (ht : t.val < 50) (q : Fin 5) (h : Fin 4) (n : Fin 400) :
    ((dat0 A k c).arrAt 6 cfg0.N : FVec F S50x5x4x400 .f32) (ix4 (⟨t.val, ht⟩ : Fin 50) q h n) = unitOut (in0 A 0 t) (in0 A 2 t) (in0 A 3 t) (in0 A 4 t) (ix4 (0 : Fin 1) q h n) := by
  obtain ⟨e0, e1, e2, e3⟩ := index0_6 t
  have e := (dat0 A k c).arrAt_emb_eq_flushed 6 sep0_6 t (flush0_6 t) (ix4 (0 : Fin 1) q h n : S1x5x4x400.Idx)
  refine Eq.trans (congrArg ((dat0 A k c).arrAt 6 cfg0.N : FVec F S50x5x4x400 .f32) (funext fun a => Fin.ext ?_)) (e.trans ?_)
  · match a with
    | ⟨0, _⟩ => show t.val = win0_6.index t 0 * 1 + 1 * 0; omega
    | ⟨1, _⟩ => show q.val = win0_6.index t 1 * 5 + 1 * q.val; omega
    | ⟨2, _⟩ => show h.val = win0_6.index t 2 * 4 + 1 * h.val; omega
    | ⟨3, _⟩ => show n.val = win0_6.index t 3 * 400 + 1 * n.val; omega
  · rfl

/-- The running maxima. -/
theorem max_eq : ((dat0 A k c).arrAt 7 cfg0.N : FVec F S64x8 .f32) = maxTo A 49 (by decide) :=
  (dat0 A k c).arrAt_eq_of_after_last 7 ⟨49, by decide⟩ (by decide +kernel) _ fun _ => rfl

/-- The weighted sums. -/
theorem sums_eq : ((dat2 A k c).arrAt 4 cfg2.N : FVec F S4x64x128 .f32) = sumTo A 49 (by decide) :=
  (dat2 A k c).arrAt_eq_of_after_last 4 ⟨49, by decide⟩ (by decide +kernel) _ fun _ => rfl

/-- The result. -/
theorem mean_eq : ((dat3 A k c).arrAt 2 cfg3.N : FVec F S64x128 .f32) = meanOut (A (rf main_v33)) (A (rf main_v34)) := by
  refine (dat3 A k c).arrAt_eq_of_after_last 2 ⟨0, by decide⟩ (by decide +kernel) _ fun j => ?_
  rw [← in3_0_eq A ⟨0, by decide⟩, ← in3_1_eq A ⟨0, by decide⟩]
  rfl

end Writes

end Cert.Proof

end
-- ==== Proof.Scores.lean ====
/-
  The score kernel over real inputs: the scores it computes, and the maxima of the segments that have nodes.
-/
module

public import proofs.«01_k».proof.Proof.Operands
public import proofs.«01_k».proof.Proof.Blocks
public import proofs.«01_k».proof.Proof.Plain

@[expose] public section

noncomputable section

namespace Cert.Proof

open Cert.KernelIdeal Cert.KernelIdeal.Gen
open Idealize.ShloMosaic Idealize.ShloMosaic.TcCoe

/-- A sum over the 64 columns, head by head. -/
theorem sum_heads (f : Fin 64 → EReal) : ∑ k, f k = ∑ h : Fin 4, ∑ j : Fin 16, f ⟨16 * h.val + j.val, by omega⟩ := by
  rw [← (finProdFinEquiv (m := 4) (n := 16)).sum_comp, Fintype.sum_prod_type]
  exact Finset.sum_congr rfl fun h _ => Finset.sum_congr rfl fun j _ => congrArg f (Fin.ext (Nat.add_comm _ _))

/-- A score over real operands, the second layer's row zero outside its head's columns. -/
theorem pay3_real (X : FVec Ideal S2000x128 .f32) (w : FVec Ideal S128x64 .f32) (b : FVec Ideal S1x64 .f32) (v : FVec Ideal S8x64 .f32) (h : Fin 4) (n : Fin 2000)
    (x' : Fin 128 → ℝ) (W1 : Fin 4 → Fin 128 → Fin 16 → ℝ) (b1 : Fin 4 → Fin 16 → ℝ) (W2 : Fin 4 → Fin 16 → ℝ)
    (hx : ∀ i, X (ix2 n i) = (x' i : EReal)) (hw : ∀ (i : Fin 128) (h : Fin 4) (j : Fin 16), w (ix2 i ⟨16 * h.val + j.val, by omega⟩) = (W1 h i j : EReal))
    (hb : ∀ (h : Fin 4) (j : Fin 16), b (ix2 (0 : Fin 1) ⟨16 * h.val + j.val, by omega⟩) = (b1 h j : EReal))
    (hv : ∀ (h' : Fin 4) (j : Fin 16), v (ix2 ⟨h.val, by omega⟩ ⟨16 * h'.val + j.val, by omega⟩) = if h.val = h'.val then (W2 h' j : EReal) else 0) :
    (k0_pay3 (F := Ideal) X w b v (ix2 ⟨h.val, by omega⟩ n) : EReal) = ((∑ j, max (∑ i, x' i * W1 h i j + b1 h j) 0 * W2 h j : ℝ) : EReal) := by
  rw [pay3_at, sum_heads, Finset.sum_eq_single h]
  · rw [← coe_sum]
    refine Finset.sum_congr rfl fun j _ => ?_
    rw [hv, if_pos rfl, hb, EReal.coe_mul, coe_max, EReal.coe_add, ← coe_sum, mul_comm]
    congr 3
    refine Finset.sum_congr rfl fun i _ => ?_
    rw [hw, hx, EReal.coe_mul]
  · intro h' _ hne
    refine Finset.sum_eq_zero fun j _ => ?_
    rw [hv, if_neg (fun e => hne (Fin.ext e.symm)), zero_mul]
  · exact fun H => absurd (Finset.mem_univ _) H

/-- The arguments' contents as real numbers and segments below 64. -/
structure Reads (m : (ℓ : Loc nD τ sig) → Buf (Elt Ideal) ℓ) (d : Dev nD) (g : Fin 100000 → Fin 64) (x : Fin 100000 → Fin 128 → ℝ)
    (W1 : Fin 4 → Fin 128 → Fin 16 → ℝ) (b1 : Fin 4 → Fin 16 → ℝ) (W2 : Fin 4 → Fin 16 → ℝ) : Prop where
  x_at : ∀ n i, (m (d, rf main_arg0) : FVec Ideal S100000x128 .f32) (ix2 n i) = (x n i : EReal)
  g_at : ∀ n, (m (d, rf main_arg1) : IVec S100000 32) (ix1 n) = BitVec.ofNat 32 (g n).val
  W1_at : ∀ h i j, (m (d, rf main_arg2) : FVec Ideal S4x128x16 .f32) (ix3 h i j) = (W1 h i j : EReal)
  b1_at : ∀ h j, (m (d, rf main_arg3) : FVec Ideal S4x16 .f32) (ix2 h j) = (b1 h j : EReal)
  W2_at : ∀ h j, (m (d, rf main_arg4) : FVec Ideal S4x16x1 .f32) (ix3 h j (0 : Fin 1)) = (W2 h j : EReal)

section Kernel

variable {m : (ℓ : Loc nD τ sig) → Buf (Elt Ideal) ℓ} {d : Dev nD} {g : Fin 100000 → Fin 64} {x : Fin 100000 → Fin 128 → ℝ}
variable {W1 : Fin 4 → Fin 128 → Fin 16 → ℝ} {b1 : Fin 4 → Fin 16 → ℝ} {W2 : Fin 4 → Fin 16 → ℝ}
variable (R : Reads m d g x W1 b1 W2)

/-- Node `n` of block `t`. -/
def node (t : ℕ) (ht : t < 50) (n : Fin 2000) : Fin 100000 := ⟨2000 * t + n.val, by omega⟩

include R in
/-- The scores of a block, the first four rows. -/
theorem scores_at (t : Fin cfg0.N) (ht : t.val < 50) (h : Fin 4) (n : Fin 2000) :
    k0_pay3 (in0 (V1 m d) 0 t) (in0 (V1 m d) 2 t) (in0 (V1 m d) 3 t) (in0 (V1 m d) 4 t) (ix2 ⟨h.val, by omega⟩ n) = (score x W1 b1 W2 h (node t.val ht n) : EReal) := by
  refine pay3_real _ _ _ _ h n (fun i => x (node t.val ht n) i) W1 b1 W2 (fun i => ?_) (fun i h j => ?_) (fun h j => ?_) fun h' j => ?_
  · exact (in0_0_at (V1 m d) t n i ht).trans ((congrFun (V1_off m d (by decide)) _).trans (R.x_at _ _))
  · exact (congrFun (in0_2_eq (V1 m d) t) _).trans ((weights_at m d i h j).trans (R.W1_at _ _ _))
  · exact (congrFun (in0_3_eq (V1 m d) t) _).trans ((biases_at m d h j).trans (R.b1_at _ _))
  · refine (congrFun (in0_4_eq (V1 m d) t) _).trans ((seconds_at m d ⟨h.val, by omega⟩ h' j).trans ?_)
    rw [R.W2_at]

include R in
/-- The segment ids of a block. -/
theorem blockIds_at (t : Fin cfg0.N) (ht : t.val < 50) (n : Fin 2000) :
    (in0 (V1 m d) 1 t : IVec S1x1x2000 32) (ix3 (0 : Fin 1) (0 : Fin 1) n) = BitVec.ofNat 32 (g (node t.val ht n)).val := by
  rw [in0_1_at _ _ _ ht, ids_at]; exact R.g_at _

include R in
/-- A block's maximum of a segment is no infinity upward, and at least each of the segment's scores. -/
theorem segMax_bounds (t : Fin cfg0.N) (ht : t.val < 50) (c : Fin 64) (h : Fin 4) :
    segMax (in0 (V1 m d) 1 t) (k0_pay3 (in0 (V1 m d) 0 t) (in0 (V1 m d) 2 t) (in0 (V1 m d) 3 t) (in0 (V1 m d) 4 t)) c ⟨h.val, by omega⟩ < ⊤
      ∧ ∀ n, g (node t.val ht n) = c → (score x W1 b1 W2 h (node t.val ht n) : EReal)
        ≤ segMax (in0 (V1 m d) 1 t) (k0_pay3 (in0 (V1 m d) 0 t) (in0 (V1 m d) 2 t) (in0 (V1 m d) 3 t) (in0 (V1 m d) 4 t)) c ⟨h.val, by omega⟩ := by
  unfold segMax
  constructor
  · rw [Finset.sup_lt_iff bot_lt_top]
    intro n _
    rw [scores_at R t ht]
    split
    · exact EReal.coe_lt_top _
    · exact bot_lt_top
  · intro n hn
    refine le_trans (le_of_eq ?_) (Finset.le_sup (Finset.mem_univ n))
    rw [blockIds_at R t ht, if_pos (by rw [hn]), scores_at R t ht]

include R in
/-- The running maxima likewise. -/
theorem maxTo_bounds (c : Fin 64) (h : Fin 4) (k : ℕ) (hk : k < cfg0.N) :
    maxTo (V1 m d) k hk (ix2 c ⟨h.val, by omega⟩) < (⊤ : EReal)
      ∧ ∀ n : Fin 100000, n.val < 2000 * (k + 1) → g n = c → (score x W1 b1 W2 h n : EReal) ≤ maxTo (V1 m d) k hk (ix2 c ⟨h.val, by omega⟩) := by
  have hN : cfg0.N = 50 := N_0
  induction k with
  | zero =>
    have e := segMax_bounds R ⟨0, hk⟩ (by omega) c h
    rw [maxTo, blockMax_at]
    exact ⟨e.1, fun n hn hc => e.2 ⟨n.val, by omega⟩ (by rw [← hc]; congr 1; exact Fin.ext (by show 2000 * 0 + n.val = n.val; omega)) |> le_trans (le_of_eq (by
      congr 2; exact Fin.ext (by show n.val = 2000 * 0 + n.val; omega)))⟩
  | succ k ih =>
    have e := segMax_bounds R ⟨k + 1, hk⟩ (by omega) c h
    have i := ih (by omega)
    rw [maxTo, laterMax_at, blockMax_at]
    refine ⟨max_lt i.1 e.1, fun n hn hc => ?_⟩
    by_cases hl : n.val < 2000 * (k + 1)
    · exact le_trans (i.2 n hl hc) (le_max_left _ _)
    · have hn' : node (k + 1) (by omega) ⟨n.val - 2000 * (k + 1), by omega⟩ = n := Fin.ext (by show 2000 * (k + 1) + (n.val - 2000 * (k + 1)) = n.val; omega)
      have := e.2 ⟨n.val - 2000 * (k + 1), by omega⟩ (by rw [hn']; exact hc)
      rw [hn'] at this
      exact le_trans this (le_max_right _ _)

/-- A segment's maximum under a head, as the kernel leaves it, read as a real number. -/
def top (m : (ℓ : Loc nD τ sig) → Buf (Elt Ideal) ℓ) (d : Dev nD) (c : Fin 64) (h : ℕ) : ℝ :=
  (maxTo (V1 m d) 49 (by decide) (ix2 c (⟨h % 8, Nat.mod_lt _ (by decide)⟩ : Fin 8)) : EReal).toReal

include R in
/-- A segment that has a node has a real maximum. -/
theorem top_eq (n : Fin 100000) (h : Fin 4) : (maxTo (V1 m d) 49 (by decide) (ix2 (g n) (⟨h.val, by omega⟩ : Fin 8)) : EReal) = (top m d (g n) h.val : EReal) := by
  have e := maxTo_bounds R (g n) h 49 (by decide)
  have hm : (⟨h.val % 8, Nat.mod_lt _ (by decide)⟩ : Fin 8) = ⟨h.val, by omega⟩ := Fin.ext (Nat.mod_eq_of_lt (by omega))
  unfold top
  rw [hm, EReal.coe_toReal e.1.ne]
  exact (lt_of_lt_of_le (EReal.bot_lt_coe _) (e.2 n (by omega) rfl)).ne'

end Kernel

end Cert.Proof

end
-- ==== Proof.Denoms.lean ====
/-
  The tiles' partial sums over the extended reals: the 32 tiles' entries for a segment and a head add up to the sum of that
  segment's weights over all nodes.
-/
module

public import proofs.«01_k».proof.Proof.Kept
public import proofs.«01_k».proof.Proof.Plain
public import Idealize.ShloMosaic.Lib.Pointwise

@[expose] public section

noncomputable section

namespace Cert.Proof

open Cert.KernelIdeal Cert.KernelIdeal.Gen
open Idealize.ShloMosaic Idealize.ShloMosaic.TcCoe

/-- A sum over the blocks of `a` numbers is the sum over the numbers. -/
theorem sum_blocks (f : ℕ → ℝ) (a b : ℕ) : ∑ j ∈ Finset.range b, ∑ w ∈ Finset.range a, f (a * j + w) = ∑ n ∈ Finset.range (a * b), f n := by
  induction b with
  | zero => simp
  | succ b ih => rw [Finset.sum_range_succ, ih, Nat.mul_succ, Finset.sum_range_add]

/-- Additions one after the other, each at its own index: an element gets the sum of those that name it. -/
theorem foldl_add {ι κ : Type} (l : List κ) (P : κ → ι → Prop) [∀ k j, Decidable (P k j)] (i : κ → ι) (hi : ∀ k j, P k j → j = i k) (v : κ → EReal) (f : ι → EReal) (p : ι) :
    l.foldl (fun g k => fun j => if P k j then g (i k) + v k else g j) f p = f p + (l.map fun k => if P k p then v k else 0).sum := by
  induction l generalizing f with
  | nil => simp
  | cons k l ih =>
    rw [List.foldl_cons, ih, List.map_cons, List.sum_cons, ← add_assoc]
    congr 1
    by_cases h : P k p
    · rw [if_pos h, if_pos h, ← hi k p h]
    · rw [if_neg h, if_neg h, add_zero]

/-- The table's entries for the four heads lie in the table. -/
theorem entry_lt (c : Fin 64) {h : ℕ} (hh : h < 4) : 8 * c.val + h < 512 := by omega

section Sums

variable (sm : FVec Ideal S512 .f32) (seg : ℕ → BitVec 32) (sc : ℕ → ℕ → Ideal .f32)
variable (γ : ℕ → Fin 64) (S : ℕ → ℕ → ℝ) (M : Fin 64 → ℕ → ℝ)

/-- Node `n`'s addition under head `h` to the table's entry `q`. -/
def addTo (q h n : ℕ) : ℝ := if 8 * (γ n).val + h = q then Real.exp (S h n - M (γ n) h) else 0

/-- Node `n`'s weight under head `h`, in its segment only. -/
def inSeg (c : Fin 64) (h n : ℕ) : ℝ := if γ n = c then Real.exp (S h n - M c h) else 0

variable (hseg : ∀ n, seg n = BitVec.ofNat 32 (γ n).val) (hsc : ∀ h, h < 4 → ∀ n, sc h n = (S h n : EReal))
variable (hsm : ∀ h (hh : h < 4) n, sm (ix1 (⟨8 * (γ n).val + h, entry_lt (γ n) hh⟩ : Fin 512)) = (M (γ n) h : EReal))

include hseg in
/-- The table entry that a lane adds to. -/
theorem index_toNat (o h : ℕ) (hh : h < 4) (l : Fin 16) : (ivOf (lanes seg o) h (ix1 l)).toNat = 8 * (γ (o + l.val)).val + h := by
  show (seg (o + l.val) * 8#32 + BitVec.ofNat 32 h).toNat = _
  rw [hseg, BitVec.toNat_add, BitVec.toNat_mul, BitVec.toNat_ofNat, BitVec.toNat_ofNat, BitVec.toNat_ofNat]
  have := (γ (o + l.val)).isLt
  omega

include hseg in
/-- Every segment number is below 64. -/
theorem seg_ok : SegOK seg := fun n => by
  rw [hseg, BitVec.toNat_ofNat]
  have := (γ n).isLt
  omega

include hseg hsc hsm in
/-- A step adds the lanes' exponentials to the entries they name. -/
theorem headStep_at (o h : ℕ) (hh : h < 4) (acc : FVec Ideal S512 .f32) (q : Fin 512) :
    headStep sm seg sc o h acc (ix1 q) = acc (ix1 q) + ((∑ l : Fin 16, addTo γ S M q.val h (o + l.val) : ℝ) : EReal) := by
  have hi : InB (ivOf (lanes seg o) h) := (seg_ok seg γ hseg).inB o (by omega)
  have hx : ∀ k : Fin 16, (Shape.ofLane (d := ![16]) k : S16.Idx) = ix1 k := fun k => by
    funext a; match a with | ⟨0, _⟩ => rfl
  have hP : ∀ (k : Fin 16) (j : S512.Idx), (∀ a, (j a).val = (idxAt (s := S512) ![ivOf (lanes seg o) h] hi (Shape.ofLane (d := ![16]) k) a).val) → j = idxAt (s := S512) ![ivOf (lanes seg o) h] hi (Shape.ofLane (d := ![16]) k) :=
    fun k j hj => funext fun a => Fin.ext (hj a)
  have hv : ∀ k : Fin 16, (idxAt (s := S512) ![ivOf (lanes seg o) h] hi (Shape.ofLane (d := ![16]) k) 0).val = 8 * (γ (o + k.val)).val + h := fun k => by
    rw [← index_toNat seg γ hseg o h hh k, ← hx]; rfl
  unfold headStep
  rw [dif_pos hi]
  unfold storeIdx
  simp only [if_true, Elt.idxAdd_f32, Ideal.idxAddf_def]
  refine (foldl_add (List.finRange 16) (fun k (j : S512.Idx) => ∀ a, (j a).val = (idxAt (s := S512) ![ivOf (lanes seg o) h] hi (Shape.ofLane (d := ![16]) k) a).val) _ hP
    (fun k => Ideal.exp (sc h (o + k.val) - sm (idxAt (s := S512) ![ivOf (lanes seg o) h] hi (Shape.ofLane (d := ![16]) k)))) acc (ix1 q)).trans ?_
  rw [← Fin.sum_univ_def, ← coe_sum]
  congr 1
  refine Finset.sum_congr rfl fun k _ => ?_
  unfold addTo
  by_cases he : 8 * (γ (o + k.val)).val + h = q.val
  · rw [if_pos he, if_pos (fun a => by obtain rfl : a = 0 := Subsingleton.elim _ _; exact he.symm.trans (hv k).symm)]
    show Ideal.exp (sc h (o + k.val) - sm (idxAt (s := S512) ![ivOf (lanes seg o) h] hi (Shape.ofLane (d := ![16]) k))) = _
    rw [hsc h hh, show (idxAt (s := S512) ![ivOf (lanes seg o) h] hi (Shape.ofLane (d := ![16]) k)) = ix1 (⟨8 * (γ (o + k.val)).val + h, entry_lt _ hh⟩ : Fin 512) from
      funext fun a => by obtain rfl : a = 0 := Subsingleton.elim _ _; exact Fin.ext (hv k), hsm h hh, ← EReal.coe_sub, Ideal.exp_coe]
  · rw [if_neg he, if_neg (fun H => he ((H 0).trans (hv k)).symm)]; rfl

/-- What a head's step adds to that head's own entry. -/
theorem addTo_self (c : Fin 64) (k n : ℕ) : addTo γ S M (8 * c.val + k) k n = inSeg γ S M c k n := by
  unfold addTo inSeg
  by_cases h : γ n = c
  · rw [if_pos (by rw [h]), if_pos h, h]
  · rw [if_neg (fun e => h (Fin.ext (by omega))), if_neg h]

/-- A head's step adds nothing to another head's entry. -/
theorem addTo_other (c : Fin 64) (k h n : ℕ) (hk : k < 4) (hh : h < 4) (hne : h ≠ k) : addTo γ S M (8 * c.val + k) h n = 0 :=
  if_neg (by omega)

variable (c : Fin 64) (k : Fin 4)

include hseg hsc hsm in
/-- A group adds its sixteen nodes' weights. -/
theorem groupStep_at (o : ℕ) (acc : FVec Ideal S512 .f32) :
    groupStep sm seg sc o acc (ix1 (⟨8 * c.val + k.val, entry_lt c k.isLt⟩ : Fin 512)) = acc (ix1 (⟨8 * c.val + k.val, entry_lt c k.isLt⟩ : Fin 512)) + ((∑ l ∈ Finset.range 16, inSeg γ S M c k.val (o + l) : ℝ) : EReal) := by
  unfold groupStep
  have hs : ∀ (h : ℕ) (hh : h < 4) (a : FVec Ideal S512 .f32), headStep sm seg sc o h a (ix1 (⟨8 * c.val + k.val, entry_lt c k.isLt⟩ : Fin 512))
      = a (ix1 (⟨8 * c.val + k.val, entry_lt c k.isLt⟩ : Fin 512)) + if h = k.val then ((∑ l ∈ Finset.range 16, inSeg γ S M c k.val (o + l) : ℝ) : EReal) else 0 := fun h hh a => by
    rw [headStep_at sm seg sc γ S M hseg hsc hsm o h hh a]
    congr 1
    by_cases he : h = k.val
    · rw [if_pos he, Finset.sum_range]
      subst he
      exact congrArg _ (Finset.sum_congr rfl fun l _ => addTo_self γ S M c k.val _)
    · rw [if_neg he, Finset.sum_eq_zero fun l _ => addTo_other γ S M c k.val h _ k.isLt hh he]; rfl
  rw [hs 3 (by decide), hs 2 (by decide), hs 1 (by decide), hs 0 (by decide)]
  match k with
  | ⟨0, _⟩ => simp
  | ⟨1, _⟩ => simp
  | ⟨2, _⟩ => simp
  | ⟨3, _⟩ => simp

include hseg hsc hsm in
/-- `n` groups of a unit add their nodes' weights. -/
theorem unitPart_at (u : ℕ) (acc : FVec Ideal S512 .f32) (n : ℕ) :
    unitPart sm seg sc u acc n (ix1 (⟨8 * c.val + k.val, entry_lt c k.isLt⟩ : Fin 512)) = acc (ix1 (⟨8 * c.val + k.val, entry_lt c k.isLt⟩ : Fin 512)) + ((∑ i ∈ Finset.range (16 * n), inSeg γ S M c k.val (400 * u + i) : ℝ) : EReal) := by
  induction n with
  | zero => simp [unitPart]
  | succ n ih =>
    rw [unitPart, groupStep_at sm seg sc γ S M hseg hsc hsm c k, ih, Nat.mul_succ, Finset.sum_range_add, EReal.coe_add, add_assoc]
    simp only [Nat.add_assoc]

/-- A unit's weights. -/
def unitSum (u : ℕ) : ℝ := ∑ i ∈ Finset.range 400, inSeg γ S M c k.val (400 * u + i)

include hseg hsc hsm in
/-- After `r` turns a tile holds its units' sums. -/
theorem tileAcc_at (w r : ℕ) :
    tileAcc sm seg sc w r (ix1 (⟨8 * c.val + k.val, entry_lt c k.isLt⟩ : Fin 512)) = ((∑ j ∈ Finset.range r, if w + 32 * j < 250 then unitSum γ S M c k (w + 32 * j) else 0 : ℝ) : EReal) := by
  induction r with
  | zero => simp [tileAcc, Ideal.ofBits, Ideal.ieee]
  | succ r ih =>
    rw [tileAcc, Finset.sum_range_succ]
    by_cases h : w + 32 * r < 250
    · rw [if_pos h, if_pos h, unitPart_at sm seg sc γ S M hseg hsc hsm c k, ih, ← EReal.coe_add]; rfl
    · rw [if_neg h, if_neg h, ih, add_zero]

include hseg hsc hsm in
/-- The tiles' entries together. -/
theorem tiles_sum : ∑ w : Fin 32, tileAcc sm seg sc w.val 8 (ix1 (⟨8 * c.val + k.val, entry_lt c k.isLt⟩ : Fin 512)) = ((∑ n ∈ Finset.range 100000, inSeg γ S M c k.val n : ℝ) : EReal) := by
  simp only [tileAcc_at sm seg sc γ S M hseg hsc hsm c k]
  rw [coe_sum, ← Finset.sum_range (fun w => ∑ j ∈ Finset.range 8, if w + 32 * j < 250 then unitSum γ S M c k (w + 32 * j) else 0), Finset.sum_comm]
  have e := sum_blocks (fun u => if u < 250 then unitSum γ S M c k u else 0) 32 8
  rw [show (32 * 8 : ℕ) = 250 + 6 from rfl, Finset.sum_range_add, Finset.sum_eq_zero (s := Finset.range 6) (fun i _ => if_neg (by omega)), add_zero] at e
  rw [show (100000 : ℕ) = 400 * 250 from rfl, ← sum_blocks]
  refine congrArg (fun r : ℝ => (r : EReal)) ?_
  refine Eq.trans ?_ (e.trans ?_)
  · exact Finset.sum_congr rfl fun j _ => Finset.sum_congr rfl fun w _ => by rw [Nat.add_comm]
  · exact Finset.sum_congr rfl fun u hu => if_pos (Finset.mem_range.1 hu)

end Sums

end Cert.Proof

end
-- ==== Proof.Arrays.lean ====
/-
  The buffers between the calls over real inputs, up to the result: every entry of the kernel's result is the segment's mean.
-/
module

public import proofs.«01_k».proof.Proof.Scores
public import proofs.«01_k».proof.Proof.Denoms

@[expose] public section

noncomputable section

namespace Cert.Proof

open Cert.KernelIdeal Cert.KernelIdeal.Gen
open Idealize.ShloMosaic Idealize.ShloMosaic.TcCoe

section Buffers

variable (m : (ℓ : Loc nD τ sig) → Buf (Elt Ideal) ℓ) (d : Dev nD)

/-- The scores in rows after the first call. -/
theorem V2_rows : (V2 m d (rf main_v30_0) : FVec Ideal S50x8x2000 .f32) = (dat0 (V1 m d) 0 d).arrAt 5 cfg0.N :=
  Pipeline.afterRegion_arr (pdats (V1 m) 0 0 d) (V1 m d) (plaunch (F := Ideal) 0).win.arr_inj 5

/-- The scores in units after the first call. -/
theorem V2_units : (V2 m d (rf main_v30_1) : FVec Ideal S50x5x4x400 .f32) = (dat0 (V1 m d) 0 d).arrAt 6 cfg0.N :=
  Pipeline.afterRegion_arr (pdats (V1 m) 0 0 d) (V1 m d) (plaunch (F := Ideal) 0).win.arr_inj 6

/-- The maxima after the first call. -/
theorem V2_max : (V2 m d (rf main_v30_2) : FVec Ideal S64x8 .f32) = maxTo (V1 m d) 49 (by decide) :=
  (Pipeline.afterRegion_arr (pdats (V1 m) 0 0 d) (V1 m d) (plaunch (F := Ideal) 0).win.arr_inj 7).trans (max_eq (V1 m d) 0 d)

/-- The weighted sums after their call. -/
theorem V5_sums : (V5 m d (rf main_v33) : FVec Ideal S4x64x128 .f32) = sumTo (V4 m d) 49 (by decide) :=
  (Pipeline.afterRegion_arr (pdats (V4 m) 1 1 d) (V4 m d) (plaunch (F := Ideal) 1).win.arr_inj 4).trans (sums_eq (V4 m d) 1 d)

/-- The result. -/
theorem V7_mean : (V7 m d (rf main_v35) : FVec Ideal S64x128 .f32) = meanOut (V6 m d (rf main_v33)) (V6 m d (rf main_v34)) :=
  (Pipeline.afterRegion_arr (pdats (V6 m) 1 2 d) (V6 m d) (plaunch (F := Ideal) 2).win.arr_inj 2).trans (mean_eq (V6 m d) 1 d)

/-- The flat table of maxima. -/
theorem tabMax_at (c : Fin 64) (h : Fin 8) : tabMax m d (ix1 (⟨8 * c.val + h.val, by omega⟩ : Fin 512)) = (V2 m d (rf main_v30_2) : FVec Ideal S64x8 .f32) (ix2 c h) := by
  unfold tabMax V3 opB rf
  after_reads_at

/-- The partial sums by tile, segment and head. -/
theorem V6_parts (w : Fin 32) (c : Fin 64) (h : Fin 8) :
    (V6 m d (rf main_v34) : FVec Ideal S32x64x8 .f32) (ix3 w c h) = tileAcc (tabMax m d) (segOf (tabSeg m d)) (scOf (tabSc m d)) w.val 8 (ix1 (⟨8 * c.val + h.val, by omega⟩ : Fin 512)) := by
  have e : (V5 m d (rf main_v32) : FVec Ideal S32x512 .f32) = partsAt (tabSeg m) (tabSc m) (tabMax m) d :=
    (V5_off m d (by decide)).trans (Function.update_self _ _ _)
  refine Eq.trans ?_ (congrFun e (ix2 w (⟨8 * c.val + h.val, by omega⟩ : Fin 512)))
  unfold V6 opC rf
  after_reads_at
  exact congrArg (fun k => (V5 m d (rf main_v32) : FVec Ideal S32x512 .f32) (ix2 w k)) (Fin.ext (by simp only; omega))

end Buffers

section Result

variable {m : (ℓ : Loc nD τ sig) → Buf (Elt Ideal) ℓ} {d : Dev nD} {g : Fin 100000 → Fin 64} {x : Fin 100000 → Fin 128 → ℝ}
variable {W1 : Fin 4 → Fin 128 → Fin 16 → ℝ} {b1 : Fin 4 → Fin 16 → ℝ} {W2 : Fin 4 → Fin 16 → ℝ}
variable (R : Reads m d g x W1 b1 W2)

/-- Node number `n`, whatever the natural number. -/
def nd (n : ℕ) : Fin 100000 := ⟨n % 100000, Nat.mod_lt _ (by decide)⟩

/-- The score of node number `n` under head number `h`. -/
def scoreN (x : Fin 100000 → Fin 128 → ℝ) (W1 : Fin 4 → Fin 128 → Fin 16 → ℝ) (b1 : Fin 4 → Fin 16 → ℝ) (W2 : Fin 4 → Fin 16 → ℝ) (h n : ℕ) : ℝ :=
  score x W1 b1 W2 ⟨h % 4, Nat.mod_lt _ (by decide)⟩ (nd n)

/-- The score by a node's number is the node's score. -/
theorem scoreN_eq (h : Fin 4) (n : ℕ) : scoreN x W1 b1 W2 h.val n = score x W1 b1 W2 h (nd n) := by
  unfold scoreN
  exact congrArg (fun k => score x W1 b1 W2 k (nd n)) (Fin.ext (Nat.mod_eq_of_lt h.isLt))

/-- Node `n` of block `t`, by its number. -/
theorem node_eq (t : ℕ) (ht : t < 50) (n : Fin 2000) : node t ht n = nd (2000 * t + n.val) :=
  Fin.ext (Nat.mod_eq_of_lt (by omega)).symm

/-- The score kernel's grid has 50 points. -/
theorem point_eq (t : ℕ) (ht : t < 50) : t < cfg0.N := by have hN : cfg0.N = 50 := N_0; omega

include R in
/-- The segment number a tile reads for a node. -/
theorem tileSeg_at (n : ℕ) : segOf (tabSeg m d) n = BitVec.ofNat 32 (g (nd n)).val := by
  rw [tabSeg_eq]; exact R.g_at _

include R in
/-- The score a tile reads for a node and a head. -/
theorem tileScore_at (h : ℕ) (hh : h < 4) (n : ℕ) : scOf (tabSc m d) h n = (scoreN x W1 b1 W2 h n : EReal) := by
  have hu : tabSc m d = V2 m d (rf main_v30_1) := V3_off m d (by decide)
  unfold scOf
  rw [hu, V2_units]
  have e := units_at (V1 m d) 0 d ⟨n / 2000 % 50, point_eq _ (Nat.mod_lt _ (by decide))⟩ (Nat.mod_lt _ (by decide)) ⟨n % 2000 / 400 % 5, Nat.mod_lt _ (by decide)⟩
    ⟨h % 4, Nat.mod_lt _ (by decide)⟩ ⟨n % 400, Nat.mod_lt _ (by decide)⟩
  refine e.trans ((unitOut_at ..).trans ((scores_at R _ (Nat.mod_lt _ (by decide)) ⟨h % 4, Nat.mod_lt _ (by decide)⟩ _).trans ?_))
  unfold scoreN
  rw [node_eq]
  congr 2
  refine Fin.ext ?_
  show (2000 * (n / 2000 % 50) + (400 * (n % 2000 / 400 % 5) + n % 400)) % 100000 = n % 100000
  omega

include R in
/-- The maximum a tile reads for a node's segment and a head. -/
theorem tileMax_at (h : ℕ) (hh : h < 4) (n : ℕ) : tabMax m d (ix1 (⟨8 * (g (nd n)).val + h, by omega⟩ : Fin 512)) = (top m d (g (nd n)) h : EReal) := by
  refine (tabMax_at m d (g (nd n)) ⟨h, by omega⟩).trans ?_
  rw [V2_max]
  exact top_eq R (nd n) ⟨h, hh⟩

include R in
/-- A segment's denominator under a head, over the tiles. -/
theorem denom_at (c : Fin 64) (h : Fin 4) (p : Vec Ideal S32x64x8 .f32) (hp : p = V6 m d (rf main_v34)) : (∑ w : Fin 32, (p (ix3 w c ⟨h.val, by omega⟩) : EReal))
    = ((∑ n : Fin 100000, if g n = c then Real.exp (score x W1 b1 W2 h n - top m d c h.val) else 0 : ℝ) : EReal) := by
  subst hp
  refine (Finset.sum_congr rfl fun w _ => V6_parts m d w c ⟨h.val, by omega⟩).trans ((tiles_sum (tabMax m d) (segOf (tabSeg m d)) (scOf (tabSc m d)) (fun n => g (nd n))
    (scoreN x W1 b1 W2) (top m d) (tileSeg_at R) (tileScore_at R) (tileMax_at R) c h).trans ?_)
  rw [Finset.sum_range]
  refine congrArg (fun r : ℝ => (r : EReal)) (Finset.sum_congr rfl fun n _ => ?_)
  unfold inSeg
  show (if g (nd n.val) = c then _ else _) = _
  rw [scoreN_eq, show nd n.val = n from Fin.ext (Nat.mod_eq_of_lt n.isLt)]

/-- Node number `n`'s addition to a segment's weighted sum. -/
def weighted (m : (ℓ : Loc nD τ sig) → Buf (Elt Ideal) ℓ) (d : Dev nD) (g : Fin 100000 → Fin 64) (x : Fin 100000 → Fin 128 → ℝ)
    (W1 : Fin 4 → Fin 128 → Fin 16 → ℝ) (b1 : Fin 4 → Fin 16 → ℝ) (W2 : Fin 4 → Fin 16 → ℝ) (h : Fin 4) (c : Fin 64) (i : Fin 128) (n : ℕ) : ℝ :=
  if g (nd n) = c then Real.exp (score x W1 b1 W2 h (nd n) - top m d c h.val) * x (nd n) i else 0

include R in
/-- A block's part of the weighted sums. -/
theorem part_at (t : Fin cfg2.N) (ht : t.val < 50) (h : Fin 4) (c : Fin 64) (i : Fin 128) :
    part (in2 (V4 m d) 0 t) (in2 (V4 m d) 1 t) (in2 (V4 m d) 2 t) (in2 (V4 m d) 3 t) h c i
      = ((∑ n ∈ Finset.range 2000, weighted m d g x W1 b1 W2 h c i (2000 * t.val + n) : ℝ) : EReal) := by
  have hγ : ∀ n : Fin 2000, (in2 (V4 m d) 1 t : IVec S1x1x2000 32) (ix3 (0 : Fin 1) (0 : Fin 1) n) = BitVec.ofNat 32 (g (node t.val ht n)).val := fun n => by
    rw [in2_1_at _ _ _ ht, V4_off m d (by decide), V3_off m d (by decide), V2_off m d (by decide), ids_at]
    exact R.g_at _
  have hs : ∀ n : Fin 2000, (in2 (V4 m d) 2 t : FVec Ideal S1x8x2000 .f32) (ix3 (0 : Fin 1) ⟨h.val, by omega⟩ n) = (score x W1 b1 W2 h (node t.val ht n) : EReal) := fun n => by
    rw [in2_2_at _ _ _ _ ht, V4_off m d (by decide), V3_off m d (by decide), V2_rows]
    exact (rows_at (V1 m d) 0 d ⟨t.val, point_eq _ ht⟩ ht _ n).trans ((pay4_at ..).trans (scores_at R _ ht h n))
  have hx : ∀ n : Fin 2000, (in2 (V4 m d) 0 t : FVec Ideal S2000x128 .f32) (ix2 n i) = (x (node t.val ht n) i : EReal) := fun n => by
    rw [in2_0_at _ _ _ _ ht, V4_off m d (by decide), V3_off m d (by decide), V2_off m d (by decide), V1_off m d (by decide)]
    exact R.x_at _ _
  have hm : (in2 (V4 m d) 3 t : FVec Ideal S64x8 .f32) = maxTo (V1 m d) 49 (by decide) := by
    rw [in2_3_eq, V4_off m d (by decide), V3_off m d (by decide), V2_max]
  unfold part
  rw [Finset.sum_range, ← coe_sum]
  refine Finset.sum_congr rfl fun n _ => ?_
  rw [onehot_at _ _ hγ, weight_at _ _ _ _ hγ, hs, hx, hm, ← EReal.coe_sub, Ideal.exp_coe, ← EReal.coe_mul, ← EReal.coe_mul]
  refine congrArg (fun r : ℝ => (r : EReal)) ?_
  unfold weighted
  rw [← node_eq t.val ht n]
  by_cases hc : g (node t.val ht n) = c
  · rw [if_pos hc, if_pos hc, one_mul, hc]
    unfold top
    rw [show (⟨h.val % 8, Nat.mod_lt _ (by decide)⟩ : Fin 8) = ⟨h.val, by omega⟩ from Fin.ext (Nat.mod_eq_of_lt (by omega))]
  · rw [if_neg hc, if_neg hc, zero_mul, zero_mul]

include R in
/-- The running weighted sums. -/
theorem sumTo_at (h : Fin 4) (c : Fin 64) (i : Fin 128) (k : ℕ) (hk : k < cfg2.N) :
    sumTo (V4 m d) k hk (ix3 h c i) = ((∑ n ∈ Finset.range (2000 * (k + 1)), weighted m d g x W1 b1 W2 h c i n : ℝ) : EReal) := by
  have hN : cfg2.N = 50 := N_2
  induction k with
  | zero =>
    rw [sumTo, firstSum_at, part_at R ⟨0, hk⟩ (by omega)]
    simp
  | succ k ih =>
    rw [sumTo, laterSum_at, part_at R ⟨k + 1, hk⟩ (by omega), ih, ← EReal.coe_add, Nat.mul_succ _ (k + 1), Finset.sum_range_add]

include R in
/-- The kernel's result. -/
theorem kernel_result (c : Fin 64) (i : Fin 128) : (V7 m d (rf main_v35) : FVec Ideal S64x128 .f32) (ix2 c i) = (answer g (score x W1 b1 W2) x c i : EReal) := by
  rw [V7_mean]
  refine (meanOut_at _ _ c i (fun h => ∑ n : Fin 100000, if g n = c then Real.exp (score x W1 b1 W2 h n - top m d c h.val) * x n i else 0)
    (fun h => ∑ n : Fin 100000, if g n = c then Real.exp (score x W1 b1 W2 h n - top m d c h.val) else 0) (fun h => ?_) (fun h => denom_at R c h _ rfl) fun h => ?_).trans ?_
  · rw [V6_off m d (by decide), V5_sums]
    refine (sumTo_at R h c i 49 (by decide)).trans (congrArg (fun r : ℝ => (r : EReal)) ?_)
    rw [show 2000 * (49 + 1) = 100000 from rfl, Finset.sum_range]
    refine Finset.sum_congr rfl fun n _ => ?_
    unfold weighted
    rw [show nd n.val = n from Fin.ext (Nat.mod_eq_of_lt n.isLt)]
  · exact Finset.sum_nonneg fun n _ => by split <;> positivity
  · simp only [soft_shift]; rfl

end Result

end Cert.Proof

end
-- ==== Proof.Finite.lean ====
/-
  The precondition of the value claim read back: segment ids below 64, every float argument a real number.
-/
module

public import proofs.«01_k».proof.Proof.Kept
public import proofs.«01_k».proof.Proof.Gen.Pre_in_range_finite

@[expose] public section

noncomputable section

namespace Cert.Proof

open Cert.KernelIdeal Cert.KernelIdeal.Gen
open Idealize.ShloMosaic Idealize.ShloMosaic.TcCoe Idealize.SL.Sem

/-- An extended real whose absolute value is below infinity is a real number. -/
theorem real_of (v : EReal) (e : Ideal.cmp .olt (max v (-v)) (Ideal.ofBits .f32 0x7F800000#32) = 1#1) : v = ((v.toReal : ℝ) : EReal) := by
  have ht : Ideal.ofBits .f32 0x7F800000#32 = ⊤ := by simp [Ideal.ofBits, Ideal.ieee]
  have ofBool_eq_one (p : Bool) : (BitVec.ofBool p = 1#1) ↔ p = true := by cases p <;> decide
  rw [ht] at e
  have e : max v (-v) < ⊤ := by simpa [Ideal.cmp, ofBool_eq_one] using e
  refine (EReal.coe_toReal (fun h => ?_) (fun h => ?_)).symm
  · subst h; simp at e
  · subst h; simp at e

section

variable {F : FTy → Type} [FloatOps F]

/-- The finite precondition holds the range. -/
theorem range_of_finite {x0 : FVec F S100000x128 .f32} {x1 : IVec S100000 32} {x2 : FVec F S4x128x16 .f32} {x3 : FVec F S4x16 .f32} {x4 : FVec F S4x16x1 .f32}
    {x5 : FVec F S4x1 .f32} (h : Cert.Pre_in_range_finite.fn (F := F) x0 x1 x2 x3 x4 x5 = fun _ => 1#1) (i : S100000.Idx) : (x1 i).toNat < 64 := by
  have e := congrFun h (fun i => i.elim0)
  dsimp only [Cert.Pre_in_range_finite.fn, Cert.Pre_in_range_finite.fn_part1, andi] at e
  have e := (IntOp.andi_eq_one.1 (IntOp.andi_eq_one.1 (IntOp.andi_eq_one.1 (IntOp.andi_eq_one.1 (IntOp.andi_eq_one.1 e).1).1).1).1).1
  exact word_range _ (Host.reduce_andi_all _ _ _ _ _ e i)

end

/-- Every float argument's entries are real numbers. -/
theorem reals_of_finite {x0 : FVec Ideal S100000x128 .f32} {x1 : IVec S100000 32} {x2 : FVec Ideal S4x128x16 .f32} {x3 : FVec Ideal S4x16 .f32} {x4 : FVec Ideal S4x16x1 .f32}
    {x5 : FVec Ideal S4x1 .f32} (h : Cert.Pre_in_range_finite.fn (F := Ideal) x0 x1 x2 x3 x4 x5 = fun _ => 1#1) :
    (∀ i, x0 i = (((x0 i : EReal).toReal : ℝ) : EReal)) ∧ (∀ i, x2 i = (((x2 i : EReal).toReal : ℝ) : EReal)) ∧ (∀ i, x3 i = (((x3 i : EReal).toReal : ℝ) : EReal))
      ∧ (∀ i, x4 i = (((x4 i : EReal).toReal : ℝ) : EReal)) ∧ ∀ i, x5 i = (((x5 i : EReal).toReal : ℝ) : EReal) := by
  have e := congrFun h (fun i => i.elim0)
  dsimp only [Cert.Pre_in_range_finite.fn, Cert.Pre_in_range_finite.fn_part1, andi] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨_, e0⟩ := IntOp.andi_eq_one.1 e
  exact ⟨fun i => real_of _ (Host.reduce_andi_all _ _ _ _ _ e0 i), fun i => real_of _ (Host.reduce_andi_all _ _ _ _ _ e2 i),
    fun i => real_of _ (Host.reduce_andi_all _ _ _ _ _ e3 i), fun i => real_of _ (Host.reduce_andi_all _ _ _ _ _ e4 i),
    fun i => real_of _ (Host.reduce_andi_all _ _ _ _ _ e5 i)⟩

end Cert.Proof

end
-- ==== Proof.Frames.lean ====
/-
  The frames: the program at the hardware's floats is, definition by definition, the text of the idealized program, so the run proved there
  for any float values is its run too; the reference is a straight line of host operations.
-/
module

public import proofs.«01_k».proof.Proof.Kept
public import proofs.«01_k».proof.Proof.Gen.ReferenceIdeal.Run

@[expose] public section

noncomputable section

namespace Cert.Proof

open Cert.KernelIdeal
open Idealize.ShloMosaic Idealize.SL.Sem

/-- The shape of this program's launch at any three pipelines: its one SparseCore call. -/
def scAt (pcs : Fin 3 → Pipeline.PCfg sig Λ₀ (Elt Bits)) : SparseCore.Cfg τ sig (Pipeline.Sig Λ₀ (Fin 3) fun p => (pcs p).Adm) 1 where
  kind := scKind
  nCore := scNCore
  nSub := scNSub
  hkind := (Cert.KernelIdeal.sc (F := Bits)).hkind
  hCore := (Cert.KernelIdeal.sc (F := Bits)).hCore
  hSub := (Cert.KernelIdeal.sc (F := Bits)).hSub
  body := fun | 0 => Pipeline.kernel 1 | ⟨_ + 1, h⟩ => absurd h (Nat.not_lt.2 (Nat.le_add_left _ _))
  args := fun | 0 => ⟨⟩ | ⟨_ + 1, h⟩ => absurd h (Nat.not_lt.2 (Nat.le_add_left _ _))
  start := sc_start
  done := sc_done
  go := sc_go
  taskDone := sc_taskDone

/-- Every run of the mesh at these pipelines, bodies and host program ends so. -/
def runAt (pcs : Fin 3 → Pipeline.PCfg sig Λ₀ (Elt Bits)) (D : Defs nD τ sig (Elt Bits) Λ₀)
    (p : Dev nD → Prog (TpuEff nD τ sig (Elt Bits) (SparseCore.Sig (Pipeline.Sig Λ₀ (Fin 3) fun p => (pcs p).Adm) 1) .tc) PUnit)
    (s : MemSt nD τ sig (Elt Bits)) (Q : PUnit × MemSt nD τ sig (Elt Bits) → Prop) : Prop :=
  θ_run ((scAt pcs).defs (Pipeline.defs pcs D)) ((scAt pcs).threads p) s Q

/-- Equal pipelines, bodies and host programs have the same runs. -/
theorem runAt_of {pcs pcs' : Fin 3 → Pipeline.PCfg sig Λ₀ (Elt Bits)} (h : pcs = pcs') {D D' : Defs nD τ sig (Elt Bits) Λ₀} (hD : D = D')
    {p : Dev nD → Prog (TpuEff nD τ sig (Elt Bits) (SparseCore.Sig (Pipeline.Sig Λ₀ (Fin 3) fun p => (pcs p).Adm) 1) .tc) PUnit}
    {p' : Dev nD → Prog (TpuEff nD τ sig (Elt Bits) (SparseCore.Sig (Pipeline.Sig Λ₀ (Fin 3) fun p => (pcs' p).Adm) 1) .tc) PUnit}
    (hp : HEq p p') {s : MemSt nD τ sig (Elt Bits)} {Q : PUnit × MemSt nD τ sig (Elt Bits) → Prop} (hr : runAt pcs D p s Q) : runAt pcs' D' p' s Q := by
  subst h hD; cases hp; exact hr

set_option maxHeartbeats 4000000 in
/-- The two programs' pipelines are the same. -/
theorem pcfgs_eq : Cert.KernelIdeal.pcfgs (F := Bits) = Cert.Kernel.pcfgs (F := Bits) := by
  funext p
  match p with
  | ⟨0, _⟩ => rfl
  | ⟨1, _⟩ => rfl
  | ⟨2, _⟩ => rfl

set_option maxHeartbeats 8000000 in
/-- The two programs' kernel bodies are the same. -/
theorem bodies_eq : Cert.KernelIdeal.defs₀ (F := Bits) = Cert.Kernel.defs₀ (F := Bits) := by
  funext κ ℓ a
  cases κ <;> exact match ℓ, a with
    | ⟨0, _⟩, _ => rfl
    | ⟨1, _⟩, _ => rfl
    | ⟨2, _⟩, _ => rfl
    | ⟨3, _⟩, _ => rfl

set_option maxHeartbeats 8000000 in
/-- The two programs' host programs are the same. -/
theorem main_same : HEq (Cert.KernelIdeal.main (F := Bits)) (Cert.Kernel.main (F := Bits)) :=
  heq_of_eq (rfl : Cert.KernelIdeal.main (F := Bits) = Cert.Kernel.main (F := Bits))

set_option maxHeartbeats 8000000 in
/-- The kernel's frame at the hardware's floats. -/
theorem frame_kernel : Cert.quiescent_Kernel := fun m ρ hp =>
  (runAt_of pcfgs_eq bodies_eq main_same (run_keeps (F := Bits) m ρ fun d i => range_of (hp d) i) : runAt Cert.Kernel.pcfgs Cert.Kernel.defs₀ Cert.Kernel.main _ _)

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.RefRead.lean ====
/-
  The reference's host operations read at an index: a head's scores, the maxima's stand-ins, the exponentials, the sums over a segment.
-/
module

public import proofs.«01_k».proof.Proof.Plain
public import Idealize.ShloMosaic.Lib.Routing.OpsSet
public import Idealize.ShloMosaic.Lib.Routing.OpsPair
public import proofs.«01_k».proof.Proof.Gen.ReferenceIdeal.Run

@[expose] public section

noncomputable section

namespace Cert.Proof.Ref

open Cert.ReferenceIdeal Cert.ReferenceIdeal.Gen Cert.ReferenceIdeal.Value
open Idealize.ShloMosaic Idealize.ShloMosaic.Routing

/-- The two ways of writing an index of one axis agree. -/
theorem same_ix1 {n : Nat} (a : Fin n) : ix1 a = ValueIdx.ix1 a := by
  funext d; match d with | ⟨0, _⟩ => rfl

/-- The two ways of writing an index of two axes agree. -/
theorem same_ix2 {n k : Nat} (a : Fin n) (b : Fin k) : ix2 a b = ValueIdx.ix2 a b := by
  funext d; match d with | ⟨0, _⟩ => rfl | ⟨1, _⟩ => rfl

/-- A head's scores: two layers of products and a bias each. -/
theorem scores_at (X : FVec Ideal S100000x128 .f32) (W : FVec Ideal S128x16 .f32) (B : FVec Ideal S16 .f32) (v : FVec Ideal S16x1 .f32) (c : FVec Ideal S1 .f32)
    (n : Fin 100000) :
    shapeCast S100000 (addf (Host.dotGeneral dot_S100000x16_S16x1_S100000x1_1_0_0_1_n_n none (maximumf (addf (Host.dotGeneral dot_S100000x128_S128x16_S100000x16_1_0_0_1_n_n none X W)
      (broadcastInDim S100000x16 ![0, 1] bcast_S1x16_S100000x16_0_1 (broadcastInDim S1x16 ![1] bcast_S16_S1x16_1 B))) (broadcastInDim S100000x16 ![] bcast_S_S100000x16 (constant S_ .f32 0x00000000#32))) v)
      (broadcastInDim S100000x1 ![0, 1] bcast_S1x1_S100000x1_0_1 (broadcastInDim S1x1 ![1] bcast_S1_S1x1_1 c))) shapeCasts_S100000x1_S100000 (ix1 n)
      = (∑ j : Fin 16, max ((∑ i : Fin 128, X (ix2 n i) * W (ix2 i j)) + B (ix1 j)) 0 * v (ix2 j (0 : Fin 1))) + c (ix1 (0 : Fin 1)) := by
  pointwise

/-- The table of maxima's stand-ins: whatever the maxima are, a finite number for each segment. -/
theorem stand_in (T : FVec Ideal S64 .f32) (b : Fin 64) :
    ∃ r : ℝ, select (cmpf .olt (Host.absf T) (broadcastInDim S64 ![] bcast_S_S64 (constant S_ .f32 0x7F800000#32))) T (broadcastInDim S64 ![] bcast_S_S64 (id (constant (F := Ideal) S_ .f32 0x00000000#32))) (ix1 b) = (r : EReal) := by
  pointwise
  have hi : Ideal.ofBits .f32 2139095040#32 = ⊤ := by simp [Ideal.ofBits, Ideal.ieee]
  rw [hi]
  generalize T (ix1 b) = t
  have hz : id (constant (F := Ideal) S_ .f32 0x00000000#32) ix0 = ((0 : ℝ) : EReal) := by
    show Ideal.ofBits .f32 0x00000000#32 = _
    simp [Ideal.ofBits, Ideal.ieee]
  rw [hz, Ideal.absf_def]
  by_cases h : max t (-t) < ⊤
  · rw [if_pos h]
    have h1 : t ≠ ⊤ := fun e => by simp [e] at h
    have h2 : t ≠ ⊥ := fun e => by simp [e] at h
    exact ⟨t.toReal, (EReal.coe_toReal h1 h2).symm⟩
  · rw [if_neg h]
    exact ⟨0, rfl⟩

/-- An array of a table's entries taken at the segment ids. -/
theorem take_at (A : IVec S100000 32) (g : Fin 100000 → Fin 64) (hg : ∀ n, A (ix1 n) = BitVec.ofNat 32 (g n).val) (T : FVec Ideal S64 .f32) (n : Fin 100000) :
    Host.gather gather_S64_S100000x1_S100000_n_0_n_n_0_1_1 T (broadcastInDim S100000x1 ![0] bcast_S100000_S100000x1_0 (select (cmpi .slt A (broadcastInDim S100000 ![] bcast_S_S100000 (constantI S_ 32 0#32))) (addi A (broadcastInDim S100000 ![] bcast_S_S100000 (constantI S_ 32 64#32))) A)) (ix1 n)
      = T (ix1 (g n)) := by
  refine gather_take1 gather_S64_S100000x1_S100000_n_0_n_n_0_1_1 rfl rfl rfl rfl T _ n (g n) ?_ (by norm_num)
  have hl := (g n).isLt
  have e : A (ix1 n) = BitVec.ofNat 32 (g n).val := hg n
  refine Eq.trans ?_ ((wrap_of_lt (A (ix1 n)) (A (ix1 n) + 64#32) (by rw [e, BitVec.toNat_ofNat]; omega)).trans e)
  rw [← same_ix2]
  pointwise
  rfl

/-- A segment id read signed is the segment's number. -/
theorem id_toInt (c : Fin 64) : (BitVec.ofNat 32 c.val).toInt = (c.val : Int) := by
  have := c.isLt
  rw [BitVec.toInt_eq_toNat_cond, BitVec.toNat_ofNat]
  rw [Nat.mod_eq_of_lt (by omega), if_pos (by omega)]

/-- Node `n`'s summand lands at its segment. -/
theorem lands1 (idx : IVec S100000x1 32) (n : Fin 100000) (b : Fin 64) :
    scatter_S64_S100000x1_S100000_n_0_0_1.resultIdx? (ix1 n) idx = some (ix1 b) ↔ (idx (ix2 n (0 : Fin 1))).toInt = (b.val : Int) := by
  have hs : scatter_S64_S100000x1_S100000_n_0_0_1.start (ix1 n) idx 0 = (idx (ix2 n (0 : Fin 1))).toInt := by
    refine congrArg (fun i => (idx i).toInt) (funext fun a => ?_)
    match a with
    | ⟨0, _⟩ => rfl
    | ⟨1, _⟩ => rfl
  have hw : scatter_S64_S100000x1_S100000_n_0_0_1.window (ix1 n) 0 = 0 := rfl
  rw [same_ix1 b, resultIdx?_ix1 scatter_S64_S100000x1_S100000_n_0_0_1, hs, hw]
  simp

/-- Node `n`'s row lands at its segment's row. -/
theorem lands2 (idx : IVec S100000x1 32) (n : Fin 100000) (e : Fin 128) (b : Fin 64) (d : Fin 128) :
    scatter_S64x128_S100000x1_S100000x128_1_0_0_1.resultIdx? (ix2 n e) idx = some (ix2 b d) ↔ (idx (ix2 n (0 : Fin 1))).toInt = (b.val : Int) ∧ e = d := by
  have hs : scatter_S64x128_S100000x1_S100000x128_1_0_0_1.start (ix2 n e) idx 0 = (idx (ix2 n (0 : Fin 1))).toInt := by
    refine congrArg (fun i => (idx i).toInt) (funext fun a => ?_)
    match a with
    | ⟨0, _⟩ => rfl
    | ⟨1, _⟩ => rfl
  have hs1 : scatter_S64x128_S100000x1_S100000x128_1_0_0_1.start (ix2 n e) idx 1 = 0 := rfl
  have hw : scatter_S64x128_S100000x1_S100000x128_1_0_0_1.window (ix2 n e) 0 = 0 := rfl
  have hw1 : scatter_S64x128_S100000x1_S100000x128_1_0_0_1.window (ix2 n e) 1 = e.val := rfl
  rw [same_ix2 b d, resultIdx?_ix2 scatter_S64x128_S100000x1_S100000x128_1_0_0_1, hs, hw, hs1, hw1]
  simp [Fin.ext_iff]

/-- The sums of a vector over the nodes of each segment. -/
theorem sums_at (A : IVec S100000 32) (g : Fin 100000 → Fin 64) (hg : ∀ n, A (ix1 n) = BitVec.ofNat 32 (g n).val) (E : FVec Ideal S100000 .f32) (b : Fin 64) :
    Host.scatterAdd scatter_S64_S100000x1_S100000_n_0_0_1 (broadcastInDim S64 ![] bcast_S_S64 (constant S_ .f32 0x00000000#32)) (broadcastInDim S100000x1 ![0] bcast_S100000_S100000x1_0 A) E (ix1 b)
      = ∑ n, if g n = b then E (ix1 n) else 0 := by
  show (broadcastInDim S64 ![] bcast_S_S64 (constant (F := Ideal) S_ .f32 0x00000000#32)) (ix1 b) + _ = _
  rw [Finset.sum_filter, sum_idx1]
  have h0 : (broadcastInDim S64 ![] bcast_S_S64 (constant (F := Ideal) S_ .f32 0x00000000#32)) (ix1 b) = (0 : EReal) := by pointwise
  rw [h0, zero_add]
  refine Finset.sum_congr rfl fun n _ => if_congr ?_ rfl rfl
  rw [lands1]
  have h1 : (broadcastInDim S100000x1 ![0] bcast_S100000_S100000x1_0 A) (ix2 n (0 : Fin 1)) = A (ix1 n) := by pointwise
  rw [h1, hg, id_toInt, Nat.cast_inj, Fin.ext_iff]

/-- The sums of a matrix's rows over the nodes of each segment. -/
theorem rows_at (A : IVec S100000 32) (g : Fin 100000 → Fin 64) (hg : ∀ n, A (ix1 n) = BitVec.ofNat 32 (g n).val) (E : FVec Ideal S100000x128 .f32) (b : Fin 64) (d : Fin 128) :
    Host.scatterAdd scatter_S64x128_S100000x1_S100000x128_1_0_0_1 (broadcastInDim S64x128 ![] bcast_S_S64x128 (constant S_ .f32 0x00000000#32)) (broadcastInDim S100000x1 ![0] bcast_S100000_S100000x1_0 A) E (ix2 b d)
      = ∑ n, if g n = b then E (ix2 n d) else 0 := by
  show (broadcastInDim S64x128 ![] bcast_S_S64x128 (constant (F := Ideal) S_ .f32 0x00000000#32)) (ix2 b d) + _ = _
  rw [Finset.sum_filter, sum_idx2]
  have h0 : (broadcastInDim S64x128 ![] bcast_S_S64x128 (constant (F := Ideal) S_ .f32 0x00000000#32)) (ix2 b d) = (0 : EReal) := by pointwise
  rw [h0, zero_add]
  refine Finset.sum_congr rfl fun n _ => ?_
  have h1 : (broadcastInDim S100000x1 ![0] bcast_S100000_S100000x1_0 A) (ix2 n (0 : Fin 1)) = A (ix1 n) := by pointwise
  have h2 : ∀ e : Fin 128, (scatter_S64x128_S100000x1_S100000x128_1_0_0_1.resultIdx? (ix2 n e) (broadcastInDim S100000x1 ![0] bcast_S100000_S100000x1_0 A) = some (ix2 b d)) ↔ (g n = b ∧ e = d) := fun e => by
    rw [lands2, h1, hg, id_toInt, Nat.cast_inj, Fin.ext_iff (a := g n)]
  simp only [h2]
  by_cases hb : g n = b
  · simp [hb]
  · simp [hb]

end Cert.Proof.Ref

end
-- ==== Proof.RefValue.lean ====
/-
  The reference's result: for finite inputs, the mean of the four heads' softmax-weighted sums.
-/
module

public import proofs.«01_k».proof.Proof.RefRead

@[expose] public section

noncomputable section

namespace Cert.Proof.Ref

open Cert.ReferenceIdeal Cert.ReferenceIdeal.Gen Cert.ReferenceIdeal.Value
open Idealize.ShloMosaic Idealize.ShloMosaic.Routing

/-- The segment ids as the reference's gathers take them: a negative one counted from the end. -/
def wrapped (A : IVec S100000 32) : IVec S100000x1 32 :=
  broadcastInDim S100000x1 ![0] bcast_S100000_S100000x1_0 (select (cmpi .slt A (broadcastInDim S100000 ![] bcast_S_S100000 (constantI S_ 32 0#32))) (addi A (broadcastInDim S100000 ![] bcast_S_S100000 (constantI S_ 32 64#32))) A)

/-- A head's weights before the division, of its scores and its maxima. -/
def expOf (A : IVec S100000 32) (S : FVec Ideal S100000 .f32) (T : FVec Ideal S64 .f32) : FVec Ideal S100000 .f32 :=
  Host.exp (subf S (Host.gather gather_S64_S100000x1_S100000_n_0_n_n_0_1_1 (select (cmpf .olt (Host.absf T) (broadcastInDim S64 ![] bcast_S_S64 (constant S_ .f32 0x7F800000#32))) T (broadcastInDim S64 ![] bcast_S_S64 (id (constant S_ .f32 0x00000000#32)))) (wrapped A)))

/-- A head's sums of rows, of its weights before the division. -/
def rowsOf (A : IVec S100000 32) (E : FVec Ideal S100000 .f32) (X : FVec Ideal S100000x128 .f32) : FVec Ideal S1x64x128 .f32 :=
  broadcastInDim S1x64x128 ![1, 2] bcast_S64x128_S1x64x128_1_2 (Host.scatterAdd scatter_S64x128_S100000x1_S100000x128_1_0_0_1 (broadcastInDim S64x128 ![] bcast_S_S64x128 (constant S_ .f32 0x00000000#32)) (broadcastInDim S100000x1 ![0] bcast_S100000_S100000x1_0 A) (mulf (broadcastInDim S100000x128 ![0, 1] bcast_S100000x1_S100000x128_0_1 (broadcastInDim S100000x1 ![0] bcast_S100000_S100000x1_0 (Host.divf E (Host.gather gather_S64_S100000x1_S100000_n_0_n_n_0_1_1 (Host.scatterAdd scatter_S64_S100000x1_S100000_n_0_0_1 (broadcastInDim S64 ![] bcast_S_S64 (constant S_ .f32 0x00000000#32)) (broadcastInDim S100000x1 ![0] bcast_S100000_S100000x1_0 A) E) (wrapped A))))) X))

variable (A : IVec S100000 32) (g : Fin 100000 → Fin 64) (hg : ∀ n, A (ix1 n) = BitVec.ofNat 32 (g n).val)

include hg in
/-- The weights before the division are exponentials of shifted scores, the shift a number of the segment. -/
theorem exp_ends (S : FVec Ideal S100000 .f32) (T : FVec Ideal S64 .f32) (s : Fin 100000 → ℝ) (c : ℝ) (hS : ∀ n, S (ix1 n) = ((s n + c : ℝ) : EReal)) :
    ∃ m : Fin 64 → ℝ, ∀ n, expOf A S T (ix1 n) = ((Real.exp (s n + c - m (g n)) : ℝ) : EReal) := by
  choose m hm using stand_in T
  refine ⟨m, fun n => ?_⟩
  have ht := take_at A g hg (select (cmpf .olt (Host.absf T) (broadcastInDim S64 ![] bcast_S_S64 (constant S_ .f32 0x7F800000#32))) T (broadcastInDim S64 ![] bcast_S_S64 (id (constant S_ .f32 0x00000000#32)))) n
  rw [hm] at ht
  show Ideal.exp (S (ix1 n) - (Host.gather gather_S64_S100000x1_S100000_n_0_n_n_0_1_1 _ (wrapped A)) (ix1 n)) = _
  rw [show (Host.gather gather_S64_S100000x1_S100000_n_0_n_n_0_1_1 _ (wrapped A)) (ix1 n) = _ from ht, hS, ← EReal.coe_sub, Ideal.exp_coe]

include hg in
/-- The sums of rows are the softmax-weighted sums. -/
theorem rows_end (E : FVec Ideal S100000 .f32) (X : FVec Ideal S100000x128 .f32) (x : Fin 100000 → Fin 128 → ℝ) (hX : ∀ n i, X (ix2 n i) = ((x n i : ℝ) : EReal))
    (s : Fin 100000 → ℝ) (c : ℝ) (m : Fin 64 → ℝ) (hE : ∀ n, E (ix1 n) = ((Real.exp (s n + c - m (g n)) : ℝ) : EReal)) (b : Fin 64) (d : Fin 128) :
    rowsOf A E X (ix3 (0 : Fin 1) b d) = ((soft g s x b d : ℝ) : EReal) := by
  have h0 : ∀ V : FVec Ideal S64x128 .f32, broadcastInDim S1x64x128 ![1, 2] bcast_S64x128_S1x64x128_1_2 V (ix3 (0 : Fin 1) b d) = V (ix2 b d) := fun V => by pointwise
  have h1 : ∀ V : FVec Ideal S100000 .f32, ∀ n, mulf (broadcastInDim S100000x128 ![0, 1] bcast_S100000x1_S100000x128_0_1 (broadcastInDim S100000x1 ![0] bcast_S100000_S100000x1_0 V)) X (ix2 n d) = V (ix1 n) * X (ix2 n d) := fun V n => by pointwise
  have hs : ∀ k : Fin 64, (∑ n, if g n = k then E (ix1 n) else 0) = ((∑ n, if g n = k then Real.exp (s n + c - m (g n)) else 0 : ℝ) : EReal) := fun k => by
    rw [← coe_sum]
    exact Finset.sum_congr rfl fun n _ => by rw [hE, coe_ite]; rfl
  have hd : ∀ U U' : FVec Ideal S100000 .f32, ∀ n, Host.divf U U' (ix1 n) = Ideal.div (U (ix1 n)) (U' (ix1 n)) := fun _ _ _ => rfl
  have hq : ∀ n, Host.divf E (Host.gather gather_S64_S100000x1_S100000_n_0_n_n_0_1_1 (Host.scatterAdd scatter_S64_S100000x1_S100000_n_0_0_1 (broadcastInDim S64 ![] bcast_S_S64 (constant S_ .f32 0x00000000#32)) (broadcastInDim S100000x1 ![0] bcast_S100000_S100000x1_0 A) E) (wrapped A)) (ix1 n)
      = ((Real.exp (s n + c - m (g n)) / (∑ k, if g k = g n then Real.exp (s k + c - m (g k)) else 0) : ℝ) : EReal) := fun n => by
    rw [hd, wrapped, take_at A g hg, sums_at A g hg, hs, hE, Ideal.div_coe (denom_pos g (g n) rfl _).ne', ← EReal.coe_mul, mul_one_div]
  rw [rowsOf, h0, rows_at A g hg, ← soft_nodes g s x b d m c, ← coe_sum]
  refine Finset.sum_congr rfl fun n _ => ?_
  rw [h1, hq, hX, coe_ite, EReal.coe_mul]; rfl

variable (V : Valuation τ sig (Elt Ideal)) (x : Fin 100000 → Fin 128 → ℝ) (W1 : Fin 4 → Fin 128 → Fin 16 → ℝ) (b1 : Fin 4 → Fin 16 → ℝ) (W2 : Fin 4 → Fin 16 → ℝ) (b2 : Fin 4 → ℝ)

/-- A head's score of real inputs is the plain one and the head's last bias. -/
theorem score_coe (h : Fin 4) (n : Fin 100000) :
    (∑ j : Fin 16, max ((∑ i : Fin 128, ((x n i : ℝ) : EReal) * ((W1 h i j : ℝ) : EReal)) + ((b1 h j : ℝ) : EReal)) 0 * ((W2 h j : ℝ) : EReal)) + ((b2 h : ℝ) : EReal)
      = ((score x W1 b1 W2 h n + b2 h : ℝ) : EReal) := by
  rw [EReal.coe_add, score, ← coe_sum]
  refine congrArg (· + _) (Finset.sum_congr rfl fun j _ => ?_)
  rw [EReal.coe_mul, coe_max, EReal.coe_add, ← coe_sum]
  refine congrArg (fun t => max (t + _) _ * _) (Finset.sum_congr rfl fun i _ => ?_)
  rw [EReal.coe_mul]

variable (hX : ∀ n i, (V (Proc.devRef .tc main_arg0) : FVec Ideal S100000x128 .f32) (ix2 n i) = ((x n i : ℝ) : EReal))
  (hW : ∀ h i j, (V (Proc.devRef .tc main_arg2) : FVec Ideal S4x128x16 .f32) (ix3 h i j) = ((W1 h i j : ℝ) : EReal))
  (hB : ∀ h j, (V (Proc.devRef .tc main_arg3) : FVec Ideal S4x16 .f32) (ix2 h j) = ((b1 h j : ℝ) : EReal))
  (hv : ∀ h j, (V (Proc.devRef .tc main_arg4) : FVec Ideal S4x16x1 .f32) (ix3 h j (0 : Fin 1)) = ((W2 h j : ℝ) : EReal))
  (hc : ∀ h, (V (Proc.devRef .tc main_arg5) : FVec Ideal S4x1 .f32) (ix2 h (0 : Fin 1)) = ((b2 h : ℝ) : EReal))

include hX hW hB hv hc in
/-- The scores of head 0. -/
theorem scores0 (n : Fin 100000) : (res_main_v23 V : FVec Ideal S100000 .f32) (ix1 n) = ((score x W1 b1 W2 0 n + b2 0 : ℝ) : EReal) := by
  rw [← score_coe, res_main_v23]
  simp only [← hX, ← hW, ← hB, ← hv, ← hc]
  pointwise

include hX hW hB hv hc in
/-- The scores of head 1. -/
theorem scores1 (n : Fin 100000) : (res_main_v74 V : FVec Ideal S100000 .f32) (ix1 n) = ((score x W1 b1 W2 1 n + b2 1 : ℝ) : EReal) := by
  rw [← score_coe, res_main_v74]
  simp only [← hX, ← hW, ← hB, ← hv, ← hc]
  pointwise

include hX hW hB hv hc in
/-- The scores of head 2. -/
theorem scores2 (n : Fin 100000) : (res_main_v125 V : FVec Ideal S100000 .f32) (ix1 n) = ((score x W1 b1 W2 2 n + b2 2 : ℝ) : EReal) := by
  rw [← score_coe, res_main_v125]
  simp only [← hX, ← hW, ← hB, ← hv, ← hc]
  pointwise

include hX hW hB hv hc in
/-- The scores of head 3. -/
theorem scores3 (n : Fin 100000) : (res_main_v176 V : FVec Ideal S100000 .f32) (ix1 n) = ((score x W1 b1 W2 3 n + b2 3 : ℝ) : EReal) := by
  rw [← score_coe, res_main_v176]
  simp only [← hX, ← hW, ← hB, ← hv, ← hc]
  pointwise

/-- The mean over the heads read at an index. -/
theorem mean_at (R0 R1 R2 R3 : FVec Ideal S1x64x128 .f32) (b : Fin 64) (d : Fin 128) :
    Host.divf (Host.reduceAdd (concatenate S4x64x128 0 [⟨S1x64x128, R0⟩, ⟨S1x64x128, R1⟩, ⟨S1x64x128, R2⟩, ⟨S1x64x128, R3⟩] concatenates_S1x64x128_S1x64x128_S1x64x128_S1x64x128_S4x64x128_d0 : FVec Ideal S4x64x128 .f32)
        (constant S_ .f32 0x00000000#32) reducesTo_S4x64x128_S64x128_d0 h_S_) (broadcastInDim S64x128 ![] bcast_S_S64x128 (constant S_ .f32 0x40800000#32)) (ix2 b d)
      = Ideal.div (R0 (ix3 (0 : Fin 1) b d) + R1 (ix3 (0 : Fin 1) b d) + R2 (ix3 (0 : Fin 1) b d) + R3 (ix3 (0 : Fin 1) b d)) ((4 : ℝ) : EReal) := by
  have h4 : Ideal.ofBits .f32 1082130432#32 = ((4 : ℝ) : EReal) := by
    simp [Ideal.ofBits, Ideal.ieee]
    rw [← EReal.coe_mul]; norm_num
  pointwise
  rw [h4, Fin.sum_univ_four]
  rfl

include hg hX hW hB hv hc in
/-- The reference's result for finite inputs. -/
theorem result (hA : V (Proc.devRef .tc main_arg1) = A) (b : Fin 64) (d : Fin 128) :
    (Host.divf (Host.reduceAdd (res_main_v214 V) (constant S_ .f32 0x00000000#32) reducesTo_S4x64x128_S64x128_d0 h_S_) (broadcastInDim S64x128 ![] bcast_S_S64x128 (constant S_ .f32 0x40800000#32)) : FVec Ideal S64x128 .f32) (ix2 b d)
      = ((answer g (score x W1 b1 W2) x b d : ℝ) : EReal) := by
  obtain ⟨m0, h0⟩ := exp_ends A g hg (res_main_v23 V) (res_main_v26 V) _ _ (scores0 V x W1 b1 W2 b2 hX hW hB hv hc)
  obtain ⟨m1, h1⟩ := exp_ends A g hg (res_main_v74 V) (res_main_v77 V) _ _ (scores1 V x W1 b1 W2 b2 hX hW hB hv hc)
  obtain ⟨m2, h2⟩ := exp_ends A g hg (res_main_v125 V) (res_main_v128 V) _ _ (scores2 V x W1 b1 W2 b2 hX hW hB hv hc)
  obtain ⟨m3, h3⟩ := exp_ends A g hg (res_main_v176 V) (res_main_v179 V) _ _ (scores3 V x W1 b1 W2 b2 hX hW hB hv hc)
  have e0 := rows_end A g hg _ (V (Proc.devRef .tc main_arg0)) x hX _ _ m0 h0 b d
  have e1 := rows_end A g hg _ (V (Proc.devRef .tc main_arg0)) x hX _ _ m1 h1 b d
  have e2 := rows_end A g hg _ (V (Proc.devRef .tc main_arg0)) x hX _ _ m2 h2 b d
  have e3 := rows_end A g hg _ (V (Proc.devRef .tc main_arg0)) x hX _ _ m3 h3 b d
  have q0 : res_main_v39 V = expOf A (res_main_v23 V) (res_main_v26 V) := by subst hA; rfl
  have q1 : res_main_v90 V = expOf A (res_main_v74 V) (res_main_v77 V) := by subst hA; rfl
  have q2 : res_main_v141 V = expOf A (res_main_v125 V) (res_main_v128 V) := by subst hA; rfl
  have q3 : res_main_v192 V = expOf A (res_main_v176 V) (res_main_v179 V) := by subst hA; rfl
  rw [← q0] at e0
  rw [← q1] at e1
  rw [← q2] at e2
  rw [← q3] at e3
  subst hA
  refine (mean_at (rowsOf _ _ _) (rowsOf _ _ _) (rowsOf _ _ _) (rowsOf _ _ _) b d).trans ?_
  rw [show rowsOf _ _ _ _ = _ from e0, show rowsOf _ _ _ _ = _ from e1, show rowsOf _ _ _ _ = _ from e2, show rowsOf _ _ _ _ = _ from e3, Ideal.div_coe (by norm_num), ← EReal.coe_add, ← EReal.coe_add, ← EReal.coe_add, ← EReal.coe_mul, mul_one_div, answer]

end Cert.Proof.Ref

end
-- ==== Proof.Equation.lean ====
/-
  The equation: from finite inputs and segment ids in range, the idealized kernel and the reference end with the same result.
-/
module

public import proofs.«01_k».proof.Defs
public import proofs.«01_k».proof.Proof.Arrays
public import proofs.«01_k».proof.Proof.Finite
public import proofs.«01_k».proof.Proof.Frames
public import proofs.«01_k».proof.Proof.RefValue

@[expose] public section

noncomputable section

namespace Cert.Proof

open Cert.KernelIdeal
open Idealize.ShloMosaic Idealize.SL.Sem

/-- The idealized kernel's frame where the values are claimed. -/
theorem frame_ideal_finite : Cert.quiescent_KernelIdeal_pre_in_range_finite := fun m ρ hp =>
  run_keeps (F := Ideal) m ρ fun d i => range_of_finite (hp d) i

/-- The reference's frame where the values are claimed. -/
theorem frame_reference_finite : Cert.quiescent_ReferenceIdeal_pre_in_range_finite := fun m ρ _ => frame_reference m ρ trivial

/-- The segment of a node, the ids in range. -/
def segment (m : (ℓ : Loc nD τ sig) → Buf (Elt Ideal) ℓ) (c : Dev nD) (h : ∀ d i, (m (d, rf main_arg1) i : BitVec 32).toNat < 64) (n : Fin 100000) : Fin 64 :=
  ⟨((m (c, rf main_arg1) : IVec S100000 32) (ix1 n)).toNat, h c (ix1 n)⟩

/-- A word is the word of its number. -/
theorem word_self (v : BitVec 32) : v = BitVec.ofNat 32 v.toNat := by simp

/-- The idealized kernel and the reference compute the same. -/
theorem equation : Cert.algebraic_KernelIdeal_ReferenceIdeal_pre_in_range_finite := by
  intro m ρ m' ρ' hp hargs
  have hr : ∀ d i, (m (d, rf main_arg1) i : BitVec 32).toNat < 64 := fun d i => range_of_finite (hp d) i
  refine ⟨fun c => V7 m c (rf main_v35), ?_, ?_⟩
  · exact (θ_run (defs (F := Ideal)) _ _).mono (fun r h c => ⟨h.2 c, h.1.1 c⟩) (run_ends m ρ hr)
  · refine (θ_run Cert.ReferenceIdeal.defs _ _).mono (fun r h c => ⟨?_, (h c).2⟩) (Cert.ReferenceIdeal.Value.run (F := Ideal) m' ρ')
    refine (h c).1.trans ?_
    obtain ⟨a0, a1, a2, a3, a4, a5⟩ := hargs c
    obtain ⟨f0, f2, f3, f4, f5⟩ := reals_of_finite (hp c)
    have hg : ∀ n, (m (c, rf main_arg1) : IVec S100000 32) (ix1 n) = BitVec.ofNat 32 (segment m c hr n).val := fun n => word_self _
    have R : Reads m c (segment m c hr) (fun n i => ((m (c, rf main_arg0) : FVec Ideal S100000x128 .f32) (ix2 n i) : EReal).toReal)
        (fun h i j => ((m (c, rf main_arg2) : FVec Ideal S4x128x16 .f32) (ix3 h i j) : EReal).toReal) (fun h j => ((m (c, rf main_arg3) : FVec Ideal S4x16 .f32) (ix2 h j) : EReal).toReal)
        (fun h j => ((m (c, rf main_arg4) : FVec Ideal S4x16x1 .f32) (ix3 h j (0 : Fin 1)) : EReal).toReal) :=
      ⟨fun n i => f0 _, hg, fun h i j => f2 _, fun h j => f3 _, fun h j => f4 _⟩
    funext y
    obtain ⟨b, e, rfl⟩ : ∃ (b : Fin 64) (e : Fin 128), y = ix2 b e := ⟨y 0, y 1, funext fun a => by match a with | ⟨0, _⟩ => rfl | ⟨1, _⟩ => rfl⟩
    refine (Ref.result (m (c, rf main_arg1)) (segment m c hr) hg (StableHlo.launchContents m' c) _ _ _ _ (fun h => ((m (c, rf main_arg5) : FVec Ideal S4x1 .f32) (ix2 h (0 : Fin 1)) : EReal).toReal)
      (fun n i => (congrFun a0 _).trans (R.x_at n i)) (fun h i j => (congrFun a2 _).trans (R.W1_at h i j)) (fun h j => (congrFun a3 _).trans (R.b1_at h j))
      (fun h j => (congrFun a4 _).trans (R.W2_at h j)) (fun h => (congrFun a5 _).trans (f5 _)) a1 b e).trans ?_
    exact (kernel_result R b e).symm

end Cert.Proof

end
-- ==== Proof.lean ====
/-
  The claim, put together: the frames of the kernel, of its idealization and of the reference, and the equation between the last two.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Equation
public import proofs.«01_k».proof.Proof.Gen.Pre_in_range
public import proofs.«01_k».proof.Proof.Gen.Pre_in_range_finite
public import Idealize.ShloMosaic.Adequacy
public import Idealize.ShloMosaic.Init

@[expose] public section

noncomputable section

namespace Cert.Proof

open Idealize.ShloMosaic Idealize.SL.Sem Cert.Kernel

/-- Everything this certificate claims. -/
theorem claim : Cert.Claim :=
  ⟨Cert.Kernel.Gen.facts, Cert.KernelIdeal.Gen.facts, Cert.ReferenceIdeal.Gen.facts, Cert.Pre_in_range.Gen.facts, Cert.Pre_in_range_finite.Gen.facts,
    frame_kernel, frame_ideal, frame_ideal_finite, frame_reference, frame_reference_finite, trivial, equation⟩

end Cert.Proof

end
